-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelEvenIn (m : (ℓ : Loc Cert.KernelEvenIn.nD Cert.KernelEvenIn.τ Cert.KernelEvenIn.sig) → Buf (Elt Bits) ℓ) : Prop :=
  True

def Pre_KernelEvenInIdeal (m : (ℓ : Loc Cert.KernelEvenInIdeal.nD Cert.KernelEvenInIdeal.τ Cert.KernelEvenInIdeal.sig) → Buf (Elt Ideal) ℓ) : Prop :=
  True

def Pre_ReferenceEvenInIdeal (m : (ℓ : Loc Cert.ReferenceEvenInIdeal.nD Cert.ReferenceEvenInIdeal.τ Cert.ReferenceEvenInIdeal.sig) → Buf (Elt Ideal) ℓ) : Prop :=
  True

def Pre_KernelOddIn (m : (ℓ : Loc Cert.KernelOddIn.nD Cert.KernelOddIn.τ Cert.KernelOddIn.sig) → Buf (Elt Bits) ℓ) : Prop :=
  True

def Pre_KernelOddInIdeal (m : (ℓ : Loc Cert.KernelOddInIdeal.nD Cert.KernelOddInIdeal.τ Cert.KernelOddInIdeal.sig) → Buf (Elt Ideal) ℓ) : Prop :=
  True

def Pre_ReferenceOddInIdeal (m : (ℓ : Loc Cert.ReferenceOddInIdeal.nD Cert.ReferenceOddInIdeal.τ Cert.ReferenceOddInIdeal.sig) → Buf (Elt Ideal) ℓ) : Prop :=
  True

def Pre_KernelEvenOut (m : (ℓ : Loc Cert.KernelEvenOut.nD Cert.KernelEvenOut.τ Cert.KernelEvenOut.sig) → Buf (Elt Bits) ℓ) : Prop :=
  True

def Pre_KernelEvenOutIdeal (m : (ℓ : Loc Cert.KernelEvenOutIdeal.nD Cert.KernelEvenOutIdeal.τ Cert.KernelEvenOutIdeal.sig) → Buf (Elt Ideal) ℓ) : Prop :=
  True

def Pre_ReferenceEvenOutIdeal (m : (ℓ : Loc Cert.ReferenceEvenOutIdeal.nD Cert.ReferenceEvenOutIdeal.τ Cert.ReferenceEvenOutIdeal.sig) → Buf (Elt Ideal) ℓ) : Prop :=
  True

def Pre_KernelOddOut (m : (ℓ : Loc Cert.KernelOddOut.nD Cert.KernelOddOut.τ Cert.KernelOddOut.sig) → Buf (Elt Bits) ℓ) : Prop :=
  True

def Pre_KernelOddOutIdeal (m : (ℓ : Loc Cert.KernelOddOutIdeal.nD Cert.KernelOddOutIdeal.τ Cert.KernelOddOutIdeal.sig) → Buf (Elt Ideal) ℓ) : Prop :=
  True

def Pre_ReferenceOddOutIdeal (m : (ℓ : Loc Cert.ReferenceOddOutIdeal.nD Cert.ReferenceOddOutIdeal.τ Cert.ReferenceOddOutIdeal.sig) → Buf (Elt Ideal) ℓ) : Prop :=
  True

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_ReferenceSguIdeal (m : (ℓ : Loc Cert.ReferenceSguIdeal.nD Cert.ReferenceSguIdeal.τ Cert.ReferenceSguIdeal.sig) → Buf (Elt Ideal) ℓ) : Prop :=
  True

def Pre_KernelOddPrep (m : (ℓ : Loc Cert.KernelOddPrep.nD Cert.KernelOddPrep.τ Cert.KernelOddPrep.sig) → Buf (Elt Bits) ℓ) : Prop :=
  True

def Pre_KernelOddPrepIdeal (m : (ℓ : Loc Cert.KernelOddPrepIdeal.nD Cert.KernelOddPrepIdeal.τ Cert.KernelOddPrepIdeal.sig) → Buf (Elt Ideal) ℓ) : Prop :=
  True

def Pre_ReferenceOddPrepIdeal (m : (ℓ : Loc Cert.ReferenceOddPrepIdeal.nD Cert.ReferenceOddPrepIdeal.τ Cert.ReferenceOddPrepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelEvenIn [hKernelEvenIn : Cert.KernelEvenIn.Facts] : Prop :=
  ∀ (m : (ℓ : Loc Cert.KernelEvenIn.nD Cert.KernelEvenIn.τ Cert.KernelEvenIn.sig) → Buf (Elt Bits) ℓ) (g : Dev Cert.KernelEvenIn.nD → PrngReg), Pre_KernelEvenIn m →
    θ_run (Cert.KernelEvenIn.defs (F := Bits)) (onTc (τ := Cert.KernelEvenIn.τ) (Cert.KernelEvenIn.main (F := Bits))) ⟨m, fun _ => 0, g⟩ (fun r => (∀ c : Dev Cert.KernelEvenIn.nD,
      r.2.mem ((c.tc : Thread Cert.KernelEvenIn.nD Cert.KernelEvenIn.τ).loc Cert.KernelEvenIn.main_arg0) = m ((c.tc : Thread Cert.KernelEvenIn.nD Cert.KernelEvenIn.τ).loc Cert.KernelEvenIn.main_arg0)
      ∧ r.2.mem ((c.tc : Thread Cert.KernelEvenIn.nD Cert.KernelEvenIn.τ).loc Cert.KernelEvenIn.main_arg1) = m ((c.tc : Thread Cert.KernelEvenIn.nD Cert.KernelEvenIn.τ).loc Cert.KernelEvenIn.main_arg1)
      ∧ r.2.mem ((c.tc : Thread Cert.KernelEvenIn.nD Cert.KernelEvenIn.τ).loc Cert.KernelEvenIn.main_arg2) = m ((c.tc : Thread Cert.KernelEvenIn.nD Cert.KernelEvenIn.τ).loc Cert.KernelEvenIn.main_arg2))
      ∧ r.2.sem = fun _ => 0)

def quiescent_KernelEvenInIdeal [hKernelEvenInIdeal : Cert.KernelEvenInIdeal.Facts] : Prop :=
  ∀ (m : (ℓ : Loc Cert.KernelEvenInIdeal.nD Cert.KernelEvenInIdeal.τ Cert.KernelEvenInIdeal.sig) → Buf (Elt Ideal) ℓ) (g : Dev Cert.KernelEvenInIdeal.nD → PrngReg), Pre_KernelEvenInIdeal m →
    θ_run (Cert.KernelEvenInIdeal.defs (F := Ideal)) (onTc (τ := Cert.KernelEvenInIdeal.τ) (Cert.KernelEvenInIdeal.main (F := Ideal))) ⟨m, fun _ => 0, g⟩ (fun r => (∀ c : Dev Cert.KernelEvenInIdeal.nD,
      r.2.mem ((c.tc : Thread Cert.KernelEvenInIdeal.nD Cert.KernelEvenInIdeal.τ).loc Cert.KernelEvenInIdeal.main_arg0) = m ((c.tc : Thread Cert.KernelEvenInIdeal.nD Cert.KernelEvenInIdeal.τ).loc Cert.KernelEvenInIdeal.main_arg0)
      ∧ r.2.mem ((c.tc : Thread Cert.KernelEvenInIdeal.nD Cert.KernelEvenInIdeal.τ).loc Cert.KernelEvenInIdeal.main_arg1) = m ((c.tc : Thread Cert.KernelEvenInIdeal.nD Cert.KernelEvenInIdeal.τ).loc Cert.KernelEvenInIdeal.main_arg1)
      ∧ r.2.mem ((c.tc : Thread Cert.KernelEvenInIdeal.nD Cert.KernelEvenInIdeal.τ).loc Cert.KernelEvenInIdeal.main_arg2) = m ((c.tc : Thread Cert.KernelEvenInIdeal.nD Cert.KernelEvenInIdeal.τ).loc Cert.KernelEvenInIdeal.main_arg2))
      ∧ r.2.sem = fun _ => 0)

def quiescent_ReferenceEvenInIdeal [hReferenceEvenInIdeal : Cert.ReferenceEvenInIdeal.Facts] : Prop :=
  ∀ (m : (ℓ : Loc Cert.ReferenceEvenInIdeal.nD Cert.ReferenceEvenInIdeal.τ Cert.ReferenceEvenInIdeal.sig) → Buf (Elt Ideal) ℓ) (g : Dev Cert.ReferenceEvenInIdeal.nD → PrngReg), Pre_ReferenceEvenInIdeal m →
    θ_run (Cert.ReferenceEvenInIdeal.defs (F := Ideal)) (onTc (τ := Cert.ReferenceEvenInIdeal.τ) (Cert.ReferenceEvenInIdeal.main (F := Ideal))) ⟨m, fun _ => 0, g⟩ (fun r => (∀ c : Dev Cert.ReferenceEvenInIdeal.nD,
      r.2.mem ((c.tc : Thread Cert.ReferenceEvenInIdeal.nD Cert.ReferenceEvenInIdeal.τ).loc Cert.ReferenceEvenInIdeal.main_arg0) = m ((c.tc : Thread Cert.ReferenceEvenInIdeal.nD Cert.ReferenceEvenInIdeal.τ).loc Cert.ReferenceEvenInIdeal.main_arg0)
      ∧ r.2.mem ((c.tc : Thread Cert.ReferenceEvenInIdeal.nD Cert.ReferenceEvenInIdeal.τ).loc Cert.ReferenceEvenInIdeal.main_arg1) = m ((c.tc : Thread Cert.ReferenceEvenInIdeal.nD Cert.ReferenceEvenInIdeal.τ).loc Cert.ReferenceEvenInIdeal.main_arg1)
      ∧ r.2.mem ((c.tc : Thread Cert.ReferenceEvenInIdeal.nD Cert.ReferenceEvenInIdeal.τ).loc Cert.ReferenceEvenInIdeal.main_arg2) = m ((c.tc : Thread Cert.ReferenceEvenInIdeal.nD Cert.ReferenceEvenInIdeal.τ).loc Cert.ReferenceEvenInIdeal.main_arg2))
      ∧ r.2.sem = fun _ => 0)

def quiescent_KernelOddIn [hKernelOddIn : Cert.KernelOddIn.Facts] : Prop :=
  ∀ (m : (ℓ : Loc Cert.KernelOddIn.nD Cert.KernelOddIn.τ Cert.KernelOddIn.sig) → Buf (Elt Bits) ℓ) (g : Dev Cert.KernelOddIn.nD → PrngReg), Pre_KernelOddIn m →
    θ_run (Cert.KernelOddIn.defs (F := Bits)) (onTc (τ := Cert.KernelOddIn.τ) (Cert.KernelOddIn.main (F := Bits))) ⟨m, fun _ => 0, g⟩ (fun r => (∀ c : Dev Cert.KernelOddIn.nD,
      r.2.mem ((c.tc : Thread Cert.KernelOddIn.nD Cert.KernelOddIn.τ).loc Cert.KernelOddIn.main_arg0) = m ((c.tc : Thread Cert.KernelOddIn.nD Cert.KernelOddIn.τ).loc Cert.KernelOddIn.main_arg0)
      ∧ r.2.mem ((c.tc : Thread Cert.KernelOddIn.nD Cert.KernelOddIn.τ).loc Cert.KernelOddIn.main_arg1) = m ((c.tc : Thread Cert.KernelOddIn.nD Cert.KernelOddIn.τ).loc Cert.KernelOddIn.main_arg1)
      ∧ r.2.mem ((c.tc : Thread Cert.KernelOddIn.nD Cert.KernelOddIn.τ).loc Cert.KernelOddIn.main_arg2) = m ((c.tc : Thread Cert.KernelOddIn.nD Cert.KernelOddIn.τ).loc Cert.KernelOddIn.main_arg2))
      ∧ r.2.sem = fun _ => 0)

def quiescent_KernelOddInIdeal [hKernelOddInIdeal : Cert.KernelOddInIdeal.Facts] : Prop :=
  ∀ (m : (ℓ : Loc Cert.KernelOddInIdeal.nD Cert.KernelOddInIdeal.τ Cert.KernelOddInIdeal.sig) → Buf (Elt Ideal) ℓ) (g : Dev Cert.KernelOddInIdeal.nD → PrngReg), Pre_KernelOddInIdeal m →
    θ_run (Cert.KernelOddInIdeal.defs (F := Ideal)) (onTc (τ := Cert.KernelOddInIdeal.τ) (Cert.KernelOddInIdeal.main (F := Ideal))) ⟨m, fun _ => 0, g⟩ (fun r => (∀ c : Dev Cert.KernelOddInIdeal.nD,
      r.2.mem ((c.tc : Thread Cert.KernelOddInIdeal.nD Cert.KernelOddInIdeal.τ).loc Cert.KernelOddInIdeal.main_arg0) = m ((c.tc : Thread Cert.KernelOddInIdeal.nD Cert.KernelOddInIdeal.τ).loc Cert.KernelOddInIdeal.main_arg0)
      ∧ r.2.mem ((c.tc : Thread Cert.KernelOddInIdeal.nD Cert.KernelOddInIdeal.τ).loc Cert.KernelOddInIdeal.main_arg1) = m ((c.tc : Thread Cert.KernelOddInIdeal.nD Cert.KernelOddInIdeal.τ).loc Cert.KernelOddInIdeal.main_arg1)
      ∧ r.2.mem ((c.tc : Thread Cert.KernelOddInIdeal.nD Cert.KernelOddInIdeal.τ).loc Cert.KernelOddInIdeal.main_arg2) = m ((c.tc : Thread Cert.KernelOddInIdeal.nD Cert.KernelOddInIdeal.τ).loc Cert.KernelOddInIdeal.main_arg2))
      ∧ r.2.sem = fun _ => 0)

def quiescent_ReferenceOddInIdeal [hReferenceOddInIdeal : Cert.ReferenceOddInIdeal.Facts] : Prop :=
  ∀ (m : (ℓ : Loc Cert.ReferenceOddInIdeal.nD Cert.ReferenceOddInIdeal.τ Cert.ReferenceOddInIdeal.sig) → Buf (Elt Ideal) ℓ) (g : Dev Cert.ReferenceOddInIdeal.nD → PrngReg), Pre_ReferenceOddInIdeal m →
    θ_run (Cert.ReferenceOddInIdeal.defs (F := Ideal)) (onTc (τ := Cert.ReferenceOddInIdeal.τ) (Cert.ReferenceOddInIdeal.main (F := Ideal))) ⟨m, fun _ => 0, g⟩ (fun r => (∀ c : Dev Cert.ReferenceOddInIdeal.nD,
      r.2.mem ((c.tc : Thread Cert.ReferenceOddInIdeal.nD Cert.ReferenceOddInIdeal.τ).loc Cert.ReferenceOddInIdeal.main_arg0) = m ((c.tc : Thread Cert.ReferenceOddInIdeal.nD Cert.ReferenceOddInIdeal.τ).loc Cert.ReferenceOddInIdeal.main_arg0)
      ∧ r.2.mem ((c.tc : Thread Cert.ReferenceOddInIdeal.nD Cert.ReferenceOddInIdeal.τ).loc Cert.ReferenceOddInIdeal.main_arg1) = m ((c.tc : Thread Cert.ReferenceOddInIdeal.nD Cert.ReferenceOddInIdeal.τ).loc Cert.ReferenceOddInIdeal.main_arg1)
      ∧ r.2.mem ((c.tc : Thread Cert.ReferenceOddInIdeal.nD Cert.ReferenceOddInIdeal.τ).loc Cert.ReferenceOddInIdeal.main_arg2) = m ((c.tc : Thread Cert.ReferenceOddInIdeal.nD Cert.ReferenceOddInIdeal.τ).loc Cert.ReferenceOddInIdeal.main_arg2))
      ∧ r.2.sem = fun _ => 0)

def quiescent_KernelEvenOut [hKernelEvenOut : Cert.KernelEvenOut.Facts] : Prop :=
  ∀ (m : (ℓ : Loc Cert.KernelEvenOut.nD Cert.KernelEvenOut.τ Cert.KernelEvenOut.sig) → Buf (Elt Bits) ℓ) (g : Dev Cert.KernelEvenOut.nD → PrngReg), Pre_KernelEvenOut m →
    θ_run (Cert.KernelEvenOut.defs (F := Bits)) (onTc (τ := Cert.KernelEvenOut.τ) (Cert.KernelEvenOut.main (F := Bits))) ⟨m, fun _ => 0, g⟩ (fun r => (∀ c : Dev Cert.KernelEvenOut.nD,
      r.2.mem ((c.tc : Thread Cert.KernelEvenOut.nD Cert.KernelEvenOut.τ).loc Cert.KernelEvenOut.main_arg0) = m ((c.tc : Thread Cert.KernelEvenOut.nD Cert.KernelEvenOut.τ).loc Cert.KernelEvenOut.main_arg0)
      ∧ r.2.mem ((c.tc : Thread Cert.KernelEvenOut.nD Cert.KernelEvenOut.τ).loc Cert.KernelEvenOut.main_arg1) = m ((c.tc : Thread Cert.KernelEvenOut.nD Cert.KernelEvenOut.τ).loc Cert.KernelEvenOut.main_arg1)
      ∧ r.2.mem ((c.tc : Thread Cert.KernelEvenOut.nD Cert.KernelEvenOut.τ).loc Cert.KernelEvenOut.main_arg2) = m ((c.tc : Thread Cert.KernelEvenOut.nD Cert.KernelEvenOut.τ).loc Cert.KernelEvenOut.main_arg2)
      ∧ r.2.mem ((c.tc : Thread Cert.KernelEvenOut.nD Cert.KernelEvenOut.τ).loc Cert.KernelEvenOut.main_arg3) = m ((c.tc : Thread Cert.KernelEvenOut.nD Cert.KernelEvenOut.τ).loc Cert.KernelEvenOut.main_arg3))
      ∧ r.2.sem = fun _ => 0)

def quiescent_KernelEvenOutIdeal [hKernelEvenOutIdeal : Cert.KernelEvenOutIdeal.Facts] : Prop :=
  ∀ (m : (ℓ : Loc Cert.KernelEvenOutIdeal.nD Cert.KernelEvenOutIdeal.τ Cert.KernelEvenOutIdeal.sig) → Buf (Elt Ideal) ℓ) (g : Dev Cert.KernelEvenOutIdeal.nD → PrngReg), Pre_KernelEvenOutIdeal m →
    θ_run (Cert.KernelEvenOutIdeal.defs (F := Ideal)) (onTc (τ := Cert.KernelEvenOutIdeal.τ) (Cert.KernelEvenOutIdeal.main (F := Ideal))) ⟨m, fun _ => 0, g⟩ (fun r => (∀ c : Dev Cert.KernelEvenOutIdeal.nD,
      r.2.mem ((c.tc : Thread Cert.KernelEvenOutIdeal.nD Cert.KernelEvenOutIdeal.τ).loc Cert.KernelEvenOutIdeal.main_arg0) = m ((c.tc : Thread Cert.KernelEvenOutIdeal.nD Cert.KernelEvenOutIdeal.τ).loc Cert.KernelEvenOutIdeal.main_arg0)
      ∧ r.2.mem ((c.tc : Thread Cert.KernelEvenOutIdeal.nD Cert.KernelEvenOutIdeal.τ).loc Cert.KernelEvenOutIdeal.main_arg1) = m ((c.tc : Thread Cert.KernelEvenOutIdeal.nD Cert.KernelEvenOutIdeal.τ).loc Cert.KernelEvenOutIdeal.main_arg1)
      ∧ r.2.mem ((c.tc : Thread Cert.KernelEvenOutIdeal.nD Cert.KernelEvenOutIdeal.τ).loc Cert.KernelEvenOutIdeal.main_arg2) = m ((c.tc : Thread Cert.KernelEvenOutIdeal.nD Cert.KernelEvenOutIdeal.τ).loc Cert.KernelEvenOutIdeal.main_arg2)
      ∧ r.2.mem ((c.tc : Thread Cert.KernelEvenOutIdeal.nD Cert.KernelEvenOutIdeal.τ).loc Cert.KernelEvenOutIdeal.main_arg3) = m ((c.tc : Thread Cert.KernelEvenOutIdeal.nD Cert.KernelEvenOutIdeal.τ).loc Cert.KernelEvenOutIdeal.main_arg3))
      ∧ r.2.sem = fun _ => 0)

def quiescent_ReferenceEvenOutIdeal [hReferenceEvenOutIdeal : Cert.ReferenceEvenOutIdeal.Facts] : Prop :=
  ∀ (m : (ℓ : Loc Cert.ReferenceEvenOutIdeal.nD Cert.ReferenceEvenOutIdeal.τ Cert.ReferenceEvenOutIdeal.sig) → Buf (Elt Ideal) ℓ) (g : Dev Cert.ReferenceEvenOutIdeal.nD → PrngReg), Pre_ReferenceEvenOutIdeal m →
    θ_run (Cert.ReferenceEvenOutIdeal.defs (F := Ideal)) (onTc (τ := Cert.ReferenceEvenOutIdeal.τ) (Cert.ReferenceEvenOutIdeal.main (F := Ideal))) ⟨m, fun _ => 0, g⟩ (fun r => (∀ c : Dev Cert.ReferenceEvenOutIdeal.nD,
      r.2.mem ((c.tc : Thread Cert.ReferenceEvenOutIdeal.nD Cert.ReferenceEvenOutIdeal.τ).loc Cert.ReferenceEvenOutIdeal.main_arg0) = m ((c.tc : Thread Cert.ReferenceEvenOutIdeal.nD Cert.ReferenceEvenOutIdeal.τ).loc Cert.ReferenceEvenOutIdeal.main_arg0)
      ∧ r.2.mem ((c.tc : Thread Cert.ReferenceEvenOutIdeal.nD Cert.ReferenceEvenOutIdeal.τ).loc Cert.ReferenceEvenOutIdeal.main_arg1) = m ((c.tc : Thread Cert.ReferenceEvenOutIdeal.nD Cert.ReferenceEvenOutIdeal.τ).loc Cert.ReferenceEvenOutIdeal.main_arg1)
      ∧ r.2.mem ((c.tc : Thread Cert.ReferenceEvenOutIdeal.nD Cert.ReferenceEvenOutIdeal.τ).loc Cert.ReferenceEvenOutIdeal.main_arg2) = m ((c.tc : Thread Cert.ReferenceEvenOutIdeal.nD Cert.ReferenceEvenOutIdeal.τ).loc Cert.ReferenceEvenOutIdeal.main_arg2)
      ∧ r.2.mem ((c.tc : Thread Cert.ReferenceEvenOutIdeal.nD Cert.ReferenceEvenOutIdeal.τ).loc Cert.ReferenceEvenOutIdeal.main_arg3) = m ((c.tc : Thread Cert.ReferenceEvenOutIdeal.nD Cert.ReferenceEvenOutIdeal.τ).loc Cert.ReferenceEvenOutIdeal.main_arg3))
      ∧ r.2.sem = fun _ => 0)

def quiescent_KernelOddOut [hKernelOddOut : Cert.KernelOddOut.Facts] : Prop :=
  ∀ (m : (ℓ : Loc Cert.KernelOddOut.nD Cert.KernelOddOut.τ Cert.KernelOddOut.sig) → Buf (Elt Bits) ℓ) (g : Dev Cert.KernelOddOut.nD → PrngReg), Pre_KernelOddOut m →
    θ_run (Cert.KernelOddOut.defs (F := Bits)) (onTc (τ := Cert.KernelOddOut.τ) (Cert.KernelOddOut.main (F := Bits))) ⟨m, fun _ => 0, g⟩ (fun r => (∀ c : Dev Cert.KernelOddOut.nD,
      r.2.mem ((c.tc : Thread Cert.KernelOddOut.nD Cert.KernelOddOut.τ).loc Cert.KernelOddOut.main_arg0) = m ((c.tc : Thread Cert.KernelOddOut.nD Cert.KernelOddOut.τ).loc Cert.KernelOddOut.main_arg0)
      ∧ r.2.mem ((c.tc : Thread Cert.KernelOddOut.nD Cert.KernelOddOut.τ).loc Cert.KernelOddOut.main_arg1) = m ((c.tc : Thread Cert.KernelOddOut.nD Cert.KernelOddOut.τ).loc Cert.KernelOddOut.main_arg1)
      ∧ r.2.mem ((c.tc : Thread Cert.KernelOddOut.nD Cert.KernelOddOut.τ).loc Cert.KernelOddOut.main_arg2) = m ((c.tc : Thread Cert.KernelOddOut.nD Cert.KernelOddOut.τ).loc Cert.KernelOddOut.main_arg2))
      ∧ r.2.sem = fun _ => 0)

def quiescent_KernelOddOutIdeal [hKernelOddOutIdeal : Cert.KernelOddOutIdeal.Facts] : Prop :=
  ∀ (m : (ℓ : Loc Cert.KernelOddOutIdeal.nD Cert.KernelOddOutIdeal.τ Cert.KernelOddOutIdeal.sig) → Buf (Elt Ideal) ℓ) (g : Dev Cert.KernelOddOutIdeal.nD → PrngReg), Pre_KernelOddOutIdeal m →
    θ_run (Cert.KernelOddOutIdeal.defs (F := Ideal)) (onTc (τ := Cert.KernelOddOutIdeal.τ) (Cert.KernelOddOutIdeal.main (F := Ideal))) ⟨m, fun _ => 0, g⟩ (fun r => (∀ c : Dev Cert.KernelOddOutIdeal.nD,
      r.2.mem ((c.tc : Thread Cert.KernelOddOutIdeal.nD Cert.KernelOddOutIdeal.τ).loc Cert.KernelOddOutIdeal.main_arg0) = m ((c.tc : Thread Cert.KernelOddOutIdeal.nD Cert.KernelOddOutIdeal.τ).loc Cert.KernelOddOutIdeal.main_arg0)
      ∧ r.2.mem ((c.tc : Thread Cert.KernelOddOutIdeal.nD Cert.KernelOddOutIdeal.τ).loc Cert.KernelOddOutIdeal.main_arg1) = m ((c.tc : Thread Cert.KernelOddOutIdeal.nD Cert.KernelOddOutIdeal.τ).loc Cert.KernelOddOutIdeal.main_arg1)
      ∧ r.2.mem ((c.tc : Thread Cert.KernelOddOutIdeal.nD Cert.KernelOddOutIdeal.τ).loc Cert.KernelOddOutIdeal.main_arg2) = m ((c.tc : Thread Cert.KernelOddOutIdeal.nD Cert.KernelOddOutIdeal.τ).loc Cert.KernelOddOutIdeal.main_arg2))
      ∧ r.2.sem = fun _ => 0)

def quiescent_ReferenceOddOutIdeal [hReferenceOddOutIdeal : Cert.ReferenceOddOutIdeal.Facts] : Prop :=
  ∀ (m : (ℓ : Loc Cert.ReferenceOddOutIdeal.nD Cert.ReferenceOddOutIdeal.τ Cert.ReferenceOddOutIdeal.sig) → Buf (Elt Ideal) ℓ) (g : Dev Cert.ReferenceOddOutIdeal.nD → PrngReg), Pre_ReferenceOddOutIdeal m →
    θ_run (Cert.ReferenceOddOutIdeal.defs (F := Ideal)) (onTc (τ := Cert.ReferenceOddOutIdeal.τ) (Cert.ReferenceOddOutIdeal.main (F := Ideal))) ⟨m, fun _ => 0, g⟩ (fun r => (∀ c : Dev Cert.ReferenceOddOutIdeal.nD,
      r.2.mem ((c.tc : Thread Cert.ReferenceOddOutIdeal.nD Cert.ReferenceOddOutIdeal.τ).loc Cert.ReferenceOddOutIdeal.main_arg0) = m ((c.tc : Thread Cert.ReferenceOddOutIdeal.nD Cert.ReferenceOddOutIdeal.τ).loc Cert.ReferenceOddOutIdeal.main_arg0)
      ∧ r.2.mem ((c.tc : Thread Cert.ReferenceOddOutIdeal.nD Cert.ReferenceOddOutIdeal.τ).loc Cert.ReferenceOddOutIdeal.main_arg1) = m ((c.tc : Thread Cert.ReferenceOddOutIdeal.nD Cert.ReferenceOddOutIdeal.τ).loc Cert.ReferenceOddOutIdeal.main_arg1)
      ∧ r.2.mem ((c.tc : Thread Cert.ReferenceOddOutIdeal.nD Cert.ReferenceOddOutIdeal.τ).loc Cert.ReferenceOddOutIdeal.main_arg2) = m ((c.tc : Thread Cert.ReferenceOddOutIdeal.nD Cert.ReferenceOddOutIdeal.τ).loc Cert.ReferenceOddOutIdeal.main_arg2))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3))
      ∧ r.2.sem = fun _ => 0)

def quiescent_ReferenceSguIdeal [hReferenceSguIdeal : Cert.ReferenceSguIdeal.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3))
      ∧ r.2.sem = fun _ => 0)

def quiescent_KernelOddPrep [hKernelOddPrep : Cert.KernelOddPrep.Facts] : Prop :=
  ∀ (m : (ℓ : Loc Cert.KernelOddPrep.nD Cert.KernelOddPrep.τ Cert.KernelOddPrep.sig) → Buf (Elt Bits) ℓ) (g : Dev Cert.KernelOddPrep.nD → PrngReg), Pre_KernelOddPrep m →
    θ_run (Cert.KernelOddPrep.defs (F := Bits)) (onTc (τ := Cert.KernelOddPrep.τ) (Cert.KernelOddPrep.main (F := Bits))) ⟨m, fun _ => 0, g⟩ (fun r => (∀ c : Dev Cert.KernelOddPrep.nD,
      r.2.mem ((c.tc : Thread Cert.KernelOddPrep.nD Cert.KernelOddPrep.τ).loc Cert.KernelOddPrep.main_arg0) = m ((c.tc : Thread Cert.KernelOddPrep.nD Cert.KernelOddPrep.τ).loc Cert.KernelOddPrep.main_arg0)
      ∧ r.2.mem ((c.tc : Thread Cert.KernelOddPrep.nD Cert.KernelOddPrep.τ).loc Cert.KernelOddPrep.main_arg1) = m ((c.tc : Thread Cert.KernelOddPrep.nD Cert.KernelOddPrep.τ).loc Cert.KernelOddPrep.main_arg1)
      ∧ r.2.mem ((c.tc : Thread Cert.KernelOddPrep.nD Cert.KernelOddPrep.τ).loc Cert.KernelOddPrep.main_arg2) = m ((c.tc : Thread Cert.KernelOddPrep.nD Cert.KernelOddPrep.τ).loc Cert.KernelOddPrep.main_arg2)
      ∧ r.2.mem ((c.tc : Thread Cert.KernelOddPrep.nD Cert.KernelOddPrep.τ).loc Cert.KernelOddPrep.main_arg3) = m ((c.tc : Thread Cert.KernelOddPrep.nD Cert.KernelOddPrep.τ).loc Cert.KernelOddPrep.main_arg3)
      ∧ r.2.mem ((c.tc : Thread Cert.KernelOddPrep.nD Cert.KernelOddPrep.τ).loc Cert.KernelOddPrep.main_arg4) = m ((c.tc : Thread Cert.KernelOddPrep.nD Cert.KernelOddPrep.τ).loc Cert.KernelOddPrep.main_arg4))
      ∧ r.2.sem = fun _ => 0)

def quiescent_KernelOddPrepIdeal [hKernelOddPrepIdeal : Cert.KernelOddPrepIdeal.Facts] : Prop :=
  ∀ (m : (ℓ : Loc Cert.KernelOddPrepIdeal.nD Cert.KernelOddPrepIdeal.τ Cert.KernelOddPrepIdeal.sig) → Buf (Elt Ideal) ℓ) (g : Dev Cert.KernelOddPrepIdeal.nD → PrngReg), Pre_KernelOddPrepIdeal m →
    θ_run (Cert.KernelOddPrepIdeal.defs (F := Ideal)) (onTc (τ := Cert.KernelOddPrepIdeal.τ) (Cert.KernelOddPrepIdeal.main (F := Ideal))) ⟨m, fun _ => 0, g⟩ (fun r => (∀ c : Dev Cert.KernelOddPrepIdeal.nD,
      r.2.mem ((c.tc : Thread Cert.KernelOddPrepIdeal.nD Cert.KernelOddPrepIdeal.τ).loc Cert.KernelOddPrepIdeal.main_arg0) = m ((c.tc : Thread Cert.KernelOddPrepIdeal.nD Cert.KernelOddPrepIdeal.τ).loc Cert.KernelOddPrepIdeal.main_arg0)
      ∧ r.2.mem ((c.tc : Thread Cert.KernelOddPrepIdeal.nD Cert.KernelOddPrepIdeal.τ).loc Cert.KernelOddPrepIdeal.main_arg1) = m ((c.tc : Thread Cert.KernelOddPrepIdeal.nD Cert.KernelOddPrepIdeal.τ).loc Cert.KernelOddPrepIdeal.main_arg1)
      ∧ r.2.mem ((c.tc : Thread Cert.KernelOddPrepIdeal.nD Cert.KernelOddPrepIdeal.τ).loc Cert.KernelOddPrepIdeal.main_arg2) = m ((c.tc : Thread Cert.KernelOddPrepIdeal.nD Cert.KernelOddPrepIdeal.τ).loc Cert.KernelOddPrepIdeal.main_arg2)
      ∧ r.2.mem ((c.tc : Thread Cert.KernelOddPrepIdeal.nD Cert.KernelOddPrepIdeal.τ).loc Cert.KernelOddPrepIdeal.main_arg3) = m ((c.tc : Thread Cert.KernelOddPrepIdeal.nD Cert.KernelOddPrepIdeal.τ).loc Cert.KernelOddPrepIdeal.main_arg3)
      ∧ r.2.mem ((c.tc : Thread Cert.KernelOddPrepIdeal.nD Cert.KernelOddPrepIdeal.τ).loc Cert.KernelOddPrepIdeal.main_arg4) = m ((c.tc : Thread Cert.KernelOddPrepIdeal.nD Cert.KernelOddPrepIdeal.τ).loc Cert.KernelOddPrepIdeal.main_arg4))
      ∧ r.2.sem = fun _ => 0)

def quiescent_ReferenceOddPrepIdeal [hReferenceOddPrepIdeal : Cert.ReferenceOddPrepIdeal.Facts] : Prop :=
  ∀ (m : (ℓ : Loc Cert.ReferenceOddPrepIdeal.nD Cert.ReferenceOddPrepIdeal.τ Cert.ReferenceOddPrepIdeal.sig) → Buf (Elt Ideal) ℓ) (g : Dev Cert.ReferenceOddPrepIdeal.nD → PrngReg), Pre_ReferenceOddPrepIdeal m →
    θ_run (Cert.ReferenceOddPrepIdeal.defs (F := Ideal)) (onTc (τ := Cert.ReferenceOddPrepIdeal.τ) (Cert.ReferenceOddPrepIdeal.main (F := Ideal))) ⟨m, fun _ => 0, g⟩ (fun r => (∀ c : Dev Cert.ReferenceOddPrepIdeal.nD,
      r.2.mem ((c.tc : Thread Cert.ReferenceOddPrepIdeal.nD Cert.ReferenceOddPrepIdeal.τ).loc Cert.ReferenceOddPrepIdeal.main_arg0) = m ((c.tc : Thread Cert.ReferenceOddPrepIdeal.nD Cert.ReferenceOddPrepIdeal.τ).loc Cert.ReferenceOddPrepIdeal.main_arg0)
      ∧ r.2.mem ((c.tc : Thread Cert.ReferenceOddPrepIdeal.nD Cert.ReferenceOddPrepIdeal.τ).loc Cert.ReferenceOddPrepIdeal.main_arg1) = m ((c.tc : Thread Cert.ReferenceOddPrepIdeal.nD Cert.ReferenceOddPrepIdeal.τ).loc Cert.ReferenceOddPrepIdeal.main_arg1)
      ∧ r.2.mem ((c.tc : Thread Cert.ReferenceOddPrepIdeal.nD Cert.ReferenceOddPrepIdeal.τ).loc Cert.ReferenceOddPrepIdeal.main_arg2) = m ((c.tc : Thread Cert.ReferenceOddPrepIdeal.nD Cert.ReferenceOddPrepIdeal.τ).loc Cert.ReferenceOddPrepIdeal.main_arg2)
      ∧ r.2.mem ((c.tc : Thread Cert.ReferenceOddPrepIdeal.nD Cert.ReferenceOddPrepIdeal.τ).loc Cert.ReferenceOddPrepIdeal.main_arg3) = m ((c.tc : Thread Cert.ReferenceOddPrepIdeal.nD Cert.ReferenceOddPrepIdeal.τ).loc Cert.ReferenceOddPrepIdeal.main_arg3)
      ∧ r.2.mem ((c.tc : Thread Cert.ReferenceOddPrepIdeal.nD Cert.ReferenceOddPrepIdeal.τ).loc Cert.ReferenceOddPrepIdeal.main_arg4) = m ((c.tc : Thread Cert.ReferenceOddPrepIdeal.nD Cert.ReferenceOddPrepIdeal.τ).loc Cert.ReferenceOddPrepIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v5)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v43) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelEvenIn_KernelEvenInIdeal : Prop :=
  True

def algebraic_KernelEvenInIdeal_ReferenceEvenInIdeal [hKernelEvenInIdeal : Cert.KernelEvenInIdeal.Facts] [hReferenceEvenInIdeal : Cert.ReferenceEvenInIdeal.Facts] : Prop :=
  ∀ (m : (ℓ : Loc Cert.KernelEvenInIdeal.nD Cert.KernelEvenInIdeal.τ Cert.KernelEvenInIdeal.sig) → Buf (Elt Ideal) ℓ) (g : Dev Cert.KernelEvenInIdeal.nD → PrngReg)
    (m' : (ℓ : Loc Cert.ReferenceEvenInIdeal.nD Cert.ReferenceEvenInIdeal.τ Cert.ReferenceEvenInIdeal.sig) → Buf (Elt Ideal) ℓ) (g' : Dev Cert.ReferenceEvenInIdeal.nD → PrngReg), Pre_KernelEvenInIdeal m →
    (∀ c : Dev Cert.KernelEvenInIdeal.nD,
      m' ((c.tc : Thread Cert.ReferenceEvenInIdeal.nD Cert.ReferenceEvenInIdeal.τ).loc Cert.ReferenceEvenInIdeal.main_arg0) = m ((c.tc : Thread Cert.KernelEvenInIdeal.nD Cert.KernelEvenInIdeal.τ).loc Cert.KernelEvenInIdeal.main_arg0)
      ∧ m' ((c.tc : Thread Cert.ReferenceEvenInIdeal.nD Cert.ReferenceEvenInIdeal.τ).loc Cert.ReferenceEvenInIdeal.main_arg1) = m ((c.tc : Thread Cert.KernelEvenInIdeal.nD Cert.KernelEvenInIdeal.τ).loc Cert.KernelEvenInIdeal.main_arg1)
      ∧ m' ((c.tc : Thread Cert.ReferenceEvenInIdeal.nD Cert.ReferenceEvenInIdeal.τ).loc Cert.ReferenceEvenInIdeal.main_arg2) = m ((c.tc : Thread Cert.KernelEvenInIdeal.nD Cert.KernelEvenInIdeal.τ).loc Cert.KernelEvenInIdeal.main_arg2)) →
    ∃ (v0 : (c : Dev Cert.KernelEvenInIdeal.nD) → Buf (Elt Ideal) ((c.tc : Thread Cert.KernelEvenInIdeal.nD Cert.KernelEvenInIdeal.τ).loc Cert.KernelEvenInIdeal.main_v6)),
      θ_run (Cert.KernelEvenInIdeal.defs (F := Ideal)) (onTc (τ := Cert.KernelEvenInIdeal.τ) (Cert.KernelEvenInIdeal.main (F := Ideal))) ⟨m, fun _ => 0, g⟩ (fun r => ∀ c : Dev Cert.KernelEvenInIdeal.nD,
          r.2.mem ((c.tc : Thread Cert.KernelEvenInIdeal.nD Cert.KernelEvenInIdeal.τ).loc Cert.KernelEvenInIdeal.main_v6) = v0 c
          ∧ r.2.mem ((c.tc : Thread Cert.KernelEvenInIdeal.nD Cert.KernelEvenInIdeal.τ).loc Cert.KernelEvenInIdeal.main_arg0) = m ((c.tc : Thread Cert.KernelEvenInIdeal.nD Cert.KernelEvenInIdeal.τ).loc Cert.KernelEvenInIdeal.main_arg0)
          ∧ r.2.mem ((c.tc : Thread Cert.KernelEvenInIdeal.nD Cert.KernelEvenInIdeal.τ).loc Cert.KernelEvenInIdeal.main_arg1) = m ((c.tc : Thread Cert.KernelEvenInIdeal.nD Cert.KernelEvenInIdeal.τ).loc Cert.KernelEvenInIdeal.main_arg1)
          ∧ r.2.mem ((c.tc : Thread Cert.KernelEvenInIdeal.nD Cert.KernelEvenInIdeal.τ).loc Cert.KernelEvenInIdeal.main_arg2) = m ((c.tc : Thread Cert.KernelEvenInIdeal.nD Cert.KernelEvenInIdeal.τ).loc Cert.KernelEvenInIdeal.main_arg2))
      ∧ θ_run (Cert.ReferenceEvenInIdeal.defs (F := Ideal)) (onTc (τ := Cert.ReferenceEvenInIdeal.τ) (Cert.ReferenceEvenInIdeal.main (F := Ideal))) ⟨m', fun _ => 0, g'⟩ (fun r => ∀ c : Dev Cert.ReferenceEvenInIdeal.nD,
          r.2.mem ((c.tc : Thread Cert.ReferenceEvenInIdeal.nD Cert.ReferenceEvenInIdeal.τ).loc Cert.ReferenceEvenInIdeal.main_v24) = v0 c
          ∧ r.2.mem ((c.tc : Thread Cert.ReferenceEvenInIdeal.nD Cert.ReferenceEvenInIdeal.τ).loc Cert.ReferenceEvenInIdeal.main_arg0) = m' ((c.tc : Thread Cert.ReferenceEvenInIdeal.nD Cert.ReferenceEvenInIdeal.τ).loc Cert.ReferenceEvenInIdeal.main_arg0)
          ∧ r.2.mem ((c.tc : Thread Cert.ReferenceEvenInIdeal.nD Cert.ReferenceEvenInIdeal.τ).loc Cert.ReferenceEvenInIdeal.main_arg1) = m' ((c.tc : Thread Cert.ReferenceEvenInIdeal.nD Cert.ReferenceEvenInIdeal.τ).loc Cert.ReferenceEvenInIdeal.main_arg1)
          ∧ r.2.mem ((c.tc : Thread Cert.ReferenceEvenInIdeal.nD Cert.ReferenceEvenInIdeal.τ).loc Cert.ReferenceEvenInIdeal.main_arg2) = m' ((c.tc : Thread Cert.ReferenceEvenInIdeal.nD Cert.ReferenceEvenInIdeal.τ).loc Cert.ReferenceEvenInIdeal.main_arg2))

def preserves_KernelOddIn_KernelOddInIdeal : Prop :=
  True

def algebraic_KernelOddInIdeal_ReferenceOddInIdeal [hKernelOddInIdeal : Cert.KernelOddInIdeal.Facts] [hReferenceOddInIdeal : Cert.ReferenceOddInIdeal.Facts] : Prop :=
  ∀ (m : (ℓ : Loc Cert.KernelOddInIdeal.nD Cert.KernelOddInIdeal.τ Cert.KernelOddInIdeal.sig) → Buf (Elt Ideal) ℓ) (g : Dev Cert.KernelOddInIdeal.nD → PrngReg)
    (m' : (ℓ : Loc Cert.ReferenceOddInIdeal.nD Cert.ReferenceOddInIdeal.τ Cert.ReferenceOddInIdeal.sig) → Buf (Elt Ideal) ℓ) (g' : Dev Cert.ReferenceOddInIdeal.nD → PrngReg), Pre_KernelOddInIdeal m →
    (∀ c : Dev Cert.KernelOddInIdeal.nD,
      m' ((c.tc : Thread Cert.ReferenceOddInIdeal.nD Cert.ReferenceOddInIdeal.τ).loc Cert.ReferenceOddInIdeal.main_arg0) = m ((c.tc : Thread Cert.KernelOddInIdeal.nD Cert.KernelOddInIdeal.τ).loc Cert.KernelOddInIdeal.main_arg0)
      ∧ m' ((c.tc : Thread Cert.ReferenceOddInIdeal.nD Cert.ReferenceOddInIdeal.τ).loc Cert.ReferenceOddInIdeal.main_arg1) = m ((c.tc : Thread Cert.KernelOddInIdeal.nD Cert.KernelOddInIdeal.τ).loc Cert.KernelOddInIdeal.main_arg1)
      ∧ m' ((c.tc : Thread Cert.ReferenceOddInIdeal.nD Cert.ReferenceOddInIdeal.τ).loc Cert.ReferenceOddInIdeal.main_arg2) = m ((c.tc : Thread Cert.KernelOddInIdeal.nD Cert.KernelOddInIdeal.τ).loc Cert.KernelOddInIdeal.main_arg2)) →
    ∃ (v0 : (c : Dev Cert.KernelOddInIdeal.nD) → Buf (Elt Ideal) ((c.tc : Thread Cert.KernelOddInIdeal.nD Cert.KernelOddInIdeal.τ).loc Cert.KernelOddInIdeal.main_v4)),
      θ_run (Cert.KernelOddInIdeal.defs (F := Ideal)) (onTc (τ := Cert.KernelOddInIdeal.τ) (Cert.KernelOddInIdeal.main (F := Ideal))) ⟨m, fun _ => 0, g⟩ (fun r => ∀ c : Dev Cert.KernelOddInIdeal.nD,
          r.2.mem ((c.tc : Thread Cert.KernelOddInIdeal.nD Cert.KernelOddInIdeal.τ).loc Cert.KernelOddInIdeal.main_v4) = v0 c
          ∧ r.2.mem ((c.tc : Thread Cert.KernelOddInIdeal.nD Cert.KernelOddInIdeal.τ).loc Cert.KernelOddInIdeal.main_arg0) = m ((c.tc : Thread Cert.KernelOddInIdeal.nD Cert.KernelOddInIdeal.τ).loc Cert.KernelOddInIdeal.main_arg0)
          ∧ r.2.mem ((c.tc : Thread Cert.KernelOddInIdeal.nD Cert.KernelOddInIdeal.τ).loc Cert.KernelOddInIdeal.main_arg1) = m ((c.tc : Thread Cert.KernelOddInIdeal.nD Cert.KernelOddInIdeal.τ).loc Cert.KernelOddInIdeal.main_arg1)
          ∧ r.2.mem ((c.tc : Thread Cert.KernelOddInIdeal.nD Cert.KernelOddInIdeal.τ).loc Cert.KernelOddInIdeal.main_arg2) = m ((c.tc : Thread Cert.KernelOddInIdeal.nD Cert.KernelOddInIdeal.τ).loc Cert.KernelOddInIdeal.main_arg2))
      ∧ θ_run (Cert.ReferenceOddInIdeal.defs (F := Ideal)) (onTc (τ := Cert.ReferenceOddInIdeal.τ) (Cert.ReferenceOddInIdeal.main (F := Ideal))) ⟨m', fun _ => 0, g'⟩ (fun r => ∀ c : Dev Cert.ReferenceOddInIdeal.nD,
          r.2.mem ((c.tc : Thread Cert.ReferenceOddInIdeal.nD Cert.ReferenceOddInIdeal.τ).loc Cert.ReferenceOddInIdeal.main_v21) = v0 c
          ∧ r.2.mem ((c.tc : Thread Cert.ReferenceOddInIdeal.nD Cert.ReferenceOddInIdeal.τ).loc Cert.ReferenceOddInIdeal.main_arg0) = m' ((c.tc : Thread Cert.ReferenceOddInIdeal.nD Cert.ReferenceOddInIdeal.τ).loc Cert.ReferenceOddInIdeal.main_arg0)
          ∧ r.2.mem ((c.tc : Thread Cert.ReferenceOddInIdeal.nD Cert.ReferenceOddInIdeal.τ).loc Cert.ReferenceOddInIdeal.main_arg1) = m' ((c.tc : Thread Cert.ReferenceOddInIdeal.nD Cert.ReferenceOddInIdeal.τ).loc Cert.ReferenceOddInIdeal.main_arg1)
          ∧ r.2.mem ((c.tc : Thread Cert.ReferenceOddInIdeal.nD Cert.ReferenceOddInIdeal.τ).loc Cert.ReferenceOddInIdeal.main_arg2) = m' ((c.tc : Thread Cert.ReferenceOddInIdeal.nD Cert.ReferenceOddInIdeal.τ).loc Cert.ReferenceOddInIdeal.main_arg2))

def preserves_KernelEvenOut_KernelEvenOutIdeal : Prop :=
  True

def algebraic_KernelEvenOutIdeal_ReferenceEvenOutIdeal [hKernelEvenOutIdeal : Cert.KernelEvenOutIdeal.Facts] [hReferenceEvenOutIdeal : Cert.ReferenceEvenOutIdeal.Facts] : Prop :=
  ∀ (m : (ℓ : Loc Cert.KernelEvenOutIdeal.nD Cert.KernelEvenOutIdeal.τ Cert.KernelEvenOutIdeal.sig) → Buf (Elt Ideal) ℓ) (g : Dev Cert.KernelEvenOutIdeal.nD → PrngReg)
    (m' : (ℓ : Loc Cert.ReferenceEvenOutIdeal.nD Cert.ReferenceEvenOutIdeal.τ Cert.ReferenceEvenOutIdeal.sig) → Buf (Elt Ideal) ℓ) (g' : Dev Cert.ReferenceEvenOutIdeal.nD → PrngReg), Pre_KernelEvenOutIdeal m →
    (∀ c : Dev Cert.KernelEvenOutIdeal.nD,
      m' ((c.tc : Thread Cert.ReferenceEvenOutIdeal.nD Cert.ReferenceEvenOutIdeal.τ).loc Cert.ReferenceEvenOutIdeal.main_arg0) = m ((c.tc : Thread Cert.KernelEvenOutIdeal.nD Cert.KernelEvenOutIdeal.τ).loc Cert.KernelEvenOutIdeal.main_arg0)
      ∧ m' ((c.tc : Thread Cert.ReferenceEvenOutIdeal.nD Cert.ReferenceEvenOutIdeal.τ).loc Cert.ReferenceEvenOutIdeal.main_arg1) = m ((c.tc : Thread Cert.KernelEvenOutIdeal.nD Cert.KernelEvenOutIdeal.τ).loc Cert.KernelEvenOutIdeal.main_arg1)
      ∧ m' ((c.tc : Thread Cert.ReferenceEvenOutIdeal.nD Cert.ReferenceEvenOutIdeal.τ).loc Cert.ReferenceEvenOutIdeal.main_arg2) = m ((c.tc : Thread Cert.KernelEvenOutIdeal.nD Cert.KernelEvenOutIdeal.τ).loc Cert.KernelEvenOutIdeal.main_arg2)
      ∧ m' ((c.tc : Thread Cert.ReferenceEvenOutIdeal.nD Cert.ReferenceEvenOutIdeal.τ).loc Cert.ReferenceEvenOutIdeal.main_arg3) = m ((c.tc : Thread Cert.KernelEvenOutIdeal.nD Cert.KernelEvenOutIdeal.τ).loc Cert.KernelEvenOutIdeal.main_arg3)) →
    ∃ (v0 : (c : Dev Cert.KernelEvenOutIdeal.nD) → Buf (Elt Ideal) ((c.tc : Thread Cert.KernelEvenOutIdeal.nD Cert.KernelEvenOutIdeal.τ).loc Cert.KernelEvenOutIdeal.main_v4)),
      θ_run (Cert.KernelEvenOutIdeal.defs (F := Ideal)) (onTc (τ := Cert.KernelEvenOutIdeal.τ) (Cert.KernelEvenOutIdeal.main (F := Ideal))) ⟨m, fun _ => 0, g⟩ (fun r => ∀ c : Dev Cert.KernelEvenOutIdeal.nD,
          r.2.mem ((c.tc : Thread Cert.KernelEvenOutIdeal.nD Cert.KernelEvenOutIdeal.τ).loc Cert.KernelEvenOutIdeal.main_v4) = v0 c
          ∧ r.2.mem ((c.tc : Thread Cert.KernelEvenOutIdeal.nD Cert.KernelEvenOutIdeal.τ).loc Cert.KernelEvenOutIdeal.main_arg0) = m ((c.tc : Thread Cert.KernelEvenOutIdeal.nD Cert.KernelEvenOutIdeal.τ).loc Cert.KernelEvenOutIdeal.main_arg0)
          ∧ r.2.mem ((c.tc : Thread Cert.KernelEvenOutIdeal.nD Cert.KernelEvenOutIdeal.τ).loc Cert.KernelEvenOutIdeal.main_arg1) = m ((c.tc : Thread Cert.KernelEvenOutIdeal.nD Cert.KernelEvenOutIdeal.τ).loc Cert.KernelEvenOutIdeal.main_arg1)
          ∧ r.2.mem ((c.tc : Thread Cert.KernelEvenOutIdeal.nD Cert.KernelEvenOutIdeal.τ).loc Cert.KernelEvenOutIdeal.main_arg2) = m ((c.tc : Thread Cert.KernelEvenOutIdeal.nD Cert.KernelEvenOutIdeal.τ).loc Cert.KernelEvenOutIdeal.main_arg2)
          ∧ r.2.mem ((c.tc : Thread Cert.KernelEvenOutIdeal.nD Cert.KernelEvenOutIdeal.τ).loc Cert.KernelEvenOutIdeal.main_arg3) = m ((c.tc : Thread Cert.KernelEvenOutIdeal.nD Cert.KernelEvenOutIdeal.τ).loc Cert.KernelEvenOutIdeal.main_arg3))
      ∧ θ_run (Cert.ReferenceEvenOutIdeal.defs (F := Ideal)) (onTc (τ := Cert.ReferenceEvenOutIdeal.τ) (Cert.ReferenceEvenOutIdeal.main (F := Ideal))) ⟨m', fun _ => 0, g'⟩ (fun r => ∀ c : Dev Cert.ReferenceEvenOutIdeal.nD,
          r.2.mem ((c.tc : Thread Cert.ReferenceEvenOutIdeal.nD Cert.ReferenceEvenOutIdeal.τ).loc Cert.ReferenceEvenOutIdeal.main_v7) = v0 c
          ∧ r.2.mem ((c.tc : Thread Cert.ReferenceEvenOutIdeal.nD Cert.ReferenceEvenOutIdeal.τ).loc Cert.ReferenceEvenOutIdeal.main_arg0) = m' ((c.tc : Thread Cert.ReferenceEvenOutIdeal.nD Cert.ReferenceEvenOutIdeal.τ).loc Cert.ReferenceEvenOutIdeal.main_arg0)
          ∧ r.2.mem ((c.tc : Thread Cert.ReferenceEvenOutIdeal.nD Cert.ReferenceEvenOutIdeal.τ).loc Cert.ReferenceEvenOutIdeal.main_arg1) = m' ((c.tc : Thread Cert.ReferenceEvenOutIdeal.nD Cert.ReferenceEvenOutIdeal.τ).loc Cert.ReferenceEvenOutIdeal.main_arg1)
          ∧ r.2.mem ((c.tc : Thread Cert.ReferenceEvenOutIdeal.nD Cert.ReferenceEvenOutIdeal.τ).loc Cert.ReferenceEvenOutIdeal.main_arg2) = m' ((c.tc : Thread Cert.ReferenceEvenOutIdeal.nD Cert.ReferenceEvenOutIdeal.τ).loc Cert.ReferenceEvenOutIdeal.main_arg2)
          ∧ r.2.mem ((c.tc : Thread Cert.ReferenceEvenOutIdeal.nD Cert.ReferenceEvenOutIdeal.τ).loc Cert.ReferenceEvenOutIdeal.main_arg3) = m' ((c.tc : Thread Cert.ReferenceEvenOutIdeal.nD Cert.ReferenceEvenOutIdeal.τ).loc Cert.ReferenceEvenOutIdeal.main_arg3))

def preserves_KernelOddOut_KernelOddOutIdeal : Prop :=
  True

def algebraic_KernelOddOutIdeal_ReferenceOddOutIdeal [hKernelOddOutIdeal : Cert.KernelOddOutIdeal.Facts] [hReferenceOddOutIdeal : Cert.ReferenceOddOutIdeal.Facts] : Prop :=
  ∀ (m : (ℓ : Loc Cert.KernelOddOutIdeal.nD Cert.KernelOddOutIdeal.τ Cert.KernelOddOutIdeal.sig) → Buf (Elt Ideal) ℓ) (g : Dev Cert.KernelOddOutIdeal.nD → PrngReg)
    (m' : (ℓ : Loc Cert.ReferenceOddOutIdeal.nD Cert.ReferenceOddOutIdeal.τ Cert.ReferenceOddOutIdeal.sig) → Buf (Elt Ideal) ℓ) (g' : Dev Cert.ReferenceOddOutIdeal.nD → PrngReg), Pre_KernelOddOutIdeal m →
    (∀ c : Dev Cert.KernelOddOutIdeal.nD,
      m' ((c.tc : Thread Cert.ReferenceOddOutIdeal.nD Cert.ReferenceOddOutIdeal.τ).loc Cert.ReferenceOddOutIdeal.main_arg0) = m ((c.tc : Thread Cert.KernelOddOutIdeal.nD Cert.KernelOddOutIdeal.τ).loc Cert.KernelOddOutIdeal.main_arg0)
      ∧ m' ((c.tc : Thread Cert.ReferenceOddOutIdeal.nD Cert.ReferenceOddOutIdeal.τ).loc Cert.ReferenceOddOutIdeal.main_arg1) = m ((c.tc : Thread Cert.KernelOddOutIdeal.nD Cert.KernelOddOutIdeal.τ).loc Cert.KernelOddOutIdeal.main_arg1)
      ∧ m' ((c.tc : Thread Cert.ReferenceOddOutIdeal.nD Cert.ReferenceOddOutIdeal.τ).loc Cert.ReferenceOddOutIdeal.main_arg2) = m ((c.tc : Thread Cert.KernelOddOutIdeal.nD Cert.KernelOddOutIdeal.τ).loc Cert.KernelOddOutIdeal.main_arg2)) →
    ∃ (v0 : (c : Dev Cert.KernelOddOutIdeal.nD) → Buf (Elt Ideal) ((c.tc : Thread Cert.KernelOddOutIdeal.nD Cert.KernelOddOutIdeal.τ).loc Cert.KernelOddOutIdeal.main_v2)),
      θ_run (Cert.KernelOddOutIdeal.defs (F := Ideal)) (onTc (τ := Cert.KernelOddOutIdeal.τ) (Cert.KernelOddOutIdeal.main (F := Ideal))) ⟨m, fun _ => 0, g⟩ (fun r => ∀ c : Dev Cert.KernelOddOutIdeal.nD,
          r.2.mem ((c.tc : Thread Cert.KernelOddOutIdeal.nD Cert.KernelOddOutIdeal.τ).loc Cert.KernelOddOutIdeal.main_v2) = v0 c
          ∧ r.2.mem ((c.tc : Thread Cert.KernelOddOutIdeal.nD Cert.KernelOddOutIdeal.τ).loc Cert.KernelOddOutIdeal.main_arg0) = m ((c.tc : Thread Cert.KernelOddOutIdeal.nD Cert.KernelOddOutIdeal.τ).loc Cert.KernelOddOutIdeal.main_arg0)
          ∧ r.2.mem ((c.tc : Thread Cert.KernelOddOutIdeal.nD Cert.KernelOddOutIdeal.τ).loc Cert.KernelOddOutIdeal.main_arg1) = m ((c.tc : Thread Cert.KernelOddOutIdeal.nD Cert.KernelOddOutIdeal.τ).loc Cert.KernelOddOutIdeal.main_arg1)
          ∧ r.2.mem ((c.tc : Thread Cert.KernelOddOutIdeal.nD Cert.KernelOddOutIdeal.τ).loc Cert.KernelOddOutIdeal.main_arg2) = m ((c.tc : Thread Cert.KernelOddOutIdeal.nD Cert.KernelOddOutIdeal.τ).loc Cert.KernelOddOutIdeal.main_arg2))
      ∧ θ_run (Cert.ReferenceOddOutIdeal.defs (F := Ideal)) (onTc (τ := Cert.ReferenceOddOutIdeal.τ) (Cert.ReferenceOddOutIdeal.main (F := Ideal))) ⟨m', fun _ => 0, g'⟩ (fun r => ∀ c : Dev Cert.ReferenceOddOutIdeal.nD,
          r.2.mem ((c.tc : Thread Cert.ReferenceOddOutIdeal.nD Cert.ReferenceOddOutIdeal.τ).loc Cert.ReferenceOddOutIdeal.main_v4) = v0 c
          ∧ r.2.mem ((c.tc : Thread Cert.ReferenceOddOutIdeal.nD Cert.ReferenceOddOutIdeal.τ).loc Cert.ReferenceOddOutIdeal.main_arg0) = m' ((c.tc : Thread Cert.ReferenceOddOutIdeal.nD Cert.ReferenceOddOutIdeal.τ).loc Cert.ReferenceOddOutIdeal.main_arg0)
          ∧ r.2.mem ((c.tc : Thread Cert.ReferenceOddOutIdeal.nD Cert.ReferenceOddOutIdeal.τ).loc Cert.ReferenceOddOutIdeal.main_arg1) = m' ((c.tc : Thread Cert.ReferenceOddOutIdeal.nD Cert.ReferenceOddOutIdeal.τ).loc Cert.ReferenceOddOutIdeal.main_arg1)
          ∧ r.2.mem ((c.tc : Thread Cert.ReferenceOddOutIdeal.nD Cert.ReferenceOddOutIdeal.τ).loc Cert.ReferenceOddOutIdeal.main_arg2) = m' ((c.tc : Thread Cert.ReferenceOddOutIdeal.nD Cert.ReferenceOddOutIdeal.τ).loc Cert.ReferenceOddOutIdeal.main_arg2))

def preserves_KernelSgu_KernelSguIdeal : Prop :=
  True

def algebraic_KernelSguIdeal_ReferenceSguIdeal [hKernelSguIdeal : Cert.KernelSguIdeal.Facts] [hReferenceSguIdeal : Cert.ReferenceSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg)
    (m' : (ℓ : Loc Cert.ReferenceSguIdeal.nD Cert.ReferenceSguIdeal.τ Cert.ReferenceSguIdeal.sig) → Buf (Elt Ideal) ℓ) (g' : Dev Cert.ReferenceSguIdeal.nD → PrngReg), Pre_KernelSguIdeal m →
    (∀ c : Dev Cert.KernelSguIdeal.nD,
      m' ((c.tc : Thread Cert.ReferenceSguIdeal.nD Cert.ReferenceSguIdeal.τ).loc Cert.ReferenceSguIdeal.main_arg0) = m ((c.tc : Thread Cert.KernelSguIdeal.nD Cert.KernelSguIdeal.τ).loc Cert.KernelSguIdeal.main_arg0)
      ∧ m' ((c.tc : Thread Cert.ReferenceSguIdeal.nD Cert.ReferenceSguIdeal.τ).loc Cert.ReferenceSguIdeal.main_arg1) = m ((c.tc : Thread Cert.KernelSguIdeal.nD Cert.KernelSguIdeal.τ).loc Cert.KernelSguIdeal.main_arg1)
      ∧ m' ((c.tc : Thread Cert.ReferenceSguIdeal.nD Cert.ReferenceSguIdeal.τ).loc Cert.ReferenceSguIdeal.main_arg2) = m ((c.tc : Thread Cert.KernelSguIdeal.nD Cert.KernelSguIdeal.τ).loc Cert.KernelSguIdeal.main_arg2)
      ∧ m' ((c.tc : Thread Cert.ReferenceSguIdeal.nD Cert.ReferenceSguIdeal.τ).loc Cert.ReferenceSguIdeal.main_arg3) = m ((c.tc : Thread Cert.KernelSguIdeal.nD Cert.KernelSguIdeal.τ).loc Cert.KernelSguIdeal.main_arg3)) →
    ∃ (v0 : (c : Dev Cert.KernelSguIdeal.nD) → Buf (Elt Ideal) ((c.tc : Thread Cert.KernelSguIdeal.nD Cert.KernelSguIdeal.τ).loc Cert.KernelSguIdeal.main_v6)),
      θ_run (Cert.KernelSguIdeal.defs (F := Ideal)) (onTc (τ := Cert.KernelSguIdeal.τ) (Cert.KernelSguIdeal.main (F := Ideal))) ⟨m, fun _ => 0, g⟩ (fun r => ∀ c : Dev Cert.KernelSguIdeal.nD,
          r.2.mem ((c.tc : Thread Cert.KernelSguIdeal.nD Cert.KernelSguIdeal.τ).loc Cert.KernelSguIdeal.main_v6) = v0 c
          ∧ r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
          ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
          ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
          ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3))
      ∧ θ_run (Cert.ReferenceSguIdeal.defs (F := Ideal)) (onTc (τ := Cert.ReferenceSguIdeal.τ) (Cert.ReferenceSguIdeal.main (F := Ideal))) ⟨m', fun _ => 0, g'⟩ (fun r => ∀ c : Dev Cert.ReferenceSguIdeal.nD,
          r.2.mem ((c.tc : Thread Cert.ReferenceSguIdeal.nD Cert.ReferenceSguIdeal.τ).loc Cert.ReferenceSguIdeal.main_v61) = v0 c
          ∧ r.2.mem ((c.tc : Thread Cert.ReferenceSguIdeal.nD Cert.ReferenceSguIdeal.τ).loc Cert.ReferenceSguIdeal.main_arg0) = m' ((c.tc : Thread Cert.ReferenceSguIdeal.nD Cert.ReferenceSguIdeal.τ).loc Cert.ReferenceSguIdeal.main_arg0)
          ∧ r.2.mem ((c.tc : Thread Cert.ReferenceSguIdeal.nD Cert.ReferenceSguIdeal.τ).loc Cert.ReferenceSguIdeal.main_arg1) = m' ((c.tc : Thread Cert.ReferenceSguIdeal.nD Cert.ReferenceSguIdeal.τ).loc Cert.ReferenceSguIdeal.main_arg1)
          ∧ r.2.mem ((c.tc : Thread Cert.ReferenceSguIdeal.nD Cert.ReferenceSguIdeal.τ).loc Cert.ReferenceSguIdeal.main_arg2) = m' ((c.tc : Thread Cert.ReferenceSguIdeal.nD Cert.ReferenceSguIdeal.τ).loc Cert.ReferenceSguIdeal.main_arg2)
          ∧ r.2.mem ((c.tc : Thread Cert.ReferenceSguIdeal.nD Cert.ReferenceSguIdeal.τ).loc Cert.ReferenceSguIdeal.main_arg3) = m' ((c.tc : Thread Cert.ReferenceSguIdeal.nD Cert.ReferenceSguIdeal.τ).loc Cert.ReferenceSguIdeal.main_arg3))

def preserves_KernelOddPrep_KernelOddPrepIdeal : Prop :=
  True

def algebraic_KernelOddPrepIdeal_ReferenceOddPrepIdeal [hKernelOddPrepIdeal : Cert.KernelOddPrepIdeal.Facts] [hReferenceOddPrepIdeal : Cert.ReferenceOddPrepIdeal.Facts] : Prop :=
  ∀ (m : (ℓ : Loc Cert.KernelOddPrepIdeal.nD Cert.KernelOddPrepIdeal.τ Cert.KernelOddPrepIdeal.sig) → Buf (Elt Ideal) ℓ) (g : Dev Cert.KernelOddPrepIdeal.nD → PrngReg)
    (m' : (ℓ : Loc Cert.ReferenceOddPrepIdeal.nD Cert.ReferenceOddPrepIdeal.τ Cert.ReferenceOddPrepIdeal.sig) → Buf (Elt Ideal) ℓ) (g' : Dev Cert.ReferenceOddPrepIdeal.nD → PrngReg), Pre_KernelOddPrepIdeal m →
    (∀ c : Dev Cert.KernelOddPrepIdeal.nD,
      m' ((c.tc : Thread Cert.ReferenceOddPrepIdeal.nD Cert.ReferenceOddPrepIdeal.τ).loc Cert.ReferenceOddPrepIdeal.main_arg0) = m ((c.tc : Thread Cert.KernelOddPrepIdeal.nD Cert.KernelOddPrepIdeal.τ).loc Cert.KernelOddPrepIdeal.main_arg0)
      ∧ m' ((c.tc : Thread Cert.ReferenceOddPrepIdeal.nD Cert.ReferenceOddPrepIdeal.τ).loc Cert.ReferenceOddPrepIdeal.main_arg1) = m ((c.tc : Thread Cert.KernelOddPrepIdeal.nD Cert.KernelOddPrepIdeal.τ).loc Cert.KernelOddPrepIdeal.main_arg1)
      ∧ m' ((c.tc : Thread Cert.ReferenceOddPrepIdeal.nD Cert.ReferenceOddPrepIdeal.τ).loc Cert.ReferenceOddPrepIdeal.main_arg2) = m ((c.tc : Thread Cert.KernelOddPrepIdeal.nD Cert.KernelOddPrepIdeal.τ).loc Cert.KernelOddPrepIdeal.main_arg2)
      ∧ m' ((c.tc : Thread Cert.ReferenceOddPrepIdeal.nD Cert.ReferenceOddPrepIdeal.τ).loc Cert.ReferenceOddPrepIdeal.main_arg3) = m ((c.tc : Thread Cert.KernelOddPrepIdeal.nD Cert.KernelOddPrepIdeal.τ).loc Cert.KernelOddPrepIdeal.main_arg3)
      ∧ m' ((c.tc : Thread Cert.ReferenceOddPrepIdeal.nD Cert.ReferenceOddPrepIdeal.τ).loc Cert.ReferenceOddPrepIdeal.main_arg4) = m ((c.tc : Thread Cert.KernelOddPrepIdeal.nD Cert.KernelOddPrepIdeal.τ).loc Cert.KernelOddPrepIdeal.main_arg4)) →
    ∃ (v0 : (c : Dev Cert.KernelOddPrepIdeal.nD) → Buf (Elt Ideal) ((c.tc : Thread Cert.KernelOddPrepIdeal.nD Cert.KernelOddPrepIdeal.τ).loc Cert.KernelOddPrepIdeal.main_v72_0)) (v1 : (c : Dev Cert.KernelOddPrepIdeal.nD) → Buf (Elt Ideal) ((c.tc : Thread Cert.KernelOddPrepIdeal.nD Cert.KernelOddPrepIdeal.τ).loc Cert.KernelOddPrepIdeal.main_v72_1)) (v2 : (c : Dev Cert.KernelOddPrepIdeal.nD) → Buf (Elt Ideal) ((c.tc : Thread Cert.KernelOddPrepIdeal.nD Cert.KernelOddPrepIdeal.τ).loc Cert.KernelOddPrepIdeal.main_v72_2)) (v3 : (c : Dev Cert.KernelOddPrepIdeal.nD) → Buf (Elt Ideal) ((c.tc : Thread Cert.KernelOddPrepIdeal.nD Cert.KernelOddPrepIdeal.τ).loc Cert.KernelOddPrepIdeal.main_v72_3)) (v4 : (c : Dev Cert.KernelOddPrepIdeal.nD) → Buf (Elt Ideal) ((c.tc : Thread Cert.KernelOddPrepIdeal.nD Cert.KernelOddPrepIdeal.τ).loc Cert.KernelOddPrepIdeal.main_v72_4)) (v5 : (c : Dev Cert.KernelOddPrepIdeal.nD) → Buf (Elt Ideal) ((c.tc : Thread Cert.KernelOddPrepIdeal.nD Cert.KernelOddPrepIdeal.τ).loc Cert.KernelOddPrepIdeal.main_v72_5)),
      θ_run (Cert.KernelOddPrepIdeal.defs (F := Ideal)) (onTc (τ := Cert.KernelOddPrepIdeal.τ) (Cert.KernelOddPrepIdeal.main (F := Ideal))) ⟨m, fun _ => 0, g⟩ (fun r => ∀ c : Dev Cert.KernelOddPrepIdeal.nD,
          r.2.mem ((c.tc : Thread Cert.KernelOddPrepIdeal.nD Cert.KernelOddPrepIdeal.τ).loc Cert.KernelOddPrepIdeal.main_v72_0) = v0 c
          ∧ r.2.mem ((c.tc : Thread Cert.KernelOddPrepIdeal.nD Cert.KernelOddPrepIdeal.τ).loc Cert.KernelOddPrepIdeal.main_v72_1) = v1 c
          ∧ r.2.mem ((c.tc : Thread Cert.KernelOddPrepIdeal.nD Cert.KernelOddPrepIdeal.τ).loc Cert.KernelOddPrepIdeal.main_v72_2) = v2 c
          ∧ r.2.mem ((c.tc : Thread Cert.KernelOddPrepIdeal.nD Cert.KernelOddPrepIdeal.τ).loc Cert.KernelOddPrepIdeal.main_v72_3) = v3 c
          ∧ r.2.mem ((c.tc : Thread Cert.KernelOddPrepIdeal.nD Cert.KernelOddPrepIdeal.τ).loc Cert.KernelOddPrepIdeal.main_v72_4) = v4 c
          ∧ r.2.mem ((c.tc : Thread Cert.KernelOddPrepIdeal.nD Cert.KernelOddPrepIdeal.τ).loc Cert.KernelOddPrepIdeal.main_v72_5) = v5 c
          ∧ r.2.mem ((c.tc : Thread Cert.KernelOddPrepIdeal.nD Cert.KernelOddPrepIdeal.τ).loc Cert.KernelOddPrepIdeal.main_arg0) = m ((c.tc : Thread Cert.KernelOddPrepIdeal.nD Cert.KernelOddPrepIdeal.τ).loc Cert.KernelOddPrepIdeal.main_arg0)
          ∧ r.2.mem ((c.tc : Thread Cert.KernelOddPrepIdeal.nD Cert.KernelOddPrepIdeal.τ).loc Cert.KernelOddPrepIdeal.main_arg1) = m ((c.tc : Thread Cert.KernelOddPrepIdeal.nD Cert.KernelOddPrepIdeal.τ).loc Cert.KernelOddPrepIdeal.main_arg1)
          ∧ r.2.mem ((c.tc : Thread Cert.KernelOddPrepIdeal.nD Cert.KernelOddPrepIdeal.τ).loc Cert.KernelOddPrepIdeal.main_arg2) = m ((c.tc : Thread Cert.KernelOddPrepIdeal.nD Cert.KernelOddPrepIdeal.τ).loc Cert.KernelOddPrepIdeal.main_arg2)
          ∧ r.2.mem ((c.tc : Thread Cert.KernelOddPrepIdeal.nD Cert.KernelOddPrepIdeal.τ).loc Cert.KernelOddPrepIdeal.main_arg3) = m ((c.tc : Thread Cert.KernelOddPrepIdeal.nD Cert.KernelOddPrepIdeal.τ).loc Cert.KernelOddPrepIdeal.main_arg3)
          ∧ r.2.mem ((c.tc : Thread Cert.KernelOddPrepIdeal.nD Cert.KernelOddPrepIdeal.τ).loc Cert.KernelOddPrepIdeal.main_arg4) = m ((c.tc : Thread Cert.KernelOddPrepIdeal.nD Cert.KernelOddPrepIdeal.τ).loc Cert.KernelOddPrepIdeal.main_arg4))
      ∧ θ_run (Cert.ReferenceOddPrepIdeal.defs (F := Ideal)) (onTc (τ := Cert.ReferenceOddPrepIdeal.τ) (Cert.ReferenceOddPrepIdeal.main (F := Ideal))) ⟨m', fun _ => 0, g'⟩ (fun r => ∀ c : Dev Cert.ReferenceOddPrepIdeal.nD,
          r.2.mem ((c.tc : Thread Cert.ReferenceOddPrepIdeal.nD Cert.ReferenceOddPrepIdeal.τ).loc Cert.ReferenceOddPrepIdeal.main_v223) = v0 c
          ∧ r.2.mem ((c.tc : Thread Cert.ReferenceOddPrepIdeal.nD Cert.ReferenceOddPrepIdeal.τ).loc Cert.ReferenceOddPrepIdeal.main_v225) = v1 c
          ∧ r.2.mem ((c.tc : Thread Cert.ReferenceOddPrepIdeal.nD Cert.ReferenceOddPrepIdeal.τ).loc Cert.ReferenceOddPrepIdeal.main_v227) = v2 c
          ∧ r.2.mem ((c.tc : Thread Cert.ReferenceOddPrepIdeal.nD Cert.ReferenceOddPrepIdeal.τ).loc Cert.ReferenceOddPrepIdeal.main_v230) = v3 c
          ∧ r.2.mem ((c.tc : Thread Cert.ReferenceOddPrepIdeal.nD Cert.ReferenceOddPrepIdeal.τ).loc Cert.ReferenceOddPrepIdeal.main_v232) = v4 c
          ∧ r.2.mem ((c.tc : Thread Cert.ReferenceOddPrepIdeal.nD Cert.ReferenceOddPrepIdeal.τ).loc Cert.ReferenceOddPrepIdeal.main_v234) = v5 c
          ∧ r.2.mem ((c.tc : Thread Cert.ReferenceOddPrepIdeal.nD Cert.ReferenceOddPrepIdeal.τ).loc Cert.ReferenceOddPrepIdeal.main_arg0) = m' ((c.tc : Thread Cert.ReferenceOddPrepIdeal.nD Cert.ReferenceOddPrepIdeal.τ).loc Cert.ReferenceOddPrepIdeal.main_arg0)
          ∧ r.2.mem ((c.tc : Thread Cert.ReferenceOddPrepIdeal.nD Cert.ReferenceOddPrepIdeal.τ).loc Cert.ReferenceOddPrepIdeal.main_arg1) = m' ((c.tc : Thread Cert.ReferenceOddPrepIdeal.nD Cert.ReferenceOddPrepIdeal.τ).loc Cert.ReferenceOddPrepIdeal.main_arg1)
          ∧ r.2.mem ((c.tc : Thread Cert.ReferenceOddPrepIdeal.nD Cert.ReferenceOddPrepIdeal.τ).loc Cert.ReferenceOddPrepIdeal.main_arg2) = m' ((c.tc : Thread Cert.ReferenceOddPrepIdeal.nD Cert.ReferenceOddPrepIdeal.τ).loc Cert.ReferenceOddPrepIdeal.main_arg2)
          ∧ r.2.mem ((c.tc : Thread Cert.ReferenceOddPrepIdeal.nD Cert.ReferenceOddPrepIdeal.τ).loc Cert.ReferenceOddPrepIdeal.main_arg3) = m' ((c.tc : Thread Cert.ReferenceOddPrepIdeal.nD Cert.ReferenceOddPrepIdeal.τ).loc Cert.ReferenceOddPrepIdeal.main_arg3)
          ∧ r.2.mem ((c.tc : Thread Cert.ReferenceOddPrepIdeal.nD Cert.ReferenceOddPrepIdeal.τ).loc Cert.ReferenceOddPrepIdeal.main_arg4) = m' ((c.tc : Thread Cert.ReferenceOddPrepIdeal.nD Cert.ReferenceOddPrepIdeal.τ).loc Cert.ReferenceOddPrepIdeal.main_arg4))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelEvenIn : Cert.KernelEvenIn.Facts) (hKernelEvenInIdeal : Cert.KernelEvenInIdeal.Facts) (hReferenceEvenInIdeal : Cert.ReferenceEvenInIdeal.Facts) (hKernelOddIn : Cert.KernelOddIn.Facts) (hKernelOddInIdeal : Cert.KernelOddInIdeal.Facts) (hReferenceOddInIdeal : Cert.ReferenceOddInIdeal.Facts) (hKernelEvenOut : Cert.KernelEvenOut.Facts) (hKernelEvenOutIdeal : Cert.KernelEvenOutIdeal.Facts) (hReferenceEvenOutIdeal : Cert.ReferenceEvenOutIdeal.Facts) (hKernelOddOut : Cert.KernelOddOut.Facts) (hKernelOddOutIdeal : Cert.KernelOddOutIdeal.Facts) (hReferenceOddOutIdeal : Cert.ReferenceOddOutIdeal.Facts) (hKernelSgu : Cert.KernelSgu.Facts) (hKernelSguIdeal : Cert.KernelSguIdeal.Facts) (hReferenceSguIdeal : Cert.ReferenceSguIdeal.Facts) (hKernelOddPrep : Cert.KernelOddPrep.Facts) (hKernelOddPrepIdeal : Cert.KernelOddPrepIdeal.Facts) (hReferenceOddPrepIdeal : Cert.ReferenceOddPrepIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelEvenIn (hKernelEvenIn := hKernelEvenIn)
    ∧ quiescent_KernelEvenInIdeal (hKernelEvenInIdeal := hKernelEvenInIdeal)
    ∧ quiescent_ReferenceEvenInIdeal (hReferenceEvenInIdeal := hReferenceEvenInIdeal)
    ∧ quiescent_KernelOddIn (hKernelOddIn := hKernelOddIn)
    ∧ quiescent_KernelOddInIdeal (hKernelOddInIdeal := hKernelOddInIdeal)
    ∧ quiescent_ReferenceOddInIdeal (hReferenceOddInIdeal := hReferenceOddInIdeal)
    ∧ quiescent_KernelEvenOut (hKernelEvenOut := hKernelEvenOut)
    ∧ quiescent_KernelEvenOutIdeal (hKernelEvenOutIdeal := hKernelEvenOutIdeal)
    ∧ quiescent_ReferenceEvenOutIdeal (hReferenceEvenOutIdeal := hReferenceEvenOutIdeal)
    ∧ quiescent_KernelOddOut (hKernelOddOut := hKernelOddOut)
    ∧ quiescent_KernelOddOutIdeal (hKernelOddOutIdeal := hKernelOddOutIdeal)
    ∧ quiescent_ReferenceOddOutIdeal (hReferenceOddOutIdeal := hReferenceOddOutIdeal)
    ∧ quiescent_KernelSgu (hKernelSgu := hKernelSgu)
    ∧ quiescent_KernelSguIdeal (hKernelSguIdeal := hKernelSguIdeal)
    ∧ quiescent_ReferenceSguIdeal (hReferenceSguIdeal := hReferenceSguIdeal)
    ∧ quiescent_KernelOddPrep (hKernelOddPrep := hKernelOddPrep)
    ∧ quiescent_KernelOddPrepIdeal (hKernelOddPrepIdeal := hKernelOddPrepIdeal)
    ∧ quiescent_ReferenceOddPrepIdeal (hReferenceOddPrepIdeal := hReferenceOddPrepIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelEvenIn_KernelEvenInIdeal
    ∧ algebraic_KernelEvenInIdeal_ReferenceEvenInIdeal (hKernelEvenInIdeal := hKernelEvenInIdeal) (hReferenceEvenInIdeal := hReferenceEvenInIdeal)
    ∧ preserves_KernelOddIn_KernelOddInIdeal
    ∧ algebraic_KernelOddInIdeal_ReferenceOddInIdeal (hKernelOddInIdeal := hKernelOddInIdeal) (hReferenceOddInIdeal := hReferenceOddInIdeal)
    ∧ preserves_KernelEvenOut_KernelEvenOutIdeal
    ∧ algebraic_KernelEvenOutIdeal_ReferenceEvenOutIdeal (hKernelEvenOutIdeal := hKernelEvenOutIdeal) (hReferenceEvenOutIdeal := hReferenceEvenOutIdeal)
    ∧ preserves_KernelOddOut_KernelOddOutIdeal
    ∧ algebraic_KernelOddOutIdeal_ReferenceOddOutIdeal (hKernelOddOutIdeal := hKernelOddOutIdeal) (hReferenceOddOutIdeal := hReferenceOddOutIdeal)
    ∧ preserves_KernelSgu_KernelSguIdeal
    ∧ algebraic_KernelSguIdeal_ReferenceSguIdeal (hKernelSguIdeal := hKernelSguIdeal) (hReferenceSguIdeal := hReferenceSguIdeal)
    ∧ preserves_KernelOddPrep_KernelOddPrepIdeal
    ∧ algebraic_KernelOddPrepIdeal_ReferenceOddPrepIdeal (hKernelOddPrepIdeal := hKernelOddPrepIdeal) (hReferenceOddPrepIdeal := hReferenceOddPrepIdeal)
-- ==== Pre_finite.lean ====
abbrev S2x8192x6152 : Shape := ⟨3, ![2, 8192, 6152]⟩
abbrev S4 : Shape := ⟨1, ![4]⟩
abbrev S4x256 : Shape := ⟨2, ![4, 256]⟩
abbrev S_ : Shape := ⟨0, ![]⟩

class Facts : Prop where
  bcast_S_S2x8192x6152 : S_.BroadcastsInDim S2x8192x6152 (![] : Fin 0 → Fin S2x8192x6152.rank)
  reducesTo_S2x8192x6152_S_d0_1_2 : S2x8192x6152.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S2x8192x6152 .f32) (main_arg1 : FVec F S4 .f32) (main_arg2 : FVec F S4 .f32) (main_arg3 : FVec F S4x256 .f32) : IVec S_ 1 :=
  let main_v0 : FVec F S2x8192x6152 .f32 := Host.absf main_arg0
  let main_cst : FVec F S_ .f32 := constant S_ .f32 0x7F800000#32
  let main_v1 : FVec F S2x8192x6152 .f32 := broadcastInDim S2x8192x6152 ![] bcast_S_S2x8192x6152 main_cst
  let main_v2 : IVec S2x8192x6152 1 := cmpf .olt main_v0 main_v1
  let main_c : IVec S_ 1 := constantI S_ 1 1#1
  let main_v3 : IVec S_ 1 := (fun x v => Host.reduce IntOp.andi x v reducesTo_S2x8192x6152_S_d0_1_2 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S2x8192x6152 : Shape := ⟨3, ![2, 8192, 6152]⟩
abbrev S4 : Shape := ⟨1, ![4]⟩
abbrev S4x256 : Shape := ⟨2, ![4, 256]⟩
abbrev S16384x6152 : Shape := ⟨2, ![16384, 6152]⟩
abbrev S16384x4096 : Shape := ⟨2, ![16384, 4096]⟩
abbrev S16384x2048 : Shape := ⟨2, ![16384, 2048]⟩
abbrev S16384x6144 : Shape := ⟨2, ![16384, 6144]⟩
abbrev S16384x8 : Shape := ⟨2, ![16384, 8]⟩
abbrev S_ : Shape := ⟨0, ![]⟩
abbrev S16384x120 : Shape := ⟨2, ![16384, 120]⟩
abbrev S16384x128 : Shape := ⟨2, ![16384, 128]⟩
abbrev S8 : Shape := ⟨1, ![8]⟩
abbrev S8x1 : Shape := ⟨2, ![8, 1]⟩
abbrev S1x128 : Shape := ⟨2, ![1, 128]⟩
abbrev S1 : Shape := ⟨1, ![1]⟩
abbrev S2 : Shape := ⟨1, ![2]⟩
abbrev S2x8192x8 : Shape := ⟨3, ![2, 8192, 8]⟩
abbrev S2x8x8192 : Shape := ⟨3, ![2, 8, 8192]⟩
abbrev S16384x1024 : Shape := ⟨2, ![16384, 1024]⟩
abbrev S256x1024 : Shape := ⟨2, ![256, 1024]⟩
abbrev S1x8x256 : Shape := ⟨3, ![1, 8, 256]⟩
abbrev S256x128 : Shape := ⟨2, ![256, 128]⟩
abbrev S4x256x256 : Shape := ⟨3, ![4, 256, 256]⟩
abbrev S4x1x256 : Shape := ⟨3, ![4, 1, 256]⟩
abbrev S4x1x128 : Shape := ⟨3, ![4, 1, 128]⟩
abbrev S256x256 : Shape := ⟨2, ![256, 256]⟩
abbrev S8x256 : Shape := ⟨2, ![8, 256]⟩
abbrev S1x256 : Shape := ⟨2, ![1, 256]⟩
abbrev S256x1 : Shape := ⟨2, ![256, 1]⟩
abbrev S256 : Shape := ⟨1, ![256]⟩
abbrev S1x1x128 : Shape := ⟨3, ![1, 1, 128]⟩
abbrev S1x1 : Shape := ⟨2, ![1, 1]⟩
abbrev S1x256x256 : Shape := ⟨3, ![1, 256, 256]⟩
abbrev S1x1x256 : Shape := ⟨3, ![1, 1, 256]⟩

abbrev nBuf : Space → Nat
  | .hbm => 27
  | .vmem => 20
  | .smem => 0
  | _ => 0

abbrev bufTy : (tb : Table) → Fin (tcTables nBuf tb) → BufTy
  | .hbm, ⟨0, _⟩ => ⟨S2x8192x6152, .f32⟩
  | .hbm, ⟨1, _⟩ => ⟨S4, .f32⟩
  | .hbm, ⟨2, _⟩ => ⟨S4, .f32⟩
  | .hbm, ⟨3, _⟩ => ⟨S4x256, .f32⟩
  | .hbm, ⟨4, _⟩ => ⟨S16384x6152, .f32⟩
  | .hbm, ⟨5, _⟩ => ⟨S16384x4096, .f32⟩
  | .hbm, ⟨6, _⟩ => ⟨S16384x2048, .f32⟩
  | .hbm, ⟨7, _⟩ => ⟨S16384x6144, .f32⟩
  | .hbm, ⟨8, _⟩ => ⟨S16384x6144, .bf16⟩
  | .hbm, ⟨9, _⟩ => ⟨S16384x8, .f32⟩
  | .hbm, ⟨10, _⟩ => ⟨S_, .f32⟩
  | .hbm, ⟨11, _⟩ => ⟨S16384x120, .f32⟩
  | .hbm, ⟨12, _⟩ => ⟨S16384x128, .f32⟩
  | .hbm, ⟨13, _⟩ => ⟨S8, .f32⟩
  | .hbm, ⟨14, _⟩ => ⟨S8x1, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S16384x8, .f32⟩
  | .hbm, ⟨24, _⟩ => ⟨S2x8192x8, .f32⟩
  | .hbm, ⟨25, _⟩ => ⟨S2x8x8192, .f32⟩
  | .hbm, ⟨26, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x8x256, .f32⟩
  | .local _ .vmem, ⟨9, _⟩ => ⟨S1x8x256, .f32⟩
  | .local _ .vmem, ⟨10, _⟩ => ⟨S256x128, .f32⟩
  | .local _ .vmem, ⟨11, _⟩ => ⟨S256x128, .f32⟩
  | .local _ .vmem, ⟨12, _⟩ => ⟨S8x1, .f32⟩
  | .local _ .vmem, ⟨13, _⟩ => ⟨S1x128, .f32⟩
  | .local _ .vmem, ⟨14, _⟩ => ⟨S4x256, .f32⟩
  | .local _ .vmem, ⟨15, _⟩ => ⟨S256x1024, .bf16⟩
  | .local _ .vmem, ⟨16, _⟩ => ⟨S256x1024, .bf16⟩
  | .local _ .vmem, ⟨17, _⟩ => ⟨S4x256x256, .f32⟩
  | .local _ .vmem, ⟨18, _⟩ => ⟨S4x1x256, .f32⟩
  | .local _ .vmem, ⟨19, _⟩ => ⟨S4x1x128, .f32⟩
  | _, _ => ⟨S2x8192x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x8192x6152 : Shape := ⟨3, ![2, 8192, 6152]⟩
abbrev S4 : Shape := ⟨1, ![4]⟩
abbrev S4x256 : Shape := ⟨2, ![4, 256]⟩
abbrev S2x8192x1024 : Shape := ⟨3, ![2, 8192, 1024]⟩
abbrev S2x8192x4 : Shape := ⟨3, ![2, 8192, 4]⟩
abbrev S1x1x4 : Shape := ⟨3, ![1, 1, 4]⟩
abbrev S2x4x8192 : Shape := ⟨3, ![2, 4, 8192]⟩
abbrev S2x8192x4x256 : Shape := ⟨4, ![2, 8192, 4, 256]⟩
abbrev S2x4x8192x256 : Shape := ⟨4, ![2, 4, 8192, 256]⟩
abbrev S_ : Shape := ⟨0, ![]⟩
abbrev S2x4x128x64x256 : Shape := ⟨5, ![2, 4, 128, 64, 256]⟩
abbrev S128x2x4x64x256 : Shape := ⟨5, ![128, 2, 4, 64, 256]⟩
abbrev S2x4x128x64 : Shape := ⟨4, ![2, 4, 128, 64]⟩
abbrev S128x2x4x64 : Shape := ⟨4, ![128, 2, 4, 64]⟩
abbrev S64x64 : Shape := ⟨2, ![64, 64]⟩
abbrev S2x4x256x256 : Shape := ⟨4, ![2, 4, 256, 256]⟩
abbrev S2x4x256 : Shape := ⟨3, ![2, 4, 256]⟩
abbrev S2x4 : Shape := ⟨2, ![2, 4]⟩
abbrev S1x2x4x64x256 : Shape := ⟨5, ![1, 2, 4, 64, 256]⟩
abbrev S2x4x64x256 : Shape := ⟨4, ![2, 4, 64, 256]⟩
abbrev S1x2x4x64 : Shape := ⟨4, ![1, 2, 4, 64]⟩
abbrev S2x4x64 : Shape := ⟨3, ![2, 4, 64]⟩
abbrev S2x4x64x1 : Shape := ⟨4, ![2, 4, 64, 1]⟩
abbrev S2x4x1x64 : Shape := ⟨4, ![2, 4, 1, 64]⟩
abbrev S2x4x64x64 : Shape := ⟨4, ![2, 4, 64, 64]⟩
abbrev S2x4x1 : Shape := ⟨3, ![2, 4, 1]⟩
abbrev S2x4x1x1 : Shape := ⟨4, ![2, 4, 1, 1]⟩
abbrev S2x8192x4x1 : Shape := ⟨4, ![2, 8192, 4, 1]⟩
abbrev S1x1x4x256 : Shape := ⟨4, ![1, 1, 4, 256]⟩
abbrev S16384x1024 : Shape := ⟨2, ![16384, 1024]⟩

abbrev nBuf : Space → Nat
  | .hbm => 235
  | .vmem => 0
  | .smem => 0
  | _ => 0

abbrev hbmTy0_0 (i : Nat) : BufTy := match i % 128 with
  | 0 => ⟨S2x8192x6152, .f32⟩
  | 1 => ⟨S4, .f32⟩
  | 2 => ⟨S4, .f32⟩
  | 3 => ⟨S4x256, .f32⟩
  | 4 => ⟨S2x8192x1024, .f32⟩
  | 5 => ⟨S2x8192x1024, .f32⟩
  | 6 => ⟨S2x8192x1024, .f32⟩
  | 7 => ⟨S2x8192x1024, .f32⟩
  | 8 => ⟨S2x8192x4, .f32⟩
  | 9 => ⟨S2x8192x4, .f32⟩
  | 10 => ⟨S2x8192x1024, .f32⟩
  | 11 => ⟨S2x8192x1024, .f32⟩
  | 12 => ⟨S1x1x4, .f32⟩
  | 13 => ⟨S2x8192x4, .f32⟩
  | 14 => ⟨S2x8192x4, .f32⟩
  | 15 => ⟨S2x4x8192, .f32⟩
  | 16 => ⟨S1x1x4, .f32⟩
  | 17 => ⟨S2x8192x4, .f32⟩
  | 18 => ⟨S2x8192x4, .f32⟩
  | 19 => ⟨S2x4x8192, .f32⟩
  | 20 => ⟨S2x8192x4x256, .f32⟩
  | 21 => ⟨S2x4x8192x256, .f32⟩
  | 22 => ⟨S2x8192x4x256, .f32⟩
  | 23 => ⟨S2x4x8192x256, .f32⟩
  | 24 => ⟨S2x8192x4x256, .f32⟩
  | 25 => ⟨S2x4x8192x256, .f32⟩
  | 26 => ⟨S_, .f32⟩
  | 27 => ⟨S2x4x8192x256, .f32⟩
  | 28 => ⟨S2x4x8192x256, .f32⟩
  | 29 => ⟨S2x4x8192, .f32⟩
  | 30 => ⟨S_, .f32⟩
  | 31 => ⟨S2x4x8192, .f32⟩
  | 32 => ⟨S2x4x8192, .f32⟩
  | 33 => ⟨S2x4x8192, .f32⟩
  | 34 => ⟨S2x4x8192, .f32⟩
  | 35 => ⟨S2x4x8192, .i1⟩
  | 36 => ⟨S2x4x8192, .f32⟩
  | 37 => ⟨S2x4x8192, .f32⟩
  | 38 => ⟨S2x4x8192, .f32⟩
  | 39 => ⟨S2x4x8192, .f32⟩
  | 40 => ⟨S2x4x8192, .f32⟩
  | 41 => ⟨S2x4x8192, .f32⟩
  | 42 => ⟨S2x4x8192, .f32⟩
  | 43 => ⟨S2x4x8192, .f32⟩
  | 44 => ⟨S2x4x8192, .f32⟩
  | 45 => ⟨S2x4x128x64x256, .f32⟩
  | 46 => ⟨S128x2x4x64x256, .f32⟩
  | 47 => ⟨S2x4x128x64x256, .f32⟩
  | 48 => ⟨S128x2x4x64x256, .f32⟩
  | 49 => ⟨S2x4x128x64x256, .f32⟩
  | 50 => ⟨S128x2x4x64x256, .f32⟩
  | 51 => ⟨S2x4x128x64, .f32⟩
  | 52 => ⟨S128x2x4x64, .f32⟩
  | 53 => ⟨S2x4x128x64, .f32⟩
  | 54 => ⟨S128x2x4x64, .f32⟩
  | 55 => ⟨S_, .i1⟩
  | 56 => ⟨S64x64, .i1⟩
  | 57 => ⟨S64x64, .i32⟩
  | 58 => ⟨S_, .i32⟩
  | 59 => ⟨S64x64, .i32⟩
  | 60 => ⟨S64x64, .i32⟩
  | 61 => ⟨S64x64, .i32⟩
  | 62 => ⟨S64x64, .i1⟩
  | 63 => ⟨S_, .i1⟩
  | 64 => ⟨S64x64, .i1⟩
  | 65 => ⟨S64x64, .i1⟩
  | 66 => ⟨S_, .f32⟩
  | 67 => ⟨S2x4x256x256, .f32⟩
  | 68 => ⟨S_, .f32⟩
  | 69 => ⟨S2x4x256, .f32⟩
  | 70 => ⟨S_, .f32⟩
  | 71 => ⟨S2x4, .f32⟩
  | 72 => ⟨S_, .f32⟩
  | 73 => ⟨S128x2x4x64x256, .f32⟩
  | 74 => ⟨S_, .i32⟩
  | 75 => ⟨S128x2x4x64x256, .f32⟩
  | 76 => ⟨S128x2x4x64x256, .f32⟩
  | 77 => ⟨S128x2x4x64x256, .f32⟩
  | 78 => ⟨S128x2x4x64, .f32⟩
  | 79 => ⟨S128x2x4x64, .f32⟩
  | 80 => ⟨S64x64, .i1⟩
  | 81 => ⟨S_, .i32⟩
  | 82 => ⟨S2x4x256x256, .f32⟩
  | 83 => ⟨S2x4x256, .f32⟩
  | 84 => ⟨S2x4, .f32⟩
  | 85 => ⟨S128x2x4x64x256, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x2x4x64x256, .f32⟩
  | 93 => ⟨S2x4x64x256, .f32⟩
  | 94 => ⟨S_, .i32⟩
  | 95 => ⟨S_, .i32⟩
  | 96 => ⟨S_, .i32⟩
  | 97 => ⟨S_, .i32⟩
  | 98 => ⟨S1x2x4x64x256, .f32⟩
  | 99 => ⟨S2x4x64x256, .f32⟩
  | 100 => ⟨S_, .i32⟩
  | 101 => ⟨S_, .i32⟩
  | 102 => ⟨S_, .i32⟩
  | 103 => ⟨S_, .i32⟩
  | 104 => ⟨S1x2x4x64x256, .f32⟩
  | 105 => ⟨S2x4x64x256, .f32⟩
  | 106 => ⟨S_, .i32⟩
  | 107 => ⟨S_, .i32⟩
  | 108 => ⟨S_, .i32⟩
  | 109 => ⟨S1x2x4x64, .f32⟩
  | 110 => ⟨S2x4x64, .f32⟩
  | 111 => ⟨S_, .i32⟩
  | 112 => ⟨S_, .i32⟩
  | 113 => ⟨S_, .i32⟩
  | 114 => ⟨S1x2x4x64, .f32⟩
  | 115 => ⟨S2x4x64, .f32⟩
  | 116 => ⟨S_, .f32⟩
  | 117 => ⟨S_, .f32⟩
  | 118 => ⟨S2x4x64, .f32⟩
  | 119 => ⟨S2x4x64x1, .f32⟩
  | 120 => ⟨S2x4x1x64, .f32⟩
  | 121 => ⟨S2x4x64x64, .f32⟩
  | 122 => ⟨S2x4x64x64, .f32⟩
  | 123 => ⟨S2x4x64x64, .f32⟩
  | 124 => ⟨S2x4x1x64, .f32⟩
  | 125 => ⟨S2x4x64x64, .f32⟩
  | 126 => ⟨S2x4x64x64, .f32⟩
  | 127 => ⟨S_, .f32⟩
  | _ => ⟨S2x8192x6152, .f32⟩

abbrev hbmTy0_1 (i : Nat) : BufTy := match i % 128 with
  | 0 => ⟨S_, .f32⟩
  | 1 => ⟨S2x4x64x64, .i1⟩
  | 2 => ⟨S2x4x64x64, .f32⟩
  | 3 => ⟨S2x4x64x64, .f32⟩
  | 4 => ⟨S2x4x1, .f32⟩
  | 5 => ⟨S2x4x64, .f32⟩
  | 6 => ⟨S2x4x64, .f32⟩
  | 7 => ⟨S_, .f32⟩
  | 8 => ⟨S2x4x64, .f32⟩
  | 9 => ⟨S2x4x64, .f32⟩
  | 10 => ⟨S2x4x64x64, .f32⟩
  | 11 => ⟨S2x4x64x1, .f32⟩
  | 12 => ⟨S2x4x64x64, .f32⟩
  | 13 => ⟨S2x4x64x64, .f32⟩
  | 14 => ⟨S2x4x64x64, .f32⟩
  | 15 => ⟨S2x4x64x64, .f32⟩
  | 16 => ⟨S2x4x64, .f32⟩
  | 17 => ⟨S2x4x64, .f32⟩
  | 18 => ⟨S2x4x64x256, .f32⟩
  | 19 => ⟨S2x4x64x1, .f32⟩
  | 20 => ⟨S2x4x64x256, .f32⟩
  | 21 => ⟨S2x4x64x256, .f32⟩
  | 22 => ⟨S2x4x64x256, .f32⟩
  | 23 => ⟨S2x4x64x256, .f32⟩
  | 24 => ⟨S_, .f32⟩
  | 25 => ⟨S2x4x64, .f32⟩
  | 26 => ⟨S2x4x64, .f32⟩
  | 27 => ⟨S2x4x64, .f32⟩
  | 28 => ⟨S2x4x64, .f32⟩
  | 29 => ⟨S2x4x64, .f32⟩
  | 30 => ⟨S2x4x64, .f32⟩
  | 31 => ⟨S2x4x64, .f32⟩
  | 32 => ⟨S2x4x64, .f32⟩
  | 33 => ⟨S2x4x64x1, .f32⟩
  | 34 => ⟨S2x4x64x256, .f32⟩
  | 35 => ⟨S2x4x64x256, .f32⟩
  | 36 => ⟨S2x4x1, .f32⟩
  | 37 => ⟨S2x4, .f32⟩
  | 38 => ⟨S2x4x1, .f32⟩
  | 39 => ⟨S2x4x64, .f32⟩
  | 40 => ⟨S2x4x64, .f32⟩
  | 41 => ⟨S2x4x64, .f32⟩
  | 42 => ⟨S2x4, .f32⟩
  | 43 => ⟨S_, .f32⟩
  | 44 => ⟨S2x4, .f32⟩
  | 45 => ⟨S2x4, .f32⟩
  | 46 => ⟨S2x4, .f32⟩
  | 47 => ⟨S2x4, .f32⟩
  | 48 => ⟨S2x4, .f32⟩
  | 49 => ⟨S2x4x1, .f32⟩
  | 50 => ⟨S2x4x64, .f32⟩
  | 51 => ⟨S2x4x64, .f32⟩
  | 52 => ⟨S2x4x64, .f32⟩
  | 53 => ⟨S2x4x64x1, .f32⟩
  | 54 => ⟨S2x4x64x256, .f32⟩
  | 55 => ⟨S2x4x64x256, .f32⟩
  | 56 => ⟨S2x4x1x1, .f32⟩
  | 57 => ⟨S2x4x256x256, .f32⟩
  | 58 => ⟨S2x4x256x256, .f32⟩
  | 59 => ⟨S2x4x256x256, .f32⟩
  | 60 => ⟨S2x4x256x256, .f32⟩
  | 61 => ⟨S2x4x1, .f32⟩
  | 62 => ⟨S2x4x256, .f32⟩
  | 63 => ⟨S2x4x256, .f32⟩
  | 64 => ⟨S_, .f32⟩
  | 65 => ⟨S2x4x256, .f32⟩
  | 66 => ⟨S2x4x256, .f32⟩
  | 67 => ⟨S1x2x4x64x256, .f32⟩
  | 68 => ⟨S_, .i32⟩
  | 69 => ⟨S_, .i32⟩
  | 70 => ⟨S_, .i32⟩
  | 71 => ⟨S_, .i32⟩
  | 72 => ⟨S128x2x4x64x256, .f32⟩
  | 73 => ⟨S_, .i32⟩
  | 74 => ⟨S_, .i32⟩
  | 75 => ⟨S2x4x128x64x256, .f32⟩
  | 76 => ⟨S2x4x8192x256, .f32⟩
  | 77 => ⟨S2x8192x4x256, .f32⟩
  | 78 => ⟨S2x8192x1024, .f32⟩
  | 79 => ⟨S2x8192x4x256, .f32⟩
  | 80 => ⟨S_, .f32⟩
  | 81 => ⟨S2x8192x4, .f32⟩
  | 82 => ⟨S2x8192x4x1, .f32⟩
  | 83 => ⟨S_, .f32⟩
  | 84 => ⟨S2x8192x4x1, .f32⟩
  | 85 => ⟨S2x8192x4x1, .f32⟩
  | 86 => ⟨S_, .f32⟩
  | 87 => ⟨S2x8192x4x1, .f32⟩
  | 88 => ⟨S2x8192x4x1, .f32⟩
  | 89 => ⟨S2x8192x4x1, .f32⟩
  | 90 => ⟨S2x8192x4x256, .f32⟩
  | 91 => ⟨S2x8192x4x256, .f32⟩
  | 92 => ⟨S1x1x4x256, .f32⟩
  | 93 => ⟨S2x8192x4x256, .f32⟩
  | 94 => ⟨S2x8192x4x256, .f32⟩
  | 95 => ⟨S2x8192x1024, .f32⟩
  | 96 => ⟨S2x8192x1024, .f32⟩
  | 97 => ⟨S_, .f32⟩
  | 98 => ⟨S2x8192x1024, .f32⟩
  | 99 => ⟨S2x8192x1024, .f32⟩
  | 100 => ⟨S_, .f32⟩
  | 101 => ⟨S2x8192x1024, .f32⟩
  | 102 => ⟨S2x8192x1024, .f32⟩
  | 103 => ⟨S2x8192x4x256, .f32⟩
  | 104 => ⟨S2x8192x4x256, .f32⟩
  | 105 => ⟨S16384x1024, .f32⟩
  | 106 => ⟨S16384x1024, .bf16⟩
  | _ => ⟨S2x8192x6152, .f32⟩

abbrev hbmTy (i : Nat) : BufTy := match i / 128 with
  | 0 => hbmTy0_0 i
  | 1 => hbmTy0_1 i
  | _ => ⟨S2x8192x6152, .f32⟩

abbrev bufTy : (tb : Table) → Fin (tcTables nBuf tb) → BufTy
  | .hbm, ⟨i, _⟩ => hbmTy i
  | _, _ => ⟨S2x8192x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c : Ref sig .tc := ⟨.hbm, 55, rfl⟩
abbrev main_v37 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_0 : Ref sig .tc := ⟨.hbm, 63, rfl⟩
abbrev main_call1_v5 : Ref sig .tc := ⟨.hbm, 64, rfl⟩
abbrev main_v38 : Ref sig .tc := ⟨.hbm, 65, rfl⟩
abbrev main_cst_0 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_cst_2 : Ref sig .tc := ⟨.hbm, 70, rfl⟩
abbrev main_v41 : Ref sig .tc := ⟨.hbm, 71, rfl⟩
abbrev main_cst_3 : Ref sig .tc := ⟨.hbm, 72, rfl⟩
abbrev main_v42 : Ref sig .tc := ⟨.hbm, 73, rfl⟩
abbrev main_c_4 : Ref sig .tc := ⟨.hbm, 74, rfl⟩
abbrev main_v43_0 : Ref sig .tc := ⟨.hbm, 75, rfl⟩
abbrev main_v43_1 : Ref sig .tc := ⟨.hbm, 76, rfl⟩
abbrev main_v43_2 : Ref sig .tc := ⟨.hbm, 77, rfl⟩
abbrev main_v43_3 : Ref sig .tc := ⟨.hbm, 78, rfl⟩
abbrev main_v43_4 : Ref sig .tc := ⟨.hbm, 79, rfl⟩
abbrev main_v43_5 : Ref sig .tc := ⟨.hbm, 80, rfl⟩
abbrev main_v43_6 : Ref sig .tc := ⟨.hbm, 81, rfl⟩
abbrev main_v43_7 : Ref sig .tc := ⟨.hbm, 82, rfl⟩
abbrev main_v43_8 : Ref sig .tc := ⟨.hbm, 83, rfl⟩
abbrev main_v43_9 : Ref sig .tc := ⟨.hbm, 84, rfl⟩
abbrev main_v43_10 : Ref sig .tc := ⟨.hbm, 85, rfl⟩
abbrev main_while0c_c_20 : Ref sig .tc := ⟨.hbm, 86, rfl⟩
abbrev main_while0c_v71 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_c_1 : Ref sig .tc := ⟨.hbm, 90, rfl⟩
abbrev main_while0b_call2_c_2 : Ref sig .tc := ⟨.hbm, 91, rfl⟩
abbrev main_while0b_call2_v0 : Ref sig .tc := ⟨.hbm, 92, rfl⟩
abbrev main_while0b_v71 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_c_1 : Ref sig .tc := ⟨.hbm, 96, rfl⟩
abbrev main_while0b_call3_c_2 : Ref sig .tc := ⟨.hbm, 97, rfl⟩
abbrev main_while0b_call3_v0 : Ref sig .tc := ⟨.hbm, 98, rfl⟩
abbrev main_while0b_v72 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_v0 : Ref sig .tc := ⟨.hbm, 104, rfl⟩
abbrev main_while0b_v73 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_v0 : Ref sig .tc := ⟨.hbm, 109, rfl⟩
abbrev main_while0b_v74 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_call6_v0 : Ref sig .tc := ⟨.hbm, 114, rfl⟩
abbrev main_while0b_v75 : Ref sig .tc := ⟨.hbm, 115, rfl⟩
abbrev main_while0b_call7_cst : Ref sig .tc := ⟨.hbm, 116, rfl⟩
abbrev main_while0b_call7_v0 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_v84 : Ref sig .tc := ⟨.hbm, 126, rfl⟩
abbrev main_while0b_cst_20 : Ref sig .tc := ⟨.hbm, 127, rfl⟩
abbrev main_while0b_call8_v0 : Ref sig .tc := ⟨.hbm, 128, rfl⟩
abbrev main_while0b_call8_v1 : Ref sig .tc := ⟨.hbm, 129, rfl⟩
abbrev main_while0b_call8_v2 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_cst_21 : Ref sig .tc := ⟨.hbm, 135, rfl⟩
abbrev main_while0b_v89 : Ref sig .tc := ⟨.hbm, 136, rfl⟩
abbrev main_while0b_v90 : Ref sig .tc := ⟨.hbm, 137, rfl⟩
abbrev main_while0b_v91 : Ref sig .tc := ⟨.hbm, 138, rfl⟩
abbrev main_while0b_v92 : Ref sig .tc := ⟨.hbm, 139, rfl⟩
abbrev main_while0b_v93 : Ref sig .tc := ⟨.hbm, 140, rfl⟩
abbrev main_while0b_v94 : Ref sig .tc := ⟨.hbm, 141, rfl⟩
abbrev main_while0b_v95 : Ref sig .tc := ⟨.hbm, 142, rfl⟩
abbrev main_while0b_v96 : Ref sig .tc := ⟨.hbm, 143, rfl⟩
abbrev main_while0b_v97 : Ref sig .tc := ⟨.hbm, 144, rfl⟩
abbrev main_while0b_v98 : Ref sig .tc := ⟨.hbm, 145, rfl⟩
abbrev main_while0b_v99 : Ref sig .tc := ⟨.hbm, 146, rfl⟩
abbrev main_while0b_v100 : Ref sig .tc := ⟨.hbm, 147, rfl⟩
abbrev main_while0b_v101 : Ref sig .tc := ⟨.hbm, 148, rfl⟩
abbrev main_while0b_v102 : Ref sig .tc := ⟨.hbm, 149, rfl⟩
abbrev main_while0b_v103 : Ref sig .tc := ⟨.hbm, 150, rfl⟩
abbrev main_while0b_v104 : Ref sig .tc := ⟨.hbm, 151, rfl⟩
abbrev main_while0b_cst_22 : Ref sig .tc := ⟨.hbm, 152, rfl⟩
abbrev main_while0b_v105 : Ref sig .tc := ⟨.hbm, 153, rfl⟩
abbrev main_while0b_v106 : Ref sig .tc := ⟨.hbm, 154, rfl⟩
abbrev main_while0b_v107 : Ref sig .tc := ⟨.hbm, 155, rfl⟩
abbrev main_while0b_v108 : Ref sig .tc := ⟨.hbm, 156, rfl⟩
abbrev main_while0b_v109 : Ref sig .tc := ⟨.hbm, 157, rfl⟩
abbrev main_while0b_v110 : Ref sig .tc := ⟨.hbm, 158, rfl⟩
abbrev main_while0b_v111 : Ref sig .tc := ⟨.hbm, 159, rfl⟩
abbrev main_while0b_v112 : Ref sig .tc := ⟨.hbm, 160, rfl⟩
abbrev main_while0b_v113 : Ref sig .tc := ⟨.hbm, 161, rfl⟩
abbrev main_while0b_v114 : Ref sig .tc := ⟨.hbm, 162, rfl⟩
abbrev main_while0b_v115 : Ref sig .tc := ⟨.hbm, 163, rfl⟩
abbrev main_while0b_v116 : Ref sig .tc := ⟨.hbm, 164, rfl⟩
abbrev main_while0b_v117 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_cst_23 : Ref sig .tc := ⟨.hbm, 171, rfl⟩
abbrev main_while0b_v123 : Ref sig .tc := ⟨.hbm, 172, rfl⟩
abbrev main_while0b_v124 : Ref sig .tc := ⟨.hbm, 173, rfl⟩
abbrev main_while0b_v125 : Ref sig .tc := ⟨.hbm, 174, rfl⟩
abbrev main_while0b_v126 : Ref sig .tc := ⟨.hbm, 175, rfl⟩
abbrev main_while0b_v127 : Ref sig .tc := ⟨.hbm, 176, rfl⟩
abbrev main_while0b_v128 : Ref sig .tc := ⟨.hbm, 177, rfl⟩
abbrev main_while0b_v129 : Ref sig .tc := ⟨.hbm, 178, rfl⟩
abbrev main_while0b_v130 : Ref sig .tc := ⟨.hbm, 179, rfl⟩
abbrev main_while0b_v131 : Ref sig .tc := ⟨.hbm, 180, rfl⟩
abbrev main_while0b_v132 : Ref sig .tc := ⟨.hbm, 181, rfl⟩
abbrev main_while0b_v133 : Ref sig .tc := ⟨.hbm, 182, rfl⟩
abbrev main_while0b_v134 : Ref sig .tc := ⟨.hbm, 183, rfl⟩
abbrev main_while0b_v135 : Ref sig .tc := ⟨.hbm, 184, rfl⟩
abbrev main_while0b_v136 : Ref sig .tc := ⟨.hbm, 185, rfl⟩
abbrev main_while0b_v137 : Ref sig .tc := ⟨.hbm, 186, rfl⟩
abbrev main_while0b_v138 : Ref sig .tc := ⟨.hbm, 187, rfl⟩
abbrev main_while0b_v139 : Ref sig .tc := ⟨.hbm, 188, rfl⟩
abbrev main_while0b_v140 : Ref sig .tc := ⟨.hbm, 189, rfl⟩
abbrev main_while0b_v141 : Ref sig .tc := ⟨.hbm, 190, rfl⟩
abbrev main_while0b_v142 : Ref sig .tc := ⟨.hbm, 191, rfl⟩
abbrev main_while0b_cst_24 : Ref sig .tc := ⟨.hbm, 192, rfl⟩
abbrev main_while0b_v143 : Ref sig .tc := ⟨.hbm, 193, rfl⟩
abbrev main_while0b_v144 : Ref sig .tc := ⟨.hbm, 194, rfl⟩
abbrev main_while0b_call9_v0 : Ref sig .tc := ⟨.hbm, 195, rfl⟩
abbrev main_while0b_call9_c : Ref sig .tc := ⟨.hbm, 196, rfl⟩
abbrev main_while0b_call9_c_0 : Ref sig .tc := ⟨.hbm, 197, rfl⟩
abbrev main_while0b_call9_c_1 : Ref sig .tc := ⟨.hbm, 198, rfl⟩
abbrev main_while0b_call9_c_2 : Ref sig .tc := ⟨.hbm, 199, rfl⟩
abbrev main_while0b_v145 : Ref sig .tc := ⟨.hbm, 200, rfl⟩
abbrev main_while0b_c_25 : Ref sig .tc := ⟨.hbm, 201, rfl⟩
abbrev main_while0b_v146 : Ref sig .tc := ⟨.hbm, 202, rfl⟩
abbrev main_v44 : Ref sig .tc := ⟨.hbm, 203, rfl⟩
abbrev main_v45 : Ref sig .tc := ⟨.hbm, 204, rfl⟩
abbrev main_v46 : Ref sig .tc := ⟨.hbm, 205, rfl⟩
abbrev main_v47 : Ref sig .tc := ⟨.hbm, 206, rfl⟩
abbrev main_v48 : Ref sig .tc := ⟨.hbm, 207, rfl⟩
abbrev main_cst_5 : Ref sig .tc := ⟨.hbm, 208, rfl⟩
abbrev main_v49 : Ref sig .tc := ⟨.hbm, 209, rfl⟩
abbrev main_v50 : Ref sig .tc := ⟨.hbm, 210, rfl⟩
abbrev main_cst_6 : Ref sig .tc := ⟨.hbm, 211, rfl⟩
abbrev main_v51 : Ref sig .tc := ⟨.hbm, 212, rfl⟩
abbrev main_v52 : Ref sig .tc := ⟨.hbm, 213, rfl⟩
abbrev main_cst_7 : Ref sig .tc := ⟨.hbm, 214, rfl⟩
abbrev main_v53 : Ref sig .tc := ⟨.hbm, 215, rfl⟩
abbrev main_v54 : Ref sig .tc := ⟨.hbm, 216, rfl⟩
abbrev main_v55 : Ref sig .tc := ⟨.hbm, 217, rfl⟩
abbrev main_v56 : Ref sig .tc := ⟨.hbm, 218, rfl⟩
abbrev main_v57 : Ref sig .tc := ⟨.hbm, 219, rfl⟩
abbrev main_v58 : Ref sig .tc := ⟨.hbm, 220, rfl⟩
abbrev main_v59 : Ref sig .tc := ⟨.hbm, 221, rfl⟩
abbrev main_v60 : Ref sig .tc := ⟨.hbm, 222, rfl⟩
abbrev main_v61 : Ref sig .tc := ⟨.hbm, 223, rfl⟩
abbrev main_v62 : Ref sig .tc := ⟨.hbm, 224, rfl⟩
abbrev main_cst_8 : Ref sig .tc := ⟨.hbm, 225, rfl⟩
abbrev main_v63 : Ref sig .tc := ⟨.hbm, 226, rfl⟩
abbrev main_v64 : Ref sig .tc := ⟨.hbm, 227, rfl⟩
abbrev main_cst_9 : Ref sig .tc := ⟨.hbm, 228, rfl⟩
abbrev main_v65 : Ref sig .tc := ⟨.hbm, 229, rfl⟩
abbrev main_v66 : Ref sig .tc := ⟨.hbm, 230, rfl⟩
abbrev main_v67 : Ref sig .tc := ⟨.hbm, 231, rfl⟩
abbrev main_v68 : Ref sig .tc := ⟨.hbm, 232, rfl⟩
abbrev main_v69 : Ref sig .tc := ⟨.hbm, 233, rfl⟩
abbrev main_v70 : Ref sig .tc := ⟨.hbm, 234, rfl⟩

abbrev nD : Nat := 1
abbrev τ : Topo := Topo.v7x

variable {F : FTy → Type} [FloatOps F]

abbrev main_while0_count : Scf.Loop 32 := ⟨0#32, 128#32, 1#32⟩
-- ==== KernelUp.lean ====
abbrev S2x8192x2048 : Shape := ⟨3, ![2, 8192, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S16384x2048 : Shape := ⟨2, ![16384, 2048]⟩
abbrev S1x11264 : Shape := ⟨2, ![1, 11264]⟩
abbrev S4x11264 : Shape := ⟨2, ![4, 11264]⟩
abbrev S1x2048 : Shape := ⟨2, ![1, 2048]⟩
abbrev S16384x5632 : Shape := ⟨2, ![16384, 5632]⟩
abbrev S1024x2048 : Shape := ⟨2, ![1024, 2048]⟩
abbrev S16x2048 : Shape := ⟨2, ![16, 2048]⟩
abbrev S2048x512 : Shape := ⟨2, ![2048, 512]⟩
abbrev S4x512 : Shape := ⟨2, ![4, 512]⟩
abbrev S1024x512 : Shape := ⟨2, ![1024, 512]⟩
abbrev S1040x2048 : Shape := ⟨2, ![1040, 2048]⟩
abbrev S1x1040x512 : Shape := ⟨3, ![1, 1040, 512]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S2048x256 : Shape := ⟨2, ![2048, 256]⟩
abbrev S1040x256 : Shape := ⟨2, ![1040, 256]⟩
abbrev S1x1040x256 : Shape := ⟨3, ![1, 1040, 256]⟩
abbrev S1x256 : Shape := ⟨2, ![1, 256]⟩
abbrev S1x1024x256 : Shape := ⟨3, ![1, 1024, 256]⟩
abbrev S1024x256 : Shape := ⟨2, ![1024, 256]⟩

abbrev nBuf : Space → Nat
  | .hbm => 11
  | .vmem => 18
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S16384x2048, .f32⟩
  | .hbm, ⟨6, _⟩ => ⟨S2048x11264, .bf16⟩
  | .hbm, ⟨7, _⟩ => ⟨S1x11264, .f32⟩
  | .hbm, ⟨8, _⟩ => ⟨S4x11264, .f32⟩
  | .hbm, ⟨9, _⟩ => ⟨S1x2048, .f32⟩
  | .hbm, ⟨10, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S4x512, .f32⟩
  | .local _ .vmem, ⟨10, _⟩ => ⟨S4x512, .f32⟩
  | .local _ .vmem, ⟨11, _⟩ => ⟨S4x512, .f32⟩
  | .local _ .vmem, ⟨12, _⟩ => ⟨S4x512, .f32⟩
  | .local _ .vmem, ⟨13, _⟩ => ⟨S1024x512, .bf16⟩
  | .local _ .vmem, ⟨14, _⟩ => ⟨S1024x512, .bf16⟩
  | .local _ .vmem, ⟨15, _⟩ => ⟨S1040x2048, .bf16⟩
  | .local _ .vmem, ⟨16, _⟩ => ⟨S1x1040x512, .f32⟩
  | .local _ .vmem, ⟨17, _⟩ => ⟨S1x1040x512, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceUpIdeal.lean ====
abbrev S2x8192x2048 : Shape := ⟨3, ![2, 8192, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x11264 : Shape := ⟨3, ![2, 8192, 11264]⟩
abbrev S2x8194x11264 : Shape := ⟨3, ![2, 8194, 11264]⟩
abbrev S1x11264 : Shape := ⟨2, ![1, 11264]⟩
abbrev S1x1x11264 : Shape := ⟨3, ![1, 1, 11264]⟩
abbrev S2x8192x5632 : Shape := ⟨3, ![2, 8192, 5632]⟩
abbrev S16384x5632 : Shape := ⟨2, ![16384, 5632]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x8192x11264, .f32⟩
  | .hbm, ⟨22, _⟩ => ⟨S_, .f32⟩
  | .hbm, ⟨23, _⟩ => ⟨S2x8194x11264, .f32⟩
  | .hbm, ⟨24, _⟩ => ⟨S2x8192x11264, .f32⟩
  | .hbm, ⟨25, _⟩ => ⟨S1x11264, .f32⟩
  | .hbm, ⟨26, _⟩ => ⟨S11264, .f32⟩
  | .hbm, ⟨27, _⟩ => ⟨S1x1x11264, .f32⟩
  | .hbm, ⟨28, _⟩ => ⟨S2x8192x11264, .f32⟩
  | .hbm, ⟨29, _⟩ => ⟨S2x8192x11264, .f32⟩
  | .hbm, ⟨30, _⟩ => ⟨S2x8192x11264, .f32⟩
  | .hbm, ⟨31, _⟩ => ⟨S1x11264, .f32⟩
  | .hbm, ⟨32, _⟩ => ⟨S11264, .f32⟩
  | .hbm, ⟨33, _⟩ => ⟨S1x1x11264, .f32⟩
  | .hbm, ⟨34, _⟩ => ⟨S2x8192x11264, .f32⟩
  | .hbm, ⟨35, _⟩ => ⟨S2x8192x11264, .f32⟩
  | .hbm, ⟨36, _⟩ => ⟨S2x8192x11264, .f32⟩
  | .hbm, ⟨37, _⟩ => ⟨S2x8192x11264, .f32⟩
  | .hbm, ⟨38, _⟩ => ⟨S1x11264, .f32⟩
  | .hbm, ⟨39, _⟩ => ⟨S11264, .f32⟩
  | .hbm, ⟨40, _⟩ => ⟨S1x1x11264, .f32⟩
  | .hbm, ⟨41, _⟩ => ⟨S2x8192x11264, .f32⟩
  | .hbm, ⟨42, _⟩ => ⟨S2x8192x11264, .f32⟩
  | .hbm, ⟨43, _⟩ => ⟨S2x8192x11264, .f32⟩
  | .hbm, ⟨44, _⟩ => ⟨S1x1x11264, .f32⟩
  | .hbm, ⟨45, _⟩ => ⟨S2x8192x11264, .f32⟩
  | .hbm, ⟨46, _⟩ => ⟨S2x8192x11264, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S2x8192x5632, .f32⟩
  | .hbm, ⟨51, _⟩ => ⟨S_, .f32⟩
  | .hbm, ⟨52, _⟩ => ⟨S2x8192x5632, .f32⟩
  | .hbm, ⟨53, _⟩ => ⟨S2x8192x5632, .f32⟩
  | .hbm, ⟨54, _⟩ => ⟨S_, .f32⟩
  | .hbm, ⟨55, _⟩ => ⟨S2x8192x5632, .f32⟩
  | .hbm, ⟨56, _⟩ => ⟨S2x8192x5632, .f32⟩
  | .hbm, ⟨57, _⟩ => ⟨S2x8192x5632, .f32⟩
  | .hbm, ⟨58, _⟩ => ⟨S2x8192x5632, .f32⟩
  | .hbm, ⟨59, _⟩ => ⟨S16384x5632, .f32⟩
  | .hbm, ⟨60, _⟩ => ⟨S16384x5632, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== KernelDown.lean ====
abbrev S16384x5632 : Shape := ⟨2, ![16384, 5632]⟩
abbrev S5632x2048 : Shape := ⟨2, ![5632, 2048]⟩
abbrev S2x8192x2048 : Shape := ⟨3, ![2, 8192, 2048]⟩
abbrev S16384x2048 : Shape := ⟨2, ![16384, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S2x8192x2048, .f32⟩
  | .hbm, ⟨3, _⟩ => ⟨S5632x2048, .bf16⟩
  | .hbm, ⟨4, _⟩ => ⟨S16384x2048, .f32⟩
  | .hbm, ⟨5, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S16384x5632 : Shape := ⟨2, ![16384, 5632]⟩
abbrev S5632x2048 : Shape := ⟨2, ![5632, 2048]⟩
abbrev S2x8192x2048 : Shape := ⟨3, ![2, 8192, 2048]⟩
abbrev S2x8192x5632 : Shape := ⟨3, ![2, 8192, 5632]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S2x8192x2048, .f32⟩
  | .hbm, ⟨3, _⟩ => ⟨S16384x5632, .f32⟩
  | .hbm, ⟨4, _⟩ => ⟨S2x8192x5632, .f32⟩
  | .hbm, ⟨5, _⟩ => ⟨S2x8192x2048, .f32⟩
  | .hbm, ⟨6, _⟩ => ⟨S2x8192x2048, .f32⟩
  | .hbm, ⟨7, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelEvenIn.lean ====
abbrev S2x8192x2048 : Shape := ⟨3, ![2, 8192, 2048]⟩
abbrev S2048 : Shape := ⟨1, ![2048]⟩
abbrev S2048x6152 : Shape := ⟨2, ![2048, 6152]⟩
abbrev S2048x4096 : Shape := ⟨2, ![2048, 4096]⟩
abbrev S2048x2048 : Shape := ⟨2, ![2048, 2048]⟩
abbrev S2048x6144 : Shape := ⟨2, ![2048, 6144]⟩
abbrev S16384x2048 : Shape := ⟨2, ![16384, 2048]⟩
abbrev S1x2048 : Shape := ⟨2, ![1, 2048]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x6152, .f32⟩
  | .hbm, ⟨3, _⟩ => ⟨S2048x4096, .f32⟩
  | .hbm, ⟨4, _⟩ => ⟨S2048x2048, .f32⟩
  | .hbm, ⟨5, _⟩ => ⟨S2048x6144, .f32⟩
  | .hbm, ⟨6, _⟩ => ⟨S2048x6144, .bf16⟩
  | .hbm, ⟨7, _⟩ => ⟨S16384x2048, .f32⟩
  | .hbm, ⟨8, _⟩ => ⟨S1x2048, .f32⟩
  | .hbm, ⟨9, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceEvenInIdeal.lean ====
abbrev S2x8192x2048 : Shape := ⟨3, ![2, 8192, 2048]⟩
abbrev S2048 : Shape := ⟨1, ![2048]⟩
abbrev S2048x6152 : Shape := ⟨2, ![2048, 6152]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x6152 : Shape := ⟨3, ![2, 8192, 6152]⟩
abbrev S2x8192x1024 : Shape := ⟨3, ![2, 8192, 1024]⟩
abbrev S2x8192x4 : Shape := ⟨3, ![2, 8192, 4]⟩
abbrev S2x8192x6144 : Shape := ⟨3, ![2, 8192, 6144]⟩
abbrev S16384x6144 : Shape := ⟨2, ![16384, 6144]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x6152, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S2x8192x6152, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x4, .f32⟩
  | .hbm, ⟨25, _⟩ => ⟨S2x8192x4, .f32⟩
  | .hbm, ⟨26, _⟩ => ⟨S2x8192x1024, .f32⟩
  | .hbm, ⟨27, _⟩ => ⟨S2x8192x1024, .f32⟩
  | .hbm, ⟨28, _⟩ => ⟨S2x8192x6144, .f32⟩
  | .hbm, ⟨29, _⟩ => ⟨S16384x6144, .f32⟩
  | .hbm, ⟨30, _⟩ => ⟨S16384x6144, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelOddIn.lean ====
abbrev S2x8192x2048 : Shape := ⟨3, ![2, 8192, 2048]⟩
abbrev S2048 : Shape := ⟨1, ![2048]⟩
abbrev S2048x4176 : Shape := ⟨2, ![2048, 4176]⟩
abbrev S2048x4096 : Shape := ⟨2, ![2048, 4096]⟩
abbrev S16384x2048 : Shape := ⟨2, ![16384, 2048]⟩
abbrev S1x2048 : Shape := ⟨2, ![1, 2048]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x4176, .f32⟩
  | .hbm, ⟨3, _⟩ => ⟨S2048x4096, .f32⟩
  | .hbm, ⟨4, _⟩ => ⟨S2048x4096, .bf16⟩
  | .hbm, ⟨5, _⟩ => ⟨S16384x2048, .f32⟩
  | .hbm, ⟨6, _⟩ => ⟨S1x2048, .f32⟩
  | .hbm, ⟨7, _⟩ => ⟨S16384x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOddInIdeal.lean ====
abbrev S2x8192x2048 : Shape := ⟨3, ![2, 8192, 2048]⟩
abbrev S2048 : Shape := ⟨1, ![2048]⟩
abbrev S2048x4176 : Shape := ⟨2, ![2048, 4176]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x4176 : Shape := ⟨3, ![2, 8192, 4176]⟩
abbrev S2x8192x512 : Shape := ⟨3, ![2, 8192, 512]⟩
abbrev S2x8192x1024 : Shape := ⟨3, ![2, 8192, 1024]⟩
abbrev S2x8192x64 : Shape := ⟨3, ![2, 8192, 64]⟩
abbrev S2x8192x16 : Shape := ⟨3, ![2, 8192, 16]⟩
abbrev S2x8192x4096 : Shape := ⟨3, ![2, 8192, 4096]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x4176, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S2x8192x4176, .f32⟩
  | .hbm, ⟨20, _⟩ => ⟨S2x8192x2048, .f32⟩
  | .hbm, ⟨21, _⟩ => ⟨S2x8192x512, .f32⟩
  | .hbm, ⟨22, _⟩ => ⟨S2x8192x512, .f32⟩
  | .hbm, ⟨23, _⟩ => ⟨S2x8192x1024, .f32⟩
  | .hbm, ⟨24, _⟩ => ⟨S2x8192x64, .f32⟩
  | .hbm, ⟨25, _⟩ => ⟨S2x8192x16, .f32⟩
  | .hbm, ⟨26, _⟩ => ⟨S2x8192x4096, .f32⟩
  | .hbm, ⟨27, _⟩ => ⟨S16384x4096, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== KernelEvenOut.lean ====
abbrev S16384x1024 : Shape := ⟨2, ![16384, 1024]⟩
abbrev S2048x2048 : Shape := ⟨2, ![2048, 2048]⟩
abbrev S2x8192x2048 : Shape := ⟨3, ![2, 8192, 2048]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S2x8192x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S16384x2048, .f32⟩
  | .hbm, ⟨8, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceEvenOutIdeal.lean ====
abbrev S16384x1024 : Shape := ⟨2, ![16384, 1024]⟩
abbrev S2048x2048 : Shape := ⟨2, ![2048, 2048]⟩
abbrev S2x8192x2048 : Shape := ⟨3, ![2, 8192, 2048]⟩
abbrev S2x8192x1024 : Shape := ⟨3, ![2, 8192, 1024]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S2x8192x2048, .f32⟩
  | .hbm, ⟨4, _⟩ => ⟨S16384x1024, .f32⟩
  | .hbm, ⟨5, _⟩ => ⟨S2x8192x1024, .f32⟩
  | .hbm, ⟨6, _⟩ => ⟨S16384x1024, .f32⟩
  | .hbm, ⟨7, _⟩ => ⟨S2x8192x1024, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelOddOut.lean ====
abbrev S16384x2048 : Shape := ⟨2, ![16384, 2048]⟩
abbrev S2048x2048 : Shape := ⟨2, ![2048, 2048]⟩
abbrev S2x8192x2048 : Shape := ⟨3, ![2, 8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2x8192x2048, .f32⟩
  | .hbm, ⟨3, _⟩ => ⟨S2048x2048, .bf16⟩
  | .hbm, ⟨4, _⟩ => ⟨S16384x2048, .f32⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOddOutIdeal.lean ====
abbrev S16384x2048 : Shape := ⟨2, ![16384, 2048]⟩
abbrev S2048x2048 : Shape := ⟨2, ![2048, 2048]⟩
abbrev S2x8192x2048 : Shape := ⟨3, ![2, 8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2x8192x2048, .f32⟩
  | .hbm, ⟨3, _⟩ => ⟨S16384x2048, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelSgu.lean ====
abbrev S2x8192x6152 : Shape := ⟨3, ![2, 8192, 6152]⟩
abbrev S4x128x128 : Shape := ⟨3, ![4, 128, 128]⟩
abbrev S4x128 : Shape := ⟨2, ![4, 128]⟩
abbrev S4x256 : Shape := ⟨2, ![4, 256]⟩
abbrev S16384x6152 : Shape := ⟨2, ![16384, 6152]⟩
abbrev S16384x4096 : Shape := ⟨2, ![16384, 4096]⟩
abbrev S16384x2048 : Shape := ⟨2, ![16384, 2048]⟩
abbrev S16384x6144 : Shape := ⟨2, ![16384, 6144]⟩
abbrev S128x4 : Shape := ⟨2, ![128, 4]⟩
abbrev S16384x1024 : Shape := ⟨2, ![16384, 1024]⟩
abbrev S512x1024 : Shape := ⟨2, ![512, 1024]⟩
abbrev S128x128 : Shape := ⟨2, ![128, 128]⟩
abbrev S1x128x128 : Shape := ⟨3, ![1, 128, 128]⟩
abbrev S128x1 : Shape := ⟨2, ![128, 1]⟩
abbrev S1x256 : Shape := ⟨2, ![1, 256]⟩
abbrev S128x256 : Shape := ⟨2, ![128, 256]⟩
abbrev S128 : Shape := ⟨1, ![128]⟩

abbrev nBuf : Space → Nat
  | .hbm => 11
  | .vmem => 9
  | .smem => 0
  | _ => 0

abbrev bufTy : (tb : Table) → Fin (tcTables nBuf tb) → BufTy
  | .hbm, ⟨0, _⟩ => ⟨S2x8192x6152, .f32⟩
  | .hbm, ⟨1, _⟩ => ⟨S4x128x128, .f32⟩
  | .hbm, ⟨2, _⟩ => ⟨S4x128, .f32⟩
  | .hbm, ⟨3, _⟩ => ⟨S4x256, .f32⟩
  | .hbm, ⟨4, _⟩ => ⟨S16384x6152, .f32⟩
  | .hbm, ⟨5, _⟩ => ⟨S16384x4096, .f32⟩
  | .hbm, ⟨6, _⟩ => ⟨S16384x2048, .f32⟩
  | .hbm, ⟨7, _⟩ => ⟨S16384x6144, .f32⟩
  | .hbm, ⟨8, _⟩ => ⟨S16384x6144, .bf16⟩
  | .hbm, ⟨9, _⟩ => ⟨S128x4, .f32⟩
  | .hbm, ⟨10, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S4x128x128, .f32⟩
  | .local _ .vmem, ⟨5, _⟩ => ⟨S128x4, .f32⟩
  | .local _ .vmem, ⟨6, _⟩ => ⟨S4x256, .f32⟩
  | .local _ .vmem, ⟨7, _⟩ => ⟨S512x1024, .bf16⟩
  | .local _ .vmem, ⟨8, _⟩ => ⟨S512x1024, .bf16⟩
  | _, _ => ⟨S2x8192x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceSguIdeal.lean ====
abbrev S2x8192x6152 : Shape := ⟨3, ![2, 8192, 6152]⟩
abbrev S4x128x128 : Shape := ⟨3, ![4, 128, 128]⟩
abbrev S4x128 : Shape := ⟨2, ![4, 128]⟩
abbrev S4x256 : Shape := ⟨2, ![4, 256]⟩
abbrev S2x8192x1024 : Shape := ⟨3, ![2, 8192, 1024]⟩
abbrev S2x8192x4 : Shape := ⟨3, ![2, 8192, 4]⟩
abbrev S_ : Shape := ⟨0, ![]⟩
abbrev S2x64x128x4x256 : Shape := ⟨5, ![2, 64, 128, 4, 256]⟩
abbrev S2x64x128x4 : Shape := ⟨4, ![2, 64, 128, 4]⟩
abbrev S2x64x128x4x1 : Shape := ⟨5, ![2, 64, 128, 4, 1]⟩
abbrev S1x1x1x4x256 : Shape := ⟨5, ![1, 1, 1, 4, 256]⟩
abbrev S128x128 : Shape := ⟨2, ![128, 128]⟩
abbrev S4x2x64x256x128 : Shape := ⟨5, ![4, 2, 64, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S16384x1024 : Shape := ⟨2, ![16384, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x6152, .f32⟩
  | .hbm, ⟨1, _⟩ => ⟨S4x128x128, .f32⟩
  | .hbm, ⟨2, _⟩ => ⟨S4x128, .f32⟩
  | .hbm, ⟨3, _⟩ => ⟨S4x256, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x4, .f32⟩
  | .hbm, ⟨9, _⟩ => ⟨S2x8192x4, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S_, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x64x128x4x256, .f32⟩
  | .hbm, ⟨47, _⟩ => ⟨S2x64x128x4x256, .f32⟩
  | .hbm, ⟨48, _⟩ => ⟨S_, .f32⟩
  | .hbm, ⟨49, _⟩ => ⟨S2x64x128x4, .f32⟩
  | .hbm, ⟨50, _⟩ => ⟨S2x64x128x4x1, .f32⟩
  | .hbm, ⟨51, _⟩ => ⟨S_, .f32⟩
  | .hbm, ⟨52, _⟩ => ⟨S2x64x128x4x1, .f32⟩
  | .hbm, ⟨53, _⟩ => ⟨S2x64x128x4x1, .f32⟩
  | .hbm, ⟨54, _⟩ => ⟨S_, .f32⟩
  | .hbm, ⟨55, _⟩ => ⟨S2x64x128x4x1, .f32⟩
  | .hbm, ⟨56, _⟩ => ⟨S2x64x128x4x1, .f32⟩
  | .hbm, ⟨57, _⟩ => ⟨S2x64x128x4x1, .f32⟩
  | .hbm, ⟨58, _⟩ => ⟨S2x64x128x4x256, .f32⟩
  | .hbm, ⟨59, _⟩ => ⟨S2x64x128x4x256, .f32⟩
  | .hbm, ⟨60, _⟩ => ⟨S1x1x1x4x256, .f32⟩
  | .hbm, ⟨61, _⟩ => ⟨S2x64x128x4x256, .f32⟩
  | .hbm, ⟨62, _⟩ => ⟨S2x64x128x4x256, .f32⟩
  | .hbm, ⟨63, _⟩ => ⟨S_, .i1⟩
  | .hbm, ⟨64, _⟩ => ⟨S128x128, .i1⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S_, .i1⟩
  | .hbm, ⟨72, _⟩ => ⟨S128x128, .i1⟩
  | .hbm, ⟨73, _⟩ => ⟨S128x128, .i1⟩
  | .hbm, ⟨74, _⟩ => ⟨S_, .f32⟩
  | .hbm, ⟨75, _⟩ => ⟨S_, .f32⟩
  | .hbm, ⟨76, _⟩ => ⟨S4x128x128, .i1⟩
  | .hbm, ⟨77, _⟩ => ⟨S4x128x128, .f32⟩
  | .hbm, ⟨78, _⟩ => ⟨S4x128x128, .f32⟩
  | .hbm, ⟨79, _⟩ => ⟨S4x2x64x256x128, .f32⟩
  | .hbm, ⟨80, _⟩ => ⟨S2x64x128x4x256, .f32⟩
  | .hbm, ⟨81, _⟩ => ⟨S128x4, .f32⟩
  | .hbm, ⟨82, _⟩ => ⟨S128x4x1, .f32⟩
  | .hbm, ⟨83, _⟩ => ⟨S1x1x128x4x1, .f32⟩
  | .hbm, ⟨84, _⟩ => ⟨S2x64x128x4x256, .f32⟩
  | .hbm, ⟨85, _⟩ => ⟨S2x64x128x4x256, .f32⟩
  | .hbm, ⟨86, _⟩ => ⟨S2x8192x1024, .f32⟩
  | .hbm, ⟨87, _⟩ => ⟨S2x8192x1024, .f32⟩
  | .hbm, ⟨88, _⟩ => ⟨S16384x1024, .f32⟩
  | .hbm, ⟨89, _⟩ => ⟨S16384x1024, .bf16⟩
  | _, _ => ⟨S2x8192x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_v48 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v49 : Ref sig .tc := ⟨.hbm, 73, rfl⟩
abbrev main_cst_10 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]
-- ==== KernelOddPrep.lean ====
abbrev S2x8192x4176 : Shape := ⟨3, ![2, 8192, 4176]⟩
abbrev S128 : Shape := ⟨1, ![128]⟩
abbrev S64 : Shape := ⟨1, ![64]⟩
abbrev S16384x4176 : Shape := ⟨2, ![16384, 4176]⟩
abbrev S16384x80 : Shape := ⟨2, ![16384, 80]⟩
abbrev S_ : Shape := ⟨0, ![]⟩
abbrev S16384x48 : Shape := ⟨2, ![16384, 48]⟩
abbrev S16384x128 : Shape := ⟨2, ![16384, 128]⟩
abbrev S16384x4096 : Shape := ⟨2, ![16384, 4096]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S16 : Shape := ⟨1, ![16]⟩
abbrev S1x16 : Shape := ⟨2, ![1, 16]⟩
abbrev S8192x16 : Shape := ⟨2, ![8192, 16]⟩
abbrev S8192x32 : Shape := ⟨2, ![8192, 32]⟩
abbrev S1x8192x1x64 : Shape := ⟨4, ![1, 8192, 1, 64]⟩
abbrev S1x8192x2x64 : Shape := ⟨4, ![1, 8192, 2, 64]⟩
abbrev S1x128 : Shape := ⟨2, ![1, 128]⟩
abbrev S1 : Shape := ⟨1, ![1]⟩
abbrev S2 : Shape := ⟨1, ![2]⟩
abbrev S16x16384x128 : Shape := ⟨3, ![16, 16384, 128]⟩
abbrev S16384x512 : Shape := ⟨2, ![16384, 512]⟩
abbrev S16x64x16384 : Shape := ⟨3, ![16, 64, 16384]⟩
abbrev S16384x64 : Shape := ⟨2, ![16384, 64]⟩
abbrev S16x16384 : Shape := ⟨2, ![16, 16384]⟩
abbrev S256x4096 : Shape := ⟨2, ![256, 4096]⟩
abbrev S256x128 : Shape := ⟨2, ![256, 128]⟩
abbrev S16x256x128 : Shape := ⟨3, ![16, 256, 128]⟩
abbrev S256x512 : Shape := ⟨2, ![256, 512]⟩
abbrev S16x64x256 : Shape := ⟨3, ![16, 64, 256]⟩
abbrev S256x64 : Shape := ⟨2, ![256, 64]⟩
abbrev S16x256 : Shape := ⟨2, ![16, 256]⟩
abbrev S256 : Shape := ⟨1, ![256]⟩
abbrev S256x1 : Shape := ⟨2, ![256, 1]⟩
abbrev S1x256x128 : Shape := ⟨3, ![1, 256, 128]⟩
abbrev S128x256 : Shape := ⟨2, ![128, 256]⟩
abbrev S64x256 : Shape := ⟨2, ![64, 256]⟩
abbrev S1x64x256 : Shape := ⟨3, ![1, 64, 256]⟩

abbrev nBuf : Space → Nat
  | .hbm => 101
  | .vmem => 30
  | .smem => 0
  | _ => 0

abbrev bufTy : (tb : Table) → Fin (tcTables nBuf tb) → BufTy
  | .hbm, ⟨0, _⟩ => ⟨S2x8192x4176, .f32⟩
  | .hbm, ⟨1, _⟩ => ⟨S128, .f32⟩
  | .hbm, ⟨2, _⟩ => ⟨S128, .f32⟩
  | .hbm, ⟨3, _⟩ => ⟨S64, .f32⟩
  | .hbm, ⟨4, _⟩ => ⟨S64, .f32⟩
  | .hbm, ⟨5, _⟩ => ⟨S16384x4176, .f32⟩
  | .hbm, ⟨6, _⟩ => ⟨S16384x80, .f32⟩
  | .hbm, ⟨7, _⟩ => ⟨S_, .f32⟩
  | .hbm, ⟨8, _⟩ => ⟨S16384x48, .f32⟩
  | .hbm, ⟨9, _⟩ => ⟨S16384x128, .f32⟩
  | .hbm, ⟨10, _⟩ => ⟨S16384x4096, .f32⟩
  | .hbm, ⟨11, _⟩ => ⟨S8192, .i32⟩
  | .hbm, ⟨12, _⟩ => ⟨S8192, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S8192x1, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x128, .f32⟩
  | .hbm, ⟨35, _⟩ => ⟨S8192x64, .f32⟩
  | .hbm, ⟨36, _⟩ => ⟨S8192x128, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S8192x1, .f32⟩
  | .hbm, ⟨52, _⟩ => ⟨S1x16, .f32⟩
  | .hbm, ⟨53, _⟩ => ⟨S8192x16, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S_, .f32⟩
  | .hbm, ⟨59, _⟩ => ⟨S8192x16, .f32⟩
  | .hbm, ⟨60, _⟩ => ⟨S_, .f32⟩
  | .hbm, ⟨61, _⟩ => ⟨S8192x32, .f32⟩
  | .hbm, ⟨62, _⟩ => ⟨S_, .f32⟩
  | .hbm, ⟨63, _⟩ => ⟨S8192x32, .f32⟩
  | .hbm, ⟨64, _⟩ => ⟨S8192x64, .f32⟩
  | .hbm, ⟨65, _⟩ => ⟨S8192x64, .f32⟩
  | .hbm, ⟨66, _⟩ => ⟨S8192x16, .f32⟩
  | .hbm, ⟨67, _⟩ => ⟨S8192x64, .f32⟩
  | .hbm, ⟨68, _⟩ => ⟨S1x8192x1x64, .f32⟩
  | .hbm, ⟨69, _⟩ => ⟨S1x8192x2x64, .f32⟩
  | .hbm, ⟨70, _⟩ => ⟨S8192x128, .f32⟩
  | .hbm, ⟨71, _⟩ => ⟨S1x8192x1x64, .f32⟩
  | .hbm, ⟨72, _⟩ => ⟨S1x8192x2x64, .f32⟩
  | .hbm, ⟨73, _⟩ => ⟨S8192x128, .f32⟩
  | .hbm, ⟨74, _⟩ => ⟨S1x8192x1x64, .f32⟩
  | .hbm, ⟨75, _⟩ => ⟨S1x8192x2x64, .f32⟩
  | .hbm, ⟨76, _⟩ => ⟨S8192x128, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S_, .i32⟩
  | .hbm, ⟨82, _⟩ => ⟨S1, .i32⟩
  | .hbm, ⟨83, _⟩ => ⟨S_, .i32⟩
  | .hbm, ⟨84, _⟩ => ⟨S1, .i32⟩
  | .hbm, ⟨85, _⟩ => ⟨S2, .i32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S_, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S2, .i32⟩
  | .hbm, ⟨94, _⟩ => ⟨S1x128, .f32⟩
  | .hbm, ⟨95, _⟩ => ⟨S16x16384x128, .bf16⟩
  | .hbm, ⟨96, _⟩ => ⟨S16384x512, .bf16⟩
  | .hbm, ⟨97, _⟩ => ⟨S16384x512, .bf16⟩
  | .hbm, ⟨98, _⟩ => ⟨S16x64x16384, .bf16⟩
  | .hbm, ⟨99, _⟩ => ⟨S16384x64, .bf16⟩
  | .hbm, ⟨100, _⟩ => ⟨S16x16384, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S16x256x128, .bf16⟩
  | .local _ .vmem, ⟨19, _⟩ => ⟨S16x256x128, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S16x64x256, .bf16⟩
  | .local _ .vmem, ⟨25, _⟩ => ⟨S16x64x256, .bf16⟩
  | .local _ .vmem, ⟨26, _⟩ => ⟨S256x64, .bf16⟩
  | .local _ .vmem, ⟨27, _⟩ => ⟨S256x64, .bf16⟩
  | .local _ .vmem, ⟨28, _⟩ => ⟨S16x256, .f32⟩
  | .local _ .vmem, ⟨29, _⟩ => ⟨S16x256, .f32⟩
  | _, _ => ⟨S2x8192x4176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_c : Ref sig .tc := ⟨.hbm, 81, rfl⟩
abbrev main_v63 : Ref sig .tc := ⟨.hbm, 82, rfl⟩
abbrev main_c_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_c_14 : Ref sig .tc := ⟨.hbm, 89, rfl⟩
abbrev main_v68 : Ref sig .tc := ⟨.hbm, 90, rfl⟩
abbrev main_c_15 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72_0 : Ref sig .tc := ⟨.hbm, 95, rfl⟩
abbrev main_v72_1 : Ref sig .tc := ⟨.hbm, 96, rfl⟩
abbrev main_v72_2 : Ref sig .tc := ⟨.hbm, 97, rfl⟩
abbrev main_v72_3 : Ref sig .tc := ⟨.hbm, 98, rfl⟩
abbrev main_v72_4 : Ref sig .tc := ⟨.hbm, 99, rfl⟩
abbrev main_v72_5 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceOddPrepIdeal.lean ====
abbrev S2x8192x4176 : Shape := ⟨3, ![2, 8192, 4176]⟩
abbrev S128 : Shape := ⟨1, ![128]⟩
abbrev S64 : Shape := ⟨1, ![64]⟩
abbrev S8192 : Shape := ⟨1, ![8192]⟩
abbrev S2x8192x2048 : Shape := ⟨3, ![2, 8192, 2048]⟩
abbrev S2x8192x512 : Shape := ⟨3, ![2, 8192, 512]⟩
abbrev S2x8192x1024 : Shape := ⟨3, ![2, 8192, 1024]⟩
abbrev S2x8192x64 : Shape := ⟨3, ![2, 8192, 64]⟩
abbrev S2x8192x16 : Shape := ⟨3, ![2, 8192, 16]⟩
abbrev S2x8192x16x128 : Shape := ⟨4, ![2, 8192, 16, 128]⟩
abbrev S_ : Shape := ⟨0, ![]⟩
abbrev S2x8192x16x1 : Shape := ⟨4, ![2, 8192, 16, 1]⟩
abbrev S1x1x1x128 : Shape := ⟨4, ![1, 1, 1, 128]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x16x64 : Shape := ⟨4, ![2, 8192, 16, 64]⟩
abbrev S1x8192x1x64 : Shape := ⟨4, ![1, 8192, 1, 64]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S2x8192x4x64 : Shape := ⟨4, ![2, 8192, 4, 64]⟩
abbrev S2x8192x16x32 : Shape := ⟨4, ![2, 8192, 16, 32]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S2x8192x16x16 : Shape := ⟨4, ![2, 8192, 16, 16]⟩
abbrev S1x8192x1x16 : Shape := ⟨4, ![1, 8192, 1, 16]⟩
abbrev S2x8192 : Shape := ⟨2, ![2, 8192]⟩
abbrev S2x8192x1 : Shape := ⟨3, ![2, 8192, 1]⟩
abbrev S1x1x64 : Shape := ⟨3, ![1, 1, 64]⟩
abbrev S2x8192x1x64 : Shape := ⟨4, ![2, 8192, 1, 64]⟩
abbrev S2x8192x1x32 : Shape := ⟨4, ![2, 8192, 1, 32]⟩
abbrev S2x8192x1x16 : Shape := ⟨4, ![2, 8192, 1, 16]⟩
abbrev S16384x16x128 : Shape := ⟨3, ![16384, 16, 128]⟩
abbrev S16x16384x128 : Shape := ⟨3, ![16, 16384, 128]⟩
abbrev S16384x512 : Shape := ⟨2, ![16384, 512]⟩
abbrev S16384x16x64 : Shape := ⟨3, ![16384, 16, 64]⟩
abbrev S16x64x16384 : Shape := ⟨3, ![16, 64, 16384]⟩
abbrev S16384x64 : Shape := ⟨2, ![16384, 64]⟩
abbrev S16384x16 : Shape := ⟨2, ![16384, 16]⟩
abbrev S16x16384 : Shape := ⟨2, ![16, 16384]⟩

abbrev nBuf : Space → Nat
  | .hbm => 269
  | .vmem => 0
  | .smem => 0
  | _ => 0

abbrev hbmTy0_0 (i : Nat) : BufTy := match i % 128 with
  | 0 => ⟨S2x8192x4176, .f32⟩
  | 1 => ⟨S128, .f32⟩
  | 2 => ⟨S128, .f32⟩
  | 3 => ⟨S64, .f32⟩
  | 4 => ⟨S64, .f32⟩
  | 5 => ⟨S8192, .i32⟩
  | 6 => ⟨S2x8192x2048, .f32⟩
  | 7 => ⟨S2x8192x512, .f32⟩
  | 8 => ⟨S2x8192x512, .f32⟩
  | 9 => ⟨S2x8192x1024, .f32⟩
  | 10 => ⟨S2x8192x64, .f32⟩
  | 11 => ⟨S2x8192x16, .f32⟩
  | 12 => ⟨S2x8192x16x128, .f32⟩
  | 13 => ⟨S2x8192x16x128, .f32⟩
  | 14 => ⟨S_, .f32⟩
  | 15 => ⟨S2x8192x16, .f32⟩
  | 16 => ⟨S2x8192x16x1, .f32⟩
  | 17 => ⟨S_, .f32⟩
  | 18 => ⟨S2x8192x16x1, .f32⟩
  | 19 => ⟨S2x8192x16x1, .f32⟩
  | 20 => ⟨S_, .f32⟩
  | 21 => ⟨S2x8192x16x1, .f32⟩
  | 22 => ⟨S2x8192x16x1, .f32⟩
  | 23 => ⟨S2x8192x16x1, .f32⟩
  | 24 => ⟨S2x8192x16x128, .f32⟩
  | 25 => ⟨S2x8192x16x128, .f32⟩
  | 26 => ⟨S1x1x1x128, .f32⟩
  | 27 => ⟨S2x8192x16x128, .f32⟩
  | 28 => ⟨S2x8192x16x128, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S8192, .f32⟩
  | 44 => ⟨S8192x1, .f32⟩
  | 45 => ⟨S1x64, .f32⟩
  | 46 => ⟨S8192x64, .f32⟩
  | 47 => ⟨S8192x64, .f32⟩
  | 48 => ⟨S8192x64, .f32⟩
  | 49 => ⟨S8192x64, .f32⟩
  | 50 => ⟨S8192x1x64, .f32⟩
  | 51 => ⟨S8192x64, .f32⟩
  | 52 => ⟨S8192x1x64, .f32⟩
  | 53 => ⟨S2x8192x16x64, .f32⟩
  | 54 => ⟨S2x8192x16x64, .f32⟩
  | 55 => ⟨S1x8192x1x64, .f32⟩
  | 56 => ⟨S2x8192x16x64, .f32⟩
  | 57 => ⟨S2x8192x16x64, .f32⟩
  | 58 => ⟨S1x8192x1x64, .f32⟩
  | 59 => ⟨S2x8192x16x64, .f32⟩
  | 60 => ⟨S2x8192x16x64, .f32⟩
  | 61 => ⟨S2x8192x16x64, .f32⟩
  | 62 => ⟨S1x8192x1x64, .f32⟩
  | 63 => ⟨S2x8192x16x64, .f32⟩
  | 64 => ⟨S2x8192x16x64, .f32⟩
  | 65 => ⟨S1x8192x1x64, .f32⟩
  | 66 => ⟨S2x8192x16x64, .f32⟩
  | 67 => ⟨S2x8192x16x64, .f32⟩
  | 68 => ⟨S2x8192x16x64, .f32⟩
  | 69 => ⟨S2x8192x16x128, .f32⟩
  | 70 => ⟨S2x8192x4x128, .f32⟩
  | 71 => ⟨S2x8192x4x128, .f32⟩
  | 72 => ⟨S_, .f32⟩
  | 73 => ⟨S2x8192x4, .f32⟩
  | 74 => ⟨S2x8192x4x1, .f32⟩
  | 75 => ⟨S_, .f32⟩
  | 76 => ⟨S2x8192x4x1, .f32⟩
  | 77 => ⟨S2x8192x4x1, .f32⟩
  | 78 => ⟨S_, .f32⟩
  | 79 => ⟨S2x8192x4x1, .f32⟩
  | 80 => ⟨S2x8192x4x1, .f32⟩
  | 81 => ⟨S2x8192x4x1, .f32⟩
  | 82 => ⟨S2x8192x4x128, .f32⟩
  | 83 => ⟨S2x8192x4x128, .f32⟩
  | 84 => ⟨S1x1x1x128, .f32⟩
  | 85 => ⟨S2x8192x4x128, .f32⟩
  | 86 => ⟨S2x8192x4x128, .f32⟩
  | 87 => ⟨S64, .f32⟩
  | 88 => ⟨S_, .f32⟩
  | 89 => ⟨S64, .f32⟩
  | 90 => ⟨S64, .f32⟩
  | 91 => ⟨S_, .f32⟩
  | 92 => ⟨S64, .f32⟩
  | 93 => ⟨S64, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S8192, .f32⟩
  | 102 => ⟨S8192x1, .f32⟩
  | 103 => ⟨S1x64, .f32⟩
  | 104 => ⟨S8192x64, .f32⟩
  | 105 => ⟨S8192x64, .f32⟩
  | 106 => ⟨S8192x64, .f32⟩
  | 107 => ⟨S8192x64, .f32⟩
  | 108 => ⟨S8192x1x64, .f32⟩
  | 109 => ⟨S8192x64, .f32⟩
  | 110 => ⟨S8192x1x64, .f32⟩
  | 111 => ⟨S2x8192x4x64, .f32⟩
  | 112 => ⟨S2x8192x4x64, .f32⟩
  | 113 => ⟨S1x8192x1x64, .f32⟩
  | 114 => ⟨S2x8192x4x64, .f32⟩
  | 115 => ⟨S2x8192x4x64, .f32⟩
  | 116 => ⟨S1x8192x1x64, .f32⟩
  | 117 => ⟨S2x8192x4x64, .f32⟩
  | 118 => ⟨S2x8192x4x64, .f32⟩
  | 119 => ⟨S2x8192x4x64, .f32⟩
  | 120 => ⟨S1x8192x1x64, .f32⟩
  | 121 => ⟨S2x8192x4x64, .f32⟩
  | 122 => ⟨S2x8192x4x64, .f32⟩
  | 123 => ⟨S1x8192x1x64, .f32⟩
  | 124 => ⟨S2x8192x4x64, .f32⟩
  | 125 => ⟨S2x8192x4x64, .f32⟩
  | 126 => ⟨S2x8192x4x64, .f32⟩
  | 127 => ⟨S2x8192x4x128, .f32⟩
  | _ => ⟨S2x8192x4176, .f32⟩

abbrev hbmTy0_1 (i : Nat) : BufTy := match i % 128 with
  | 0 => ⟨S2x8192x4x128, .f32⟩
  | 1 => ⟨S2x8192x16x64, .f32⟩
  | 2 => ⟨S2x8192x16x32, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S8192, .f32⟩
  | 18 => ⟨S8192x1, .f32⟩
  | 19 => ⟨S1x16, .f32⟩
  | 20 => ⟨S8192x16, .f32⟩
  | 21 => ⟨S8192x16, .f32⟩
  | 22 => ⟨S8192x16, .f32⟩
  | 23 => ⟨S8192x16, .f32⟩
  | 24 => ⟨S8192x1x16, .f32⟩
  | 25 => ⟨S8192x16, .f32⟩
  | 26 => ⟨S8192x1x16, .f32⟩
  | 27 => ⟨S2x8192x16x16, .f32⟩
  | 28 => ⟨S2x8192x16x16, .f32⟩
  | 29 => ⟨S1x8192x1x16, .f32⟩
  | 30 => ⟨S2x8192x16x16, .f32⟩
  | 31 => ⟨S2x8192x16x16, .f32⟩
  | 32 => ⟨S1x8192x1x16, .f32⟩
  | 33 => ⟨S2x8192x16x16, .f32⟩
  | 34 => ⟨S2x8192x16x16, .f32⟩
  | 35 => ⟨S2x8192x16x16, .f32⟩
  | 36 => ⟨S1x8192x1x16, .f32⟩
  | 37 => ⟨S2x8192x16x16, .f32⟩
  | 38 => ⟨S2x8192x16x16, .f32⟩
  | 39 => ⟨S1x8192x1x16, .f32⟩
  | 40 => ⟨S2x8192x16x16, .f32⟩
  | 41 => ⟨S2x8192x16x16, .f32⟩
  | 42 => ⟨S2x8192x16x16, .f32⟩
  | 43 => ⟨S2x8192x16x32, .f32⟩
  | 44 => ⟨S2x8192x16x32, .f32⟩
  | 45 => ⟨S2x8192x16x64, .f32⟩
  | 46 => ⟨S_, .f32⟩
  | 47 => ⟨S2x8192, .f32⟩
  | 48 => ⟨S2x8192x1, .f32⟩
  | 49 => ⟨S_, .f32⟩
  | 50 => ⟨S2x8192x1, .f32⟩
  | 51 => ⟨S2x8192x1, .f32⟩
  | 52 => ⟨S2x8192x64, .f32⟩
  | 53 => ⟨S2x8192x64, .f32⟩
  | 54 => ⟨S2x8192x64, .f32⟩
  | 55 => ⟨S_, .f32⟩
  | 56 => ⟨S2x8192, .f32⟩
  | 57 => ⟨S2x8192x1, .f32⟩
  | 58 => ⟨S_, .f32⟩
  | 59 => ⟨S2x8192x1, .f32⟩
  | 60 => ⟨S2x8192x1, .f32⟩
  | 61 => ⟨S2x8192x64, .f32⟩
  | 62 => ⟨S2x8192x64, .f32⟩
  | 63 => ⟨S_, .f32⟩
  | 64 => ⟨S2x8192x1, .f32⟩
  | 65 => ⟨S2x8192x1, .f32⟩
  | 66 => ⟨S2x8192x1, .f32⟩
  | 67 => ⟨S2x8192x64, .f32⟩
  | 68 => ⟨S2x8192x64, .f32⟩
  | 69 => ⟨S1x1x64, .f32⟩
  | 70 => ⟨S2x8192x64, .f32⟩
  | 71 => ⟨S2x8192x64, .f32⟩
  | 72 => ⟨S1x1x64, .f32⟩
  | 73 => ⟨S2x8192x64, .f32⟩
  | 74 => ⟨S2x8192x64, .f32⟩
  | 75 => ⟨S2x8192x1x64, .f32⟩
  | 76 => ⟨S2x8192x1x32, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S_, .f32⟩
  | 86 => ⟨S16, .f32⟩
  | 87 => ⟨S16, .f32⟩
  | 88 => ⟨S_, .f32⟩
  | 89 => ⟨S16, .f32⟩
  | 90 => ⟨S16, .f32⟩
  | 91 => ⟨S8192, .f32⟩
  | 92 => ⟨S8192x1, .f32⟩
  | 93 => ⟨S1x16, .f32⟩
  | 94 => ⟨S8192x16, .f32⟩
  | 95 => ⟨S8192x16, .f32⟩
  | 96 => ⟨S8192x16, .f32⟩
  | 97 => ⟨S8192x16, .f32⟩
  | 98 => ⟨S8192x1x16, .f32⟩
  | 99 => ⟨S8192x16, .f32⟩
  | 100 => ⟨S8192x1x16, .f32⟩
  | 101 => ⟨S2x8192x1x16, .f32⟩
  | 102 => ⟨S2x8192x1x16, .f32⟩
  | 103 => ⟨S1x8192x1x16, .f32⟩
  | 104 => ⟨S2x8192x1x16, .f32⟩
  | 105 => ⟨S2x8192x1x16, .f32⟩
  | 106 => ⟨S1x8192x1x16, .f32⟩
  | 107 => ⟨S2x8192x1x16, .f32⟩
  | 108 => ⟨S2x8192x1x16, .f32⟩
  | 109 => ⟨S2x8192x1x16, .f32⟩
  | 110 => ⟨S1x8192x1x16, .f32⟩
  | 111 => ⟨S2x8192x1x16, .f32⟩
  | 112 => ⟨S2x8192x1x16, .f32⟩
  | 113 => ⟨S1x8192x1x16, .f32⟩
  | 114 => ⟨S2x8192x1x16, .f32⟩
  | 115 => ⟨S2x8192x1x16, .f32⟩
  | 116 => ⟨S2x8192x1x16, .f32⟩
  | 117 => ⟨S2x8192x1x32, .f32⟩
  | 118 => ⟨S2x8192x1x32, .f32⟩
  | 119 => ⟨S2x8192x1x64, .f32⟩
  | 120 => ⟨S2x8192x64, .f32⟩
  | 121 => ⟨S_, .f32⟩
  | 122 => ⟨S2x8192x16, .f32⟩
  | 123 => ⟨S2x8192x16, .f32⟩
  | 124 => ⟨S_, .f32⟩
  | 125 => ⟨S2x8192x16x128, .f32⟩
  | 126 => ⟨S2x8192x16x128, .f32⟩
  | 127 => ⟨S16384x16x128, .f32⟩
  | _ => ⟨S2x8192x4176, .f32⟩

abbrev hbmTy0_2 (i : Nat) : BufTy := match i % 128 with
  | 0 => ⟨S16x16384x128, .f32⟩
  | 1 => ⟨S16x16384x128, .bf16⟩
  | 2 => ⟨S16384x512, .f32⟩
  | 3 => ⟨S16384x512, .bf16⟩
  | 4 => ⟨S16384x512, .f32⟩
  | 5 => ⟨S16384x512, .bf16⟩
  | 6 => ⟨S16384x16x64, .f32⟩
  | 7 => ⟨S16x64x16384, .f32⟩
  | 8 => ⟨S16x64x16384, .bf16⟩
  | 9 => ⟨S16384x64, .f32⟩
  | 10 => ⟨S16384x64, .bf16⟩
  | 11 => ⟨S16384x16, .f32⟩
  | 12 => ⟨S16x16384, .f32⟩
  | _ => ⟨S2x8192x4176, .f32⟩

abbrev hbmTy (i : Nat) : BufTy := match i / 128 with
  | 0 => hbmTy0_0 i
  | 1 => hbmTy0_1 i
  | 2 => hbmTy0_2 i
  | _ => ⟨S2x8192x4176, .f32⟩

abbrev bufTy : (tb : Table) → Fin (tcTables nBuf tb) → BufTy
  | .hbm, ⟨i, _⟩ => hbmTy i
  | _, _ => ⟨S2x8192x4176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_9 : Ref sig .tc := ⟨.hbm, 88, rfl⟩
abbrev main_v73 : Ref sig .tc := ⟨.hbm, 89, rfl⟩
abbrev main_v74 : Ref sig .tc := ⟨.hbm, 90, rfl⟩
abbrev main_cst_10 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_11 : Ref sig .tc := ⟨.hbm, 95, rfl⟩
abbrev main_v78 : Ref sig .tc := ⟨.hbm, 96, rfl⟩
abbrev main_v79 : Ref sig .tc := ⟨.hbm, 97, rfl⟩
abbrev main_cst_12 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_13 : Ref sig .tc := ⟨.hbm, 132, rfl⟩
abbrev main_v113 : Ref sig .tc := ⟨.hbm, 133, rfl⟩
abbrev main_v114 : Ref sig .tc := ⟨.hbm, 134, rfl⟩
abbrev main_cst_14 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_15 : Ref sig .tc := ⟨.hbm, 139, rfl⟩
abbrev main_v118 : Ref sig .tc := ⟨.hbm, 140, rfl⟩
abbrev main_v119 : Ref sig .tc := ⟨.hbm, 141, rfl⟩
abbrev main_cst_16 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_cst_17 : Ref sig .tc := ⟨.hbm, 174, rfl⟩
abbrev main_v151 : Ref sig .tc := ⟨.hbm, 175, rfl⟩
abbrev main_v152 : Ref sig .tc := ⟨.hbm, 176, rfl⟩
abbrev main_cst_18 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_cst_19 : Ref sig .tc := ⟨.hbm, 183, rfl⟩
abbrev main_v158 : Ref sig .tc := ⟨.hbm, 184, rfl⟩
abbrev main_v159 : Ref sig .tc := ⟨.hbm, 185, rfl⟩
abbrev main_cst_20 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_cst_21 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_cst_22 : Ref sig .tc := ⟨.hbm, 206, rfl⟩
abbrev main_v178 : Ref sig .tc := ⟨.hbm, 207, rfl⟩
abbrev main_v179 : Ref sig .tc := ⟨.hbm, 208, rfl⟩
abbrev main_cst_23 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_cst_24 : Ref sig .tc := ⟨.hbm, 213, rfl⟩
abbrev main_v183 : Ref sig .tc := ⟨.hbm, 214, rfl⟩
abbrev main_v184 : Ref sig .tc := ⟨.hbm, 215, rfl⟩
abbrev main_cst_25 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_cst_26 : Ref sig .tc := ⟨.hbm, 249, rfl⟩
abbrev main_v217 : Ref sig .tc := ⟨.hbm, 250, rfl⟩
abbrev main_v218 : Ref sig .tc := ⟨.hbm, 251, rfl⟩
abbrev main_cst_27 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩

abbrev nD : Nat := 1
abbrev τ : Topo := Topo.v7x

variable {F : FTy → Type} [FloatOps F]
-- ==== Proof.Math.Recur.lean ====
module

public import Mathlib.Analysis.SpecialFunctions.Log.Basic
public import Mathlib.Algebra.BigOperators.Intervals
public import Mathlib.Algebra.BigOperators.Fin

/-!
The gated memory over the reals, in closed form, and the two facts a chunked evaluation rests on:
a chunk started from a rescaled state gives the closed-form output times one factor, and leaves a
rescaled closed-form state behind.  Nothing depends on how the rescaling exponents are picked.
-/

@[expose] public section
noncomputable section
namespace Cert.Mem
open Finset

/-- Sum of the forget gates' logarithms before position `t`. -/
def P (lf : ℕ → ℝ) (t : ℕ) : ℝ := ∑ r ∈ range t, lf r

/-- The state before position `p`: each earlier key-value product, decayed to `p`. -/
def S (lf i kv : ℕ → ℝ) (p : ℕ) : ℝ :=
  ∑ s ∈ range p, Real.exp (P lf p - P lf (s + 1) + i s) * kv s

/-- The unnormalised readout at position `t` with query products `g s`. -/
def U (lf i g : ℕ → ℝ) (t : ℕ) : ℝ :=
  ∑ s ∈ range (t + 1), Real.exp (P lf (t + 1) - P lf (s + 1) + i s) * g s

/-- The normalised readout. -/
def H (lf i : ℕ → ℝ) (gv g : ℕ → ℝ) (t : ℕ) : ℝ :=
  U lf i gv t / max |U lf i g t| 1

theorem P_add (lf : ℕ → ℝ) (p : ℕ) {L : ℕ} (t : Fin L) :
    P lf (p + t + 1) = P lf p + ∑ k : Fin L, if k ≤ t then lf (p + k) else 0 := by
  have h1 : (∑ k : Fin L, if k ≤ t then lf (p + k) else 0)
      = ∑ k ∈ range (t.val + 1), lf (p + k) := by
    have h2 : (∑ k : Fin L, if k ≤ t then lf (p + k) else 0)
        = ∑ k ∈ range L, if k ≤ t.val then lf (p + k) else 0 := by
      rw [← Fin.sum_univ_eq_sum_range (fun k => if k ≤ t.val then lf (p + k) else 0)]
      rfl
    rw [h2, ← sum_filter]
    refine sum_congr ?_ (fun _ _ => rfl)
    ext a
    have := t.isLt
    simp only [mem_filter, mem_range]
    omega
  rw [h1, P, P, Nat.add_assoc, sum_range_add]

/-- A sum over the positions before `p + t + 1` is the part before `p` and the masked part of a
chunk starting at `p`. -/
theorem sum_split (f : ℕ → ℝ) (p : ℕ) {L : ℕ} (t : Fin L) :
    ∑ s ∈ range (p + t + 1), f s
      = ∑ s ∈ range p, f s + ∑ j : Fin L, if j ≤ t then f (p + j) else 0 :=
  P_add f p t

/-- Readout of one chunk row, up to the row's scale. -/
theorem num_eq {D L : ℕ} (lf i : ℕ → ℝ) (k : ℕ → Fin D → ℝ) (v : ℕ → ℝ) (q : Fin D → ℝ)
    (p : ℕ) (t : Fin L) (C : Fin D → ℝ) (m M : ℝ)
    (hC : ∀ c, Real.exp m * C c = S lf i (fun s => k s c * v s) p) :
    (∑ j : Fin L, ((∑ c, q c * k (p + j) c) *
        (if j ≤ t then Real.exp (P lf (p + t + 1) - P lf (p + j + 1) + i (p + j) - M) else 0))
          * v (p + j))
      + Real.exp (P lf (p + t + 1) - P lf p + m - M) * ∑ c, q c * C c
    = Real.exp (-M) * U lf i (fun s => (∑ c, q c * k s c) * v s) (p + t) := by
  have hC' : ∀ c, C c = Real.exp (-m) * S lf i (fun s => k s c * v s) p := by
    intro c
    rw [← hC c, ← mul_assoc, ← Real.exp_add]
    simp
  rw [U, sum_split, mul_add, add_comm]
  congr 1
  · rw [mul_sum, mul_sum]
    simp only [hC', S, mul_sum, sum_mul]
    rw [sum_comm]
    refine sum_congr rfl fun s _ => sum_congr rfl fun c _ => ?_
    have e : Real.exp (P lf (p + t + 1) - P lf p + m - M) * Real.exp (-m)
        * Real.exp (P lf p - P lf (s + 1) + i s)
        = Real.exp (-M) * Real.exp (P lf (p + t + 1) - P lf (s + 1) + i s) := by
      rw [← Real.exp_add, ← Real.exp_add, ← Real.exp_add]
      congr 1
      ring
    linear_combination (q c * k s c * v s) * e
  · rw [mul_sum]
    refine sum_congr rfl fun j _ => ?_
    split_ifs with h
    · rw [show P lf (p + t + 1) - P lf (p + j + 1) + i (p + j) - M
          = -M + (P lf (p + t + 1) - P lf (p + j + 1) + i (p + j)) by ring, Real.exp_add]
      ring
    · simp

/-- The state a chunk leaves, up to its scale. -/
theorem state_eq {L : ℕ} (lf i kv : ℕ → ℝ) (p : ℕ) (C m M : ℝ)
    (hC : Real.exp m * C = S lf i kv p) :
    Real.exp M * (Real.exp (P lf (p + L) - P lf p + m - M) * C
      + ∑ j : Fin L, Real.exp (P lf (p + L) - P lf (p + j + 1) + i (p + j) - M) * kv (p + j))
    = S lf i kv (p + L) := by
  have hC' : C = Real.exp (-m) * S lf i kv p := by
    rw [← hC, ← mul_assoc, ← Real.exp_add]
    simp
  rw [S, sum_range_add, mul_add]
  congr 1
  · rw [hC', S]
    simp only [mul_sum]
    refine sum_congr rfl fun s _ => ?_
    have e : Real.exp M * Real.exp (P lf (p + L) - P lf p + m - M) * Real.exp (-m)
        * Real.exp (P lf p - P lf (s + 1) + i s)
        = Real.exp (P lf (p + L) - P lf (s + 1) + i s) := by
      rw [← Real.exp_add, ← Real.exp_add, ← Real.exp_add]
      congr 1
      ring
    linear_combination (kv s) * e
  · rw [mul_sum, ← Fin.sum_univ_eq_sum_range
      (fun j => Real.exp (P lf (p + L) - P lf (p + j + 1) + i (p + j)) * kv (p + j))]
    refine sum_congr rfl fun j _ => ?_
    rw [← mul_assoc, ← Real.exp_add]
    congr 2
    ring

/-- The row's scale cancels in the normalised readout. -/
theorem scale_cancel (u w M : ℝ) :
    Real.exp (-M) * u / max |Real.exp (-M) * w| (Real.exp (-M)) = u / max |w| 1 := by
  have hp := Real.exp_pos (-M)
  rw [abs_mul, abs_of_pos hp]
  have : max (Real.exp (-M) * |w|) (Real.exp (-M)) = Real.exp (-M) * max |w| 1 := by
    rw [mul_max_of_nonneg _ _ hp.le, mul_one]
  rw [this, mul_div_mul_left _ _ hp.ne']

/-- The whole readout of one chunk row. -/
theorem row_eq {D L : ℕ} (lf i : ℕ → ℝ) (k : ℕ → Fin D → ℝ) (v : ℕ → ℝ) (q : Fin D → ℝ)
    (p : ℕ) (t : Fin L) (C n : Fin D → ℝ) (m M : ℝ)
    (hC : ∀ c, Real.exp m * C c = S lf i (fun s => k s c * v s) p)
    (hn : ∀ c, Real.exp m * n c = S lf i (fun s => k s c) p) :
    ((∑ j : Fin L, ((∑ c, q c * k (p + j) c) *
        (if j ≤ t then Real.exp (P lf (p + t + 1) - P lf (p + j + 1) + i (p + j) - M) else 0))
          * v (p + j))
      + Real.exp (P lf (p + t + 1) - P lf p + m - M) * ∑ c, q c * C c)
    / max |(∑ j : Fin L, ((∑ c, q c * k (p + j) c) *
        (if j ≤ t then Real.exp (P lf (p + t + 1) - P lf (p + j + 1) + i (p + j) - M) else 0)))
      + Real.exp (P lf (p + t + 1) - P lf p + m - M) * ∑ c, q c * n c| (Real.exp (-M))
    = H lf i (fun s => (∑ c, q c * k s c) * v s) (fun s => ∑ c, q c * k s c) (p + t) := by
  rw [num_eq lf i k v q p t C m M hC]
  have h := num_eq lf i k (fun _ => 1) q p t n m M (by simpa using hn)
  simp only [mul_one] at h
  rw [h, scale_cancel, H]

end Cert.Mem
-- ==== Proof.Math.Scalars.lean ====
module

public import proofs.«01_k».proof.Proof.Math.Recur
public import Idealize.ShloMosaic.Lib.Pipeline.ValueKit
public import Idealize.ShloMosaic.Lib.Pointwise
public import Idealize.ShloMosaic.Lib.IdealHost
public import Idealize.ShloMosaic.Lib.WordCmp

/-! Scalar facts: extended reals that are reals, and the operations on them. -/

@[expose] public section
noncomputable section
namespace Cert.Mem
open Idealize.ShloMosaic

theorem ninf : Ideal.ofBits .f32 0xFF800000#32 = (⊥ : EReal) := by simp [Ideal.ofBits, Ideal.ieee]

theorem sixteenth : Ideal.ofBits .f32 0x3D800000#32 = ((1 / 16 : ℝ) : EReal) := by
  simp [Ideal.ofBits, Ideal.ieee, -EReal.coe_mul]; norm_num

theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_ite (p : Prop) [Decidable p] (a b : ℝ) :
    (if p then ((a : ℝ) : EReal) else ((b : ℝ) : EReal)) = ((if p then a else b : ℝ) : EReal) := by
  split_ifs <;> rfl

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem coe_abs (x : ℝ) : FloatOps.absf (F := Ideal) (φ := .f32) ((x : ℝ) : EReal) = ((|x| : ℝ) : EReal) := by
  show max ((x : ℝ) : EReal) (-((x : ℝ) : EReal)) = _
  rw [← EReal.coe_neg, coe_max]
  rfl

theorem coe_div (x y : ℝ) (h : y ≠ 0) :
    Ideal.div ((x : ℝ) : EReal) ((y : ℝ) : EReal) = ((x / y : ℝ) : EReal) := by
  rw [Ideal.div_coe h, ← EReal.coe_mul]
  congr 1
  ring

theorem coe_log1p (x : ℝ) (h : 0 ≤ x) :
    Ideal.log1p ((x : ℝ) : EReal) = ((Real.log (1 + x) : ℝ) : EReal) := by
  have : Ideal.log1p ((x : ℝ) : EReal) = Ideal.log (1 + ((x : ℝ) : EReal)) := rfl
  rw [this, show (1 : EReal) + ((x : ℝ) : EReal) = ((1 + x : ℝ) : EReal) by push_cast; rfl, Ideal.log_coe,
    if_neg (by linarith)]

/-- The logarithm of the logistic function. -/
def ls (x : ℝ) : ℝ := min x 0 - Real.log (1 + Real.exp (-|x|))

theorem ls_ker (x : ℝ) :
    min ((x : ℝ) : EReal) 0 - Ideal.log1p (Ideal.exp (0 - FloatOps.absf (F := Ideal) (φ := .f32) ((x : ℝ) : EReal)))
      = ((ls x : ℝ) : EReal) := by
  rw [coe_abs, show (0 : EReal) - ((|x| : ℝ) : EReal) = ((-|x| : ℝ) : EReal) by simp, Ideal.exp_coe,
    coe_log1p _ (Real.exp_pos _).le, ← EReal.coe_zero, coe_min, ← EReal.coe_sub]
  rfl

theorem sel_le {n : ℕ} (hn : n ≤ 2 ^ 16) (x i : Fin n) (a b : EReal) :
    Scalar.select (IntOp.cmpi CmpIPredicate.sle (BitVec.ofNat 32 x) (BitVec.ofNat 32 i)) a b
      = if x ≤ i then a else b := by
  have hx := x.isLt
  have hi := i.isLt
  rw [WordCmp.cmpi_sle_ofNat (by omega) (by omega)]
  by_cases h : x ≤ i
  · rw [if_pos h]
    simp [Scalar.select, Fin.le_def.mp h]
  · rw [if_neg h]
    have : ¬ x.val ≤ i.val := h
    simp [Scalar.select, this]

/-- A running maximum of a real and of reals masked by minus infinity is real. -/
theorem fold_real {n : ℕ} (m : ℝ) (p : Fin n → Prop) [DecidablePred p] (a : Fin n → ℝ) :
    ∃ r : ℝ, max ((m : ℝ) : EReal)
      (Finset.fold max (⊥ : EReal) (fun k => if p k then ((a k : ℝ) : EReal) else ⊥) Finset.univ)
        = ((r : ℝ) : EReal) := by
  have : ∀ s : Finset (Fin n), ∃ r : ℝ, max ((m : ℝ) : EReal)
      (Finset.fold max (⊥ : EReal) (fun k => if p k then ((a k : ℝ) : EReal) else ⊥) s)
        = ((r : ℝ) : EReal) := by
    intro s
    induction s using Finset.induction_on with
    | empty => exact ⟨m, by simp⟩
    | insert x s hx ih =>
      obtain ⟨r, hr⟩ := ih
      rw [Finset.fold_insert hx, max_left_comm, hr]
      split_ifs
      · exact ⟨_, coe_max _ _⟩
      · exact ⟨r, by simp⟩
  exact this _

end Cert.Mem
-- ==== Proof.Ker.Head.lean ====
module

public import proofs.«01_k».proof.Proof.Gen.KernelIdeal.Value
public import proofs.«01_k».proof.Proof.Math.Scalars
public import Idealize.ShloMosaic.Lib.Pipeline.ValueKit
public import Idealize.ShloMosaic.Lib.Pointwise

@[expose] public section
set_option maxRecDepth 16384
noncomputable section
namespace Cert.Head
open Idealize.ShloMosaic Idealize.ShloMosaic.TcCoe Idealize.SL.Sem
open Cert.KernelIdeal Cert.KernelIdeal.Gen

/-- Logarithm of the forget gates of a row of pre-activations, laid out once per row. -/
def lfRow (x : FVec Ideal S1x256 .f32) : FVec Ideal S256x256 .f32 :=
  let z : Ideal .f32 := Scalar.ofBits .f32 0x00000000#32
  let y : FVec Ideal S1x256 .f32 := subf (minimumf x (broadcast S1x256 z))
    (log1p (exp (subf (broadcast S1x256 z) (absf x))))
  broadcastTo S256x256 (shapeCast S1x256 y shapeCasts_S1x256_S1x256) broadcasts_S1x256_S256x256

/-- Logarithm of the forget gates of a column of pre-activations. -/
def lfCol (x : FVec Ideal S256x1 .f32) : FVec Ideal S256x1 .f32 :=
  let z : Ideal .f32 := Scalar.ofBits .f32 0x00000000#32
  subf (minimumf x (broadcast S256x1 z)) (log1p (exp (subf (broadcast S256x1 z) (absf x))))

def hB (fr : FVec Ideal S1x256 .f32) : FVec Ideal S256x1 .f32 :=
  k0_pay15 k0_pay7 (Scalar.ofBits .f32 0x00000000#32) (lfRow fr)

def hAr (ir : FVec Ideal S1x256 .f32) (fc : FVec Ideal S256x1 .f32) : FVec Ideal S1x256 .f32 :=
  k0_pay16 k0_pay8 ir (lfCol fc)

def hAc (ic : FVec Ideal S256x1 .f32) (fr : FVec Ideal S1x256 .f32) : FVec Ideal S256x1 .f32 :=
  k0_pay17 k0_pay7 ic (Scalar.ofBits .f32 0x00000000#32) (lfRow fr)

def hM (ir : FVec Ideal S1x256 .f32) (fc : FVec Ideal S256x1 .f32)
    (mo : Vec Ideal S1x1x128 .f32) : FVec Ideal S256x1 .f32 :=
  k0_pay19 k0_pay7 k0_pay8 ir (lfCol fc) mo

def hS (ir : FVec Ideal S1x256 .f32) (fc : FVec Ideal S256x1 .f32)
    (mo : Vec Ideal S1x1x128 .f32) (q k : Vec Ideal S256x256 .bf16) : FVec Ideal S256x256 .f32 :=
  k0_pay24 k0_pay7 k0_pay8 ir (lfCol fc) mo q k

def hH (ir fr : FVec Ideal S1x256 .f32) (fc : FVec Ideal S256x1 .f32)
    (mo : Vec Ideal S1x1x128 .f32) (q k v : Vec Ideal S256x256 .bf16)
    (C : Vec Ideal S1x256x256 .f32) (n : Vec Ideal S1x1x256 .f32) : FVec Ideal S256x256 .f32 :=
  k0_pay25 (hB fr) (k0_pay18 mo) (hM ir fc mo) (k0_pay20 q) (k0_pay22 q) (k0_pay23 v)
    (hS ir fc mo q k) C n

def hOut (h : FVec Ideal S256x256 .f32) (an : Vec Ideal S1x256 .f32)
    (o : Vec Ideal S256x256 .bf16) : FVec Ideal S256x256 .bf16 :=
  k0_pay35 (k0_pay33 h an) (k0_pay34 o)

def hC (ir fr : FVec Ideal S1x256 .f32) (ic fc : FVec Ideal S256x1 .f32)
    (mo : Vec Ideal S1x1x128 .f32) (k v : Vec Ideal S256x256 .bf16)
    (C : Vec Ideal S1x256x256 .f32) : FVec Ideal S1x256x256 .f32 :=
  k0_pay30 (k0_pay29 (hAc ic fr) (k0_pay18 mo) (hM ir fc mo) (k0_pay21 k) (k0_pay23 v) C)

def hN (ir fr : FVec Ideal S1x256 .f32) (ic fc : FVec Ideal S256x1 .f32)
    (mo : Vec Ideal S1x1x128 .f32) (k : Vec Ideal S256x256 .bf16)
    (n : Vec Ideal S1x1x256 .f32) : FVec Ideal S1x1x256 .f32 :=
  k0_pay31 (k0_pay27 (k0_pay18 mo) (hM ir fc mo)) (k0_pay28 (hAc ic fr) (hM ir fc mo) (k0_pay21 k)) n

def hMn (ir fr : FVec Ideal S1x256 .f32) (fc : FVec Ideal S256x1 .f32)
    (mo : Vec Ideal S1x1x128 .f32) : FVec Ideal S1x1x128 .f32 :=
  k0_pay32 (hB fr) (k0_pay26 (hM ir fc mo))

/-! The operations of one head, each read at one entry. -/

theorem lfRow_at (x : FVec Ideal S1x256 .f32) (i j : Fin 256) : lfRow x (ix2 i j)
    = min (x (ix2 0 j)) 0 - Ideal.log1p (Ideal.exp (0 - FloatOps.absf (x (ix2 0 j)))) := by
  pointwise [lfRow]

theorem lfCol_at (x : FVec Ideal S256x1 .f32) (j : Fin 256) : lfCol x (ix2 j 0)
    = min (x (ix2 j 0)) 0 - Ideal.log1p (Ideal.exp (0 - FloatOps.absf (x (ix2 j 0)))) := by
  pointwise [lfCol]

theorem hB_at (x : FVec Ideal S1x256 .f32) (i : Fin 256) : hB x (ix2 i 0)
    = ∑ k : Fin 256, if k ≤ i then lfRow x (ix2 i k) else 0 := by
  pointwise [hB, k0_pay15, k0_pay7]
  exact Finset.sum_congr rfl fun k _ => Cert.Mem.sel_le (by norm_num) _ _ _ _

theorem hAr_at (x : FVec Ideal S1x256 .f32) (y : FVec Ideal S256x1 .f32) (i : Fin 256) :
    hAr x y (ix2 0 i) = x (ix2 0 i) - ∑ k : Fin 256, if k ≤ i then lfCol y (ix2 k 0) else 0 := by
  pointwise [hAr, k0_pay16, k0_pay8]
  congr 1
  exact Finset.sum_congr rfl fun k _ => Cert.Mem.sel_le (by norm_num) _ _ _ _

theorem hAc_at (x : FVec Ideal S256x1 .f32) (y : FVec Ideal S1x256 .f32) (i : Fin 256) :
    hAc x y (ix2 i 0) = x (ix2 i 0) - hB y (ix2 i 0) := by
  show subf x (hB y) (ix2 i 0) = _
  pointwise []

theorem hM_at (x : FVec Ideal S1x256 .f32) (y : FVec Ideal S256x1 .f32) (mo : Vec Ideal S1x1x128 .f32)
    (i : Fin 256) : hM x y mo (ix2 i 0) = max (mo (ix3 0 0 0))
      (Finset.fold max (⊥ : EReal) (fun k : Fin 256 => if k ≤ i then hAr x y (ix2 0 k) else ⊥)
        Finset.univ) := by
  pointwise [hM, k0_pay19, k0_pay7, k0_pay18]
  rw [Cert.Mem.ninf]
  congr 2
  funext k
  exact Cert.Mem.sel_le (by norm_num) _ _ _ _

theorem hS_at (x : FVec Ideal S1x256 .f32) (y : FVec Ideal S256x1 .f32) (mo : Vec Ideal S1x1x128 .f32)
    (q k : Vec Ideal S256x256 .bf16) (i j : Fin 256) : hS x y mo q k (ix2 i j)
      = if j ≤ i then (∑ c, q (ix2 i c) * Ideal.ofBits FTy.f32 0x3D800000#32 * k (ix2 j c))
          * Ideal.exp (hAr x y (ix2 0 j) - hM x y mo (ix2 i 0)) else 0 := by
  pointwise [hS, k0_pay24, k0_pay22, k0_pay21, k0_pay20]
  rw [← Cert.Mem.sel_le (by norm_num)]
  pointwise [k0_pay7]
  rfl

theorem hH_at (x fr : FVec Ideal S1x256 .f32) (y : FVec Ideal S256x1 .f32)
    (mo : Vec Ideal S1x1x128 .f32) (q k v : Vec Ideal S256x256 .bf16)
    (C : Vec Ideal S1x256x256 .f32) (n : Vec Ideal S1x1x256 .f32) (i j : Fin 256) :
    hH x fr y mo q k v C n (ix2 i j) = Ideal.div
      (∑ l, hS x y mo q k (ix2 i l) * v (ix2 l j) +
        Ideal.exp (mo (ix3 0 0 0) - hM x y mo (ix2 i 0)) *
          ∑ c, q (ix2 i c) * Ideal.ofBits FTy.f32 0x3D800000#32 * C (ix3 0 c j))
      (max
        (FloatOps.absf
          (∑ l, hS x y mo q k (ix2 i l) +
            Ideal.exp (mo (ix3 0 0 0) - hM x y mo (ix2 i 0)) *
              ∑ c, q (ix2 i c) * Ideal.ofBits FTy.f32 0x3D800000#32 * n (ix3 0 0 c)))
        (Ideal.exp (0 - (hB fr (ix2 i 0) + hM x y mo (ix2 i 0))))) := by
  pointwise [hH, k0_pay25, k0_pay23, k0_pay22, k0_pay20, k0_pay18]

/-- A memory row normalised, scaled and gated. -/
def post (h : Fin 256 → EReal) (j : Fin 256) (an o : EReal) : EReal :=
  h j * Ideal.rsqrt (Ideal.div (∑ x, h x * h x) (Ideal.ofBits FTy.f32 0x43800000#32)
      + Ideal.ofBits FTy.f32 0x358637BD#32) * an * Ideal.logistic o

theorem hOut_at (h : FVec Ideal S256x256 .f32) (an : Vec Ideal S1x256 .f32)
    (o : Vec Ideal S256x256 .bf16) (i j : Fin 256) :
    hOut h an o (ix2 i j) = post (fun x => h (ix2 i x)) j (an (ix2 0 j)) (o (ix2 i j)) := by
  pointwise [hOut, k0_pay35, k0_pay33, k0_pay34]
  rfl

theorem hC_at (ir fr : FVec Ideal S1x256 .f32) (ic fc : FVec Ideal S256x1 .f32)
    (mo : Vec Ideal S1x1x128 .f32) (k v : Vec Ideal S256x256 .bf16)
    (C : Vec Ideal S1x256x256 .f32) (i j : Fin 256) :
    hC ir fr ic fc mo k v C (ix3 0 i j) =
      Ideal.exp (mo (ix3 0 0 0) - hM ir fc mo (ix2 255 0)) * C (ix3 0 i j) +
        ∑ x, Ideal.exp (hAc ic fr (ix2 x 0) - hM ir fc mo (ix2 255 0)) * k (ix2 x i) * v (ix2 x j) := by
  pointwise [hC, k0_pay30, k0_pay29, k0_pay21, k0_pay23, k0_pay27, k0_pay28, k0_pay26, k0_pay18]

theorem hN_at (ir fr : FVec Ideal S1x256 .f32) (ic fc : FVec Ideal S256x1 .f32)
    (mo : Vec Ideal S1x1x128 .f32) (k : Vec Ideal S256x256 .bf16)
    (n : Vec Ideal S1x1x256 .f32) (j : Fin 256) :
    hN ir fr ic fc mo k n (ix3 0 0 j) =
      Ideal.exp (mo (ix3 0 0 0) - hM ir fc mo (ix2 255 0)) * n (ix3 0 0 j) +
        ∑ x, Ideal.exp (hAc ic fr (ix2 x 0) - hM ir fc mo (ix2 255 0)) * k (ix2 x j) := by
  pointwise [hN, k0_pay31, k0_pay21, k0_pay27, k0_pay28, k0_pay26, k0_pay18]

theorem hMn_at (ir fr : FVec Ideal S1x256 .f32) (fc : FVec Ideal S256x1 .f32)
    (mo : Vec Ideal S1x1x128 .f32) (j : Fin 128) :
    hMn ir fr fc mo (ix3 0 0 j) = hB fr (ix2 255 0) + hM ir fc mo (ix2 255 0) := by
  pointwise [hMn, k0_pay32, k0_pay26]

end Cert.Head
-- ==== Proof.Ker.HeadReal.lean ====
module

public import proofs.«01_k».proof.Proof.Ker.Head

/-! One head of one block over the reals: from a state that is the closed form at `p` up to its
scale, the block's rows are the closed-form readouts and the new state is the closed form at
`p + 256` up to its scale. -/

@[expose] public section
set_option maxRecDepth 16384
noncomputable section
namespace Cert.Head
open Idealize.ShloMosaic Idealize.ShloMosaic.TcCoe Idealize.SL.Sem
open Cert.KernelIdeal Cert.KernelIdeal.Gen
open Cert.Mem

/-- The query-key products of position `t` with every position. -/
def qk (q k : ℕ → Fin 256 → ℝ) (t s : ℕ) : ℝ := ∑ c, q t c * (1 / 16) * k s c

/-- The memory's normalised readout at position `t`, lane `d`. -/
def mem (i f : ℕ → ℝ) (q k v : ℕ → Fin 256 → ℝ) (t : ℕ) (d : Fin 256) : ℝ :=
  H (fun s => ls (f s)) i (fun s => qk q k t s * v s d) (fun s => qk q k t s) t

/-- The carried arrays of one head hold the closed-form state at `p`, up to its scale. -/
def StateOK (i f : ℕ → ℝ) (k v : ℕ → Fin 256 → ℝ) (p : ℕ) (C : Fin 256 → Fin 256 → EReal)
    (n : Fin 256 → EReal) (mo : EReal) : Prop :=
  ∃ (m : ℝ) (Cr : Fin 256 → Fin 256 → ℝ) (nr : Fin 256 → ℝ),
    mo = ((m : ℝ) : EReal)
    ∧ (∀ c d, C c d = ((Cr c d : ℝ) : EReal)
        ∧ Real.exp m * Cr c d = S (fun s => ls (f s)) i (fun s => k s c * v s d) p)
    ∧ ∀ c, n c = ((nr c : ℝ) : EReal)
        ∧ Real.exp m * nr c = S (fun s => ls (f s)) i (fun s => k s c) p

theorem StateOK.zero (i f : ℕ → ℝ) (k v : ℕ → Fin 256 → ℝ) :
    StateOK i f k v 0 (fun _ _ => 0) (fun _ => 0) 0 :=
  ⟨0, fun _ _ => 0, fun _ => 0, rfl, fun _ _ => ⟨rfl, by simp [S]⟩, fun _ => ⟨rfl, by simp [S]⟩⟩

section
variable (i f : ℕ → ℝ) (p : ℕ)
variable {ir fr : FVec Ideal S1x256 .f32} {ic fc : FVec Ideal S256x1 .f32}
  {mo : Vec Ideal S1x1x128 .f32}

theorem lfRow_real (hfr : ∀ j, fr (ix2 0 j) = ((f (p + j.val) : ℝ) : EReal)) (a j : Fin 256) :
    lfRow fr (ix2 a j) = ((ls (f (p + j.val)) : ℝ) : EReal) := by
  rw [lfRow_at, hfr, ls_ker]

theorem lfCol_real (hfc : ∀ j, fc (ix2 j 0) = ((f (p + j.val) : ℝ) : EReal)) (j : Fin 256) :
    lfCol fc (ix2 j 0) = ((ls (f (p + j.val)) : ℝ) : EReal) := by
  rw [lfCol_at, hfc, ls_ker]

theorem cum_real (t : Fin 256) :
    (∑ k : Fin 256, if k ≤ t then (((ls (f (p + k.val)) : ℝ) : EReal)) else 0)
      = ((P (fun s => ls (f s)) (p + t + 1) - P (fun s => ls (f s)) p : ℝ) : EReal) := by
  rw [P_add, add_sub_cancel_left, ← coe_sum]
  refine Finset.sum_congr rfl fun k _ => ?_
  split_ifs <;> rfl

theorem hB_real (hfr : ∀ j, fr (ix2 0 j) = ((f (p + j.val) : ℝ) : EReal)) (t : Fin 256) :
    hB fr (ix2 t 0)
      = ((P (fun s => ls (f s)) (p + t + 1) - P (fun s => ls (f s)) p : ℝ) : EReal) := by
  rw [hB_at, ← cum_real]
  simp only [lfRow_real f p hfr]

theorem hAr_real (hir : ∀ j, ir (ix2 0 j) = ((i (p + j.val) : ℝ) : EReal))
    (hfc : ∀ j, fc (ix2 j 0) = ((f (p + j.val) : ℝ) : EReal)) (t : Fin 256) :
    hAr ir fc (ix2 0 t) = ((i (p + t.val)
      - (P (fun s => ls (f s)) (p + t + 1) - P (fun s => ls (f s)) p) : ℝ) : EReal) := by
  rw [hAr_at, hir]
  simp only [lfCol_real f p hfc]
  rw [cum_real, ← EReal.coe_sub]

theorem hAc_real (hic : ∀ j, ic (ix2 j 0) = ((i (p + j.val) : ℝ) : EReal))
    (hfr : ∀ j, fr (ix2 0 j) = ((f (p + j.val) : ℝ) : EReal)) (t : Fin 256) :
    hAc ic fr (ix2 t 0) = ((i (p + t.val)
      - (P (fun s => ls (f s)) (p + t + 1) - P (fun s => ls (f s)) p) : ℝ) : EReal) := by
  rw [hAc_at, hic, hB_real f p hfr, ← EReal.coe_sub]

theorem hM_real (hir : ∀ j, ir (ix2 0 j) = ((i (p + j.val) : ℝ) : EReal))
    (hfc : ∀ j, fc (ix2 j 0) = ((f (p + j.val) : ℝ) : EReal)) (m : ℝ)
    (hm : mo (ix3 0 0 0) = ((m : ℝ) : EReal)) :
    ∃ M : Fin 256 → ℝ, ∀ t, hM ir fc mo (ix2 t 0) = ((M t : ℝ) : EReal) := by
  have : ∀ t, ∃ r : ℝ, hM ir fc mo (ix2 t 0) = ((r : ℝ) : EReal) := by
    intro t
    rw [hM_at, hm]
    simp only [hAr_real i f p hir hfc]
    exact fold_real _ _ _
  exact ⟨fun t => (this t).choose, fun t => (this t).choose_spec⟩

variable {C : Vec Ideal S1x256x256 .f32} {n : Vec Ideal S1x1x256 .f32}
  {qb kb vb : Vec Ideal S256x256 .bf16} (q k v : ℕ → Fin 256 → ℝ)

theorem out_real (hir : ∀ j, ir (ix2 0 j) = ((i (p + j.val) : ℝ) : EReal))
    (hfr : ∀ j, fr (ix2 0 j) = ((f (p + j.val) : ℝ) : EReal))
    (hfc : ∀ j, fc (ix2 j 0) = ((f (p + j.val) : ℝ) : EReal))
    (hq : ∀ j c, qb (ix2 j c) = ((q (p + j.val) c : ℝ) : EReal))
    (hk : ∀ j c, kb (ix2 j c) = ((k (p + j.val) c : ℝ) : EReal))
    (hv : ∀ j c, vb (ix2 j c) = ((v (p + j.val) c : ℝ) : EReal))
    (hs : StateOK i f k v p (fun c d => C (ix3 0 c d)) (fun c => n (ix3 0 0 c)) (mo (ix3 0 0 0)))
    (t d : Fin 256) :
    hH ir fr fc mo qb kb vb C n (ix2 t d) = ((mem i f q k v (p + t) d : ℝ) : EReal) := by
  obtain ⟨m, Cr, nr, hm, hC, hn⟩ := hs
  obtain ⟨M, hM⟩ := hM_real i f p hir hfc m hm
  have hS' : ∀ a j, hS ir fc mo qb kb (ix2 a j)
      = (((∑ c, q (p + a) c * (1 / 16) * k (p + j) c) *
        (if j ≤ a then Real.exp (P (fun s => ls (f s)) (p + a + 1) - P (fun s => ls (f s)) (p + j + 1)
          + i (p + j) - (P (fun s => ls (f s)) (p + a + 1) - P (fun s => ls (f s)) p + M a)) else 0) : ℝ) : EReal) := by
    intro a j
    rw [hS_at, hAr_real i f p hir hfc, hM]
    simp only [hq, hk, sixteenth, ← EReal.coe_mul, coe_sum, ← EReal.coe_sub, Ideal.exp_coe]
    split_ifs
    · congr 3
      ring
    · simp
  rw [hH_at]
  simp only [hS', hM, hm, hC, hn, hq, hv, sixteenth, hB_real f p hfr, ← EReal.coe_mul, coe_sum,
    ← EReal.coe_sub, Ideal.exp_coe, ← EReal.coe_add, coe_abs, coe_max, ← EReal.coe_zero]
  rw [coe_div _ _ (ne_of_gt (lt_max_of_lt_right (Real.exp_pos _)))]
  congr 1
  have := row_eq (L := 256) (fun s => ls (f s)) i k (fun s => v s d)
    (fun c => q (p + t) c * (1 / 16)) p t (fun c => Cr c d) nr m
    (P (fun s => ls (f s)) (p + t + 1) - P (fun s => ls (f s)) p + M t)
    (fun c => (hC c d).2) (fun c => (hn c).2)
  rw [mem]
  simp only [qk]
  rw [← this]
  rw [show P (fun s => ls (f s)) (p + t + 1) - P (fun s => ls (f s)) p + m -
    (P (fun s => ls (f s)) (p + t + 1) - P (fun s => ls (f s)) p + M t) = m - M t by ring, zero_sub]

theorem state_real (hir : ∀ j, ir (ix2 0 j) = ((i (p + j.val) : ℝ) : EReal))
    (hfr : ∀ j, fr (ix2 0 j) = ((f (p + j.val) : ℝ) : EReal))
    (hic : ∀ j, ic (ix2 j 0) = ((i (p + j.val) : ℝ) : EReal))
    (hfc : ∀ j, fc (ix2 j 0) = ((f (p + j.val) : ℝ) : EReal))
    (hk : ∀ j c, kb (ix2 j c) = ((k (p + j.val) c : ℝ) : EReal))
    (hv : ∀ j c, vb (ix2 j c) = ((v (p + j.val) c : ℝ) : EReal))
    (hs : StateOK i f k v p (fun c d => C (ix3 0 c d)) (fun c => n (ix3 0 0 c)) (mo (ix3 0 0 0))) :
    StateOK i f k v (p + 256) (fun c d => hC ir fr ic fc mo kb vb C (ix3 0 c d))
      (fun c => hN ir fr ic fc mo kb n (ix3 0 0 c)) (hMn ir fr fc mo (ix3 0 0 0)) := by
  obtain ⟨m, Cr, nr, hm, hC', hn⟩ := hs
  obtain ⟨M, hM⟩ := hM_real i f p hir hfc m hm
  have e1 : ∀ x : Fin 256, i (p + x.val)
      - (P (fun s => ls (f s)) (p + x + 1) - P (fun s => ls (f s)) p) - M 255
      = P (fun s => ls (f s)) (p + 256) - P (fun s => ls (f s)) (p + x + 1) + i (p + x)
        - (P (fun s => ls (f s)) (p + 256) - P (fun s => ls (f s)) p + M 255) := fun x => by ring
  have e2 : m - M 255 = P (fun s => ls (f s)) (p + 256) - P (fun s => ls (f s)) p + m
      - (P (fun s => ls (f s)) (p + 256) - P (fun s => ls (f s)) p + M 255) := by ring
  refine ⟨P (fun s => ls (f s)) (p + 256) - P (fun s => ls (f s)) p + M 255,
    fun c d => Real.exp (m - M 255) * Cr c d + ∑ x : Fin 256, Real.exp (i (p + x.val)
      - (P (fun s => ls (f s)) (p + x + 1) - P (fun s => ls (f s)) p) - M 255) * k (p + x) c * v (p + x) d,
    fun c => Real.exp (m - M 255) * nr c + ∑ x : Fin 256, Real.exp (i (p + x.val)
      - (P (fun s => ls (f s)) (p + x + 1) - P (fun s => ls (f s)) p) - M 255) * k (p + x) c,
    ?_, fun c d => ⟨?_, ?_⟩, fun c => ⟨?_, ?_⟩⟩
  · rw [hMn_at, hB_real f p hfr, hM, ← EReal.coe_add]
    rfl
  · simp only [hC_at, hM, hm, hC', hk, hv, hAc_real i f p hic hfr, ← EReal.coe_mul, coe_sum,
      ← EReal.coe_sub, Ideal.exp_coe, ← EReal.coe_add]
  · simp only [e1, e2, mul_assoc]
    exact state_eq (L := 256) (fun s => ls (f s)) i (fun s => k s c * v s d) p (Cr c d) m _ (hC' c d).2
  · simp only [hN_at, hM, hm, hn, hk, hAc_real i f p hic hfr, ← EReal.coe_mul, coe_sum,
      ← EReal.coe_sub, Ideal.exp_coe, ← EReal.coe_add]
  · simp only [e1, e2]
    exact state_eq (L := 256) (fun s => ls (f s)) i (fun s => k s c) p (nr c) m _ (hn c).2

end
end Cert.Head
-- ==== Proof.Math.Seq.lean ====
module

public import proofs.«01_k».proof.Proof.Ker.HeadReal

/-! The real sequences of the projection's columns, and the layer's result in terms of the memory. -/

@[expose] public section
set_option maxRecDepth 16384
noncomputable section
namespace Cert.Head
open Idealize.ShloMosaic Idealize.ShloMosaic.TcCoe Idealize.SL.Sem Cert.Mem

abbrev SA : Shape := ⟨3, ![2, 8192, 6152]⟩
abbrev SB : Shape := ⟨1, ![4]⟩
abbrev SN : Shape := ⟨2, ![4, 256]⟩
abbrev SO : Shape := ⟨2, ![16384, 1024]⟩

/-- Every entry is a real number. -/
def Fine {s : Shape} (x : FVec Ideal s .f32) : Prop := ∀ j, (x j : EReal) = ((EReal.toReal (x j) : ℝ) : EReal)

theorem add_fine {x y : EReal} (hx : x = ((x.toReal : ℝ) : EReal)) (hy : y = ((y.toReal : ℝ) : EReal)) :
    x + y = (((x + y).toReal : ℝ) : EReal) := by
  rw [hx, hy, ← EReal.coe_add, EReal.toReal_coe]

/-- Column `col` of the projection, batch `β`. -/
def colA (A : FVec Ideal SA .f32) (β : Fin 2) (col : Fin 6152) (s : ℕ) : EReal :=
  A (ix3 β ⟨s % 8192, Nat.mod_lt _ (by norm_num)⟩ col)

/-- The input gate of a head. -/
def gi (A : FVec Ideal SA .f32) (a : FVec Ideal SB .f32) (β : Fin 2) (h : Fin 4) (s : ℕ) : ℝ :=
  EReal.toReal (colA A β ⟨4096 + h.val, by omega⟩ s + a (ix1 h))
/-- The forget gate of a head, before its log-sigmoid. -/
def gf (A : FVec Ideal SA .f32) (b : FVec Ideal SB .f32) (β : Fin 2) (h : Fin 4) (s : ℕ) : ℝ :=
  EReal.toReal (colA A β ⟨4100 + h.val, by omega⟩ s + b (ix1 h))
def sq (A : FVec Ideal SA .f32) (β : Fin 2) (h : Fin 4) (s : ℕ) (d : Fin 256) : ℝ :=
  EReal.toReal (colA A β ⟨256 * h.val + d.val, by omega⟩ s)
def sk (A : FVec Ideal SA .f32) (β : Fin 2) (h : Fin 4) (s : ℕ) (d : Fin 256) : ℝ :=
  EReal.toReal (colA A β ⟨1024 + 256 * h.val + d.val, by omega⟩ s)
def sv (A : FVec Ideal SA .f32) (β : Fin 2) (h : Fin 4) (s : ℕ) (d : Fin 256) : ℝ :=
  EReal.toReal (colA A β ⟨2048 + 256 * h.val + d.val, by omega⟩ s)

/-- The result at batch `β`, position `s`, head `h`, lane `d`. -/
def spec (A : FVec Ideal SA .f32) (a b : FVec Ideal SB .f32) (an : FVec Ideal SN .f32)
    (β : Fin 2) (h : Fin 4) (s : ℕ) (d : Fin 256) : EReal :=
  post (fun x => ((mem (gi A a β h) (gf A b β h) (sq A β h) (sk A β h) (sv A β h) s x : ℝ) : EReal)) d
    (an (ix2 h d)) (colA A β ⟨3072 + 256 * h.val + d.val, by omega⟩ s)

/-- The whole result. -/
def specV (A : FVec Ideal SA .f32) (a b : FVec Ideal SB .f32) (an : FVec Ideal SN .f32) : FVec Ideal SO .bf16 :=
  fun j => spec A a b an ⟨(j 0).val / 8192, by have : (j 0).val < 16384 := (j 0).isLt; omega⟩
    ⟨(j 1).val / 256, by have : (j 1).val < 1024 := (j 1).isLt; omega⟩ ((j 0).val % 8192)
    ⟨(j 1).val % 256, Nat.mod_lt _ (by norm_num)⟩

theorem StateOK.congr {i f : ℕ → ℝ} {k v : ℕ → Fin 256 → ℝ} {p p' : ℕ} {C C' : Fin 256 → Fin 256 → EReal}
    {n n' : Fin 256 → EReal} {mo mo' : EReal} (h : StateOK i f k v p' C' n' mo') (hp : p = p')
    (hC : ∀ c d, C c d = C' c d) (hn : ∀ c, n c = n' c) (hm : mo = mo') : StateOK i f k v p C n mo := by
  have e1 : C = C' := funext fun c => funext fun d => hC c d
  have e2 : n = n' := funext hn
  rw [hp, e1, e2, hm]
  exact h
end Cert.Head
-- ==== Proof.Pre.lean ====
module

public import proofs.«01_k».proof.Pre_finite
public import proofs.«01_k».proof.Proof.Math.Seq
public import Idealize.ShloMosaic.Lib.ReduceAll

@[expose] public section

/-! The precondition read back: where the predicate is one, every element of the first three arguments is a real. -/

set_option maxRecDepth 16384

noncomputable section

namespace Cert.Head

open Idealize.ShloMosaic

/-- The side conditions of the predicate's operations. -/
theorem preFacts : Cert.Pre_finite.Facts where
  bcast_S_S2x8192x6152 := by decide +kernel
  reducesTo_S2x8192x6152_S_d0_1_2 := by decide +kernel
  h_S_ := by decide +kernel
  bcast_S_S4 := by decide +kernel
  reducesTo_S4_S_d0 := by decide +kernel

instance : Subsingleton Cert.Pre_finite.S_.Idx := ⟨fun a b => funext fun i => i.elim0⟩

/-- A value whose absolute value lies strictly below positive infinity is the cast of its real part. -/
theorem real_of_abs_lt {x : EReal} (h : max x (-x) < ⊤) : x = ((x.toReal : ℝ) : EReal) := by
  refine (EReal.coe_toReal ?_ ?_).symm
  · rintro rfl; simp at h
  · rintro rfl; simp at h

/-- The predicate's comparison read back at one element. -/
theorem real_of_cmp {x : EReal} (h : Ideal.cmp .olt (max x (-x)) (Ideal.ofBits .f32 0x7F800000#32) = 1#1) :
    x = ((x.toReal : ℝ) : EReal) := by
  have e : Ideal.ofBits .f32 0x7F800000#32 = ⊤ := by simp [Ideal.ofBits, Ideal.ieee]
  rw [e] at h
  refine real_of_abs_lt ?_
  by_contra hn
  have h' : (decide (max x (-x) < (⊤ : EReal))) = true := by
    have := congrArg (fun b : BitVec 1 => b.getLsbD 0) h
    simpa [Ideal.cmp] using this
  exact hn (of_decide_eq_true h')

section
variable [Cert.Pre_finite.Facts]
open Cert.Pre_finite

/-- Where the predicate is one, the first three arguments are real. -/
theorem fine_of_pre (A : FVec Ideal SA .f32) (a b : FVec Ideal SB .f32) (an : FVec Ideal SN .f32)
    (h : Cert.Pre_finite.fn (F := Ideal) A a b an = fun _ => 1#1) : Fine A ∧ Fine a ∧ Fine b := by
  have h0 := congrFun h (fun i => i.elim0)
  dsimp only [Cert.Pre_finite.fn] at h0
  obtain ⟨h2, hb⟩ := IntOp.andi_eq_one.1 h0
  obtain ⟨hA, ha⟩ := IntOp.andi_eq_one.1 h2
  refine ⟨fun j => ?_, fun j => ?_, fun j => ?_⟩
  · exact real_of_cmp (Host.reduce_andi_all _ _ _ _ _ hA j)
  · exact real_of_cmp (Host.reduce_andi_all _ _ _ _ _ ha j)
  · exact real_of_cmp (Host.reduce_andi_all _ _ _ _ _ hb j)
end

end Cert.Head

end
-- ==== Proof.Ker.Slices.lean ====
module

public import proofs.«01_k».proof.Proof.Ker.HeadReal

/-! The parts of a block that one head reads. -/

@[expose] public section
set_option maxRecDepth 16384
noncomputable section
namespace Cert.Head
open Idealize.ShloMosaic Idealize.ShloMosaic.TcCoe Idealize.SL.Sem
open Cert.KernelIdeal Cert.KernelIdeal.Gen

def ldC0 (X : Vec Ideal S4x256x256 .f32) : Vec Ideal S1x256x256 .f32 :=
  View.ld X (Rect.unit (s := S4x256x256) ![0, 0, 0] S1x256x256.size inb_S4x256x256_S1x256x256_0_0_0)

def ldN0 (X : Vec Ideal S4x1x256 .f32) : Vec Ideal S1x1x256 .f32 :=
  View.ld X (Rect.unit (s := S4x1x256) ![0, 0, 0] S1x1x256.size inb_S4x1x256_S1x1x256_0_0_0)

def ldM0 (X : Vec Ideal S4x1x128 .f32) : Vec Ideal S1x1x128 .f32 :=
  View.ld X (Rect.unit (s := S4x1x128) ![0, 0, 0] S1x1x128.size inb_S4x1x128_S1x1x128_0_0_0)

def ldQ0 (X : Vec Ideal S256x1024 .bf16) : Vec Ideal S256x256 .bf16 :=
  View.ld X (Rect.unit (s := S256x1024) ![0, 0] S256x256.size inb_S256x1024_S256x256_0_0)

def rowI0 (X : FVec Ideal S8x256 .f32) : FVec Ideal S1x256 .f32 :=
  extractStridedSlice S1x256 ![0, 0] X slices_S8x256_o0_0_S1x256

def rowF0 (X : FVec Ideal S8x256 .f32) : FVec Ideal S1x256 .f32 :=
  extractStridedSlice S1x256 ![4, 0] X slices_S8x256_o4_0_S1x256

def colI0 (X : FVec Ideal S256x128 .f32) : FVec Ideal S256x1 .f32 :=
  extractStridedSlice S256x1 ![0, 0] X slices_S256x128_o0_0_S256x1

def colF0 (X : FVec Ideal S256x128 .f32) : FVec Ideal S256x1 .f32 :=
  extractStridedSlice S256x1 ![0, 4] X slices_S256x128_o0_4_S256x1

theorem ldC0_at (X : Vec Ideal S4x256x256 .f32) (c d : Fin 256) :
    ldC0 X (ix3 0 c d) = X (ix3 0 c d) := by
  pointwise [ldC0]

theorem ldN0_at (X : Vec Ideal S4x1x256 .f32) (d : Fin 256) :
    ldN0 X (ix3 0 0 d) = X (ix3 0 0 d) := by
  pointwise [ldN0]

theorem ldM0_at (X : Vec Ideal S4x1x128 .f32) (d : Fin 128) :
    ldM0 X (ix3 0 0 d) = X (ix3 0 0 d) := by
  pointwise [ldM0]

theorem ldQ0_at (X : Vec Ideal S256x1024 .bf16) (t d : Fin 256) :
    ldQ0 X (ix2 t d) = X (ix2 t ⟨0 + d.val, by omega⟩) := by
  pointwise [ldQ0]

theorem rowI0_at (X : FVec Ideal S8x256 .f32) (d : Fin 256) : rowI0 X (ix2 0 d) = X (ix2 0 d) := by
  pointwise [rowI0]

theorem rowF0_at (X : FVec Ideal S8x256 .f32) (d : Fin 256) : rowF0 X (ix2 0 d) = X (ix2 4 d) := by
  pointwise [rowF0]

theorem colI0_at (X : FVec Ideal S256x128 .f32) (d : Fin 256) : colI0 X (ix2 d 0) = X (ix2 d 0) := by
  pointwise [colI0]

theorem colF0_at (X : FVec Ideal S256x128 .f32) (d : Fin 256) : colF0 X (ix2 d 0) = X (ix2 d 4) := by
  pointwise [colF0]

def ldC1 (X : Vec Ideal S4x256x256 .f32) : Vec Ideal S1x256x256 .f32 :=
  View.ld X (Rect.unit (s := S4x256x256) ![1, 0, 0] S1x256x256.size inb_S4x256x256_S1x256x256_1_0_0)

def ldN1 (X : Vec Ideal S4x1x256 .f32) : Vec Ideal S1x1x256 .f32 :=
  View.ld X (Rect.unit (s := S4x1x256) ![1, 0, 0] S1x1x256.size inb_S4x1x256_S1x1x256_1_0_0)

def ldM1 (X : Vec Ideal S4x1x128 .f32) : Vec Ideal S1x1x128 .f32 :=
  View.ld X (Rect.unit (s := S4x1x128) ![1, 0, 0] S1x1x128.size inb_S4x1x128_S1x1x128_1_0_0)

def ldQ1 (X : Vec Ideal S256x1024 .bf16) : Vec Ideal S256x256 .bf16 :=
  View.ld X (Rect.unit (s := S256x1024) ![0, 256] S256x256.size inb_S256x1024_S256x256_0_256)

def rowI1 (X : FVec Ideal S8x256 .f32) : FVec Ideal S1x256 .f32 :=
  extractStridedSlice S1x256 ![1, 0] X slices_S8x256_o1_0_S1x256

def rowF1 (X : FVec Ideal S8x256 .f32) : FVec Ideal S1x256 .f32 :=
  extractStridedSlice S1x256 ![5, 0] X slices_S8x256_o5_0_S1x256

def colI1 (X : FVec Ideal S256x128 .f32) : FVec Ideal S256x1 .f32 :=
  extractStridedSlice S256x1 ![0, 1] X slices_S256x128_o0_1_S256x1

def colF1 (X : FVec Ideal S256x128 .f32) : FVec Ideal S256x1 .f32 :=
  extractStridedSlice S256x1 ![0, 5] X slices_S256x128_o0_5_S256x1

theorem ldC1_at (X : Vec Ideal S4x256x256 .f32) (c d : Fin 256) :
    ldC1 X (ix3 0 c d) = X (ix3 1 c d) := by
  pointwise [ldC1]

theorem ldN1_at (X : Vec Ideal S4x1x256 .f32) (d : Fin 256) :
    ldN1 X (ix3 0 0 d) = X (ix3 1 0 d) := by
  pointwise [ldN1]

theorem ldM1_at (X : Vec Ideal S4x1x128 .f32) (d : Fin 128) :
    ldM1 X (ix3 0 0 d) = X (ix3 1 0 d) := by
  pointwise [ldM1]

theorem ldQ1_at (X : Vec Ideal S256x1024 .bf16) (t d : Fin 256) :
    ldQ1 X (ix2 t d) = X (ix2 t ⟨256 + d.val, by omega⟩) := by
  pointwise [ldQ1]

theorem rowI1_at (X : FVec Ideal S8x256 .f32) (d : Fin 256) : rowI1 X (ix2 0 d) = X (ix2 1 d) := by
  pointwise [rowI1]

theorem rowF1_at (X : FVec Ideal S8x256 .f32) (d : Fin 256) : rowF1 X (ix2 0 d) = X (ix2 5 d) := by
  pointwise [rowF1]

theorem colI1_at (X : FVec Ideal S256x128 .f32) (d : Fin 256) : colI1 X (ix2 d 0) = X (ix2 d 1) := by
  pointwise [colI1]

theorem colF1_at (X : FVec Ideal S256x128 .f32) (d : Fin 256) : colF1 X (ix2 d 0) = X (ix2 d 5) := by
  pointwise [colF1]

def ldC2 (X : Vec Ideal S4x256x256 .f32) : Vec Ideal S1x256x256 .f32 :=
  View.ld X (Rect.unit (s := S4x256x256) ![2, 0, 0] S1x256x256.size inb_S4x256x256_S1x256x256_2_0_0)

def ldN2 (X : Vec Ideal S4x1x256 .f32) : Vec Ideal S1x1x256 .f32 :=
  View.ld X (Rect.unit (s := S4x1x256) ![2, 0, 0] S1x1x256.size inb_S4x1x256_S1x1x256_2_0_0)

def ldM2 (X : Vec Ideal S4x1x128 .f32) : Vec Ideal S1x1x128 .f32 :=
  View.ld X (Rect.unit (s := S4x1x128) ![2, 0, 0] S1x1x128.size inb_S4x1x128_S1x1x128_2_0_0)

def ldQ2 (X : Vec Ideal S256x1024 .bf16) : Vec Ideal S256x256 .bf16 :=
  View.ld X (Rect.unit (s := S256x1024) ![0, 512] S256x256.size inb_S256x1024_S256x256_0_512)

def rowI2 (X : FVec Ideal S8x256 .f32) : FVec Ideal S1x256 .f32 :=
  extractStridedSlice S1x256 ![2, 0] X slices_S8x256_o2_0_S1x256

def rowF2 (X : FVec Ideal S8x256 .f32) : FVec Ideal S1x256 .f32 :=
  extractStridedSlice S1x256 ![6, 0] X slices_S8x256_o6_0_S1x256

def colI2 (X : FVec Ideal S256x128 .f32) : FVec Ideal S256x1 .f32 :=
  extractStridedSlice S256x1 ![0, 2] X slices_S256x128_o0_2_S256x1

def colF2 (X : FVec Ideal S256x128 .f32) : FVec Ideal S256x1 .f32 :=
  extractStridedSlice S256x1 ![0, 6] X slices_S256x128_o0_6_S256x1

theorem ldC2_at (X : Vec Ideal S4x256x256 .f32) (c d : Fin 256) :
    ldC2 X (ix3 0 c d) = X (ix3 2 c d) := by
  pointwise [ldC2]

theorem ldN2_at (X : Vec Ideal S4x1x256 .f32) (d : Fin 256) :
    ldN2 X (ix3 0 0 d) = X (ix3 2 0 d) := by
  pointwise [ldN2]

theorem ldM2_at (X : Vec Ideal S4x1x128 .f32) (d : Fin 128) :
    ldM2 X (ix3 0 0 d) = X (ix3 2 0 d) := by
  pointwise [ldM2]

theorem ldQ2_at (X : Vec Ideal S256x1024 .bf16) (t d : Fin 256) :
    ldQ2 X (ix2 t d) = X (ix2 t ⟨512 + d.val, by omega⟩) := by
  pointwise [ldQ2]

theorem rowI2_at (X : FVec Ideal S8x256 .f32) (d : Fin 256) : rowI2 X (ix2 0 d) = X (ix2 2 d) := by
  pointwise [rowI2]

theorem rowF2_at (X : FVec Ideal S8x256 .f32) (d : Fin 256) : rowF2 X (ix2 0 d) = X (ix2 6 d) := by
  pointwise [rowF2]

theorem colI2_at (X : FVec Ideal S256x128 .f32) (d : Fin 256) : colI2 X (ix2 d 0) = X (ix2 d 2) := by
  pointwise [colI2]

theorem colF2_at (X : FVec Ideal S256x128 .f32) (d : Fin 256) : colF2 X (ix2 d 0) = X (ix2 d 6) := by
  pointwise [colF2]

def ldC3 (X : Vec Ideal S4x256x256 .f32) : Vec Ideal S1x256x256 .f32 :=
  View.ld X (Rect.unit (s := S4x256x256) ![3, 0, 0] S1x256x256.size inb_S4x256x256_S1x256x256_3_0_0)

def ldN3 (X : Vec Ideal S4x1x256 .f32) : Vec Ideal S1x1x256 .f32 :=
  View.ld X (Rect.unit (s := S4x1x256) ![3, 0, 0] S1x1x256.size inb_S4x1x256_S1x1x256_3_0_0)

def ldM3 (X : Vec Ideal S4x1x128 .f32) : Vec Ideal S1x1x128 .f32 :=
  View.ld X (Rect.unit (s := S4x1x128) ![3, 0, 0] S1x1x128.size inb_S4x1x128_S1x1x128_3_0_0)

def ldQ3 (X : Vec Ideal S256x1024 .bf16) : Vec Ideal S256x256 .bf16 :=
  View.ld X (Rect.unit (s := S256x1024) ![0, 768] S256x256.size inb_S256x1024_S256x256_0_768)

def rowI3 (X : FVec Ideal S8x256 .f32) : FVec Ideal S1x256 .f32 :=
  extractStridedSlice S1x256 ![3, 0] X slices_S8x256_o3_0_S1x256

def rowF3 (X : FVec Ideal S8x256 .f32) : FVec Ideal S1x256 .f32 :=
  extractStridedSlice S1x256 ![7, 0] X slices_S8x256_o7_0_S1x256

def colI3 (X : FVec Ideal S256x128 .f32) : FVec Ideal S256x1 .f32 :=
  extractStridedSlice S256x1 ![0, 3] X slices_S256x128_o0_3_S256x1

def colF3 (X : FVec Ideal S256x128 .f32) : FVec Ideal S256x1 .f32 :=
  extractStridedSlice S256x1 ![0, 7] X slices_S256x128_o0_7_S256x1

theorem ldC3_at (X : Vec Ideal S4x256x256 .f32) (c d : Fin 256) :
    ldC3 X (ix3 0 c d) = X (ix3 3 c d) := by
  pointwise [ldC3]

theorem ldN3_at (X : Vec Ideal S4x1x256 .f32) (d : Fin 256) :
    ldN3 X (ix3 0 0 d) = X (ix3 3 0 d) := by
  pointwise [ldN3]

theorem ldM3_at (X : Vec Ideal S4x1x128 .f32) (d : Fin 128) :
    ldM3 X (ix3 0 0 d) = X (ix3 3 0 d) := by
  pointwise [ldM3]

theorem ldQ3_at (X : Vec Ideal S256x1024 .bf16) (t d : Fin 256) :
    ldQ3 X (ix2 t d) = X (ix2 t ⟨768 + d.val, by omega⟩) := by
  pointwise [ldQ3]

theorem rowI3_at (X : FVec Ideal S8x256 .f32) (d : Fin 256) : rowI3 X (ix2 0 d) = X (ix2 3 d) := by
  pointwise [rowI3]

theorem rowF3_at (X : FVec Ideal S8x256 .f32) (d : Fin 256) : rowF3 X (ix2 0 d) = X (ix2 7 d) := by
  pointwise [rowF3]

theorem colI3_at (X : FVec Ideal S256x128 .f32) (d : Fin 256) : colI3 X (ix2 d 0) = X (ix2 d 3) := by
  pointwise [colI3]

theorem colF3_at (X : FVec Ideal S256x128 .f32) (d : Fin 256) : colF3 X (ix2 d 0) = X (ix2 d 7) := by
  pointwise [colF3]

def ldA0 (X : Vec Ideal S4x256 .f32) : Vec Ideal S1x256 .f32 :=
  View.ld X (Rect.unit (s := S4x256) ![0, 0] S1x256.size inb_S4x256_S1x256_0_0)

theorem ldA0_at (X : Vec Ideal S4x256 .f32) (d : Fin 256) :
    ldA0 X (ix2 0 d) = X (ix2 0 d) := by
  pointwise [ldA0]

def ldA1 (X : Vec Ideal S4x256 .f32) : Vec Ideal S1x256 .f32 :=
  View.ld X (Rect.unit (s := S4x256) ![1, 0] S1x256.size inb_S4x256_S1x256_1_0)

theorem ldA1_at (X : Vec Ideal S4x256 .f32) (d : Fin 256) :
    ldA1 X (ix2 0 d) = X (ix2 1 d) := by
  pointwise [ldA1]

def ldA2 (X : Vec Ideal S4x256 .f32) : Vec Ideal S1x256 .f32 :=
  View.ld X (Rect.unit (s := S4x256) ![2, 0] S1x256.size inb_S4x256_S1x256_2_0)

theorem ldA2_at (X : Vec Ideal S4x256 .f32) (d : Fin 256) :
    ldA2 X (ix2 0 d) = X (ix2 2 d) := by
  pointwise [ldA2]

def ldA3 (X : Vec Ideal S4x256 .f32) : Vec Ideal S1x256 .f32 :=
  View.ld X (Rect.unit (s := S4x256) ![3, 0] S1x256.size inb_S4x256_S1x256_3_0)

theorem ldA3_at (X : Vec Ideal S4x256 .f32) (d : Fin 256) :
    ldA3 X (ix2 0 d) = X (ix2 3 d) := by
  pointwise [ldA3]

end Cert.Head
-- ==== Proof.Ker.Inputs.lean ====
module

public import proofs.«01_k».proof.Proof.Ker.Slices
public import Idealize.ShloMosaic.Lib.Routing.OpsSet
public import Idealize.ShloMosaic.Lib.Routing.OpsOne

/-! The blocks the kernel reads, as entries of the arguments. -/

@[expose] public section
set_option maxRecDepth 16384
noncomputable section
namespace Cert.Head
open Idealize.ShloMosaic Idealize.ShloMosaic.TcCoe Idealize.SL.Sem
open Cert.KernelIdeal Cert.KernelIdeal.Gen
variable (m : (ℓ : Loc nD τ sig) → Buf (Elt Ideal) ℓ)

theorem idx : ∀ t : Fin cfg0.N, (win0_0.index t = ![t.val, 0] ∧ win0_1.index t = ![t.val, 1]
    ∧ win0_2.index t = ![t.val, 2] ∧ win0_3.index t = ![t.val, 3])
    ∧ (win0_4.index t = ![t.val / 32, 0, t.val % 32] ∧ win0_5.index t = ![t.val, 0])
    ∧ (win0_6.index t = ![0, 0] ∧ win0_7.index t = ![0, 0]
    ∧ win0_8.index t = ![0, 0] ∧ win0_9.index t = ![t.val, 0]) :=
  (by decide +kernel : ∀ t : Fin grid0.N, _)

theorem lt64 (t : Fin cfg0.N) : t.val < 64 := lt_of_lt_of_eq t.isLt N_0

/-- An entry of the projection. -/
def ent (A : FVec Ideal S2x8192x6152 .f32) (a : Fin 2) (b : Fin 8192) (c : Fin 6152) : EReal := A (ix3 a b c)

theorem rows_hit : ∀ k : Fin 8, scatter_S1x128_S2_S8_0_0_01_0.resultIdx? (ix1 k) (fun _ => 0#32)
    = some (ix2 0 ⟨k.val, by omega⟩) := by
  decide

theorem blk4 (c : Dev nD) (t : Fin cfg0.N) (x : Fin 8) (y : Fin 256) :
    (iblk m c 4 t : Vec Ideal S1x8x256 .f32) (ix3 0 x y)
      = (m (c, Proc.tc.devRef main_arg0) : FVec Ideal S2x8192x6152 .f32)
        (ix3 ⟨t.val / 32, by have := lt64 t; omega⟩ ⟨256 * (t.val % 32) + y.val, by omega⟩ ⟨4096 + x.val, by omega⟩) := by
  have := lt64 t
  blk_simp [iblk, idx t]
  entry_read
  pointwise []
  blk_point [idx t]

theorem blk0 (c : Dev nD) (t : Fin cfg0.N) (x : Fin 256) (y : Fin 1024) :
    (iblk m c 0 t : Vec Ideal S256x1024 .bf16) (ix2 x y)
      = (m (c, Proc.tc.devRef main_arg0) : FVec Ideal S2x8192x6152 .f32)
        (ix3 ⟨t.val / 32, by have := lt64 t; omega⟩ ⟨256 * (t.val % 32) + x.val, by omega⟩
          ⟨0 + y.val, by omega⟩) := by
  have := lt64 t
  have e : (((View.whole main_v4).slice (win0_0.rect t)).emb (ix2 x y) 1).val = 0 + y.val := by
    blk_point [idx t]
  blk_simp [iblk, idx t]
  entry_read
  pointwise []
  rw [dif_pos (by omega)]
  blk_point [idx t]

theorem blk1 (c : Dev nD) (t : Fin cfg0.N) (x : Fin 256) (y : Fin 1024) :
    (iblk m c 1 t : Vec Ideal S256x1024 .bf16) (ix2 x y)
      = (m (c, Proc.tc.devRef main_arg0) : FVec Ideal S2x8192x6152 .f32)
        (ix3 ⟨t.val / 32, by have := lt64 t; omega⟩ ⟨256 * (t.val % 32) + x.val, by omega⟩
          ⟨1024 + y.val, by omega⟩) := by
  have := lt64 t
  have e : (((View.whole main_v4).slice (win0_1.rect t)).emb (ix2 x y) 1).val = 1024 + y.val := by
    blk_point [idx t]
  blk_simp [iblk, idx t]
  entry_read
  pointwise []
  rw [dif_pos (by omega)]
  blk_point [idx t]

theorem blk2 (c : Dev nD) (t : Fin cfg0.N) (x : Fin 256) (y : Fin 1024) :
    (iblk m c 2 t : Vec Ideal S256x1024 .bf16) (ix2 x y)
      = (m (c, Proc.tc.devRef main_arg0) : FVec Ideal S2x8192x6152 .f32)
        (ix3 ⟨t.val / 32, by have := lt64 t; omega⟩ ⟨256 * (t.val % 32) + x.val, by omega⟩
          ⟨2048 + y.val, by omega⟩) := by
  have := lt64 t
  have e : (((View.whole main_v4).slice (win0_2.rect t)).emb (ix2 x y) 1).val = 2048 + y.val := by
    blk_point [idx t]
  blk_simp [iblk, idx t]
  entry_read
  pointwise []
  rw [dif_pos (by omega)]
  blk_point [idx t]

theorem blk3 (c : Dev nD) (t : Fin cfg0.N) (x : Fin 256) (y : Fin 1024) :
    (iblk m c 3 t : Vec Ideal S256x1024 .bf16) (ix2 x y)
      = (m (c, Proc.tc.devRef main_arg0) : FVec Ideal S2x8192x6152 .f32)
        (ix3 ⟨t.val / 32, by have := lt64 t; omega⟩ ⟨256 * (t.val % 32) + x.val, by omega⟩
          ⟨3072 + y.val, by omega⟩) := by
  have := lt64 t
  have e : (((View.whole main_v4).slice (win0_3.rect t)).emb (ix2 x y) 1).val = 3072 + y.val := by
    blk_point [idx t]
  blk_simp [iblk, idx t]
  entry_read
  pointwise []
  rw [dif_pos (by omega)]
  blk_point [idx t]

theorem blk5 (c : Dev nD) (t : Fin cfg0.N) (x : Fin 256) (y : Fin 8) :
    (iblk m c 5 t : Vec Ideal S256x128 .f32) (ix2 x ⟨y.val, by omega⟩)
      = (m (c, Proc.tc.devRef main_arg0) : FVec Ideal S2x8192x6152 .f32)
        (ix3 ⟨t.val / 32, by have := lt64 t; omega⟩ ⟨256 * (t.val % 32) + x.val, by omega⟩ ⟨4096 + y.val, by omega⟩) := by
  have := lt64 t
  have e : (((View.whole main_v7).slice (win0_5.rect t)).emb (ix2 x ⟨y.val, by omega⟩) 1).val = y.val := by
    blk_point [idx t]
  blk_simp [iblk, idx t]
  entry_read
  pointwise []
  rw [dif_pos (by omega)]
  blk_point [idx t]

/-- The two bias vectors one after the other. -/
def bias (a b : FVec Ideal S4 .f32) (k : Fin 8) : EReal :=
  if h : k.val < 4 then a (ix1 ⟨k.val, h⟩) else b (ix1 ⟨k.val - 4, by omega⟩)

theorem blk6 (c : Dev nD) (t : Fin cfg0.N) (x : Fin 8) :
    (iblk m c 6 t : Vec Ideal S8x1 .f32) (ix2 x 0)
      = bias (m (c, Proc.tc.devRef main_arg1)) (m (c, Proc.tc.devRef main_arg2)) x := by
  have := lt64 t
  have e : (((View.whole main_v9).slice (win0_6.rect t)).emb (ix2 x 0) 0).val = x.val := by
    blk_point [idx t]
  blk_simp [iblk, idx t]
  entry_read
  pointwise []
  simp only [e, bias]

theorem blk7 (c : Dev nD) (t : Fin cfg0.N) (x : Fin 8) :
    (iblk m c 7 t : Vec Ideal S1x128 .f32) (ix2 0 ⟨x.val, by omega⟩)
      = bias (m (c, Proc.tc.devRef main_arg1)) (m (c, Proc.tc.devRef main_arg2)) x := by
  have := lt64 t
  have e : ((View.whole main_v14).slice (win0_7.rect t)).emb (ix2 0 ⟨x.val, by omega⟩)
      = (ix2 0 ⟨x.val, by omega⟩ : S1x128.Idx) := by
    blk_ext
    all_goals blk_point [idx t]
  have ez : (concatenate S2 0
        [⟨S1, broadcastInDim S1 ![] bcast_S_S1 (constantI S_ 32 0#32)⟩,
          ⟨S1, broadcastInDim S1 ![] bcast_S_S1 (constantI S_ 32 0#32)⟩]
        concatenates_S1_S1_S2_d0) = fun _ => 0#32 := by
    funext j
    idx_vars j
    pointwise []
    split <;> rfl
  blk_simp [iblk, idx t]
  entry_read
  pointwise []
  rw [e, ez]
  refine Routing.scatter_set_hit _ _ _ _ _ _ (fun k hk => ?_) (ix1 x) (rows_hit x)
  idx_vars k
  rw [rows_hit] at hk
  have hk' := congrArg (fun j : S1x128.Idx => (j 1).val) (Option.some.inj hk)
  have hx : k0 = x := Fin.ext hk'
  subst hx
  pointwise []
  rfl

theorem blk8 (c : Dev nD) (t : Fin cfg0.N) (x : Fin 4) (y : Fin 256) :
    (iblk m c 8 t : Vec Ideal S4x256 .f32) (ix2 x y)
      = (m (c, Proc.tc.devRef main_arg3) : FVec Ideal S4x256 .f32) (ix2 x y) := by
  have := lt64 t
  blk_simp [iblk, idx t]
  first | blk_point [idx t] | (entry_read; pointwise []; blk_point [idx t])

/-- The gates of head-row `x` at the rows of block `t`. -/
theorem gRow_at (c : Dev nD) (t : Fin cfg0.N) (x : Fin 8) (y : Fin 256) :
    k0_pay9 (iblk m c 4 t) (iblk m c 6 t) (ix2 x y)
      = ent (m (c, Proc.tc.devRef main_arg0)) ⟨t.val / 32, by have := lt64 t; omega⟩ ⟨256 * (t.val % 32) + y.val, by omega⟩ ⟨4096 + x.val, by omega⟩
        + bias (m (c, Proc.tc.devRef main_arg1)) (m (c, Proc.tc.devRef main_arg2)) x := by
  rw [ent, ← blk4 m c t x y, ← blk6 m c t x]
  generalize (iblk m c 4 t : Vec Ideal S1x8x256 .f32) = a
  generalize (iblk m c 6 t : Vec Ideal S8x1 .f32) = b
  pointwise [k0_pay9]

theorem gCol_at (c : Dev nD) (t : Fin cfg0.N) (x : Fin 8) (y : Fin 256) :
    k0_pay10 (iblk m c 5 t) (iblk m c 7 t) (ix2 y ⟨x.val, by omega⟩)
      = ent (m (c, Proc.tc.devRef main_arg0)) ⟨t.val / 32, by have := lt64 t; omega⟩ ⟨256 * (t.val % 32) + y.val, by omega⟩ ⟨4096 + x.val, by omega⟩
        + bias (m (c, Proc.tc.devRef main_arg1)) (m (c, Proc.tc.devRef main_arg2)) x := by
  rw [ent, ← blk5 m c t y x, ← blk7 m c t x]
  generalize (iblk m c 5 t : Vec Ideal S256x128 .f32) = a
  generalize (iblk m c 7 t : Vec Ideal S1x128 .f32) = b
  pointwise [k0_pay10]
end Cert.Head
-- ==== Proof.Ker.Block.lean ====
module

public import proofs.«01_k».proof.Proof.Ker.HeadReal
public import proofs.«01_k».proof.Proof.Ker.Slices
public import Idealize.ShloMosaic.Lib.Pipeline.ReadBack

/-! One block of the kernel: what each head stores, in the operations of one head. -/

@[expose] public section
set_option maxRecDepth 16384
noncomputable section
namespace Cert.Head
open Idealize.ShloMosaic Idealize.ShloMosaic.TcCoe Idealize.SL.Sem
open Cert.KernelIdeal Cert.KernelIdeal.Gen

variable (m : (ℓ : Loc nD τ sig) → Buf (Elt Ideal) ℓ)

/-- The gates' rows and columns of a block, with the bias. -/
def gRow (c : Dev nD) (t : Fin cfg0.N) : FVec Ideal S8x256 .f32 := k0_pay9 (iblk m c 4 t) (iblk m c 6 t)
def gCol (c : Dev nD) (t : Fin cfg0.N) : FVec Ideal S256x128 .f32 := k0_pay10 (iblk m c 5 t) (iblk m c 7 t)

theorem eq_ix1 {a b : ℕ} {z : (⟨3, ![1, a, b]⟩ : Shape).Idx} {x : Fin a} {y : Fin b} (h1 : x.val = (z 1).val)
    (h2 : y.val = (z 2).val) : z = ix3 0 x y := by
  funext i
  apply Fin.ext
  match i with
  | 0 => have := (z 0).isLt; simp at this ⊢
  | 1 => exact h1.symm
  | 2 => exact h2.symm

theorem eq_ix2 {a b : ℕ} {z : (⟨2, ![a, b]⟩ : Shape).Idx} {x : Fin a} {y : Fin b} (h1 : x.val = (z 0).val)
    (h2 : y.val = (z 1).val) : z = ix2 x y := by
  funext i
  apply Fin.ext
  match i with
  | 0 => exact h1.symm
  | 1 => exact h2.symm

theorem canon_hit {Val : EltTy → Type} {S : Shape} {e : EltTy} [∀ e, Nonempty (Val e)]
    (off size : Fin S.rank → Nat) (inb) (w : (Rect.unit (s := S) off size inb).shape.Idx → Val e)
    (L : List (View.Piece Val S e)) (y : S.Idx) (x : (Rect.unit (s := S) off size inb).shape.Idx)
    (h : ∀ a, (y a).val = off a + (x a).val) :
    View.canon (⟨Rect.unit off size inb, w⟩ :: L) y = w x := by
  have : y = (Rect.unit (s := S) off size inb).emb x := by
    funext a
    apply Fin.ext
    rw [ValueKit.rect_emb_unit_val, h]
  rw [this, View.canon_cons_emb]

theorem canon_miss {Val : EltTy → Type} {S : Shape} {e : EltTy} [∀ e, Nonempty (Val e)]
    (off size : Fin S.rank → Nat) (inb) (w : (Rect.unit (s := S) off size inb).shape.Idx → Val e)
    (L : List (View.Piece Val S e)) (y : S.Idx) (a : Fin S.rank) (h : (y a).val < off a) :
    View.canon (⟨Rect.unit off size inb, w⟩ :: L) y = View.canon L y := by
  refine View.canon_cons_of_not_mem _ _ fun hm => ?_
  have hm' : y ∈ (Rect.unit (s := S) off size inb).set := hm
  have := (Rect.mem_set_unit.mp hm' a).1
  omega

theorem stC0_A (c : Dev nD) (t : Fin cfg0.N) (ht : t.val % 32 = 0) (x y : Fin 256) :
    (outsAt0 m c t.val t.isLt).2.1 (ix3 0 x y)
      = hC (rowI0 (gRow m c t)) (rowF0 (gRow m c t)) (colI0 (gCol m c t)) (colF0 (gCol m c t))
          (ldM0 (k0_pay6 (F := Ideal))) (ldQ0 (iblk m c 1 t)) (ldQ0 (iblk m c 2 t)) (ldC0 (k0_pay4 (F := Ideal))) (ix3 0 x y) := by
  rw [outsAt0_A m c t ht]
  frame_out
  simp (decide := true) only [↓View.readCov_skip, ↓View.readCov_fill]
  refine (canon_miss _ _ _ _ _ _ 0 (by show 0 < 3; norm_num)).trans ?_
  refine (canon_miss _ _ _ _ _ _ 0 (by show 0 < 2; norm_num)).trans ?_
  refine (canon_miss _ _ _ _ _ _ 0 (by show 0 < 1; norm_num)).trans ?_
  refine (canon_hit _ _ _ _ _ _ (ix3 0 x y) (by intro a; fin_cases a <;> simp)).trans ?_
  rfl

theorem stC1_A (c : Dev nD) (t : Fin cfg0.N) (ht : t.val % 32 = 0) (x y : Fin 256) :
    (outsAt0 m c t.val t.isLt).2.1 (ix3 1 x y)
      = hC (rowI1 (gRow m c t)) (rowF1 (gRow m c t)) (colI1 (gCol m c t)) (colF1 (gCol m c t))
          (ldM1 (k0_pay6 (F := Ideal))) (ldQ1 (iblk m c 1 t)) (ldQ1 (iblk m c 2 t)) (ldC1 (k0_pay4 (F := Ideal))) (ix3 0 x y) := by
  rw [outsAt0_A m c t ht]
  frame_out
  simp (decide := true) only [↓View.readCov_skip, ↓View.readCov_fill]
  refine (canon_miss _ _ _ _ _ _ 0 (by show 1 < 3; norm_num)).trans ?_
  refine (canon_miss _ _ _ _ _ _ 0 (by show 1 < 2; norm_num)).trans ?_
  refine (canon_hit _ _ _ _ _ _ (ix3 0 x y) (by intro a; fin_cases a <;> simp)).trans ?_
  rfl

theorem stC2_A (c : Dev nD) (t : Fin cfg0.N) (ht : t.val % 32 = 0) (x y : Fin 256) :
    (outsAt0 m c t.val t.isLt).2.1 (ix3 2 x y)
      = hC (rowI2 (gRow m c t)) (rowF2 (gRow m c t)) (colI2 (gCol m c t)) (colF2 (gCol m c t))
          (ldM2 (k0_pay6 (F := Ideal))) (ldQ2 (iblk m c 1 t)) (ldQ2 (iblk m c 2 t)) (ldC2 (k0_pay4 (F := Ideal))) (ix3 0 x y) := by
  rw [outsAt0_A m c t ht]
  frame_out
  simp (decide := true) only [↓View.readCov_skip, ↓View.readCov_fill]
  refine (canon_miss _ _ _ _ _ _ 0 (by show 2 < 3; norm_num)).trans ?_
  refine (canon_hit _ _ _ _ _ _ (ix3 0 x y) (by intro a; fin_cases a <;> simp)).trans ?_
  rfl

theorem stC3_A (c : Dev nD) (t : Fin cfg0.N) (ht : t.val % 32 = 0) (x y : Fin 256) :
    (outsAt0 m c t.val t.isLt).2.1 (ix3 3 x y)
      = hC (rowI3 (gRow m c t)) (rowF3 (gRow m c t)) (colI3 (gCol m c t)) (colF3 (gCol m c t))
          (ldM3 (k0_pay6 (F := Ideal))) (ldQ3 (iblk m c 1 t)) (ldQ3 (iblk m c 2 t)) (ldC3 (k0_pay4 (F := Ideal))) (ix3 0 x y) := by
  rw [outsAt0_A m c t ht]
  frame_out
  simp (decide := true) only [↓View.readCov_skip, ↓View.readCov_fill]
  refine (canon_hit _ _ _ _ _ _ (ix3 0 x y) (by intro a; fin_cases a <;> simp)).trans ?_
  rfl

theorem stN0_A (c : Dev nD) (t : Fin cfg0.N) (ht : t.val % 32 = 0) (y : Fin 256) :
    (outsAt0 m c t.val t.isLt).2.2.1 (ix3 0 0 y)
      = hN (rowI0 (gRow m c t)) (rowF0 (gRow m c t)) (colI0 (gCol m c t)) (colF0 (gCol m c t))
          (ldM0 (k0_pay6 (F := Ideal))) (ldQ0 (iblk m c 1 t)) (ldN0 (k0_pay5 (F := Ideal))) (ix3 0 0 y) := by
  rw [outsAt0_A m c t ht]
  frame_out
  simp (decide := true) only [↓View.readCov_skip, ↓View.readCov_fill]
  refine (canon_miss _ _ _ _ _ _ 0 (by show 0 < 3; norm_num)).trans ?_
  refine (canon_miss _ _ _ _ _ _ 0 (by show 0 < 2; norm_num)).trans ?_
  refine (canon_miss _ _ _ _ _ _ 0 (by show 0 < 1; norm_num)).trans ?_
  refine (canon_hit _ _ _ _ _ _ (ix3 0 0 y) (by intro a; fin_cases a <;> simp)).trans ?_
  rfl

theorem stN1_A (c : Dev nD) (t : Fin cfg0.N) (ht : t.val % 32 = 0) (y : Fin 256) :
    (outsAt0 m c t.val t.isLt).2.2.1 (ix3 1 0 y)
      = hN (rowI1 (gRow m c t)) (rowF1 (gRow m c t)) (colI1 (gCol m c t)) (colF1 (gCol m c t))
          (ldM1 (k0_pay6 (F := Ideal))) (ldQ1 (iblk m c 1 t)) (ldN1 (k0_pay5 (F := Ideal))) (ix3 0 0 y) := by
  rw [outsAt0_A m c t ht]
  frame_out
  simp (decide := true) only [↓View.readCov_skip, ↓View.readCov_fill]
  refine (canon_miss _ _ _ _ _ _ 0 (by show 1 < 3; norm_num)).trans ?_
  refine (canon_miss _ _ _ _ _ _ 0 (by show 1 < 2; norm_num)).trans ?_
  refine (canon_hit _ _ _ _ _ _ (ix3 0 0 y) (by intro a; fin_cases a <;> simp)).trans ?_
  rfl

theorem stN2_A (c : Dev nD) (t : Fin cfg0.N) (ht : t.val % 32 = 0) (y : Fin 256) :
    (outsAt0 m c t.val t.isLt).2.2.1 (ix3 2 0 y)
      = hN (rowI2 (gRow m c t)) (rowF2 (gRow m c t)) (colI2 (gCol m c t)) (colF2 (gCol m c t))
          (ldM2 (k0_pay6 (F := Ideal))) (ldQ2 (iblk m c 1 t)) (ldN2 (k0_pay5 (F := Ideal))) (ix3 0 0 y) := by
  rw [outsAt0_A m c t ht]
  frame_out
  simp (decide := true) only [↓View.readCov_skip, ↓View.readCov_fill]
  refine (canon_miss _ _ _ _ _ _ 0 (by show 2 < 3; norm_num)).trans ?_
  refine (canon_hit _ _ _ _ _ _ (ix3 0 0 y) (by intro a; fin_cases a <;> simp)).trans ?_
  rfl

theorem stN3_A (c : Dev nD) (t : Fin cfg0.N) (ht : t.val % 32 = 0) (y : Fin 256) :
    (outsAt0 m c t.val t.isLt).2.2.1 (ix3 3 0 y)
      = hN (rowI3 (gRow m c t)) (rowF3 (gRow m c t)) (colI3 (gCol m c t)) (colF3 (gCol m c t))
          (ldM3 (k0_pay6 (F := Ideal))) (ldQ3 (iblk m c 1 t)) (ldN3 (k0_pay5 (F := Ideal))) (ix3 0 0 y) := by
  rw [outsAt0_A m c t ht]
  frame_out
  simp (decide := true) only [↓View.readCov_skip, ↓View.readCov_fill]
  refine (canon_hit _ _ _ _ _ _ (ix3 0 0 y) (by intro a; fin_cases a <;> simp)).trans ?_
  rfl

theorem stM0_A (c : Dev nD) (t : Fin cfg0.N) (ht : t.val % 32 = 0) (y : Fin 128) :
    (outsAt0 m c t.val t.isLt).2.2.2 (ix3 0 0 y)
      = hMn (rowI0 (gRow m c t)) (rowF0 (gRow m c t)) (colF0 (gCol m c t)) (ldM0 (k0_pay6 (F := Ideal))) (ix3 0 0 y) := by
  rw [outsAt0_A m c t ht]
  frame_out
  simp (decide := true) only [↓View.readCov_skip, ↓View.readCov_fill]
  refine (canon_miss _ _ _ _ _ _ 0 (by show 0 < 3; norm_num)).trans ?_
  refine (canon_miss _ _ _ _ _ _ 0 (by show 0 < 2; norm_num)).trans ?_
  refine (canon_miss _ _ _ _ _ _ 0 (by show 0 < 1; norm_num)).trans ?_
  refine (canon_hit _ _ _ _ _ _ (ix3 0 0 y) (by intro a; fin_cases a <;> simp)).trans ?_
  rfl

theorem stM1_A (c : Dev nD) (t : Fin cfg0.N) (ht : t.val % 32 = 0) (y : Fin 128) :
    (outsAt0 m c t.val t.isLt).2.2.2 (ix3 1 0 y)
      = hMn (rowI1 (gRow m c t)) (rowF1 (gRow m c t)) (colF1 (gCol m c t)) (ldM1 (k0_pay6 (F := Ideal))) (ix3 0 0 y) := by
  rw [outsAt0_A m c t ht]
  frame_out
  simp (decide := true) only [↓View.readCov_skip, ↓View.readCov_fill]
  refine (canon_miss _ _ _ _ _ _ 0 (by show 1 < 3; norm_num)).trans ?_
  refine (canon_miss _ _ _ _ _ _ 0 (by show 1 < 2; norm_num)).trans ?_
  refine (canon_hit _ _ _ _ _ _ (ix3 0 0 y) (by intro a; fin_cases a <;> simp)).trans ?_
  rfl

theorem stM2_A (c : Dev nD) (t : Fin cfg0.N) (ht : t.val % 32 = 0) (y : Fin 128) :
    (outsAt0 m c t.val t.isLt).2.2.2 (ix3 2 0 y)
      = hMn (rowI2 (gRow m c t)) (rowF2 (gRow m c t)) (colF2 (gCol m c t)) (ldM2 (k0_pay6 (F := Ideal))) (ix3 0 0 y) := by
  rw [outsAt0_A m c t ht]
  frame_out
  simp (decide := true) only [↓View.readCov_skip, ↓View.readCov_fill]
  refine (canon_miss _ _ _ _ _ _ 0 (by show 2 < 3; norm_num)).trans ?_
  refine (canon_hit _ _ _ _ _ _ (ix3 0 0 y) (by intro a; fin_cases a <;> simp)).trans ?_
  rfl

theorem stM3_A (c : Dev nD) (t : Fin cfg0.N) (ht : t.val % 32 = 0) (y : Fin 128) :
    (outsAt0 m c t.val t.isLt).2.2.2 (ix3 3 0 y)
      = hMn (rowI3 (gRow m c t)) (rowF3 (gRow m c t)) (colF3 (gCol m c t)) (ldM3 (k0_pay6 (F := Ideal))) (ix3 0 0 y) := by
  rw [outsAt0_A m c t ht]
  frame_out
  simp (decide := true) only [↓View.readCov_skip, ↓View.readCov_fill]
  refine (canon_hit _ _ _ _ _ _ (ix3 0 0 y) (by intro a; fin_cases a <;> simp)).trans ?_
  rfl

theorem stO0_A (c : Dev nD) (t : Fin cfg0.N) (ht : t.val % 32 = 0) (x y : Fin 256) :
    (outsAt0 m c t.val t.isLt).1 (ix2 x ⟨0 + y.val, by omega⟩)
      = hOut (hH (rowI0 (gRow m c t)) (rowF0 (gRow m c t)) (colF0 (gCol m c t))
          (ldM0 (k0_pay6 (F := Ideal))) (ldQ0 (iblk m c 0 t)) (ldQ0 (iblk m c 1 t)) (ldQ0 (iblk m c 2 t)) (ldC0 (k0_pay4 (F := Ideal))) (ldN0 (k0_pay5 (F := Ideal))))
          (ldA0 (iblk m c 8 t)) (ldQ0 (iblk m c 3 t)) (ix2 x y) := by
  rw [outsAt0_A m c t ht]
  frame_out
  simp (decide := true) only [↓View.readCov_skip, ↓View.readCov_fill]
  obtain_idx j : S256x1024 := [x, 0 + y] with h
  canon_tiles z h
  case piece3 =>
    rw [eq_ix2 (x := x) (y := y) h0 (by have e : ((ix2 x ⟨0 + y.val, by omega⟩ : S256x1024.Idx) 1).val = 0 + y.val := rfl; omega)]
    rfl
  all_goals (exfalso; have e : ((ix2 x ⟨0 + y.val, by omega⟩ : S256x1024.Idx) 1).val = 0 + y.val := rfl; omega)

theorem stO1_A (c : Dev nD) (t : Fin cfg0.N) (ht : t.val % 32 = 0) (x y : Fin 256) :
    (outsAt0 m c t.val t.isLt).1 (ix2 x ⟨256 + y.val, by omega⟩)
      = hOut (hH (rowI1 (gRow m c t)) (rowF1 (gRow m c t)) (colF1 (gCol m c t))
          (ldM1 (k0_pay6 (F := Ideal))) (ldQ1 (iblk m c 0 t)) (ldQ1 (iblk m c 1 t)) (ldQ1 (iblk m c 2 t)) (ldC1 (k0_pay4 (F := Ideal))) (ldN1 (k0_pay5 (F := Ideal))))
          (ldA1 (iblk m c 8 t)) (ldQ1 (iblk m c 3 t)) (ix2 x y) := by
  rw [outsAt0_A m c t ht]
  frame_out
  simp (decide := true) only [↓View.readCov_skip, ↓View.readCov_fill]
  obtain_idx j : S256x1024 := [x, 256 + y] with h
  canon_tiles z h
  case piece2 =>
    rw [eq_ix2 (x := x) (y := y) h0 (by have e : ((ix2 x ⟨256 + y.val, by omega⟩ : S256x1024.Idx) 1).val = 256 + y.val := rfl; omega)]
    rfl
  all_goals (exfalso; have e : ((ix2 x ⟨256 + y.val, by omega⟩ : S256x1024.Idx) 1).val = 256 + y.val := rfl; omega)

theorem stO2_A (c : Dev nD) (t : Fin cfg0.N) (ht : t.val % 32 = 0) (x y : Fin 256) :
    (outsAt0 m c t.val t.isLt).1 (ix2 x ⟨512 + y.val, by omega⟩)
      = hOut (hH (rowI2 (gRow m c t)) (rowF2 (gRow m c t)) (colF2 (gCol m c t))
          (ldM2 (k0_pay6 (F := Ideal))) (ldQ2 (iblk m c 0 t)) (ldQ2 (iblk m c 1 t)) (ldQ2 (iblk m c 2 t)) (ldC2 (k0_pay4 (F := Ideal))) (ldN2 (k0_pay5 (F := Ideal))))
          (ldA2 (iblk m c 8 t)) (ldQ2 (iblk m c 3 t)) (ix2 x y) := by
  rw [outsAt0_A m c t ht]
  frame_out
  simp (decide := true) only [↓View.readCov_skip, ↓View.readCov_fill]
  obtain_idx j : S256x1024 := [x, 512 + y] with h
  canon_tiles z h
  case piece1 =>
    rw [eq_ix2 (x := x) (y := y) h0 (by have e : ((ix2 x ⟨512 + y.val, by omega⟩ : S256x1024.Idx) 1).val = 512 + y.val := rfl; omega)]
    rfl
  all_goals (exfalso; have e : ((ix2 x ⟨512 + y.val, by omega⟩ : S256x1024.Idx) 1).val = 512 + y.val := rfl; omega)

theorem stO3_A (c : Dev nD) (t : Fin cfg0.N) (ht : t.val % 32 = 0) (x y : Fin 256) :
    (outsAt0 m c t.val t.isLt).1 (ix2 x ⟨768 + y.val, by omega⟩)
      = hOut (hH (rowI3 (gRow m c t)) (rowF3 (gRow m c t)) (colF3 (gCol m c t))
          (ldM3 (k0_pay6 (F := Ideal))) (ldQ3 (iblk m c 0 t)) (ldQ3 (iblk m c 1 t)) (ldQ3 (iblk m c 2 t)) (ldC3 (k0_pay4 (F := Ideal))) (ldN3 (k0_pay5 (F := Ideal))))
          (ldA3 (iblk m c 8 t)) (ldQ3 (iblk m c 3 t)) (ix2 x y) := by
  rw [outsAt0_A m c t ht]
  frame_out
  simp (decide := true) only [↓View.readCov_skip, ↓View.readCov_fill]
  obtain_idx j : S256x1024 := [x, 768 + y] with h
  canon_tiles z h
  case piece0 =>
    rw [eq_ix2 (x := x) (y := y) h0 (by have e : ((ix2 x ⟨768 + y.val, by omega⟩ : S256x1024.Idx) 1).val = 768 + y.val := rfl; omega)]
    rfl
  all_goals (exfalso; have e : ((ix2 x ⟨768 + y.val, by omega⟩ : S256x1024.Idx) 1).val = 768 + y.val := rfl; omega)

theorem stC0_B (c : Dev nD) (t : Fin cfg0.N) (ht : ¬ t.val % 32 = 0) (x y : Fin 256) :
    (outsAt0 m c t.val t.isLt).2.1 (ix3 0 x y)
      = hC (rowI0 (gRow m c t)) (rowF0 (gRow m c t)) (colI0 (gCol m c t)) (colF0 (gCol m c t))
          (ldM0 (outsAt0 m c (t.val - 1) (Nat.lt_of_le_of_lt (Nat.sub_le _ _) t.isLt)).2.2.2) (ldQ0 (iblk m c 1 t)) (ldQ0 (iblk m c 2 t)) (ldC0 (outsAt0 m c (t.val - 1) (Nat.lt_of_le_of_lt (Nat.sub_le _ _) t.isLt)).2.1) (ix3 0 x y) := by
  rw [outsAt0_B m c t ht]
  frame_out
  simp only [read_unread_whole]
  obtain_idx j : S4x256x256 := [0, x, y] with h
  canon_tiles z h
  case piece3 =>
    rw [eq_ix1 h1 h2]
    rfl
  all_goals (exfalso; have e : ((ix3 0 x y : S4x256x256.Idx) 0).val = 0 := rfl; omega)

theorem stC1_B (c : Dev nD) (t : Fin cfg0.N) (ht : ¬ t.val % 32 = 0) (x y : Fin 256) :
    (outsAt0 m c t.val t.isLt).2.1 (ix3 1 x y)
      = hC (rowI1 (gRow m c t)) (rowF1 (gRow m c t)) (colI1 (gCol m c t)) (colF1 (gCol m c t))
          (ldM1 (outsAt0 m c (t.val - 1) (Nat.lt_of_le_of_lt (Nat.sub_le _ _) t.isLt)).2.2.2) (ldQ1 (iblk m c 1 t)) (ldQ1 (iblk m c 2 t)) (ldC1 (outsAt0 m c (t.val - 1) (Nat.lt_of_le_of_lt (Nat.sub_le _ _) t.isLt)).2.1) (ix3 0 x y) := by
  rw [outsAt0_B m c t ht]
  frame_out
  simp only [read_unread_whole]
  obtain_idx j : S4x256x256 := [1, x, y] with h
  canon_tiles z h
  case piece2 =>
    rw [eq_ix1 h1 h2]
    rfl
  all_goals (exfalso; have e : ((ix3 1 x y : S4x256x256.Idx) 0).val = 1 := rfl; omega)

theorem stC2_B (c : Dev nD) (t : Fin cfg0.N) (ht : ¬ t.val % 32 = 0) (x y : Fin 256) :
    (outsAt0 m c t.val t.isLt).2.1 (ix3 2 x y)
      = hC (rowI2 (gRow m c t)) (rowF2 (gRow m c t)) (colI2 (gCol m c t)) (colF2 (gCol m c t))
          (ldM2 (outsAt0 m c (t.val - 1) (Nat.lt_of_le_of_lt (Nat.sub_le _ _) t.isLt)).2.2.2) (ldQ2 (iblk m c 1 t)) (ldQ2 (iblk m c 2 t)) (ldC2 (outsAt0 m c (t.val - 1) (Nat.lt_of_le_of_lt (Nat.sub_le _ _) t.isLt)).2.1) (ix3 0 x y) := by
  rw [outsAt0_B m c t ht]
  frame_out
  simp only [read_unread_whole]
  obtain_idx j : S4x256x256 := [2, x, y] with h
  canon_tiles z h
  case piece1 =>
    rw [eq_ix1 h1 h2]
    rfl
  all_goals (exfalso; have e : ((ix3 2 x y : S4x256x256.Idx) 0).val = 2 := rfl; omega)

theorem stC3_B (c : Dev nD) (t : Fin cfg0.N) (ht : ¬ t.val % 32 = 0) (x y : Fin 256) :
    (outsAt0 m c t.val t.isLt).2.1 (ix3 3 x y)
      = hC (rowI3 (gRow m c t)) (rowF3 (gRow m c t)) (colI3 (gCol m c t)) (colF3 (gCol m c t))
          (ldM3 (outsAt0 m c (t.val - 1) (Nat.lt_of_le_of_lt (Nat.sub_le _ _) t.isLt)).2.2.2) (ldQ3 (iblk m c 1 t)) (ldQ3 (iblk m c 2 t)) (ldC3 (outsAt0 m c (t.val - 1) (Nat.lt_of_le_of_lt (Nat.sub_le _ _) t.isLt)).2.1) (ix3 0 x y) := by
  rw [outsAt0_B m c t ht]
  frame_out
  simp only [read_unread_whole]
  obtain_idx j : S4x256x256 := [3, x, y] with h
  canon_tiles z h
  case piece0 =>
    rw [eq_ix1 h1 h2]
    rfl
  all_goals (exfalso; have e : ((ix3 3 x y : S4x256x256.Idx) 0).val = 3 := rfl; omega)

theorem stN0_B (c : Dev nD) (t : Fin cfg0.N) (ht : ¬ t.val % 32 = 0) (y : Fin 256) :
    (outsAt0 m c t.val t.isLt).2.2.1 (ix3 0 0 y)
      = hN (rowI0 (gRow m c t)) (rowF0 (gRow m c t)) (colI0 (gCol m c t)) (colF0 (gCol m c t))
          (ldM0 (outsAt0 m c (t.val - 1) (Nat.lt_of_le_of_lt (Nat.sub_le _ _) t.isLt)).2.2.2) (ldQ0 (iblk m c 1 t)) (ldN0 (outsAt0 m c (t.val - 1) (Nat.lt_of_le_of_lt (Nat.sub_le _ _) t.isLt)).2.2.1) (ix3 0 0 y) := by
  rw [outsAt0_B m c t ht]
  frame_out
  simp only [read_unread_whole]
  obtain_idx j : S4x1x256 := [0, 0, y] with h
  canon_tiles z h
  case piece3 =>
    rw [eq_ix1 (x := (0 : Fin 1)) h1 h2]
    rfl
  all_goals (exfalso; have e : ((ix3 0 0 y : S4x1x256.Idx) 0).val = 0 := rfl; omega)

theorem stN1_B (c : Dev nD) (t : Fin cfg0.N) (ht : ¬ t.val % 32 = 0) (y : Fin 256) :
    (outsAt0 m c t.val t.isLt).2.2.1 (ix3 1 0 y)
      = hN (rowI1 (gRow m c t)) (rowF1 (gRow m c t)) (colI1 (gCol m c t)) (colF1 (gCol m c t))
          (ldM1 (outsAt0 m c (t.val - 1) (Nat.lt_of_le_of_lt (Nat.sub_le _ _) t.isLt)).2.2.2) (ldQ1 (iblk m c 1 t)) (ldN1 (outsAt0 m c (t.val - 1) (Nat.lt_of_le_of_lt (Nat.sub_le _ _) t.isLt)).2.2.1) (ix3 0 0 y) := by
  rw [outsAt0_B m c t ht]
  frame_out
  simp only [read_unread_whole]
  obtain_idx j : S4x1x256 := [1, 0, y] with h
  canon_tiles z h
  case piece2 =>
    rw [eq_ix1 (x := (0 : Fin 1)) h1 h2]
    rfl
  all_goals (exfalso; have e : ((ix3 1 0 y : S4x1x256.Idx) 0).val = 1 := rfl; omega)

theorem stN2_B (c : Dev nD) (t : Fin cfg0.N) (ht : ¬ t.val % 32 = 0) (y : Fin 256) :
    (outsAt0 m c t.val t.isLt).2.2.1 (ix3 2 0 y)
      = hN (rowI2 (gRow m c t)) (rowF2 (gRow m c t)) (colI2 (gCol m c t)) (colF2 (gCol m c t))
          (ldM2 (outsAt0 m c (t.val - 1) (Nat.lt_of_le_of_lt (Nat.sub_le _ _) t.isLt)).2.2.2) (ldQ2 (iblk m c 1 t)) (ldN2 (outsAt0 m c (t.val - 1) (Nat.lt_of_le_of_lt (Nat.sub_le _ _) t.isLt)).2.2.1) (ix3 0 0 y) := by
  rw [outsAt0_B m c t ht]
  frame_out
  simp only [read_unread_whole]
  obtain_idx j : S4x1x256 := [2, 0, y] with h
  canon_tiles z h
  case piece1 =>
    rw [eq_ix1 (x := (0 : Fin 1)) h1 h2]
    rfl
  all_goals (exfalso; have e : ((ix3 2 0 y : S4x1x256.Idx) 0).val = 2 := rfl; omega)

theorem stN3_B (c : Dev nD) (t : Fin cfg0.N) (ht : ¬ t.val % 32 = 0) (y : Fin 256) :
    (outsAt0 m c t.val t.isLt).2.2.1 (ix3 3 0 y)
      = hN (rowI3 (gRow m c t)) (rowF3 (gRow m c t)) (colI3 (gCol m c t)) (colF3 (gCol m c t))
          (ldM3 (outsAt0 m c (t.val - 1) (Nat.lt_of_le_of_lt (Nat.sub_le _ _) t.isLt)).2.2.2) (ldQ3 (iblk m c 1 t)) (ldN3 (outsAt0 m c (t.val - 1) (Nat.lt_of_le_of_lt (Nat.sub_le _ _) t.isLt)).2.2.1) (ix3 0 0 y) := by
  rw [outsAt0_B m c t ht]
  frame_out
  simp only [read_unread_whole]
  obtain_idx j : S4x1x256 := [3, 0, y] with h
  canon_tiles z h
  case piece0 =>
    rw [eq_ix1 (x := (0 : Fin 1)) h1 h2]
    rfl
  all_goals (exfalso; have e : ((ix3 3 0 y : S4x1x256.Idx) 0).val = 3 := rfl; omega)

theorem stM0_B (c : Dev nD) (t : Fin cfg0.N) (ht : ¬ t.val % 32 = 0) (y : Fin 128) :
    (outsAt0 m c t.val t.isLt).2.2.2 (ix3 0 0 y)
      = hMn (rowI0 (gRow m c t)) (rowF0 (gRow m c t)) (colF0 (gCol m c t)) (ldM0 (outsAt0 m c (t.val - 1) (Nat.lt_of_le_of_lt (Nat.sub_le _ _) t.isLt)).2.2.2) (ix3 0 0 y) := by
  rw [outsAt0_B m c t ht]
  frame_out
  simp only [read_unread_whole]
  obtain_idx j : S4x1x128 := [0, 0, y] with h
  canon_tiles z h
  case piece3 =>
    rw [eq_ix1 (x := (0 : Fin 1)) h1 h2]
    rfl
  all_goals (exfalso; have e : ((ix3 0 0 y : S4x1x128.Idx) 0).val = 0 := rfl; omega)

theorem stM1_B (c : Dev nD) (t : Fin cfg0.N) (ht : ¬ t.val % 32 = 0) (y : Fin 128) :
    (outsAt0 m c t.val t.isLt).2.2.2 (ix3 1 0 y)
      = hMn (rowI1 (gRow m c t)) (rowF1 (gRow m c t)) (colF1 (gCol m c t)) (ldM1 (outsAt0 m c (t.val - 1) (Nat.lt_of_le_of_lt (Nat.sub_le _ _) t.isLt)).2.2.2) (ix3 0 0 y) := by
  rw [outsAt0_B m c t ht]
  frame_out
  simp only [read_unread_whole]
  obtain_idx j : S4x1x128 := [1, 0, y] with h
  canon_tiles z h
  case piece2 =>
    rw [eq_ix1 (x := (0 : Fin 1)) h1 h2]
    rfl
  all_goals (exfalso; have e : ((ix3 1 0 y : S4x1x128.Idx) 0).val = 1 := rfl; omega)

theorem stM2_B (c : Dev nD) (t : Fin cfg0.N) (ht : ¬ t.val % 32 = 0) (y : Fin 128) :
    (outsAt0 m c t.val t.isLt).2.2.2 (ix3 2 0 y)
      = hMn (rowI2 (gRow m c t)) (rowF2 (gRow m c t)) (colF2 (gCol m c t)) (ldM2 (outsAt0 m c (t.val - 1) (Nat.lt_of_le_of_lt (Nat.sub_le _ _) t.isLt)).2.2.2) (ix3 0 0 y) := by
  rw [outsAt0_B m c t ht]
  frame_out
  simp only [read_unread_whole]
  obtain_idx j : S4x1x128 := [2, 0, y] with h
  canon_tiles z h
  case piece1 =>
    rw [eq_ix1 (x := (0 : Fin 1)) h1 h2]
    rfl
  all_goals (exfalso; have e : ((ix3 2 0 y : S4x1x128.Idx) 0).val = 2 := rfl; omega)

theorem stM3_B (c : Dev nD) (t : Fin cfg0.N) (ht : ¬ t.val % 32 = 0) (y : Fin 128) :
    (outsAt0 m c t.val t.isLt).2.2.2 (ix3 3 0 y)
      = hMn (rowI3 (gRow m c t)) (rowF3 (gRow m c t)) (colF3 (gCol m c t)) (ldM3 (outsAt0 m c (t.val - 1) (Nat.lt_of_le_of_lt (Nat.sub_le _ _) t.isLt)).2.2.2) (ix3 0 0 y) := by
  rw [outsAt0_B m c t ht]
  frame_out
  simp only [read_unread_whole]
  obtain_idx j : S4x1x128 := [3, 0, y] with h
  canon_tiles z h
  case piece0 =>
    rw [eq_ix1 (x := (0 : Fin 1)) h1 h2]
    rfl
  all_goals (exfalso; have e : ((ix3 3 0 y : S4x1x128.Idx) 0).val = 3 := rfl; omega)

theorem stO0_B (c : Dev nD) (t : Fin cfg0.N) (ht : ¬ t.val % 32 = 0) (x y : Fin 256) :
    (outsAt0 m c t.val t.isLt).1 (ix2 x ⟨0 + y.val, by omega⟩)
      = hOut (hH (rowI0 (gRow m c t)) (rowF0 (gRow m c t)) (colF0 (gCol m c t))
          (ldM0 (outsAt0 m c (t.val - 1) (Nat.lt_of_le_of_lt (Nat.sub_le _ _) t.isLt)).2.2.2) (ldQ0 (iblk m c 0 t)) (ldQ0 (iblk m c 1 t)) (ldQ0 (iblk m c 2 t)) (ldC0 (outsAt0 m c (t.val - 1) (Nat.lt_of_le_of_lt (Nat.sub_le _ _) t.isLt)).2.1) (ldN0 (outsAt0 m c (t.val - 1) (Nat.lt_of_le_of_lt (Nat.sub_le _ _) t.isLt)).2.2.1))
          (ldA0 (iblk m c 8 t)) (ldQ0 (iblk m c 3 t)) (ix2 x y) := by
  rw [outsAt0_B m c t ht]
  frame_out
  simp only [read_unread_whole]
  obtain_idx j : S256x1024 := [x, 0 + y] with h
  canon_tiles z h
  case piece3 =>
    rw [eq_ix2 (x := x) (y := y) h0 (by have e : ((ix2 x ⟨0 + y.val, by omega⟩ : S256x1024.Idx) 1).val = 0 + y.val := rfl; omega)]
    rfl
  all_goals (exfalso; have e : ((ix2 x ⟨0 + y.val, by omega⟩ : S256x1024.Idx) 1).val = 0 + y.val := rfl; omega)

theorem stO1_B (c : Dev nD) (t : Fin cfg0.N) (ht : ¬ t.val % 32 = 0) (x y : Fin 256) :
    (outsAt0 m c t.val t.isLt).1 (ix2 x ⟨256 + y.val, by omega⟩)
      = hOut (hH (rowI1 (gRow m c t)) (rowF1 (gRow m c t)) (colF1 (gCol m c t))
          (ldM1 (outsAt0 m c (t.val - 1) (Nat.lt_of_le_of_lt (Nat.sub_le _ _) t.isLt)).2.2.2) (ldQ1 (iblk m c 0 t)) (ldQ1 (iblk m c 1 t)) (ldQ1 (iblk m c 2 t)) (ldC1 (outsAt0 m c (t.val - 1) (Nat.lt_of_le_of_lt (Nat.sub_le _ _) t.isLt)).2.1) (ldN1 (outsAt0 m c (t.val - 1) (Nat.lt_of_le_of_lt (Nat.sub_le _ _) t.isLt)).2.2.1))
          (ldA1 (iblk m c 8 t)) (ldQ1 (iblk m c 3 t)) (ix2 x y) := by
  rw [outsAt0_B m c t ht]
  frame_out
  simp only [read_unread_whole]
  obtain_idx j : S256x1024 := [x, 256 + y] with h
  canon_tiles z h
  case piece2 =>
    rw [eq_ix2 (x := x) (y := y) h0 (by have e : ((ix2 x ⟨256 + y.val, by omega⟩ : S256x1024.Idx) 1).val = 256 + y.val := rfl; omega)]
    rfl
  all_goals (exfalso; have e : ((ix2 x ⟨256 + y.val, by omega⟩ : S256x1024.Idx) 1).val = 256 + y.val := rfl; omega)

theorem stO2_B (c : Dev nD) (t : Fin cfg0.N) (ht : ¬ t.val % 32 = 0) (x y : Fin 256) :
    (outsAt0 m c t.val t.isLt).1 (ix2 x ⟨512 + y.val, by omega⟩)
      = hOut (hH (rowI2 (gRow m c t)) (rowF2 (gRow m c t)) (colF2 (gCol m c t))
          (ldM2 (outsAt0 m c (t.val - 1) (Nat.lt_of_le_of_lt (Nat.sub_le _ _) t.isLt)).2.2.2) (ldQ2 (iblk m c 0 t)) (ldQ2 (iblk m c 1 t)) (ldQ2 (iblk m c 2 t)) (ldC2 (outsAt0 m c (t.val - 1) (Nat.lt_of_le_of_lt (Nat.sub_le _ _) t.isLt)).2.1) (ldN2 (outsAt0 m c (t.val - 1) (Nat.lt_of_le_of_lt (Nat.sub_le _ _) t.isLt)).2.2.1))
          (ldA2 (iblk m c 8 t)) (ldQ2 (iblk m c 3 t)) (ix2 x y) := by
  rw [outsAt0_B m c t ht]
  frame_out
  simp only [read_unread_whole]
  obtain_idx j : S256x1024 := [x, 512 + y] with h
  canon_tiles z h
  case piece1 =>
    rw [eq_ix2 (x := x) (y := y) h0 (by have e : ((ix2 x ⟨512 + y.val, by omega⟩ : S256x1024.Idx) 1).val = 512 + y.val := rfl; omega)]
    rfl
  all_goals (exfalso; have e : ((ix2 x ⟨512 + y.val, by omega⟩ : S256x1024.Idx) 1).val = 512 + y.val := rfl; omega)

theorem stO3_B (c : Dev nD) (t : Fin cfg0.N) (ht : ¬ t.val % 32 = 0) (x y : Fin 256) :
    (outsAt0 m c t.val t.isLt).1 (ix2 x ⟨768 + y.val, by omega⟩)
      = hOut (hH (rowI3 (gRow m c t)) (rowF3 (gRow m c t)) (colF3 (gCol m c t))
          (ldM3 (outsAt0 m c (t.val - 1) (Nat.lt_of_le_of_lt (Nat.sub_le _ _) t.isLt)).2.2.2) (ldQ3 (iblk m c 0 t)) (ldQ3 (iblk m c 1 t)) (ldQ3 (iblk m c 2 t)) (ldC3 (outsAt0 m c (t.val - 1) (Nat.lt_of_le_of_lt (Nat.sub_le _ _) t.isLt)).2.1) (ldN3 (outsAt0 m c (t.val - 1) (Nat.lt_of_le_of_lt (Nat.sub_le _ _) t.isLt)).2.2.1))
          (ldA3 (iblk m c 8 t)) (ldQ3 (iblk m c 3 t)) (ix2 x y) := by
  rw [outsAt0_B m c t ht]
  frame_out
  simp only [read_unread_whole]
  obtain_idx j : S256x1024 := [x, 768 + y] with h
  canon_tiles z h
  case piece0 =>
    rw [eq_ix2 (x := x) (y := y) h0 (by have e : ((ix2 x ⟨768 + y.val, by omega⟩ : S256x1024.Idx) 1).val = 768 + y.val := rfl; omega)]
    rfl
  all_goals (exfalso; have e : ((ix2 x ⟨768 + y.val, by omega⟩ : S256x1024.Idx) 1).val = 768 + y.val := rfl; omega)

end Cert.Head
-- ==== Proof.Ker.State.lean ====
module

public import proofs.«01_k».proof.Proof.Ker.Inputs
public import proofs.«01_k».proof.Proof.Ker.Block
public import proofs.«01_k».proof.Proof.Math.Seq

/-! The carried state and the output of each block, in terms of the memory of the whole sequence. -/

@[expose] public section
set_option maxRecDepth 16384
noncomputable section
namespace Cert.Head
open Idealize.ShloMosaic Idealize.ShloMosaic.TcCoe Idealize.SL.Sem Cert.Mem
open Cert.KernelIdeal Cert.KernelIdeal.Gen

variable (m : (ℓ : Loc nD τ sig) → Buf (Elt Ideal) ℓ) (c : Dev nD)

def mA : FVec Ideal SA .f32 := m (c, Proc.tc.devRef main_arg0)
def mI : FVec Ideal SB .f32 := m (c, Proc.tc.devRef main_arg1)
def mF : FVec Ideal SB .f32 := m (c, Proc.tc.devRef main_arg2)
def mN : FVec Ideal SN .f32 := m (c, Proc.tc.devRef main_arg3)

/-- The batch a block belongs to. -/
def bt (n : ℕ) (hn : n < cfg0.N) : Fin 2 := ⟨n / 32, by have : n < 64 := lt_of_lt_of_eq hn N_0; omega⟩

theorem ent_col (β : Fin 2) (s : Fin 8192) (col : Fin 6152) (s' : ℕ) (h : s' = s.val) :
    ent (m (c, Proc.tc.devRef main_arg0)) β s col = colA (mA m c) β col s' := by
  have : (⟨s' % 8192, Nat.mod_lt _ (by norm_num)⟩ : Fin 8192) = s := Fin.ext (by subst h; exact Nat.mod_eq_of_lt s.isLt)
  rw [colA, this]
  rfl

theorem pay4_zero (j) : k0_pay4 (F := Ideal) j = (0 : EReal) := by
  pointwise [k0_pay4]
theorem pay5_zero (j) : k0_pay5 (F := Ideal) j = (0 : EReal) := by
  pointwise [k0_pay5]
theorem pay6_zero (j) : k0_pay6 (F := Ideal) j = (0 : EReal) := by
  pointwise [k0_pay6]

variable (hA : Fine (mA m c)) (hI : Fine (mI m c)) (hF : Fine (mF m c))

/-- Gate entries as sequence entries. -/
theorem gRowI (t : Fin cfg0.N) (h : Fin 4) (y : Fin 256) (hA : Fine (mA m c)) (hI : Fine (mI m c)) :
    gRow m c t (ix2 ⟨h.val, by omega⟩ y)
      = ((gi (mA m c) (mI m c) (bt t.val t.isLt) h (256 * (t.val % 32) + y.val) : ℝ) : EReal) := by
  rw [gRow, gRow_at, ent_col m c _ _ _ (256 * (t.val % 32) + y.val) rfl, bias, dif_pos h.isLt]
  exact add_fine (hA _) (hI _)
theorem gRowF (t : Fin cfg0.N) (h : Fin 4) (y : Fin 256) (hA : Fine (mA m c)) (hF : Fine (mF m c)) :
    gRow m c t (ix2 ⟨h.val + 4, by omega⟩ y)
      = ((gf (mA m c) (mF m c) (bt t.val t.isLt) h (256 * (t.val % 32) + y.val) : ℝ) : EReal) := by
  rw [gRow, gRow_at, ent_col m c _ _ _ (256 * (t.val % 32) + y.val) rfl, bias,
    dif_neg (by show ¬ h.val + 4 < 4; omega)]
  have e : (⟨4096 + (h.val + 4), by omega⟩ : Fin 6152) = ⟨4100 + h.val, by omega⟩ := Fin.ext (by dsimp only; omega)
  rw [show (⟨4096 + (⟨h.val + 4, by omega⟩ : Fin 8).val, by omega⟩ : Fin 6152) = _ from e]
  exact add_fine (hA _) (hF _)
theorem gColI (t : Fin cfg0.N) (h : Fin 4) (y : Fin 256) (hA : Fine (mA m c)) (hI : Fine (mI m c)) :
    gCol m c t (ix2 y ⟨h.val, by omega⟩)
      = ((gi (mA m c) (mI m c) (bt t.val t.isLt) h (256 * (t.val % 32) + y.val) : ℝ) : EReal) := by
  refine (gCol_at m c t ⟨h.val, by omega⟩ y).trans ?_
  rw [ent_col m c _ _ _ (256 * (t.val % 32) + y.val) rfl, bias, dif_pos h.isLt]
  exact add_fine (hA _) (hI _)
theorem gColF (t : Fin cfg0.N) (h : Fin 4) (y : Fin 256) (hA : Fine (mA m c)) (hF : Fine (mF m c)) :
    gCol m c t (ix2 y ⟨h.val + 4, by omega⟩)
      = ((gf (mA m c) (mF m c) (bt t.val t.isLt) h (256 * (t.val % 32) + y.val) : ℝ) : EReal) := by
  refine (gCol_at m c t ⟨h.val + 4, by omega⟩ y).trans ?_
  rw [ent_col m c _ _ _ (256 * (t.val % 32) + y.val) rfl, bias,
    dif_neg (by show ¬ h.val + 4 < 4; omega)]
  have e : (⟨4096 + (h.val + 4), by omega⟩ : Fin 6152) = ⟨4100 + h.val, by omega⟩ := Fin.ext (by dsimp only; omega)
  rw [show (⟨4096 + (⟨h.val + 4, by omega⟩ : Fin 8).val, by omega⟩ : Fin 6152) = _ from e]
  exact add_fine (hA _) (hF _)

theorem qEnt (t : Fin cfg0.N) (h : Fin 4) (x d : Fin 256) (hA : Fine (mA m c)) :
    (iblk m c 0 t : Vec Ideal S256x1024 .bf16) (ix2 x ⟨256 * h.val + d.val, by omega⟩)
      = ((sq (mA m c) (bt t.val t.isLt) h (256 * (t.val % 32) + x.val) d : ℝ) : EReal) := by
  refine (blk0 m c t x _).trans ((ent_col m c _ _ _ (256 * (t.val % 32) + x.val) rfl).trans ?_)
  have e : ∀ p, (⟨0 + (256 * h.val + d.val), p⟩ : Fin 6152) = ⟨256 * h.val + d.val, by omega⟩ :=
    fun p => Fin.ext (by dsimp only; omega)
  rw [e]
  exact hA _
theorem kEnt (t : Fin cfg0.N) (h : Fin 4) (x d : Fin 256) (hA : Fine (mA m c)) :
    (iblk m c 1 t : Vec Ideal S256x1024 .bf16) (ix2 x ⟨256 * h.val + d.val, by omega⟩)
      = ((sk (mA m c) (bt t.val t.isLt) h (256 * (t.val % 32) + x.val) d : ℝ) : EReal) := by
  refine (blk1 m c t x _).trans ((ent_col m c _ _ _ (256 * (t.val % 32) + x.val) rfl).trans ?_)
  have e : ∀ p, (⟨1024 + (256 * h.val + d.val), p⟩ : Fin 6152) = ⟨1024 + 256 * h.val + d.val, by omega⟩ :=
    fun p => Fin.ext (by show 1024 + _ = 1024 + _ + _; omega)
  rw [e]
  exact hA _
theorem vEnt (t : Fin cfg0.N) (h : Fin 4) (x d : Fin 256) (hA : Fine (mA m c)) :
    (iblk m c 2 t : Vec Ideal S256x1024 .bf16) (ix2 x ⟨256 * h.val + d.val, by omega⟩)
      = ((sv (mA m c) (bt t.val t.isLt) h (256 * (t.val % 32) + x.val) d : ℝ) : EReal) := by
  refine (blk2 m c t x _).trans ((ent_col m c _ _ _ (256 * (t.val % 32) + x.val) rfl).trans ?_)
  have e : ∀ p, (⟨2048 + (256 * h.val + d.val), p⟩ : Fin 6152) = ⟨2048 + 256 * h.val + d.val, by omega⟩ :=
    fun p => Fin.ext (by show 2048 + _ = 2048 + _ + _; omega)
  rw [e]
  exact hA _
theorem oEnt (t : Fin cfg0.N) (h : Fin 4) (x d : Fin 256) :
    (iblk m c 3 t : Vec Ideal S256x1024 .bf16) (ix2 x ⟨256 * h.val + d.val, by omega⟩)
      = colA (mA m c) (bt t.val t.isLt) ⟨3072 + 256 * h.val + d.val, by omega⟩ (256 * (t.val % 32) + x.val) := by
  refine (blk3 m c t x _).trans ((ent_col m c _ _ _ (256 * (t.val % 32) + x.val) rfl).trans ?_)
  have e : ∀ p, (⟨3072 + (256 * h.val + d.val), p⟩ : Fin 6152) = ⟨3072 + 256 * h.val + d.val, by omega⟩ :=
    fun p => Fin.ext (by show 3072 + _ = 3072 + _ + _; omega)
  rw [e]
  rfl

/-- The state of head `h` after block `n`. -/
def After (h : Fin 4) (n : ℕ) (hn : n < cfg0.N) : Prop :=
  StateOK (gi (mA m c) (mI m c) (bt n hn) h) (gf (mA m c) (mF m c) (bt n hn) h)
    (sk (mA m c) (bt n hn) h) (sv (mA m c) (bt n hn) h) (256 * (n % 32) + 256)
    (fun x y => (outsAt0 m c n hn).2.1 (ix3 h x y)) (fun y => (outsAt0 m c n hn).2.2.1 (ix3 h 0 y))
    ((outsAt0 m c n hn).2.2.2 (ix3 h 0 0))

theorem bt_pred (t : Fin cfg0.N) (ht : ¬ t.val % 32 = 0) :
    bt (t.val - 1) (Nat.lt_of_le_of_lt (Nat.sub_le _ _) t.isLt) = bt t.val t.isLt :=
  Fin.ext (by show (t.val - 1) / 32 = t.val / 32; omega)

/-- The state before block `t`, from the one after the block before it. -/
theorem before (h : Fin 4) (t : Fin cfg0.N) (ht : ¬ t.val % 32 = 0)
    (ih : After m c h (t.val - 1) (Nat.lt_of_le_of_lt (Nat.sub_le _ _) t.isLt)) :
    StateOK (gi (mA m c) (mI m c) (bt t.val t.isLt) h) (gf (mA m c) (mF m c) (bt t.val t.isLt) h)
      (sk (mA m c) (bt t.val t.isLt) h) (sv (mA m c) (bt t.val t.isLt) h) (256 * (t.val % 32))
      (fun x y => (outsAt0 m c (t.val - 1) (Nat.lt_of_le_of_lt (Nat.sub_le _ _) t.isLt)).2.1 (ix3 h x y))
      (fun y => (outsAt0 m c (t.val - 1) (Nat.lt_of_le_of_lt (Nat.sub_le _ _) t.isLt)).2.2.1 (ix3 h 0 y))
      ((outsAt0 m c (t.val - 1) (Nat.lt_of_le_of_lt (Nat.sub_le _ _) t.isLt)).2.2.2 (ix3 h 0 0)) := by
  rw [After, bt_pred t ht] at ih
  exact ih.congr (by omega) (fun _ _ => rfl) (fun _ => rfl) rfl

section
theorem step0_A (t : Fin cfg0.N) (ht : t.val % 32 = 0) (hA : Fine (mA m c)) (hI : Fine (mI m c)) (hF : Fine (mF m c)) : After m c 0 t.val t.isLt :=
  (state_real _ _ (256 * (t.val % 32)) _ _ (fun j => (rowI0_at _ j).trans (gRowI m c t 0 j hA hI)) (fun j => (rowF0_at _ j).trans (gRowF m c t 0 j hA hF)) (fun j => (colI0_at _ j).trans (gColI m c t 0 j hA hI)) (fun j => (colF0_at _ j).trans (gColF m c t 0 j hA hF)) (fun j d => (ldQ0_at _ j d).trans (kEnt m c t 0 j d hA)) (fun j d => (ldQ0_at _ j d).trans (vEnt m c t 0 j d hA)) ((StateOK.zero _ _ _ _).congr (by omega) (fun x y => (ldC0_at _ x y).trans (pay4_zero _)) (fun y => (ldN0_at _ y).trans (pay5_zero _)) ((ldM0_at _ 0).trans (pay6_zero _)))).congr (by omega)  (fun x y => stC0_A m c t ht x y) (fun y => stN0_A m c t ht y) (stM0_A m c t ht 0)

theorem step0_B (t : Fin cfg0.N) (ht : ¬ t.val % 32 = 0) (hA : Fine (mA m c)) (hI : Fine (mI m c)) (hF : Fine (mF m c))
    (ih : After m c 0 (t.val - 1) (Nat.lt_of_le_of_lt (Nat.sub_le _ _) t.isLt)) : After m c 0 t.val t.isLt :=
  (state_real _ _ (256 * (t.val % 32)) _ _ (fun j => (rowI0_at _ j).trans (gRowI m c t 0 j hA hI)) (fun j => (rowF0_at _ j).trans (gRowF m c t 0 j hA hF)) (fun j => (colI0_at _ j).trans (gColI m c t 0 j hA hI)) (fun j => (colF0_at _ j).trans (gColF m c t 0 j hA hF)) (fun j d => (ldQ0_at _ j d).trans (kEnt m c t 0 j d hA)) (fun j d => (ldQ0_at _ j d).trans (vEnt m c t 0 j d hA)) ((before m c 0 t ht ih).congr rfl (fun x y => ldC0_at _ x y) (fun y => ldN0_at _ y) (ldM0_at _ 0))).congr (by omega)  (fun x y => stC0_B m c t ht x y) (fun y => stN0_B m c t ht y) (stM0_B m c t ht 0)

theorem after0 (hA : Fine (mA m c)) (hI : Fine (mI m c)) (hF : Fine (mF m c)) : ∀ (n : ℕ) (hn : n < cfg0.N), After m c 0 n hn := by
  intro n
  induction n using Nat.strong_induction_on with
  | _ n ih =>
    intro hn
    by_cases ht : n % 32 = 0
    · exact step0_A m c ⟨n, hn⟩ ht hA hI hF
    · exact step0_B m c ⟨n, hn⟩ ht hA hI hF (ih (n - 1) (by omega) _)

theorem out0 (hA : Fine (mA m c)) (hI : Fine (mI m c)) (hF : Fine (mF m c)) (t : Fin cfg0.N) (x y : Fin 256) :
    (outsAt0 m c t.val t.isLt).1 (ix2 x ⟨0 + y.val, by omega⟩)
      = spec (mA m c) (mI m c) (mF m c) (mN m c) (bt t.val t.isLt) 0 (256 * (t.val % 32) + x.val) y := by
  have eo := (ldQ0_at (iblk m c 3 t) x y).trans (oEnt m c t 0 x y)
  have ea := (ldA0_at (iblk m c 8 t) y).trans (blk8 m c t 0 y)
  by_cases ht : t.val % 32 = 0
  · refine (stO0_A m c t ht x y).trans ?_
    rw [hOut_at, eo, ea, spec]
    congr 1
    funext z
    exact out_real _ _ (256 * (t.val % 32)) _ _ _ (fun j => (rowI0_at _ j).trans (gRowI m c t 0 j hA hI)) (fun j => (rowF0_at _ j).trans (gRowF m c t 0 j hA hF)) (fun j => (colF0_at _ j).trans (gColF m c t 0 j hA hF)) (fun j d => (ldQ0_at _ j d).trans (qEnt m c t 0 j d hA)) (fun j d => (ldQ0_at _ j d).trans (kEnt m c t 0 j d hA)) (fun j d => (ldQ0_at _ j d).trans (vEnt m c t 0 j d hA)) ((StateOK.zero _ _ _ _).congr (by omega) (fun x y => (ldC0_at _ x y).trans (pay4_zero _)) (fun y => (ldN0_at _ y).trans (pay5_zero _)) ((ldM0_at _ 0).trans (pay6_zero _))) x z
  · have ih := after0 m c hA hI hF (t.val - 1) (Nat.lt_of_le_of_lt (Nat.sub_le _ _) t.isLt)
    refine (stO0_B m c t ht x y).trans ?_
    rw [hOut_at, eo, ea, spec]
    congr 1
    funext z
    exact out_real _ _ (256 * (t.val % 32)) _ _ _ (fun j => (rowI0_at _ j).trans (gRowI m c t 0 j hA hI)) (fun j => (rowF0_at _ j).trans (gRowF m c t 0 j hA hF)) (fun j => (colF0_at _ j).trans (gColF m c t 0 j hA hF)) (fun j d => (ldQ0_at _ j d).trans (qEnt m c t 0 j d hA)) (fun j d => (ldQ0_at _ j d).trans (kEnt m c t 0 j d hA)) (fun j d => (ldQ0_at _ j d).trans (vEnt m c t 0 j d hA)) ((before m c 0 t ht ih).congr rfl (fun x y => ldC0_at _ x y) (fun y => ldN0_at _ y) (ldM0_at _ 0)) x z
end

section
theorem step1_A (t : Fin cfg0.N) (ht : t.val % 32 = 0) (hA : Fine (mA m c)) (hI : Fine (mI m c)) (hF : Fine (mF m c)) : After m c 1 t.val t.isLt :=
  (state_real _ _ (256 * (t.val % 32)) _ _ (fun j => (rowI1_at _ j).trans (gRowI m c t 1 j hA hI)) (fun j => (rowF1_at _ j).trans (gRowF m c t 1 j hA hF)) (fun j => (colI1_at _ j).trans (gColI m c t 1 j hA hI)) (fun j => (colF1_at _ j).trans (gColF m c t 1 j hA hF)) (fun j d => (ldQ1_at _ j d).trans (kEnt m c t 1 j d hA)) (fun j d => (ldQ1_at _ j d).trans (vEnt m c t 1 j d hA)) ((StateOK.zero _ _ _ _).congr (by omega) (fun x y => (ldC1_at _ x y).trans (pay4_zero _)) (fun y => (ldN1_at _ y).trans (pay5_zero _)) ((ldM1_at _ 0).trans (pay6_zero _)))).congr (by omega)  (fun x y => stC1_A m c t ht x y) (fun y => stN1_A m c t ht y) (stM1_A m c t ht 0)

theorem step1_B (t : Fin cfg0.N) (ht : ¬ t.val % 32 = 0) (hA : Fine (mA m c)) (hI : Fine (mI m c)) (hF : Fine (mF m c))
    (ih : After m c 1 (t.val - 1) (Nat.lt_of_le_of_lt (Nat.sub_le _ _) t.isLt)) : After m c 1 t.val t.isLt :=
  (state_real _ _ (256 * (t.val % 32)) _ _ (fun j => (rowI1_at _ j).trans (gRowI m c t 1 j hA hI)) (fun j => (rowF1_at _ j).trans (gRowF m c t 1 j hA hF)) (fun j => (colI1_at _ j).trans (gColI m c t 1 j hA hI)) (fun j => (colF1_at _ j).trans (gColF m c t 1 j hA hF)) (fun j d => (ldQ1_at _ j d).trans (kEnt m c t 1 j d hA)) (fun j d => (ldQ1_at _ j d).trans (vEnt m c t 1 j d hA)) ((before m c 1 t ht ih).congr rfl (fun x y => ldC1_at _ x y) (fun y => ldN1_at _ y) (ldM1_at _ 0))).congr (by omega)  (fun x y => stC1_B m c t ht x y) (fun y => stN1_B m c t ht y) (stM1_B m c t ht 0)

theorem after1 (hA : Fine (mA m c)) (hI : Fine (mI m c)) (hF : Fine (mF m c)) : ∀ (n : ℕ) (hn : n < cfg0.N), After m c 1 n hn := by
  intro n
  induction n using Nat.strong_induction_on with
  | _ n ih =>
    intro hn
    by_cases ht : n % 32 = 0
    · exact step1_A m c ⟨n, hn⟩ ht hA hI hF
    · exact step1_B m c ⟨n, hn⟩ ht hA hI hF (ih (n - 1) (by omega) _)

theorem out1 (hA : Fine (mA m c)) (hI : Fine (mI m c)) (hF : Fine (mF m c)) (t : Fin cfg0.N) (x y : Fin 256) :
    (outsAt0 m c t.val t.isLt).1 (ix2 x ⟨256 + y.val, by omega⟩)
      = spec (mA m c) (mI m c) (mF m c) (mN m c) (bt t.val t.isLt) 1 (256 * (t.val % 32) + x.val) y := by
  have eo := (ldQ1_at (iblk m c 3 t) x y).trans (oEnt m c t 1 x y)
  have ea := (ldA1_at (iblk m c 8 t) y).trans (blk8 m c t 1 y)
  by_cases ht : t.val % 32 = 0
  · refine (stO1_A m c t ht x y).trans ?_
    rw [hOut_at, eo, ea, spec]
    congr 1
    funext z
    exact out_real _ _ (256 * (t.val % 32)) _ _ _ (fun j => (rowI1_at _ j).trans (gRowI m c t 1 j hA hI)) (fun j => (rowF1_at _ j).trans (gRowF m c t 1 j hA hF)) (fun j => (colF1_at _ j).trans (gColF m c t 1 j hA hF)) (fun j d => (ldQ1_at _ j d).trans (qEnt m c t 1 j d hA)) (fun j d => (ldQ1_at _ j d).trans (kEnt m c t 1 j d hA)) (fun j d => (ldQ1_at _ j d).trans (vEnt m c t 1 j d hA)) ((StateOK.zero _ _ _ _).congr (by omega) (fun x y => (ldC1_at _ x y).trans (pay4_zero _)) (fun y => (ldN1_at _ y).trans (pay5_zero _)) ((ldM1_at _ 0).trans (pay6_zero _))) x z
  · have ih := after1 m c hA hI hF (t.val - 1) (Nat.lt_of_le_of_lt (Nat.sub_le _ _) t.isLt)
    refine (stO1_B m c t ht x y).trans ?_
    rw [hOut_at, eo, ea, spec]
    congr 1
    funext z
    exact out_real _ _ (256 * (t.val % 32)) _ _ _ (fun j => (rowI1_at _ j).trans (gRowI m c t 1 j hA hI)) (fun j => (rowF1_at _ j).trans (gRowF m c t 1 j hA hF)) (fun j => (colF1_at _ j).trans (gColF m c t 1 j hA hF)) (fun j d => (ldQ1_at _ j d).trans (qEnt m c t 1 j d hA)) (fun j d => (ldQ1_at _ j d).trans (kEnt m c t 1 j d hA)) (fun j d => (ldQ1_at _ j d).trans (vEnt m c t 1 j d hA)) ((before m c 1 t ht ih).congr rfl (fun x y => ldC1_at _ x y) (fun y => ldN1_at _ y) (ldM1_at _ 0)) x z
end

section
theorem step2_A (t : Fin cfg0.N) (ht : t.val % 32 = 0) (hA : Fine (mA m c)) (hI : Fine (mI m c)) (hF : Fine (mF m c)) : After m c 2 t.val t.isLt :=
  (state_real _ _ (256 * (t.val % 32)) _ _ (fun j => (rowI2_at _ j).trans (gRowI m c t 2 j hA hI)) (fun j => (rowF2_at _ j).trans (gRowF m c t 2 j hA hF)) (fun j => (colI2_at _ j).trans (gColI m c t 2 j hA hI)) (fun j => (colF2_at _ j).trans (gColF m c t 2 j hA hF)) (fun j d => (ldQ2_at _ j d).trans (kEnt m c t 2 j d hA)) (fun j d => (ldQ2_at _ j d).trans (vEnt m c t 2 j d hA)) ((StateOK.zero _ _ _ _).congr (by omega) (fun x y => (ldC2_at _ x y).trans (pay4_zero _)) (fun y => (ldN2_at _ y).trans (pay5_zero _)) ((ldM2_at _ 0).trans (pay6_zero _)))).congr (by omega)  (fun x y => stC2_A m c t ht x y) (fun y => stN2_A m c t ht y) (stM2_A m c t ht 0)

theorem step2_B (t : Fin cfg0.N) (ht : ¬ t.val % 32 = 0) (hA : Fine (mA m c)) (hI : Fine (mI m c)) (hF : Fine (mF m c))
    (ih : After m c 2 (t.val - 1) (Nat.lt_of_le_of_lt (Nat.sub_le _ _) t.isLt)) : After m c 2 t.val t.isLt :=
  (state_real _ _ (256 * (t.val % 32)) _ _ (fun j => (rowI2_at _ j).trans (gRowI m c t 2 j hA hI)) (fun j => (rowF2_at _ j).trans (gRowF m c t 2 j hA hF)) (fun j => (colI2_at _ j).trans (gColI m c t 2 j hA hI)) (fun j => (colF2_at _ j).trans (gColF m c t 2 j hA hF)) (fun j d => (ldQ2_at _ j d).trans (kEnt m c t 2 j d hA)) (fun j d => (ldQ2_at _ j d).trans (vEnt m c t 2 j d hA)) ((before m c 2 t ht ih).congr rfl (fun x y => ldC2_at _ x y) (fun y => ldN2_at _ y) (ldM2_at _ 0))).congr (by omega)  (fun x y => stC2_B m c t ht x y) (fun y => stN2_B m c t ht y) (stM2_B m c t ht 0)

theorem after2 (hA : Fine (mA m c)) (hI : Fine (mI m c)) (hF : Fine (mF m c)) : ∀ (n : ℕ) (hn : n < cfg0.N), After m c 2 n hn := by
  intro n
  induction n using Nat.strong_induction_on with
  | _ n ih =>
    intro hn
    by_cases ht : n % 32 = 0
    · exact step2_A m c ⟨n, hn⟩ ht hA hI hF
    · exact step2_B m c ⟨n, hn⟩ ht hA hI hF (ih (n - 1) (by omega) _)

theorem out2 (hA : Fine (mA m c)) (hI : Fine (mI m c)) (hF : Fine (mF m c)) (t : Fin cfg0.N) (x y : Fin 256) :
    (outsAt0 m c t.val t.isLt).1 (ix2 x ⟨512 + y.val, by omega⟩)
      = spec (mA m c) (mI m c) (mF m c) (mN m c) (bt t.val t.isLt) 2 (256 * (t.val % 32) + x.val) y := by
  have eo := (ldQ2_at (iblk m c 3 t) x y).trans (oEnt m c t 2 x y)
  have ea := (ldA2_at (iblk m c 8 t) y).trans (blk8 m c t 2 y)
  by_cases ht : t.val % 32 = 0
  · refine (stO2_A m c t ht x y).trans ?_
    rw [hOut_at, eo, ea, spec]
    congr 1
    funext z
    exact out_real _ _ (256 * (t.val % 32)) _ _ _ (fun j => (rowI2_at _ j).trans (gRowI m c t 2 j hA hI)) (fun j => (rowF2_at _ j).trans (gRowF m c t 2 j hA hF)) (fun j => (colF2_at _ j).trans (gColF m c t 2 j hA hF)) (fun j d => (ldQ2_at _ j d).trans (qEnt m c t 2 j d hA)) (fun j d => (ldQ2_at _ j d).trans (kEnt m c t 2 j d hA)) (fun j d => (ldQ2_at _ j d).trans (vEnt m c t 2 j d hA)) ((StateOK.zero _ _ _ _).congr (by omega) (fun x y => (ldC2_at _ x y).trans (pay4_zero _)) (fun y => (ldN2_at _ y).trans (pay5_zero _)) ((ldM2_at _ 0).trans (pay6_zero _))) x z
  · have ih := after2 m c hA hI hF (t.val - 1) (Nat.lt_of_le_of_lt (Nat.sub_le _ _) t.isLt)
    refine (stO2_B m c t ht x y).trans ?_
    rw [hOut_at, eo, ea, spec]
    congr 1
    funext z
    exact out_real _ _ (256 * (t.val % 32)) _ _ _ (fun j => (rowI2_at _ j).trans (gRowI m c t 2 j hA hI)) (fun j => (rowF2_at _ j).trans (gRowF m c t 2 j hA hF)) (fun j => (colF2_at _ j).trans (gColF m c t 2 j hA hF)) (fun j d => (ldQ2_at _ j d).trans (qEnt m c t 2 j d hA)) (fun j d => (ldQ2_at _ j d).trans (kEnt m c t 2 j d hA)) (fun j d => (ldQ2_at _ j d).trans (vEnt m c t 2 j d hA)) ((before m c 2 t ht ih).congr rfl (fun x y => ldC2_at _ x y) (fun y => ldN2_at _ y) (ldM2_at _ 0)) x z
end

section
theorem step3_A (t : Fin cfg0.N) (ht : t.val % 32 = 0) (hA : Fine (mA m c)) (hI : Fine (mI m c)) (hF : Fine (mF m c)) : After m c 3 t.val t.isLt :=
  (state_real _ _ (256 * (t.val % 32)) _ _ (fun j => (rowI3_at _ j).trans (gRowI m c t 3 j hA hI)) (fun j => (rowF3_at _ j).trans (gRowF m c t 3 j hA hF)) (fun j => (colI3_at _ j).trans (gColI m c t 3 j hA hI)) (fun j => (colF3_at _ j).trans (gColF m c t 3 j hA hF)) (fun j d => (ldQ3_at _ j d).trans (kEnt m c t 3 j d hA)) (fun j d => (ldQ3_at _ j d).trans (vEnt m c t 3 j d hA)) ((StateOK.zero _ _ _ _).congr (by omega) (fun x y => (ldC3_at _ x y).trans (pay4_zero _)) (fun y => (ldN3_at _ y).trans (pay5_zero _)) ((ldM3_at _ 0).trans (pay6_zero _)))).congr (by omega)  (fun x y => stC3_A m c t ht x y) (fun y => stN3_A m c t ht y) (stM3_A m c t ht 0)

theorem step3_B (t : Fin cfg0.N) (ht : ¬ t.val % 32 = 0) (hA : Fine (mA m c)) (hI : Fine (mI m c)) (hF : Fine (mF m c))
    (ih : After m c 3 (t.val - 1) (Nat.lt_of_le_of_lt (Nat.sub_le _ _) t.isLt)) : After m c 3 t.val t.isLt :=
  (state_real _ _ (256 * (t.val % 32)) _ _ (fun j => (rowI3_at _ j).trans (gRowI m c t 3 j hA hI)) (fun j => (rowF3_at _ j).trans (gRowF m c t 3 j hA hF)) (fun j => (colI3_at _ j).trans (gColI m c t 3 j hA hI)) (fun j => (colF3_at _ j).trans (gColF m c t 3 j hA hF)) (fun j d => (ldQ3_at _ j d).trans (kEnt m c t 3 j d hA)) (fun j d => (ldQ3_at _ j d).trans (vEnt m c t 3 j d hA)) ((before m c 3 t ht ih).congr rfl (fun x y => ldC3_at _ x y) (fun y => ldN3_at _ y) (ldM3_at _ 0))).congr (by omega)  (fun x y => stC3_B m c t ht x y) (fun y => stN3_B m c t ht y) (stM3_B m c t ht 0)

theorem after3 (hA : Fine (mA m c)) (hI : Fine (mI m c)) (hF : Fine (mF m c)) : ∀ (n : ℕ) (hn : n < cfg0.N), After m c 3 n hn := by
  intro n
  induction n using Nat.strong_induction_on with
  | _ n ih =>
    intro hn
    by_cases ht : n % 32 = 0
    · exact step3_A m c ⟨n, hn⟩ ht hA hI hF
    · exact step3_B m c ⟨n, hn⟩ ht hA hI hF (ih (n - 1) (by omega) _)

theorem out3 (hA : Fine (mA m c)) (hI : Fine (mI m c)) (hF : Fine (mF m c)) (t : Fin cfg0.N) (x y : Fin 256) :
    (outsAt0 m c t.val t.isLt).1 (ix2 x ⟨768 + y.val, by omega⟩)
      = spec (mA m c) (mI m c) (mF m c) (mN m c) (bt t.val t.isLt) 3 (256 * (t.val % 32) + x.val) y := by
  have eo := (ldQ3_at (iblk m c 3 t) x y).trans (oEnt m c t 3 x y)
  have ea := (ldA3_at (iblk m c 8 t) y).trans (blk8 m c t 3 y)
  by_cases ht : t.val % 32 = 0
  · refine (stO3_A m c t ht x y).trans ?_
    rw [hOut_at, eo, ea, spec]
    congr 1
    funext z
    exact out_real _ _ (256 * (t.val % 32)) _ _ _ (fun j => (rowI3_at _ j).trans (gRowI m c t 3 j hA hI)) (fun j => (rowF3_at _ j).trans (gRowF m c t 3 j hA hF)) (fun j => (colF3_at _ j).trans (gColF m c t 3 j hA hF)) (fun j d => (ldQ3_at _ j d).trans (qEnt m c t 3 j d hA)) (fun j d => (ldQ3_at _ j d).trans (kEnt m c t 3 j d hA)) (fun j d => (ldQ3_at _ j d).trans (vEnt m c t 3 j d hA)) ((StateOK.zero _ _ _ _).congr (by omega) (fun x y => (ldC3_at _ x y).trans (pay4_zero _)) (fun y => (ldN3_at _ y).trans (pay5_zero _)) ((ldM3_at _ 0).trans (pay6_zero _))) x z
  · have ih := after3 m c hA hI hF (t.val - 1) (Nat.lt_of_le_of_lt (Nat.sub_le _ _) t.isLt)
    refine (stO3_B m c t ht x y).trans ?_
    rw [hOut_at, eo, ea, spec]
    congr 1
    funext z
    exact out_real _ _ (256 * (t.val % 32)) _ _ _ (fun j => (rowI3_at _ j).trans (gRowI m c t 3 j hA hI)) (fun j => (rowF3_at _ j).trans (gRowF m c t 3 j hA hF)) (fun j => (colF3_at _ j).trans (gColF m c t 3 j hA hF)) (fun j d => (ldQ3_at _ j d).trans (qEnt m c t 3 j d hA)) (fun j d => (ldQ3_at _ j d).trans (kEnt m c t 3 j d hA)) (fun j d => (ldQ3_at _ j d).trans (vEnt m c t 3 j d hA)) ((before m c 3 t ht ih).congr rfl (fun x y => ldC3_at _ x y) (fun y => ldN3_at _ y) (ldM3_at _ 0)) x z
end
end Cert.Head
-- ==== Proof.Ker.Result.lean ====
module

public import proofs.«01_k».proof.Proof.Ker.State
public import proofs.«01_k».proof.Proof.Gen.KernelIdeal.Value

/-! The kernel's result. -/

@[expose] public section
set_option maxRecDepth 16384
noncomputable section
namespace Cert.Head
open Idealize.ShloMosaic Idealize.ShloMosaic.TcCoe Idealize.SL.Sem Cert.Mem
open Cert.KernelIdeal Cert.KernelIdeal.Gen

variable (m : (ℓ : Loc nD τ sig) → Buf (Elt Ideal) ℓ) (c : Dev nD)

theorem out_all (hA : Fine (mA m c)) (hI : Fine (mI m c)) (hF : Fine (mF m c)) (t : Fin cfg0.N) (x : Fin 256)
    (z : Fin 1024) :
    (outsAt0 m c t.val t.isLt).1 (ix2 x z)
      = spec (mA m c) (mI m c) (mF m c) (mN m c) (bt t.val t.isLt) ⟨z.val / 256, by omega⟩
        (256 * (t.val % 32) + x.val) ⟨z.val % 256, Nat.mod_lt _ (by norm_num)⟩ := by
  have hz := z.isLt
  have key : ∀ (h : Fin 4) (w : Fin 1024), w.val = 256 * h.val + z.val % 256 → z.val / 256 = h.val → w = z ∧
      (⟨z.val / 256, by omega⟩ : Fin 4) = h := fun h w e1 e2 => ⟨Fin.ext (by omega), Fin.ext e2⟩
  have hc : z.val / 256 = 0 ∨ z.val / 256 = 1 ∨ z.val / 256 = 2 ∨ z.val / 256 = 3 := by omega
  rcases hc with h | h | h | h
  · obtain ⟨e1, e2⟩ := key 0 ⟨0 + z.val % 256, by omega⟩ rfl h
    have := out0 m c hA hI hF t x ⟨z.val % 256, Nat.mod_lt _ (by norm_num)⟩
    rw [← e2] at this
    exact (congrArg (fun w => (outsAt0 m c t.val t.isLt).1 (ix2 x w)) e1.symm).trans this
  · obtain ⟨e1, e2⟩ := key 1 ⟨256 + z.val % 256, by omega⟩ rfl h
    have := out1 m c hA hI hF t x ⟨z.val % 256, Nat.mod_lt _ (by norm_num)⟩
    rw [← e2] at this
    exact (congrArg (fun w => (outsAt0 m c t.val t.isLt).1 (ix2 x w)) e1.symm).trans this
  · obtain ⟨e1, e2⟩ := key 2 ⟨512 + z.val % 256, by omega⟩ rfl h
    have := out2 m c hA hI hF t x ⟨z.val % 256, Nat.mod_lt _ (by norm_num)⟩
    rw [← e2] at this
    exact (congrArg (fun w => (outsAt0 m c t.val t.isLt).1 (ix2 x w)) e1.symm).trans this
  · obtain ⟨e1, e2⟩ := key 3 ⟨768 + z.val % 256, by omega⟩ rfl h
    have := out3 m c hA hI hF t x ⟨z.val % 256, Nat.mod_lt _ (by norm_num)⟩
    rw [← e2] at this
    exact (congrArg (fun w => (outsAt0 m c t.val t.isLt).1 (ix2 x w)) e1.symm).trans this

theorem arr_eq (hA : Fine (mA m c)) (hI : Fine (mI m c)) (hF : Fine (mF m c)) :
    ((dats m 0 c).arrAt 9 cfg0.N : FVec Ideal SO .bf16) = specV (mA m c) (mI m c) (mF m c) (mN m c) := by
  refine (dats m 0 c).arrAt_eq_of_covers 9 (specV (mA m c) (mI m c) (mF m c) (mN m c)) (by decide +kernel) (fun t hf y => ?_)
  have ht := lt64 t
  have hi := (idx t).2.2.2.2.2
  have h0 : (((cfg0.win 9).blk t).view.emb y 0).val = 256 * t.val + (y 0).val := by
    have e : (((cfg0.win 9).blk t).view.emb y 0).val = win0_9.index t (0 : Fin 2) * 256 + 1 * (y 0).val := rfl
    rw [e, hi]
    show t.val * 256 + 1 * _ = _
    ring
  have h1 : (((cfg0.win 9).blk t).view.emb y 1).val = (y 1).val := by
    have e : (((cfg0.win 9).blk t).view.emb y 1).val = win0_9.index t (1 : Fin 2) * 1024 + 1 * (y 1).val := rfl
    rw [e, hi]
    show 0 * 1024 + 1 * _ = _
    ring
  have hy0 : (y 0).val < 256 := (y 0).isLt
  have hy1 : (y 1).val < 1024 := (y 1).isLt
  refine (congrFun (Value.flushed9 m c t) y).trans ?_
  have e := out_all m c hA hI hF t ⟨(y 0).val, hy0⟩ ⟨(y 1).val, hy1⟩
  have ey : ((cfg0.win 9).xinj (grid0.coords t) y) = (ix2 ⟨(y 0).val, hy0⟩ ⟨(y 1).val, hy1⟩ : S256x1024.Idx) := by
    funext i
    fin_cases i <;> rfl
  show (outsAt0 m c t.val t.isLt).1 ((cfg0.win 9).xinj (grid0.coords t) y) = _
  rw [ey, e, specV]
  have a1 : (⟨(((cfg0.win 9).blk t).view.emb y 0).val / 8192, by rw [h0]; omega⟩ : Fin 2) = bt t.val t.isLt :=
    Fin.ext (by show _ / 8192 = t.val / 32; rw [h0]; omega)
  have a2 : (((cfg0.win 9).blk t).view.emb y 0).val % 8192 = 256 * (t.val % 32) + (y 0).val := by rw [h0]; omega
  have a3 : (⟨(((cfg0.win 9).blk t).view.emb y 1).val / 256, by rw [h1]; omega⟩ : Fin 4) = ⟨(y 1).val / 256, by omega⟩ :=
    Fin.ext (by dsimp only; rw [h1])
  have a4 : (⟨(((cfg0.win 9).blk t).view.emb y 1).val % 256, Nat.mod_lt _ (by norm_num)⟩ : Fin 256) = ⟨(y 1).val % 256, Nat.mod_lt _ (by norm_num)⟩ :=
    Fin.ext (by dsimp only; rw [h1])
  rw [a1, a2, a3, a4]

open Value in
theorem run_spec (ρ : Dev nD → PrngReg)
    (hm : ∀ c, Fine (mA m c) ∧ Fine (mI m c) ∧ Fine (mF m c)) :
    θ_run defs (onTc (τ := τ) (main (F := Ideal))) ⟨m, fun _ => 0, ρ⟩ fun r => ∀ c : Dev nD,
      (r.2.mem ((c : Thread nD τ).loc main_v18) : FVec Ideal SO .bf16) = specV (mA m c) (mI m c) (mF m c) (mN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr_eq m c (hm c).1 (hm c).2.1 (hm c).2.2), (h c).2⟩)
    (Value.run_blocks m ρ)
end Cert.Head
-- ==== Proof.Ref.Trip.lean ====
module

public import proofs.«01_k».proof.Proof.Gen.ReferenceIdeal.Run
public import proofs.«01_k».proof.Proof.Gen.ReferenceIdeal.Step

@[expose] public section

/-! The reference's loop as one function iterated: the buffers the loop carries hold, before trip `k`, the `k`-th of a
    sequence of states that begins at the initial one, and each trip takes a state to the next. -/

set_option maxRecDepth 16384

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The state a valuation of the carried buffers shows. -/
def seen (V : Valuation τ sig (Elt F)) : State F :=
  { main_v43_7 := V (Proc.devRef .tc main_v43_7), main_v43_8 := V (Proc.devRef .tc main_v43_8)
    main_v43_9 := V (Proc.devRef .tc main_v43_9), main_v43_10 := V (Proc.devRef .tc main_v43_10)
    main_v43_0 := V (Proc.devRef .tc main_v43_0), main_v43_1 := V (Proc.devRef .tc main_v43_1)
    main_v43_2 := V (Proc.devRef .tc main_v43_2), main_v43_3 := V (Proc.devRef .tc main_v43_3)
    main_v43_4 := V (Proc.devRef .tc main_v43_4) }

/-- The loop's counter stands at `j` and its mask is the lower triangle. -/
structure Ready (V : Valuation τ sig (Elt F)) (j : ℕ) : Prop where
  count : V (Proc.devRef .tc main_v43_6) = constantI S_ 32 (BitVec.ofNat 32 j)
  mask : V (Proc.devRef .tc main_v43_5) = K_main_v38 (F := F)

variable {V : Valuation τ sig (Elt F)} {j : ℕ}

theorem q_eq (h : Ready V j) : res_main_while0b_v71 V = b5 j (seen V) := by
  unfold res_main_while0b_v71; rw [h.count]; rfl
theorem k_eq (h : Ready V j) : res_main_while0b_v72 V = b11 j (seen V) := by
  unfold res_main_while0b_v72; rw [h.count]; rfl
theorem v_eq (h : Ready V j) : res_main_while0b_v73 V = b17 j (seen V) := by
  unfold res_main_while0b_v73; rw [h.count]; rfl
theorem i_eq (h : Ready V j) : res_main_while0b_v74 V = b22 j (seen V) := by
  unfold res_main_while0b_v74; rw [h.count]; rfl
theorem b_eq (h : Ready V j) : res_main_while0b_v76 V = b30 j (seen V) := by
  unfold res_main_while0b_v76; rw [h.count]; rfl
theorem dmat_eq (h : Ready V j) : res_main_while0b_v85 V = b43 j (seen V) := by
  unfold res_main_while0b_v85; rw [b_eq h, i_eq h, h.mask]; rfl
theorem inter_eq (h : Ready V j) : res_main_while0b_v88 V = b46 j (seen V) := by
  unfold res_main_while0b_v88; rw [b_eq h]; rfl
theorem mt_eq (h : Ready V j) : res_main_while0b_v90 V = b49 j (seen V) := by
  unfold res_main_while0b_v90; rw [inter_eq h, dmat_eq h]; rfl
theorem s_eq (h : Ready V j) : res_main_while0b_v96 V = b55 j (seen V) := by
  unfold res_main_while0b_v96; rw [q_eq h, k_eq h, dmat_eq h, mt_eq h]; rfl
theorem w_eq (h : Ready V j) : res_main_while0b_v98 V = b57 j (seen V) := by
  unfold res_main_while0b_v98; rw [inter_eq h, mt_eq h]; rfl
theorem last_eq (h : Ready V j) : res_main_while0b_v117 V = b77 j (seen V) := by
  unfold res_main_while0b_v117; rw [b_eq h]; rfl
theorem g_eq (h : Ready V j) : res_main_while0b_v121 V = b81 j (seen V) := by
  unfold res_main_while0b_v121; rw [last_eq h, b_eq h, i_eq h]; rfl
theorem mnew_eq (h : Ready V j) : res_main_while0b_v124 V = b85 j (seen V) := by
  unfold res_main_while0b_v124; rw [last_eq h, g_eq h]; rfl
theorem decay_eq (h : Ready V j) : res_main_while0b_v127 V = b88 j (seen V) := by
  unfold res_main_while0b_v127; rw [last_eq h, mnew_eq h]; rfl
theorem wk_eq (h : Ready V j) : res_main_while0b_v134 V = b95 j (seen V) := by
  unfold res_main_while0b_v134; rw [g_eq h, mnew_eq h, k_eq h]; rfl

theorem memory_eq (h : Ready V j) : Value.step_main_v43_7 V = b100 j (seen V) := by
  unfold Value.step_main_v43_7; rw [decay_eq h, wk_eq h, v_eq h]; rfl
theorem normal_eq (h : Ready V j) : Value.step_main_v43_8 V = b106 j (seen V) := by
  unfold Value.step_main_v43_8; rw [decay_eq h, wk_eq h]; rfl
theorem max_eq (h : Ready V j) : Value.step_main_v43_9 V = b85 j (seen V) := by
  unfold Value.step_main_v43_9; rw [mnew_eq h]; rfl
theorem out_eq (h : Ready V j) : Value.step_main_v43_10 V = b112 j (seen V) := by
  unfold Value.step_main_v43_10; rw [s_eq h, v_eq h, w_eq h, q_eq h, mt_eq h, h.count]; rfl
theorem count_eq (h : Ready V j) : step_main_v43_6 V = constantI S_ 32 (BitVec.ofNat 32 (j + 1)) := by
  unfold step_main_v43_6
  rw [h.count]
  funext i
  show BitVec.ofNat 32 j + 1#32 = BitVec.ofNat 32 (j + 1)
  simp only [BitVec.ofNat_add]

theorem ready_next (h : Ready V j) : Ready (STEP V) (j + 1) :=
  ⟨(STEP_main_v43_6 V).trans (count_eq h), (STEP_main_v43_5 V).trans h.mask⟩

theorem seen_next (h : Ready V j) : seen (STEP V) = step j (seen V) := by
  unfold seen
  rw [STEP_main_v43_7, STEP_main_v43_8, STEP_main_v43_9, STEP_main_v43_10, STEP_main_v43_0, STEP_main_v43_1,
    STEP_main_v43_2, STEP_main_v43_3, STEP_main_v43_4, memory_eq h, normal_eq h, max_eq h, out_eq h]
  unfold step; rfl

variable (m : (ℓ : Loc nD τ sig) → Buf (Elt F) ℓ) (c : Dev nD)

/-- The state before trip `k`, of the three arguments the loop's operands are made of. -/
def states (x0 : FVec F S2x8192x6152 .f32) (x1 x2 : FVec F S4 .f32) : ℕ → State F
  | 0 => init x0 x1 x2
  | k + 1 => step k (states x0 x1 x2 k)

set_option maxRecDepth 65536 in
set_option maxHeartbeats 500000 in
theorem ready_first : Ready (entryContents preI m c) 0 := by
  constructor <;> (simp only [entryContents, afterL_cons, afterL_nil]; after_reads_simp) <;> rfl

set_option maxRecDepth 65536 in
set_option maxHeartbeats 1000000 in
theorem seen_first : seen (entryContents preI m c)
    = init (m ((c.tc : Thread nD τ).loc main_arg0)) (m ((c.tc : Thread nD τ).loc main_arg1)) (m ((c.tc : Thread nD τ).loc main_arg2)) := by
  unfold seen init
  congr 1 <;> (simp only [entryContents, afterL_cons, afterL_nil]; after_reads_simp) <;> rfl

theorem ready_at : ∀ k, Ready (STEP^[k] (entryContents preI m c)) k
  | 0 => ready_first m c
  | k + 1 => by rw [Function.iterate_succ_apply']; exact ready_next (ready_at k)

theorem seen_at : ∀ k, seen (STEP^[k] (entryContents preI m c))
    = states (m ((c.tc : Thread nD τ).loc main_arg0)) (m ((c.tc : Thread nD τ).loc main_arg1)) (m ((c.tc : Thread nD τ).loc main_arg2)) k
  | 0 => seen_first m c
  | k + 1 => by
    rw [Function.iterate_succ_apply', seen_next (ready_at m c k), seen_at k]; rfl

theorem result_eq (V : Valuation τ sig (Elt F)) {x0 : FVec F S2x8192x6152 .f32} {x3 : FVec F S4x256 .f32}
    (h0 : V (Proc.devRef .tc main_arg0) = x0) (h3 : V (Proc.devRef .tc main_arg3) = x3) :
    out_main_v70 V = R_main_v70 (seen V) x0 x3 := by
  unfold out_main_v70 R_main_v70
  rw [h0, h3]; rfl

/-- The reference's run: its result is the last operations' term of the state after the 128 trips. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v70)
        = R_main_v70 (states (m ((c.tc : Thread nD τ).loc main_arg0)) (m ((c.tc : Thread nD τ).loc main_arg1)) (m ((c.tc : Thread nD τ).loc main_arg2)) 128)
            (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2⟩
    rw [← seen_at m c 128]
    exact result_eq _ (iter_main_arg0 m c 128) (iter_main_arg3 m c 128)) (Value.run m ρ)

end Cert.ReferenceIdeal.Trip
-- ==== Proof.Ref.Chunk.lean ====
module

public import proofs.«01_k».proof.Proof.Ref.Trip
public import proofs.«01_k».proof.Proof.Math.Seq
public import Idealize.ShloMosaic.Lib.DynamicIndex
public import Idealize.ShloMosaic.Lib.WordCmp
public import Idealize.ShloMosaic.Lib.Pointwise
public import Idealize.ShloMosaic.Lib.Claim

/-! One trip of the reference's loop, entry by entry. -/

@[expose] public section
set_option maxRecDepth 16384
noncomputable section
namespace Cert.ReferenceIdeal.Chunk
open Idealize.ShloMosaic Idealize.ShloMosaic.TcCoe Idealize.SL.Sem
open Cert.ReferenceIdeal Cert.ReferenceIdeal.Gen Cert.ReferenceIdeal.Step

variable (s : State Ideal) (j : ℕ)

theorem word (hj : j < 128) : (BitVec.ofNat 32 j).toInt = (j : Int) := by
  rw [BitVec.toInt_eq_toNat_cond, BitVec.toNat_ofNat, Nat.mod_eq_of_lt (by omega), if_pos (by omega)]

theorem window : ∀ n : Fin (⟨3, ![1, 1, 64]⟩ : Shape).numel,
    ((⟨3, ![1, 1, 64]⟩ : Shape).rowMajor.symm n 0).val = 0 ∧ ((⟨3, ![1, 1, 64]⟩ : Shape).rowMajor.symm n 1).val = 0
    ∧ ((⟨3, ![1, 1, 64]⟩ : Shape).rowMajor.symm n 2).val = n.val := by
  decide +kernel

theorem foldl_add {n : ℕ} (l : List (Fin n)) (g : Fin n → EReal) (z : EReal) :
    l.foldl (fun r n => r + g n) z = z + (l.map g).sum := by
  induction l generalizing z with
  | nil => simp
  | cons a l ih => simp [ih, add_assoc]

abbrev W3 : Shape := ⟨3, ![1, 1, 64]⟩
theorem numelW : W3.numel = 64 := by decide +kernel

/-- One window of the running sum. -/
theorem window_sum (x : FVec Ideal S2x4x64 .f32) (v : EReal) (hv : v = 0) (p : Fin W3.numel → Fin 3 → Nat)
    (lo : Fin 3 → Nat) (hlo : lo = ![0, 0, 63])
    (β : Fin 2) (h : Fin 4) (t : Fin 64) (hp : ∀ n, p n 0 = β.val ∧ p n 1 = h.val ∧ p n 2 = t.val + n.val)
    (D : ∀ n, Decidable (∀ a, lo a ≤ p n a ∧ p n a - lo a < S2x4x64.size a)) :
    (∑ n, @dite EReal (∀ a, lo a ≤ p n a ∧ p n a - lo a < S2x4x64.size a) (D n)
        (fun hin => x (fun a => ⟨p n a - lo a, (hin a).2⟩)) (fun _ => v))
      = ∑ k : Fin 64, if k ≤ t then (x (ix3 β h k) : EReal) else 0 := by
  have ht := t.isLt
  subst hlo hv
  refine (Fintype.sum_equiv ((finCongr numelW).trans (Equiv.addRight (t + 1))) _ _ fun n => ?_)
  have hn : n.val < 64 := lt_of_lt_of_eq n.isLt numelW
  obtain ⟨w0, w1, w2⟩ := hp n
  have ev : ((((finCongr numelW).trans (Equiv.addRight (t + 1))) n : Fin 64)).val = (n.val + (t.val + 1) % 64) % 64 := by
    simp [Fin.val_add]; omega
  split
  · next hin =>
    have h2 : 63 ≤ p n 2 := (hin 2).1
    rw [w2] at h2
    have el : ((((finCongr numelW).trans (Equiv.addRight (t + 1))) n : Fin 64)).val = t.val + n.val - 63 := by rw [ev]; omega
    rw [if_pos (by rw [Fin.le_def, el]; omega)]
    refine congrArg x (funext fun a => Fin.ext ?_)
    match a with
    | 0 => show p n 0 - 0 = β.val; rw [w0]; omega
    | 1 => show p n 1 - 0 = h.val; rw [w1]; omega
    | 2 =>
      show p n 2 - 63 = ((((finCongr numelW).trans (Equiv.addRight (t + 1))) n : Fin 64)).val
      rw [w2, el]
  · next hin =>
    have : t.val + n.val < 63 := by
      by_contra hc
      refine hin fun a => ?_
      match a with
      | 0 => show 0 ≤ p n 0 ∧ p n 0 - 0 < 2; rw [w0]; omega
      | 1 => show 0 ≤ p n 1 ∧ p n 1 - 0 < 4; rw [w1]; omega
      | 2 => show 63 ≤ p n 2 ∧ p n 2 - 63 < 64; rw [w2]; omega
    rw [if_neg (by rw [Fin.le_def, ev]; omega)]

/-- The reference's running sum along the last axis. -/
theorem cumsum (x : FVec Ideal S2x4x64 .f32) (z : FVec Ideal S_ .f32) (hz : ∀ i, z i = (0 : EReal)) (β : Fin 2) (h : Fin 4) (t : Fin 64) :
    Host.reduceWindowAdd ![1, 1, 64] ![1, 1, 1] ![0, 0, 63] ![0, 0, 0] x z
      reduceWindows_S2x4x64_S2x4x64_w1s1p0_0_w1s1p0_0_w64s1p63_0 h_S_ (ix3 β h t)
      = ∑ k : Fin 64, if k ≤ t then (x (ix3 β h k) : EReal) else 0 := by
  have e : Host.reduceWindowAdd ![1, 1, 64] ![1, 1, 1] ![0, 0, 63] ![0, 0, 0] x z
      reduceWindows_S2x4x64_S2x4x64_w1s1p0_0_w1s1p0_0_w64s1p63_0 h_S_ (ix3 β h t)
      = Host.reduceWindow (α := EReal) (· + ·) ![1, 1, 64] ![1, 1, 1] ![0, 0, 63] ![0, 0, 0] x
        (fun _ : (⟨0, ![]⟩ : Shape).Idx => z (Shape.Idx.first h_S_)) reduceWindows_S2x4x64_S2x4x64_w1s1p0_0_w1s1p0_0_w64s1p63_0
          (by decide) (ix3 β h t) := rfl
  rw [e, Host.reduceWindow]
  refine (foldl_add _ _ _).trans ?_
  rw [hz, zero_add, ← List.ofFn_eq_map, List.sum_ofFn]
  refine window_sum x 0 rfl (fun n a => ((ix3 β h t : S2x4x64.Idx) a).val * (![1, 1, 1] : Fin 3 → ℕ) a + (W3.rowMajor.symm n a).val) _ rfl β h t (fun n => ?_) _
  obtain ⟨w0, w1, w2⟩ := window n
  refine ⟨?_, ?_, ?_⟩
  · show β.val * 1 + (W3.rowMajor.symm n 0).val = β.val
    rw [w0]; omega
  · show h.val * 1 + (W3.rowMajor.symm n 1).val = h.val
    rw [w1]; omega
  · show t.val * 1 + (W3.rowMajor.symm n 2).val = t.val + n.val
    rw [w2]; omega

theorem read5 (x : FVec Ideal S128x2x4x64x256 .f32) (start : Fin S128x2x4x64x256.rank → Int) (fit) (j : ℕ) (hj : j < 128) (h0 : start 0 = j)
    (h1 : start 1 = 0) (h2 : start 2 = 0) (h3 : start 3 = 0) (h4 : start 4 = 0)
    (β : Fin 2) (h : Fin 4) (t : Fin 64) (c : Fin 256) :
    Host.dynamicSlice S1x2x4x64x256 x start fit (ix5 0 β h t c) = x (ix5 ⟨j, hj⟩ β h t c) := by
  rw [Host.dynamicSlice_eq_extractStridedSlice S1x2x4x64x256 x start ![j, 0, 0, 0, 0] _ ⟨rfl, by intro a; fin_cases a <;> simp <;> omega⟩
    (by intro a; fin_cases a <;> assumption)]
  pointwise []

theorem read4 (x : FVec Ideal S128x2x4x64 .f32) (start : Fin S128x2x4x64.rank → Int) (fit) (j : ℕ) (hj : j < 128) (h0 : start 0 = j)
    (h1 : start 1 = 0) (h2 : start 2 = 0) (h3 : start 3 = 0)
    (β : Fin 2) (h : Fin 4) (t : Fin 64) :
    Host.dynamicSlice S1x2x4x64 x start fit (ix4 0 β h t) = x (ix4 ⟨j, hj⟩ β h t) := by
  rw [Host.dynamicSlice_eq_extractStridedSlice S1x2x4x64 x start ![j, 0, 0, 0] _ ⟨rfl, by intro a; fin_cases a <;> simp <;> omega⟩
    (by intro a; fin_cases a <;> assumption)]
  pointwise []

theorem write5 (x : FVec Ideal S128x2x4x64x256 .f32) (y : FVec Ideal S1x2x4x64x256 .f32) (start : Fin S128x2x4x64x256.rank → Int) (fit) (j : ℕ) (hj : j < 128) (h0 : start 0 = j)
    (h1 : start 1 = 0) (h2 : start 2 = 0) (h3 : start 3 = 0) (h4 : start 4 = 0)
    (k : Fin 128) (β : Fin 2) (h : Fin 4) (t : Fin 64) (c : Fin 256) :
    Host.dynamicUpdateSlice x y start fit (ix5 k β h t c) = if k.val = j then y (ix5 0 β h t c) else x (ix5 k β h t c) := by
  rw [WordCmp.dynamicUpdateSlice_eq_update x y start fit ![j, 0, 0, 0, 0] ⟨rfl, by intro a; fin_cases a <;> simp <;> omega⟩
    (by intro a; fin_cases a <;> assumption)]
  pointwise []
  by_cases hk : k.val = j
  · rw [dif_pos (by omega), if_pos hk]
    congr 2
    exact Fin.ext (by show k.val - j = 0; omega)
  · rw [dif_neg (by omega), if_neg hk]

theorem b5_at (hj : j < 128) (β : Fin 2) (h : Fin 4) (t : Fin 64) (c : Fin 256) :
    b5 j s (ix4 β h t c) = s.main_v43_0 (ix5 ⟨j, hj⟩ β h t c) := by
  pointwise [b5]
  unfold b4
  exact read5 _ _ _ _ hj (word j hj) rfl rfl rfl rfl _ _ _ _

theorem b11_at (hj : j < 128) (β : Fin 2) (h : Fin 4) (t : Fin 64) (c : Fin 256) :
    b11 j s (ix4 β h t c) = s.main_v43_1 (ix5 ⟨j, hj⟩ β h t c) := by
  pointwise [b11]
  unfold b10
  exact read5 _ _ _ _ hj (word j hj) rfl rfl rfl rfl _ _ _ _

theorem b17_at (hj : j < 128) (β : Fin 2) (h : Fin 4) (t : Fin 64) (c : Fin 256) :
    b17 j s (ix4 β h t c) = s.main_v43_2 (ix5 ⟨j, hj⟩ β h t c) := by
  pointwise [b17]
  unfold b16
  exact read5 _ _ _ _ hj (word j hj) rfl rfl rfl rfl _ _ _ _

theorem b22_at (hj : j < 128) (β : Fin 2) (h : Fin 4) (t : Fin 64) :
    b22 j s (ix3 β h t) = s.main_v43_3 (ix4 ⟨j, hj⟩ β h t) := by
  pointwise [b22]
  unfold b21
  exact read4 _ _ _ _ hj (word j hj) rfl rfl rfl _ _ _

theorem b27_at (hj : j < 128) (β : Fin 2) (h : Fin 4) (t : Fin 64) :
    b27 j s (ix3 β h t) = s.main_v43_4 (ix4 ⟨j, hj⟩ β h t) := by
  pointwise [b27]
  unfold b26
  exact read4 _ _ _ _ hj (word j hj) rfl rfl rfl _ _ _

theorem b30_at (β : Fin 2) (h : Fin 4) (t : Fin 64) :
    b30 j s (ix3 β h t) = ∑ k : Fin 64, if k ≤ t then (b27 j s (ix3 β h k) : EReal) else 0 := by
  unfold b30
  exact cumsum _ _ (fun i => by pointwise [b29, b28]) β h t

theorem sel_ge (u t : Fin 64) (a b : EReal) :
    Scalar.select (Scalar.select (IntOp.cmpi CmpIPredicate.sge (IntOp.addi (BitVec.ofNat 32 t.val) 0#32) (BitVec.ofNat 32 u.val)) 1#1 0#1) a b
      = if u ≤ t then a else b := by
  have key : ∀ u t : Fin 64, (Scalar.select (IntOp.cmpi CmpIPredicate.sge (IntOp.addi (BitVec.ofNat 32 t.val) 0#32) (BitVec.ofNat 32 u.val)) 1#1 0#1 : BitVec 1)
      = if u ≤ t then 1#1 else 0#1 := by decide +kernel
  rw [key]
  split_ifs <;> rfl

theorem b43_at (β : Fin 2) (h : Fin 4) (t u : Fin 64) :
    b43 j s (ix4 β h t u) = if u ≤ t then (b30 j s (ix3 β h t) - b30 j s (ix3 β h u) + b22 j s (ix3 β h u) : EReal) else ⊥ := by
  pointwise [b43, b42, b41, b40, b39, b38, b37, b36, b35, b34, b33, b32, b31, K_main_v38, K_main_v37, K_main_c, K_main_call1_v0, K_main_call1_v1, K_main_call1_v2, K_main_call1_v3, K_main_call1_v4, K_main_call1_v5, K_main_call1_c, K_main_call1_c_0]
  rw [Cert.Mem.ninf]
  exact sel_ge u t _ _
theorem b49_at (β : Fin 2) (h : Fin 4) (t : Fin 64) :
    b49 j s (ix3 β h t) = max (b30 j s (ix3 β h t) + s.main_v43_9 (ix2 β h) : EReal)
      (Finset.fold max (⊥ : EReal) (fun u : Fin 64 => b43 j s (ix4 β h t u)) Finset.univ) := by
  pointwise [b49, b48, b47, b46, b45, b44]
  rw [Cert.Mem.ninf]
theorem b55_at (β : Fin 2) (h : Fin 4) (t u : Fin 64) :
    b55 j s (ix4 β h t u) = (∑ c, b5 j s (ix4 β h t c) * b11 j s (ix4 β h u c)) * Ideal.exp (b43 j s (ix4 β h t u) - b49 j s (ix3 β h t)) := by
  pointwise [b55, b54, b53, b52, b51, b50]
theorem b75_at (β : Fin 2) (h : Fin 4) (t : Fin 64) (d : Fin 256) :
    b75 j s (ix4 β h t d) = Ideal.div
      (∑ x, b55 j s (ix4 β h t x) * b17 j s (ix4 β h x d) +
        Ideal.exp (b30 j s (ix3 β h t) + s.main_v43_9 (ix2 β h) - b49 j s (ix3 β h t)) *
          ∑ x, b5 j s (ix4 β h t x) * s.main_v43_7 (ix4 β h x d))
      (max
        (FloatOps.absf (F := Ideal) (φ := .f32)
          (∑ x, b55 j s (ix4 β h t x) +
            Ideal.exp (b30 j s (ix3 β h t) + s.main_v43_9 (ix2 β h) - b49 j s (ix3 β h t)) *
              ∑ x, b5 j s (ix4 β h t x) * s.main_v43_8 (ix3 β h x)))
        (Ideal.exp (-b49 j s (ix3 β h t)))) := by
  pointwise [b75, b74, b73, b72, b71, b70, b69, b68, b67, b66, b65, b64, b63, b62, b61, b60, b59, b58, b57, b56, b46, b45, b44]
theorem b85_at (β : Fin 2) (h : Fin 4) :
    b85 j s (ix2 β h) = max (b30 j s (ix3 β h 63) + s.main_v43_9 (ix2 β h) : EReal)
      (Finset.fold max (⊥ : EReal)
        (fun x => b30 j s (ix3 β h 63) - b30 j s (ix3 β h x) + b22 j s (ix3 β h x)) Finset.univ) := by
  pointwise [b85, b84, b83, b82, b81, b80, b79, b78, b77, b76]
  rw [Cert.Mem.ninf]
theorem b100_at (β : Fin 2) (h : Fin 4) (c d : Fin 256) :
    b100 j s (ix4 β h c d) = Ideal.exp (b30 j s (ix3 β h 63) + s.main_v43_9 (ix2 β h) - b85 j s (ix2 β h)) * s.main_v43_7 (ix4 β h c d) +
      ∑ x,
        Ideal.exp (b30 j s (ix3 β h 63) - b30 j s (ix3 β h x) + b22 j s (ix3 β h x) - b85 j s (ix2 β h)) *
            b11 j s (ix4 β h x c) *
          b17 j s (ix4 β h x d) := by
  pointwise [b100, b99, b98, b97, b96, b95, b94, b93, b92, b91, b90, b89, b88, b87, b86, b81, b80, b79, b78, b77, b76]
theorem b106_at (β : Fin 2) (h : Fin 4) (c : Fin 256) :
    b106 j s (ix3 β h c) = Ideal.exp (b30 j s (ix3 β h 63) + s.main_v43_9 (ix2 β h) - b85 j s (ix2 β h)) * s.main_v43_8 (ix3 β h c) +
      ∑ x,
        Ideal.exp (b30 j s (ix3 β h 63) - b30 j s (ix3 β h x) + b22 j s (ix3 β h x) - b85 j s (ix2 β h)) *
          b11 j s (ix4 β h x c) := by
  pointwise [b106, b105, b104, b103, b102, b101, b95, b94, b93, b92, b91, b90, b89, b88, b87, b86, b81, b80, b79, b78, b77, b76]
theorem b112_at (hj : j < 128) (k : Fin 128) (β : Fin 2) (h : Fin 4) (t : Fin 64) (d : Fin 256) :
    b112 j s (ix5 k β h t d) = if k.val = j then b75 j s (ix4 β h t d) else s.main_v43_10 (ix5 k β h t d) := by
  unfold b112
  rw [write5 _ _ _ _ j hj (word j hj) rfl rfl rfl rfl]
  pointwise [b107]
end Cert.ReferenceIdeal.Chunk
-- ==== Proof.Ref.Entries.lean ====
module

public import proofs.«01_k».proof.Proof.Ref.Chunk

/-! The chunked arrays of the reference, entry by entry. -/

@[expose] public section
set_option maxRecDepth 16384
noncomputable section
namespace Cert.ReferenceIdeal.Chunk
open Idealize.ShloMosaic Idealize.ShloMosaic.TcCoe Idealize.SL.Sem
open Cert.ReferenceIdeal Cert.ReferenceIdeal.Gen Cert.ReferenceIdeal.Step Cert.Head Cert.Mem

variable (A : FVec Ideal S2x8192x6152 .f32) (a b : FVec Ideal S4 .f32)

theorem colA_eq (β : Fin 2) (n : Fin 8192) (col : Fin 6152) (s : ℕ) (hs : s = n.val) :
    (A (ix3 β n col) : EReal) = colA A β col s := by
  have : (⟨s % 8192, Nat.mod_lt _ (by norm_num)⟩ : Fin 8192) = n := Fin.ext (by subst hs; exact Nat.mod_eq_of_lt n.isLt)
  rw [colA, this]

theorem ls_ref (x : ℝ) :
    -(max (-((x : ℝ) : EReal)) 0 + Ideal.log1p (Ideal.exp (-(FloatOps.absf (F := Ideal) (φ := .f32) (-((x : ℝ) : EReal))))))
      = ((ls x : ℝ) : EReal) := by
  rw [← EReal.coe_neg, coe_abs, ← EReal.coe_neg, Ideal.exp_coe, coe_log1p _ (Real.exp_pos _).le, ← EReal.coe_zero,
    coe_max, ← EReal.coe_add, ← EReal.coe_neg, ls, abs_neg]
  congr 1
  have : max (-x) 0 = - min x 0 := by
    rcases le_total x 0 with h | h
    · rw [min_eq_left h, max_eq_left (by linarith)]
    · rw [min_eq_right h, max_eq_right (by linarith)]; simp
  rw [this]; ring

theorem v28_at (k : Fin 128) (β : Fin 2) (h : Fin 4) (t : Fin 64) (c : Fin 256) (hA : Fine A) :
    (A_main_v28 (F := Ideal) A a b (ix5 k β h t c) : EReal) = ((sq A β h (64 * k.val + t.val) c * (1 / 16) : ℝ) : EReal) := by
  pointwise [A_main_v28, A_main_v27, A_main_v23, K_main_v22, K_main_cst, A_main_v17, A_main_v16, A_main_v0]
  rw [colA_eq A β _ _ (64 * k.val + t.val) (by dsimp only; omega), sixteenth, EReal.coe_mul]
  have e : ∀ p, (⟨h.val * 256 + c.val, p⟩ : Fin 6152) = ⟨256 * h.val + c.val, by omega⟩ := fun p => Fin.ext (by dsimp only; omega)
  rw [e]
  exact congrArg (· * ((1 / 16 : ℝ) : EReal)) (hA _)

theorem v30_at (k : Fin 128) (β : Fin 2) (h : Fin 4) (t : Fin 64) (c : Fin 256) (hA : Fine A) :
    (A_main_v30 (F := Ideal) A a b (ix5 k β h t c) : EReal) = ((sk A β h (64 * k.val + t.val) c : ℝ) : EReal) := by
  pointwise [A_main_v30, A_main_v29, A_main_v19, A_main_v18, A_main_v1]
  rw [colA_eq A β _ _ (64 * k.val + t.val) (by dsimp only; omega)]
  have e : ∀ p, (⟨1024 + (h.val * 256 + c.val), p⟩ : Fin 6152) = ⟨1024 + 256 * h.val + c.val, by omega⟩ := fun p => Fin.ext (by dsimp only; omega)
  rw [e]
  exact hA _

theorem v32_at (k : Fin 128) (β : Fin 2) (h : Fin 4) (t : Fin 64) (c : Fin 256) (hA : Fine A) :
    (A_main_v32 (F := Ideal) A a b (ix5 k β h t c) : EReal) = ((sv A β h (64 * k.val + t.val) c : ℝ) : EReal) := by
  pointwise [A_main_v32, A_main_v31, A_main_v21, A_main_v20, A_main_v2]
  rw [colA_eq A β _ _ (64 * k.val + t.val) (by dsimp only; omega)]
  have e : ∀ p, (⟨2048 + (h.val * 256 + c.val), p⟩ : Fin 6152) = ⟨2048 + 256 * h.val + c.val, by omega⟩ := fun p => Fin.ext (by dsimp only; omega)
  rw [e]
  exact hA _

theorem v34_at (k : Fin 128) (β : Fin 2) (h : Fin 4) (t : Fin 64) (hA : Fine A) (ha : Fine a) :
    (A_main_v34 (F := Ideal) A a b (ix4 k β h t) : EReal) = ((gi A a β h (64 * k.val + t.val) : ℝ) : EReal) := by
  pointwise [A_main_v34, A_main_v33, A_main_v11, A_main_v10, A_main_v9, A_main_v8, A_main_v4]
  rw [colA_eq A β _ _ (64 * k.val + t.val) (by dsimp only; omega)]
  exact add_fine (hA _) (ha _)

theorem v15_at (β : Fin 2) (h : Fin 4) (s : Fin 8192) (hA : Fine A) (hb : Fine b) :
    (A_main_v15 (F := Ideal) A a b (ix3 β h s) : EReal) = ((gf A b β h s.val : ℝ) : EReal) := by
  pointwise [A_main_v15, A_main_v14, A_main_v13, A_main_v12, A_main_v5]
  rw [colA_eq A β _ _ s.val rfl]
  exact add_fine (hA _) (hb _)

theorem v36_at (k : Fin 128) (β : Fin 2) (h : Fin 4) (t : Fin 64) (hA : Fine A) (hb : Fine b) :
    (A_main_v36 (F := Ideal) A a b (ix4 k β h t) : EReal) = ((ls (gf A b β h (64 * k.val + t.val)) : ℝ) : EReal) := by
  pointwise [A_main_v36, A_main_v35, A_main_v26, A_main_v25, A_main_call0_v11, A_main_call0_v10, A_main_call0_v9, A_main_call0_v8, A_main_call0_v7, A_main_call0_v6, A_main_call0_v4, A_main_call0_v3, A_main_call0_v1, K_main_call0_v0, K_main_call0_v2, K_main_call0_v5, K_main_call0_cst, A_main_v24]
  rw [if_neg (fun hc => hc rfl), v15_at A a b β h _ hA hb, ls_ref]
  exact congrArg (fun n => ((ls (gf A b β h n) : ℝ) : EReal)) (by dsimp only; omega)
end Cert.ReferenceIdeal.Chunk
-- ==== Proof.Ref.Loop.lean ====
module

public import proofs.«01_k».proof.Proof.Ref.Entries

/-! The reference's loop in terms of the memory of the whole sequence. -/

@[expose] public section
set_option maxRecDepth 16384
noncomputable section
namespace Cert.ReferenceIdeal.Chunk
open Idealize.ShloMosaic Idealize.ShloMosaic.TcCoe Idealize.SL.Sem
open Cert.ReferenceIdeal Cert.ReferenceIdeal.Gen Cert.ReferenceIdeal.Step Cert.Head Cert.Mem

section
variable {s : State Ideal} {j : ℕ} {β : Fin 2} {h : Fin 4} (i f : ℕ → ℝ) (q k v : ℕ → Fin 256 → ℝ) (p : ℕ)

/-- What a trip reads: the chunk beginning at position `p`. -/
structure Reads (s : State Ideal) (j : ℕ) (β : Fin 2) (h : Fin 4) (i f : ℕ → ℝ) (q k v : ℕ → Fin 256 → ℝ) (p : ℕ) : Prop where
  hq : ∀ t c, (b5 j s (ix4 β h t c) : EReal) = ((q (p + t.val) c * (1 / 16) : ℝ) : EReal)
  hk : ∀ t c, (b11 j s (ix4 β h t c) : EReal) = ((k (p + t.val) c : ℝ) : EReal)
  hv : ∀ t c, (b17 j s (ix4 β h t c) : EReal) = ((v (p + t.val) c : ℝ) : EReal)
  hi : ∀ t, (b22 j s (ix3 β h t) : EReal) = ((i (p + t.val) : ℝ) : EReal)
  hf : ∀ t, (b27 j s (ix3 β h t) : EReal) = ((ls (f (p + t.val)) : ℝ) : EReal)

variable {i f q k v p}

theorem sum_real (r : Reads s j β h i f q k v p) (t : Fin 64) :
    (b30 j s (ix3 β h t) : EReal) = ((P (fun s => ls (f s)) (p + t + 1) - P (fun s => ls (f s)) p : ℝ) : EReal) := by
  rw [b30_at, P_add, add_sub_cancel_left, ← coe_sum]
  refine Finset.sum_congr rfl fun n _ => ?_
  rw [r.hf]
  split_ifs <;> rfl

theorem mat_real (r : Reads s j β h i f q k v p) (t u : Fin 64) :
    (b43 j s (ix4 β h t u) : EReal) = if u ≤ t then ((P (fun s => ls (f s)) (p + t + 1) - P (fun s => ls (f s)) (p + u + 1) + i (p + u) : ℝ) : EReal) else ⊥ := by
  rw [b43_at, sum_real r, sum_real r, r.hi, ← EReal.coe_sub, ← EReal.coe_add]
  congr 3
  ring

theorem max_real (r : Reads s j β h i f q k v p) (m : ℝ) (hm : (s.main_v43_9 (ix2 β h) : EReal) = ((m : ℝ) : EReal)) :
    ∃ M : Fin 64 → ℝ, ∀ t, (b49 j s (ix3 β h t) : EReal) = ((M t : ℝ) : EReal) := by
  have : ∀ t, ∃ x : ℝ, (b49 j s (ix3 β h t) : EReal) = ((x : ℝ) : EReal) := by
    intro t
    rw [b49_at, hm, sum_real r, ← EReal.coe_add]
    simp only [mat_real r]
    exact fold_real _ _ _
  exact ⟨fun t => (this t).choose, fun t => (this t).choose_spec⟩

theorem out_ref (r : Reads s j β h i f q k v p)
    (hs : StateOK i f k v p (fun c d => s.main_v43_7 (ix4 β h c d)) (fun c => s.main_v43_8 (ix3 β h c)) (s.main_v43_9 (ix2 β h)))
    (t : Fin 64) (d : Fin 256) :
    (b75 j s (ix4 β h t d) : EReal) = ((mem i f q k v (p + t) d : ℝ) : EReal) := by
  obtain ⟨m, Cr, nr, hm, hC, hn⟩ := hs
  obtain ⟨M, hM⟩ := max_real r m hm
  have hS' : ∀ a u : Fin 64, (b55 j s (ix4 β h a u) : EReal)
      = (((∑ c, q (p + a) c * (1 / 16) * k (p + u) c) *
        (if u ≤ a then Real.exp (P (fun s => ls (f s)) (p + a + 1) - P (fun s => ls (f s)) (p + u + 1)
          + i (p + u) - M a) else 0) : ℝ) : EReal) := by
    intro a u
    rw [b55_at, mat_real r, hM]
    simp only [r.hq, r.hk, ← EReal.coe_mul, coe_sum]
    split_ifs
    · rw [← EReal.coe_sub, Ideal.exp_coe, ← EReal.coe_mul]
    · simp
  rw [b75_at]
  simp only [hS', hM, hm, hC, hn, r.hq, r.hv, sum_real r, ← EReal.coe_mul, coe_sum, ← EReal.coe_neg,
    ← EReal.coe_sub, Ideal.exp_coe, ← EReal.coe_add, coe_abs, coe_max]
  rw [coe_div _ _ (ne_of_gt (lt_max_of_lt_right (Real.exp_pos _)))]
  congr 1
  have := row_eq (L := 64) (fun s => ls (f s)) i k (fun s => v s d)
    (fun c => q (p + t) c * (1 / 16)) p t (fun c => Cr c d) nr m (M t)
    (fun c => (hC c d).2) (fun c => (hn c).2)
  rw [mem]
  simp only [qk]
  rw [← this]

theorem state_ref (r : Reads s j β h i f q k v p)
    (hs : StateOK i f k v p (fun c d => s.main_v43_7 (ix4 β h c d)) (fun c => s.main_v43_8 (ix3 β h c)) (s.main_v43_9 (ix2 β h))) :
    StateOK i f k v (p + 64) (fun c d => b100 j s (ix4 β h c d)) (fun c => b106 j s (ix3 β h c)) (b85 j s (ix2 β h)) := by
  obtain ⟨m, Cr, nr, hm, hC, hn⟩ := hs
  have hM : ∃ M : ℝ, (b85 j s (ix2 β h) : EReal) = ((M : ℝ) : EReal) := by
    rw [b85_at, hm]
    simp only [sum_real r, r.hi, ← EReal.coe_sub, ← EReal.coe_add]
    have := fold_real (n := 64) (P (fun s => ls (f s)) (p + (63 : Fin 64) + 1) - P (fun s => ls (f s)) p + m) (fun _ => True)
      (fun x => P (fun s => ls (f s)) (p + (63 : Fin 64) + 1) - P (fun s => ls (f s)) p - (P (fun s => ls (f s)) (p + x + 1) - P (fun s => ls (f s)) p) + i (p + x))
    simpa only [if_true] using this
  obtain ⟨M, hM⟩ := hM
  have e0 : (b30 j s (ix3 β h 63) : EReal) = ((P (fun s => ls (f s)) (p + 64) - P (fun s => ls (f s)) p : ℝ) : EReal) := sum_real r 63
  have e1 : ∀ x : Fin 64, P (fun s => ls (f s)) (p + 64) - P (fun s => ls (f s)) p
      - (P (fun s => ls (f s)) (p + x + 1) - P (fun s => ls (f s)) p) + i (p + x) - M
      = P (fun s => ls (f s)) (p + 64) - P (fun s => ls (f s)) (p + x + 1) + i (p + x) - M := fun x => by ring
  refine ⟨M,
    fun c d => Real.exp (P (fun s => ls (f s)) (p + 64) - P (fun s => ls (f s)) p + m - M) * Cr c d + ∑ x : Fin 64, Real.exp (P (fun s => ls (f s)) (p + 64)
      - P (fun s => ls (f s)) (p + x + 1) + i (p + x) - M) * k (p + x) c * v (p + x) d,
    fun c => Real.exp (P (fun s => ls (f s)) (p + 64) - P (fun s => ls (f s)) p + m - M) * nr c + ∑ x : Fin 64, Real.exp (P (fun s => ls (f s)) (p + 64)
      - P (fun s => ls (f s)) (p + x + 1) + i (p + x) - M) * k (p + x) c,
    hM, fun c d => ⟨?_, ?_⟩, fun c => ⟨?_, ?_⟩⟩
  · simp only [b100_at, hM, hm, hC, r.hk, r.hv, r.hi, e0, sum_real r, ← EReal.coe_mul, coe_sum,
      ← EReal.coe_sub, Ideal.exp_coe, ← EReal.coe_add, e1]
  · simp only [mul_assoc]
    exact state_eq (L := 64) (fun s => ls (f s)) i (fun s => k s c * v s d) p (Cr c d) m _ (hC c d).2
  · simp only [b106_at, hM, hm, hn, r.hk, r.hi, e0, sum_real r, ← EReal.coe_mul, coe_sum,
      ← EReal.coe_sub, Ideal.exp_coe, ← EReal.coe_add, e1]
  · exact state_eq (L := 64) (fun s => ls (f s)) i (fun s => k s c) p (nr c) m _ (hn c).2
end

open Trip
variable (A : FVec Ideal S2x8192x6152 .f32) (a b : FVec Ideal S4 .f32)

theorem fields (n : ℕ) : (states A a b n).main_v43_0 = A_main_v28 A a b ∧ (states A a b n).main_v43_1 = A_main_v30 A a b
    ∧ (states A a b n).main_v43_2 = A_main_v32 A a b ∧ (states A a b n).main_v43_3 = A_main_v34 A a b
    ∧ (states A a b n).main_v43_4 = A_main_v36 A a b := by
  induction n with
  | zero =>
    show (init (F := Ideal) A a b).main_v43_0 = _ ∧ (init (F := Ideal) A a b).main_v43_1 = _ ∧ (init (F := Ideal) A a b).main_v43_2 = _
      ∧ (init (F := Ideal) A a b).main_v43_3 = _ ∧ (init (F := Ideal) A a b).main_v43_4 = _
    unfold init
    exact ⟨rfl, rfl, rfl, rfl, rfl⟩
  | succ n ih =>
    show (step n (states A a b n)).main_v43_0 = _ ∧ (step n (states A a b n)).main_v43_1 = _
      ∧ (step n (states A a b n)).main_v43_2 = _ ∧ (step n (states A a b n)).main_v43_3 = _
      ∧ (step n (states A a b n)).main_v43_4 = _
    unfold step
    exact ih

theorem reads (n : ℕ) (hn : n < 128) (β : Fin 2) (h : Fin 4) (hA : Fine A) (ha : Fine a) (hb : Fine b) :
    Reads (states A a b n) n β h (gi A a β h) (gf A b β h) (sq A β h) (sk A β h) (sv A β h) (64 * n) := by
  obtain ⟨f0, f1, f2, f3, f4⟩ := fields A a b n
  refine ⟨fun t c => ?_, fun t c => ?_, fun t c => ?_, fun t => ?_, fun t => ?_⟩
  · rw [b5_at _ n hn, f0]; exact v28_at A a b ⟨n, hn⟩ β h t c hA
  · rw [b11_at _ n hn, f1]; exact v30_at A a b ⟨n, hn⟩ β h t c hA
  · rw [b17_at _ n hn, f2]; exact v32_at A a b ⟨n, hn⟩ β h t c hA
  · rw [b22_at _ n hn, f3]; exact v34_at A a b ⟨n, hn⟩ β h t hA ha
  · rw [b27_at _ n hn, f4]; exact v36_at A a b ⟨n, hn⟩ β h t hA hb

/-- The carried state before trip `n`. -/
theorem carried (β : Fin 2) (h : Fin 4) (hA : Fine A) (ha : Fine a) (hb : Fine b) : ∀ n, n ≤ 128 →
    StateOK (gi A a β h) (gf A b β h) (sk A β h) (sv A β h) (64 * n)
      (fun c d => (states A a b n).main_v43_7 (ix4 β h c d)) (fun c => (states A a b n).main_v43_8 (ix3 β h c))
      ((states A a b n).main_v43_9 (ix2 β h)) := by
  intro n
  induction n with
  | zero =>
    intro _
    refine (StateOK.zero _ _ _ _).congr rfl (fun c d => ?_) (fun c => ?_) ?_
    · show (init (F := Ideal) A a b).main_v43_7 _ = _
      unfold init
      pointwise [K_main_v39, K_main_cst_0]
    · show (init (F := Ideal) A a b).main_v43_8 _ = _
      unfold init
      pointwise [K_main_v40, K_main_cst_1]
    · show (init (F := Ideal) A a b).main_v43_9 _ = _
      unfold init
      pointwise [K_main_v41, K_main_cst_2]
  | succ n ih =>
    intro hn
    have := state_ref (reads A a b n (by omega) β h hA ha hb) (ih (by omega))
    refine this.congr (by omega) (fun c d => ?_) (fun c => ?_) ?_
    · show (step n (states A a b n)).main_v43_7 _ = _
      unfold step; rfl
    · show (step n (states A a b n)).main_v43_8 _ = _
      unfold step; rfl
    · show (step n (states A a b n)).main_v43_9 _ = _
      unfold step; rfl

/-- The chunks written so far. -/
theorem written (β : Fin 2) (h : Fin 4) (hA : Fine A) (ha : Fine a) (hb : Fine b) : ∀ n, n ≤ 128 →
    ∀ (k : Fin 128), k.val < n → ∀ (t : Fin 64) (d : Fin 256), ((states A a b n).main_v43_10 (ix5 k β h t d) : EReal)
      = ((mem (gi A a β h) (gf A b β h) (sq A β h) (sk A β h) (sv A β h) (64 * k.val + t.val) d : ℝ) : EReal) := by
  intro n
  induction n with
  | zero => intro _ k hk; omega
  | succ n ih =>
    intro hn k hk t d
    show ((step n (states A a b n)).main_v43_10 _ : EReal) = _
    have es : (step n (states A a b n)).main_v43_10 = b112 n (states A a b n) := by unfold step; rfl
    rw [es, b112_at _ n (by omega)]
    split_ifs with hkn
    · rw [hkn]
      exact out_ref (reads A a b n (by omega) β h hA ha hb) (carried A a b β h hA ha hb n (by omega)) t d
    · exact ih (by omega) k (by omega) t d

end Cert.ReferenceIdeal.Chunk
-- ==== Proof.Ref.Result.lean ====
module

public import proofs.«01_k».proof.Proof.Ref.Loop

/-! The reference's result in terms of the memory. -/

@[expose] public section
set_option maxRecDepth 16384
noncomputable section
namespace Cert.ReferenceIdeal.Chunk
open Idealize.ShloMosaic Idealize.ShloMosaic.TcCoe Idealize.SL.Sem
open Cert.ReferenceIdeal Cert.ReferenceIdeal.Gen Cert.ReferenceIdeal.Step Cert.Head Cert.Mem

theorem result_at (s : State Ideal) (A : FVec Ideal S2x8192x6152 .f32) (an : FVec Ideal S4x256 .f32)
    (w0 : Fin 16384) (w1 : Fin 1024) :
    (R_main_v70 s A an (ix2 w0 w1) : EReal)
      = Cert.Head.post (fun x => s.main_v43_10 (ix5 ⟨w0.val % 8192 / 64, by omega⟩ ⟨w0.val / 8192, by omega⟩ ⟨w1.val / 256, by omega⟩ ⟨w0.val % 8192 % 64, by omega⟩ x))
        ⟨w1.val % 256, by omega⟩ (an (ix2 ⟨w1.val / 256, by omega⟩ ⟨w1.val % 256, by omega⟩))
        (A (ix3 ⟨w0.val / 8192, by omega⟩ ⟨w0.val % 8192, by omega⟩ ⟨3072 + w1.val, by omega⟩)) := by
  unfold Cert.Head.post
  pointwise [R_main_v70]
  rfl

open Trip
variable (A : FVec Ideal S2x8192x6152 .f32) (a b : FVec Ideal S4 .f32)

theorem result (an : FVec Ideal S4x256 .f32) (hA : Fine A) (ha : Fine a) (hb : Fine b) :
    (R_main_v70 (states A a b 128) A an : FVec Ideal SO .bf16) = specV A a b an := by
  have hw := fun β h => written A a b β h hA ha hb 128 le_rfl
  generalize states A a b 128 = s at hw ⊢
  funext w
  idx_vars w
  refine (result_at s A an w0 w1).trans ?_
  unfold specV spec
  simp only [hw _ _ _ (Fin.isLt _)]
  rw [colA_eq A _ _ _ (w0.val % 8192) rfl]
  have e1 : 64 * (w0.val % 8192 / 64) + w0.val % 8192 % 64 = w0.val % 8192 := by omega
  have e2 : ∀ p, (⟨3072 + w1.val, p⟩ : Fin 6152) = ⟨3072 + 256 * (w1.val / 256) + w1.val % 256, by omega⟩ :=
    fun p => Fin.ext (by dsimp only; omega)
  simp only [e1, e2]
  rfl
end Cert.ReferenceIdeal.Chunk
-- ==== Proof.Up.Spec.lean ====
module

public import Idealize.ShloMosaic.PureOps
public import Idealize.ShloMosaic.Lib.Pointwise

@[expose] public section

/-! The gated hidden rows, written out: the rows are normalised, multiplied by the two halves of the up projection, each
column is filtered along its sequence with three taps, and the first half passes the gate `x / (1 + exp (-x))`. -/

noncomputable section

namespace Cert.Up

open Idealize.ShloMosaic

abbrev SX : Shape := ⟨3, ![2, 8192, 2048]⟩
abbrev SG : Shape := ⟨1, ![2048]⟩
abbrev SW : Shape := ⟨2, ![2048, 11264]⟩
abbrev SC : Shape := ⟨2, ![3, 11264]⟩
abbrev SB : Shape := ⟨1, ![11264]⟩
abbrev SO : Shape := ⟨2, ![16384, 5632]⟩

variable (X : FVec Ideal SX .f32) (G : FVec Ideal SG .f32) (W : FVec Ideal SW .f32) (C : FVec Ideal SC .f32) (B : FVec Ideal SB .f32)

/-- A row's entry over the root of the row's mean square, scaled. -/
def scaled (f : Fin 2048 → EReal) (g : EReal) (k : Fin 2048) : EReal :=
  f k * Ideal.rsqrt (Ideal.div (∑ q, f q * f q) (Ideal.ofBits FTy.f32 0x45000000#32) + Ideal.ofBits FTy.f32 0x358637BD#32) * g

/-- The row `s` of sequence `b`. -/
def row (b : Fin 2) (s : Fin 8192) (k : Fin 2048) : EReal := X (ix3 b s k)

/-- The product with the up projection, before the filter. -/
def up (b : Fin 2) (s : Fin 8192) (z : Fin 11264) : EReal :=
  ∑ k : Fin 2048, scaled (row X b s) (G (ix1 k)) k * W (ix2 k z)

/-- The same two rows later, with nothing in the first two rows. -/
def late (b : Fin 2) (s : ℕ) (z : Fin 11264) : EReal :=
  if h : 2 ≤ s ∧ s - 2 < 8192 then up X G W b ⟨s - 2, h.2⟩ z else 0

/-- The filter's three taps and its bias. -/
def filt (b : Fin 2) (s : ℕ) (z : Fin 11264) : EReal :=
  late X G W b s z * C (ix2 0 z) + late X G W b (1 + s) z * C (ix2 1 z) + late X G W b (2 + s) z * C (ix2 2 z) + B (ix1 z)

def gate (a : EReal) : EReal := a * Ideal.div 1 (1 + Ideal.exp (-a))

def spec (n : Fin 16384) (z : Fin 5632) : EReal :=
  gate (filt X G W C B ⟨n.val / 8192, by omega⟩ (n.val % 8192) ⟨z.val, by omega⟩)
    * filt X G W C B ⟨n.val / 8192, by omega⟩ (n.val % 8192) ⟨5632 + z.val, by omega⟩

def specV : FVec Ideal SO .bf16 := fun j => spec X G W C B (j 0) (j 1)

end Cert.Up

end
-- ==== Proof.Up.Gate.lean ====
module

public import proofs.«01_k».proof.Proof.Up.Spec
public import Idealize.ShloMosaic.Lib.IdealHost

/-! The kernel's form of the gate, by the hyperbolic tangent of half the argument. -/

@[expose] public section
noncomputable section
namespace Cert.Up
open Idealize.ShloMosaic

theorem half_bits : Ideal.ofBits FTy.f32 0x3F000000#32 = ((1 / 2 : ℝ) : EReal) := by
  have e1 : ((0x3F000000#32 : BitVec 32).extractLsb' 23 8).toNat = 126 := by decide
  have e2 : ((0x3F000000#32 : BitVec 32).extractLsb' 0 23).toNat = 0 := by decide
  have e3 : ((0x3F000000#32 : BitVec 32).extractLsb' 31 1 == 1#1) = false := by decide
  show Ideal.ieee 8 23 (0x3F000000#32 : BitVec 32) = _
  simp only [Ideal.ieee, e1, e2, e3]
  norm_num

theorem half_tanh (r : ℝ) : 1 / 2 * r * (1 + Real.tanh (1 / 2 * r)) = r * (1 / (1 + Real.exp (-r))) := by
  have hp : 0 < Real.exp (1 / 2 * r) := Real.exp_pos _
  have hn : 0 < Real.exp (-(1 / 2 * r)) := Real.exp_pos _
  have e1 : Real.exp (-r) = Real.exp (-(1 / 2 * r)) * Real.exp (-(1 / 2 * r)) := by
    rw [← Real.exp_add]; ring_nf
  have e2 : Real.exp (1 / 2 * r) * Real.exp (-(1 / 2 * r)) = 1 := by rw [← Real.exp_add]; simp
  rw [Real.tanh_eq_sinh_div_cosh, Real.sinh_eq, Real.cosh_eq, e1]
  set p := Real.exp (1 / 2 * r)
  set n := Real.exp (-(1 / 2 * r))
  have h1 : p + n ≠ 0 := by positivity
  have h2 : 1 + n * n ≠ 0 := by positivity
  have : 1 + (p - n) / 2 / ((p + n) / 2) = 2 * (1 / (1 + n * n)) := by
    field_simp
    linear_combination (2 * n) * (e2 : p * n = 1)
  rw [this]; ring

theorem gate_eq (a : EReal) :
    Ideal.ofBits FTy.f32 0x3F000000#32 * a * (1 + Ideal.tanh (Ideal.ofBits FTy.f32 0x3F000000#32 * a)) = gate a := by
  rw [half_bits, gate]
  induction a using EReal.rec with
  | bot =>
    rw [EReal.coe_mul_bot_of_pos (by norm_num), Ideal.tanh_bot]
    have : (1 : EReal) + -1 = 0 := by
      rw [← EReal.coe_one, ← EReal.coe_neg, ← EReal.coe_add]; simp
    rw [this, EReal.neg_bot, Ideal.exp_top, EReal.add_top_of_ne_bot (by exact_mod_cast EReal.coe_ne_bot 1), Ideal.div, if_neg (by simp)]
    simp
  | top =>
    rw [EReal.coe_mul_top_of_pos (by norm_num), Ideal.tanh_top, EReal.neg_top, Ideal.exp_bot, add_zero, Ideal.div, if_neg (by simp)]
    have : (1 : EReal) + 1 = ((2 : ℝ) : EReal) := by
      rw [← EReal.coe_one, ← EReal.coe_add]; norm_num
    rw [this, EReal.top_mul_coe_of_pos (by norm_num)]
    simp
  | coe r =>
    have hd : (1 + Real.exp (-r) : ℝ) ≠ 0 := by positivity
    have hd' : ((1 + Real.exp (-r) : ℝ) : EReal) ≠ 0 := by exact_mod_cast hd
    rw [← EReal.coe_mul, Ideal.tanh_coe, ← EReal.coe_neg, Ideal.exp_coe, ← EReal.coe_one, ← EReal.coe_add, ← EReal.coe_add,
      ← EReal.coe_mul, half_tanh, Ideal.div, if_neg hd', ← EReal.coe_inv, ← EReal.coe_mul, ← EReal.coe_mul, one_div, one_mul]

end Cert.Up
-- ==== Proof.Up.Body.lean ====
module

public import proofs.«01_k».proof.Proof.Up.Gate
public import proofs.«01_k».proof.Proof.Gen.KernelUpIdeal.Value
public import Idealize.ShloMosaic.Lib.Routing.OpsSet
public import Idealize.ShloMosaic.Lib.Routing.OpsOne
public import Idealize.ShloMosaic.Lib.Pipeline.ValueKit
public import Idealize.ShloMosaic.Lib.Pipeline.ReadBack
public import Idealize.ShloMosaic.Lib.Pointwise

/-! One block of the kernel: the products of both halves, their filters and the gate, column half by column half. -/

@[expose] public section
set_option maxRecDepth 16384
noncomputable section
namespace Cert.Up
open Idealize.ShloMosaic Idealize.ShloMosaic.TcCoe Idealize.SL.Sem
open Cert.KernelUpIdeal Cert.KernelUpIdeal.Gen

theorem hit {Val : EltTy → Type} {S : Shape} {e : EltTy} [∀ e, Nonempty (Val e)]
    (off size : Fin S.rank → Nat) (inb) (w : (Rect.unit (s := S) off size inb).shape.Idx → Val e)
    (L : List (View.Piece Val S e)) (y : S.Idx) (x : (Rect.unit (s := S) off size inb).shape.Idx)
    (h : ∀ a, (y a).val = off a + (x a).val) :
    View.canon (⟨Rect.unit off size inb, w⟩ :: L) y = w x := by
  have : y = (Rect.unit (s := S) off size inb).emb x := by
    funext a
    apply Fin.ext
    rw [ValueKit.rect_emb_unit_val, h]
  rw [this, View.canon_cons_emb]

theorem miss {Val : EltTy → Type} {S : Shape} {e : EltTy} [∀ e, Nonempty (Val e)]
    (off size : Fin S.rank → Nat) (inb) (w : (Rect.unit (s := S) off size inb).shape.Idx → Val e)
    (L : List (View.Piece Val S e)) (y : S.Idx) (a : Fin S.rank) (h : (y a).val < off a) :
    View.canon (⟨Rect.unit off size inb, w⟩ :: L) y = View.canon L y := by
  refine View.canon_cons_of_not_mem _ _ fun hm => ?_
  have hm' : y ∈ (Rect.unit (s := S) off size inb).set := hm
  have := (Rect.mem_set_unit.mp hm' a).1
  omega

def ldW0 (X : Vec Ideal S2048x512 .bf16) : Vec Ideal S2048x256 .bf16 :=
  View.ld X (Rect.unit (s := S2048x512) ![0, 0] S2048x256.size inb_S2048x512_S2048x256_0_0)
def ldW1 (X : Vec Ideal S2048x512 .bf16) : Vec Ideal S2048x256 .bf16 :=
  View.ld X (Rect.unit (s := S2048x512) ![0, 256] S2048x256.size inb_S2048x512_S2048x256_0_256)
def ldC00 (X : Vec Ideal S4x512 .f32) : Vec Ideal S1x256 .f32 :=
  View.ld X (Rect.unit (s := S4x512) ![0, 0] S1x256.size inb_S4x512_S1x256_0_0)
def ldC01 (X : Vec Ideal S4x512 .f32) : Vec Ideal S1x256 .f32 :=
  View.ld X (Rect.unit (s := S4x512) ![0, 256] S1x256.size inb_S4x512_S1x256_0_256)
def ldC10 (X : Vec Ideal S4x512 .f32) : Vec Ideal S1x256 .f32 :=
  View.ld X (Rect.unit (s := S4x512) ![1, 0] S1x256.size inb_S4x512_S1x256_1_0)
def ldC11 (X : Vec Ideal S4x512 .f32) : Vec Ideal S1x256 .f32 :=
  View.ld X (Rect.unit (s := S4x512) ![1, 256] S1x256.size inb_S4x512_S1x256_1_256)
def ldC20 (X : Vec Ideal S4x512 .f32) : Vec Ideal S1x256 .f32 :=
  View.ld X (Rect.unit (s := S4x512) ![2, 0] S1x256.size inb_S4x512_S1x256_2_0)
def ldC21 (X : Vec Ideal S4x512 .f32) : Vec Ideal S1x256 .f32 :=
  View.ld X (Rect.unit (s := S4x512) ![2, 256] S1x256.size inb_S4x512_S1x256_2_256)
def ldC30 (X : Vec Ideal S4x512 .f32) : Vec Ideal S1x256 .f32 :=
  View.ld X (Rect.unit (s := S4x512) ![3, 0] S1x256.size inb_S4x512_S1x256_3_0)
def ldC31 (X : Vec Ideal S4x512 .f32) : Vec Ideal S1x256 .f32 :=
  View.ld X (Rect.unit (s := S4x512) ![3, 256] S1x256.size inb_S4x512_S1x256_3_256)
theorem ldC00_at (X : Vec Ideal S4x512 .f32) (k : Fin 256) : ldC00 X (ix2 0 k) = X (ix2 0 ⟨0 + k.val, by omega⟩) := by
  pointwise [ldC00]
theorem ldC01_at (X : Vec Ideal S4x512 .f32) (k : Fin 256) : ldC01 X (ix2 0 k) = X (ix2 0 ⟨256 + k.val, by omega⟩) := by
  pointwise [ldC01]
theorem ldC10_at (X : Vec Ideal S4x512 .f32) (k : Fin 256) : ldC10 X (ix2 0 k) = X (ix2 1 ⟨0 + k.val, by omega⟩) := by
  pointwise [ldC10]
theorem ldC11_at (X : Vec Ideal S4x512 .f32) (k : Fin 256) : ldC11 X (ix2 0 k) = X (ix2 1 ⟨256 + k.val, by omega⟩) := by
  pointwise [ldC11]
theorem ldC20_at (X : Vec Ideal S4x512 .f32) (k : Fin 256) : ldC20 X (ix2 0 k) = X (ix2 2 ⟨0 + k.val, by omega⟩) := by
  pointwise [ldC20]
theorem ldC21_at (X : Vec Ideal S4x512 .f32) (k : Fin 256) : ldC21 X (ix2 0 k) = X (ix2 2 ⟨256 + k.val, by omega⟩) := by
  pointwise [ldC21]
theorem ldC30_at (X : Vec Ideal S4x512 .f32) (k : Fin 256) : ldC30 X (ix2 0 k) = X (ix2 3 ⟨0 + k.val, by omega⟩) := by
  pointwise [ldC30]
theorem ldC31_at (X : Vec Ideal S4x512 .f32) (k : Fin 256) : ldC31 X (ix2 0 k) = X (ix2 3 ⟨256 + k.val, by omega⟩) := by
  pointwise [ldC31]

variable (S : Vec Ideal S1040x2048 .bf16) (Wa Wb : Vec Ideal S2048x512 .bf16) (Ca Cb : Vec Ideal S4x512 .f32)

/-- The pieces the first column half leaves in a half's scratch. -/
def pA : List (View.Piece (Elt Ideal) S1x1040x512 .f32) :=
  [⟨Rect.unit (s := S1x1040x512) ![0, 0, 0] S1x1040x256.size inb_S1x1040x512_S1x1040x256_0_0_0,
    k0_pay7 (F := Ideal) S (ldW0 Wa)⟩]

/-- And both column halves. -/
def pB : List (View.Piece (Elt Ideal) S1x1040x512 .f32) :=
  ⟨Rect.unit (s := S1x1040x512) ![0, 0, 256] S1x1040x256.size inb_S1x1040x512_S1x1040x256_0_0_256,
    k0_pay14 (F := Ideal) S (ldW1 Wa)⟩ :: pA S Wa

/-- A block's product, a row below. -/
def prod (W : Vec Ideal S2048x512 .bf16) (r : Fin 1040) (y : Fin 512) : EReal :=
  ∑ k : Fin 2048, (S (ix2 r k) : Ideal .bf16) * W (ix2 k y)

def filtB (W : Vec Ideal S2048x512 .bf16) (C : Vec Ideal S4x512 .f32) (x : Fin 1024) (y : Fin 512) : EReal :=
  C (ix2 3 y) + C (ix2 0 y) * prod S W ⟨x.val + 14, by omega⟩ y + C (ix2 1 y) * prod S W ⟨x.val + 15, by omega⟩ y
    + C (ix2 2 y) * prod S W ⟨x.val + 16, by omega⟩ y

theorem pay7_at (X : Vec Ideal S2048x256 .bf16) (x : Fin 1040) (k : Fin 256) :
    (k0_pay7 (F := Ideal) S X (ix3 0 x k) : EReal) = ∑ q : Fin 2048, (S (ix2 x q) : EReal) * X (ix2 q k) := by
  pointwise [k0_pay7]

theorem pay14_at (X : Vec Ideal S2048x256 .bf16) (x : Fin 1040) (k : Fin 256) :
    (k0_pay14 (F := Ideal) S X (ix3 0 x k) : EReal) = ∑ q : Fin 2048, (S (ix2 x q) : EReal) * X (ix2 q k) := by
  pointwise [k0_pay14]

theorem lo_at (W : Vec Ideal S2048x512 .bf16) (q : Fin 2048) (k : Fin 256) :
    (ldW0 W) (ix2 q k)
      = W (ix2 q ⟨0 + k.val, by omega⟩) := by
  pointwise [ldW0]

theorem hi_at (W : Vec Ideal S2048x512 .bf16) (q : Fin 2048) (k : Fin 256) :
    (ldW1 W) (ix2 q k)
      = W (ix2 q ⟨256 + k.val, by omega⟩) := by
  pointwise [ldW1]

theorem pA_at (x : Fin 1040) (k : Fin 256) :
    (View.canon (pA S Wa) (ix3 0 x ⟨0 + k.val, by omega⟩) : EReal) = prod S Wa x ⟨0 + k.val, by omega⟩ := by
  refine (hit _ _ _ _ _ _ (ix3 0 x k) (by intro a; fin_cases a <;> simp)).trans ?_
  refine (pay7_at S _ x k).trans ?_
  exact Finset.sum_congr rfl fun q _ => congrArg (fun b : EReal => (S (ix2 x q) : EReal) * b) (lo_at Wa q k)

theorem pB_at (x : Fin 1040) (k : Fin 256) :
    (View.canon (pB S Wa) (ix3 0 x ⟨256 + k.val, by omega⟩) : EReal) = prod S Wa x ⟨256 + k.val, by omega⟩ := by
  refine (hit _ _ _ _ _ _ (ix3 0 x k) (by intro a; fin_cases a <;> simp)).trans ?_
  refine (pay14_at S _ x k).trans ?_
  exact Finset.sum_congr rfl fun q _ => congrArg (fun b : EReal => (S (ix2 x q) : EReal) * b) (hi_at Wa q k)

/-- The filter over the loads it makes, for both halves and the gate. -/
theorem gated0 (a3 a0 a1 a2 b3 b0 b1 b2 : Vec Ideal S1x256 .f32) (u0 u1 u2 w0 w1 w2 : Vec Ideal S1x1024x256 .f32) (x : Fin 1024) (k : Fin 256) :
    (k0_pay13 (F := Ideal) (k0_pay11 (k0_pay9 a3 a0 u0) (k0_pay10 a1) u1 a2 u2) (k0_pay12 b3 b0 w0 b1 w1 b2 w2)
        (FloatOps.ofBits FTy.f32 0x3F000000#32) (ix2 x k) : EReal)
      = gate ((a3 (ix2 0 k) : EReal) + a0 (ix2 0 k) * u0 (ix3 0 x k) + a1 (ix2 0 k) * u1 (ix3 0 x k) + a2 (ix2 0 k) * u2 (ix3 0 x k))
        * ((b3 (ix2 0 k) : EReal) + b0 (ix2 0 k) * w0 (ix3 0 x k) + b1 (ix2 0 k) * w1 (ix3 0 x k) + b2 (ix2 0 k) * w2 (ix3 0 x k)) := by
  rw [← gate_eq]
  pointwise [k0_pay13, k0_pay11, k0_pay9, k0_pay10, k0_pay12]

theorem gated1 (a3 a0 a1 a2 b3 b0 b1 b2 : Vec Ideal S1x256 .f32) (u0 u1 u2 w0 w1 w2 : Vec Ideal S1x1024x256 .f32) (x : Fin 1024) (k : Fin 256) :
    (k0_pay1 (F := Ideal) (k0_pay18 (k0_pay16 a3 a0 u0) (k0_pay17 a1) u1 a2 u2) (k0_pay19 b3 b0 w0 b1 w1) (k0_pay20 b2 w2) (ix2 x k) : EReal)
      = gate ((a3 (ix2 0 k) : EReal) + a0 (ix2 0 k) * u0 (ix3 0 x k) + a1 (ix2 0 k) * u1 (ix3 0 x k) + a2 (ix2 0 k) * u2 (ix3 0 x k))
        * ((b3 (ix2 0 k) : EReal) + b0 (ix2 0 k) * w0 (ix3 0 x k) + b1 (ix2 0 k) * w1 (ix3 0 x k) + b2 (ix2 0 k) * w2 (ix3 0 x k)) := by
  rw [← gate_eq]
  pointwise [k0_pay1, k0_pay16, k0_pay17, k0_pay18, k0_pay19, k0_pay20]

/-- The rows of the scratch 2 before the block's, in a column half. -/
def ldS140 (L : List (View.Piece (Elt Ideal) S1x1040x512 .f32)) (v : View sig .tc .vmem S1x1040x512 .f32) : Vec Ideal S1x1024x256 .f32 :=
  v.readCov L (Rect.unit (s := S1x1040x512) ![0, 14, 0] S1x1024x256.size inb_S1x1040x512_S1x1024x256_0_14_0).toLoadRect

theorem ldS140_at (v : View sig .tc .vmem S1x1040x512 .f32) (x : Fin 1024) (k : Fin 256) :
    (ldS140 (pA S Wa) v (ix3 0 x k) : EReal) = prod S Wa ⟨x.val + 14, by omega⟩ ⟨0 + k.val, by omega⟩ := by
  refine (congrFun (View.readCov_eq_canon' _ _ _) _).trans ?_
  refine (congrArg (View.canon (pA S Wa)) ?_).trans (pA_at S Wa ⟨x.val + 14, by omega⟩ k)
  funext a
  fin_cases a <;> apply Fin.ext
  · rfl
  · show 14 + 1 * x.val = x.val + 14
    omega
  · show 0 + 1 * k.val = 0 + k.val
    omega

/-- The rows of the scratch 1 before the block's, in a column half. -/
def ldS150 (L : List (View.Piece (Elt Ideal) S1x1040x512 .f32)) (v : View sig .tc .vmem S1x1040x512 .f32) : Vec Ideal S1x1024x256 .f32 :=
  v.readCov L (Rect.unit (s := S1x1040x512) ![0, 15, 0] S1x1024x256.size inb_S1x1040x512_S1x1024x256_0_15_0).toLoadRect

theorem ldS150_at (v : View sig .tc .vmem S1x1040x512 .f32) (x : Fin 1024) (k : Fin 256) :
    (ldS150 (pA S Wa) v (ix3 0 x k) : EReal) = prod S Wa ⟨x.val + 15, by omega⟩ ⟨0 + k.val, by omega⟩ := by
  refine (congrFun (View.readCov_eq_canon' _ _ _) _).trans ?_
  refine (congrArg (View.canon (pA S Wa)) ?_).trans (pA_at S Wa ⟨x.val + 15, by omega⟩ k)
  funext a
  fin_cases a <;> apply Fin.ext
  · rfl
  · show 15 + 1 * x.val = x.val + 15
    omega
  · show 0 + 1 * k.val = 0 + k.val
    omega

/-- The rows of the scratch 0 before the block's, in a column half. -/
def ldS160 (L : List (View.Piece (Elt Ideal) S1x1040x512 .f32)) (v : View sig .tc .vmem S1x1040x512 .f32) : Vec Ideal S1x1024x256 .f32 :=
  v.readCov L (Rect.unit (s := S1x1040x512) ![0, 16, 0] S1x1024x256.size inb_S1x1040x512_S1x1024x256_0_16_0).toLoadRect

theorem ldS160_at (v : View sig .tc .vmem S1x1040x512 .f32) (x : Fin 1024) (k : Fin 256) :
    (ldS160 (pA S Wa) v (ix3 0 x k) : EReal) = prod S Wa ⟨x.val + 16, by omega⟩ ⟨0 + k.val, by omega⟩ := by
  refine (congrFun (View.readCov_eq_canon' _ _ _) _).trans ?_
  refine (congrArg (View.canon (pA S Wa)) ?_).trans (pA_at S Wa ⟨x.val + 16, by omega⟩ k)
  funext a
  fin_cases a <;> apply Fin.ext
  · rfl
  · show 16 + 1 * x.val = x.val + 16
    omega
  · show 0 + 1 * k.val = 0 + k.val
    omega

/-- The rows of the scratch 2 before the block's, in a column half. -/
def ldS141 (L : List (View.Piece (Elt Ideal) S1x1040x512 .f32)) (v : View sig .tc .vmem S1x1040x512 .f32) : Vec Ideal S1x1024x256 .f32 :=
  v.readCov L (Rect.unit (s := S1x1040x512) ![0, 14, 256] S1x1024x256.size inb_S1x1040x512_S1x1024x256_0_14_256).toLoadRect

theorem ldS141_at (v : View sig .tc .vmem S1x1040x512 .f32) (x : Fin 1024) (k : Fin 256) :
    (ldS141 (pB S Wa) v (ix3 0 x k) : EReal) = prod S Wa ⟨x.val + 14, by omega⟩ ⟨256 + k.val, by omega⟩ := by
  refine (congrFun (View.readCov_eq_canon' _ _ _) _).trans ?_
  refine (congrArg (View.canon (pB S Wa)) ?_).trans (pB_at S Wa ⟨x.val + 14, by omega⟩ k)
  funext a
  fin_cases a <;> apply Fin.ext
  · rfl
  · show 14 + 1 * x.val = x.val + 14
    omega
  · show 256 + 1 * k.val = 256 + k.val
    omega

/-- The rows of the scratch 1 before the block's, in a column half. -/
def ldS151 (L : List (View.Piece (Elt Ideal) S1x1040x512 .f32)) (v : View sig .tc .vmem S1x1040x512 .f32) : Vec Ideal S1x1024x256 .f32 :=
  v.readCov L (Rect.unit (s := S1x1040x512) ![0, 15, 256] S1x1024x256.size inb_S1x1040x512_S1x1024x256_0_15_256).toLoadRect

theorem ldS151_at (v : View sig .tc .vmem S1x1040x512 .f32) (x : Fin 1024) (k : Fin 256) :
    (ldS151 (pB S Wa) v (ix3 0 x k) : EReal) = prod S Wa ⟨x.val + 15, by omega⟩ ⟨256 + k.val, by omega⟩ := by
  refine (congrFun (View.readCov_eq_canon' _ _ _) _).trans ?_
  refine (congrArg (View.canon (pB S Wa)) ?_).trans (pB_at S Wa ⟨x.val + 15, by omega⟩ k)
  funext a
  fin_cases a <;> apply Fin.ext
  · rfl
  · show 15 + 1 * x.val = x.val + 15
    omega
  · show 256 + 1 * k.val = 256 + k.val
    omega

/-- The rows of the scratch 0 before the block's, in a column half. -/
def ldS161 (L : List (View.Piece (Elt Ideal) S1x1040x512 .f32)) (v : View sig .tc .vmem S1x1040x512 .f32) : Vec Ideal S1x1024x256 .f32 :=
  v.readCov L (Rect.unit (s := S1x1040x512) ![0, 16, 256] S1x1024x256.size inb_S1x1040x512_S1x1024x256_0_16_256).toLoadRect

theorem ldS161_at (v : View sig .tc .vmem S1x1040x512 .f32) (x : Fin 1024) (k : Fin 256) :
    (ldS161 (pB S Wa) v (ix3 0 x k) : EReal) = prod S Wa ⟨x.val + 16, by omega⟩ ⟨256 + k.val, by omega⟩ := by
  refine (congrFun (View.readCov_eq_canon' _ _ _) _).trans ?_
  refine (congrArg (View.canon (pB S Wa)) ?_).trans (pB_at S Wa ⟨x.val + 16, by omega⟩ k)
  funext a
  fin_cases a <;> apply Fin.ext
  · rfl
  · show 16 + 1 * x.val = x.val + 16
    omega
  · show 256 + 1 * k.val = 256 + k.val
    omega

/-- The first column half of a block, over the rows held and the blocks read. -/
def half0 : Vec Ideal S1024x256 .bf16 :=
  k0_pay13 (F := Ideal)
    (k0_pay11 (k0_pay9 (ldC30 Ca) (ldC00 Ca) (ldS140 (pA S Wa) (View.whole cc0_scratch1))) (k0_pay10 (ldC10 Ca))
      (ldS150 (pA S Wa) (View.whole cc0_scratch1)) (ldC20 Ca) (ldS160 (pA S Wa) (View.whole cc0_scratch1)))
    (k0_pay12 (ldC30 Cb) (ldC00 Cb) (ldS140 (pA S Wb) (View.whole cc0_scratch2)) (ldC10 Cb)
      (ldS150 (pA S Wb) (View.whole cc0_scratch2)) (ldC20 Cb) (ldS160 (pA S Wb) (View.whole cc0_scratch2)))
    (FloatOps.ofBits FTy.f32 0x3F000000#32)

/-- The second column half. -/
def half1 : Vec Ideal S1024x256 .bf16 :=
  k0_pay1 (F := Ideal)
    (k0_pay18 (k0_pay16 (ldC31 Ca) (ldC01 Ca) (ldS141 (pB S Wa) (View.whole cc0_scratch1))) (k0_pay17 (ldC11 Ca))
      (ldS151 (pB S Wa) (View.whole cc0_scratch1)) (ldC21 Ca) (ldS161 (pB S Wa) (View.whole cc0_scratch1)))
    (k0_pay19 (ldC31 Cb) (ldC01 Cb) (ldS141 (pB S Wb) (View.whole cc0_scratch2)) (ldC11 Cb)
      (ldS151 (pB S Wb) (View.whole cc0_scratch2)))
    (k0_pay20 (ldC21 Cb) (ldS161 (pB S Wb) (View.whole cc0_scratch2)))

theorem half0_at (x : Fin 1024) (k : Fin 256) :
    (half0 S Wa Wb Ca Cb (ix2 x k) : EReal)
      = gate (filtB S Wa Ca x ⟨0 + k.val, by omega⟩) * filtB S Wb Cb x ⟨0 + k.val, by omega⟩ := by
  refine (gated0 _ _ _ _ _ _ _ _ _ _ _ _ _ _ x k).trans ?_
  rw [ldS140_at, ldS150_at, ldS160_at, ldS140_at, ldS150_at, ldS160_at, ldC00_at, ldC10_at, ldC20_at, ldC30_at,
    ldC00_at, ldC10_at, ldC20_at, ldC30_at, filtB, filtB]

theorem half1_at (x : Fin 1024) (k : Fin 256) :
    (half1 S Wa Wb Ca Cb (ix2 x k) : EReal)
      = gate (filtB S Wa Ca x ⟨256 + k.val, by omega⟩) * filtB S Wb Cb x ⟨256 + k.val, by omega⟩ := by
  refine (gated1 _ _ _ _ _ _ _ _ _ _ _ _ _ _ x k).trans ?_
  rw [ldS141_at, ldS151_at, ldS161_at, ldS141_at, ldS151_at, ldS161_at, ldC01_at, ldC11_at, ldC21_at, ldC31_at,
    ldC01_at, ldC11_at, ldC21_at, ldC31_at, filtB, filtB]

variable (m : (ℓ : Loc nD τ sig) → Buf (Elt Ideal) ℓ) (c : Dev nD)

theorem rows_start (t : Fin cfg0.N) (ht : t.val % 11 = 0) :
    (outsAt0 m c t.val t.isLt).2 = View.canon
      [⟨Rect.unit (s := S1040x2048) ![16, 0] S1024x2048.size inb_S1040x2048_S1024x2048_16_0,
          k0_pay6 (F := Ideal) (k0_pay2 (iblk m c 2 t)) (k0_pay4 (iblk m c 0 t)) (k0_pay5 (iblk m c 0 t))⟩,
        ⟨Rect.unit (s := S1040x2048) ![0, 0] S16x2048.size inb_S1040x2048_S16x2048_0_0,
          k0_pay3 (F := Ideal) (BitVec.ofNat 32 (grid0.coords t 0).val) (iblk m c 2 t) (iblk m c 1 t)⟩] := by
  rw [outsAt0_A m c t ht]
  frame_out

theorem rows_next (t : Fin cfg0.N) (ht : ¬ t.val % 11 = 0) :
    (outsAt0 m c t.val t.isLt).2 = (outsAt0 m c (t.val - 1) (Nat.lt_of_le_of_lt (Nat.sub_le _ _) t.isLt)).2 := by
  rw [outsAt0_B m c t ht]
  rfl

theorem full_read (v : View sig .tc .vmem S1040x2048 .bf16) (L : List (View.Piece (Elt Ideal) S1040x2048 .bf16)) :
    (v.readCov L (Rect.unit (s := S1040x2048) ![0, 0] S1040x2048.size inb_S1040x2048_S1040x2048_0_0).toLoadRect : Vec Ideal S1040x2048 .bf16) = View.canon L := by
  refine (View.readCov_eq_canon' _ _ _).trans ?_
  funext j
  refine congrArg (View.canon L) ?_
  funext a
  fin_cases a <;> apply Fin.ext
  · show 0 + 1 * (j 0).val = (j 0).val
    omega
  · show 0 + 1 * (j 1).val = (j 1).val
    omega

theorem out_start0 (t : Fin cfg0.N) (ht : t.val % 11 = 0) (x : Fin 1024) (k : Fin 256) :
    (outsAt0 m c t.val t.isLt).1 (ix2 x ⟨0 + k.val, by omega⟩)
      = half0 (outsAt0 m c t.val t.isLt).2 (iblk m c 3 t) (iblk m c 4 t) (iblk m c 5 t) (iblk m c 6 t) (ix2 x k) := by
  rw [rows_start m c t ht, ← full_read (View.whole cc0_scratch0)]
  rw [outsAt0_A m c t ht]
  frame_out
  refine (miss _ _ _ _ _ _ 1 (by show 0 + k.val < 256; omega)).trans ?_
  refine (hit _ _ _ _ _ _ (ix2 x k) (by intro a; fin_cases a <;> simp)).trans ?_
  rfl

theorem out_start1 (t : Fin cfg0.N) (ht : t.val % 11 = 0) (x : Fin 1024) (k : Fin 256) :
    (outsAt0 m c t.val t.isLt).1 (ix2 x ⟨256 + k.val, by omega⟩)
      = half1 (outsAt0 m c t.val t.isLt).2 (iblk m c 3 t) (iblk m c 4 t) (iblk m c 5 t) (iblk m c 6 t) (ix2 x k) := by
  rw [rows_start m c t ht, ← full_read (View.whole cc0_scratch0)]
  rw [outsAt0_A m c t ht]
  frame_out
  refine (hit _ _ _ _ _ _ (ix2 x k) (by intro a; fin_cases a <;> simp)).trans ?_
  rfl

theorem out_next0 (t : Fin cfg0.N) (ht : ¬ t.val % 11 = 0) (x : Fin 1024) (k : Fin 256) :
    (outsAt0 m c t.val t.isLt).1 (ix2 x ⟨0 + k.val, by omega⟩)
      = half0 (outsAt0 m c t.val t.isLt).2 (iblk m c 3 t) (iblk m c 4 t) (iblk m c 5 t) (iblk m c 6 t) (ix2 x k) := by
  rw [rows_next m c t ht]
  rw [outsAt0_B m c t ht]
  frame_out
  simp only [read_unread_whole]
  refine (miss _ _ _ _ _ _ 1 (by show 0 + k.val < 256; omega)).trans ?_
  refine (hit _ _ _ _ _ _ (ix2 x k) (by intro a; fin_cases a <;> simp)).trans ?_
  rfl

theorem out_next1 (t : Fin cfg0.N) (ht : ¬ t.val % 11 = 0) (x : Fin 1024) (k : Fin 256) :
    (outsAt0 m c t.val t.isLt).1 (ix2 x ⟨256 + k.val, by omega⟩)
      = half1 (outsAt0 m c t.val t.isLt).2 (iblk m c 3 t) (iblk m c 4 t) (iblk m c 5 t) (iblk m c 6 t) (ix2 x k) := by
  rw [rows_next m c t ht]
  rw [outsAt0_B m c t ht]
  frame_out
  simp only [read_unread_whole]
  refine (hit _ _ _ _ _ _ (ix2 x k) (by intro a; fin_cases a <;> simp)).trans ?_
  rfl

end Cert.Up
-- ==== Proof.Up.Ker.lean ====
module

public import proofs.«01_k».proof.Proof.Up.Body

/-! The blocks the kernel reads, the rows it keeps, and its result. -/

@[expose] public section
set_option maxRecDepth 16384
noncomputable section
namespace Cert.Up
open Idealize.ShloMosaic Idealize.ShloMosaic.TcCoe Idealize.SL.Sem
open Cert.KernelUpIdeal Cert.KernelUpIdeal.Gen
variable (m : (ℓ : Loc nD τ sig) → Buf (Elt Ideal) ℓ) (c : Dev nD)

theorem idx : ∀ t : Fin cfg0.N, win0_0.index t = ![t.val / 11, 0] ∧ win0_1.index t = ![64 * (t.val / 11) - 1, 0]
    ∧ win0_2.index t = ![0, 0] ∧ win0_3.index t = ![0, t.val % 11] ∧ win0_4.index t = ![0, t.val % 11 + 11]
    ∧ win0_5.index t = ![0, t.val % 11] ∧ win0_6.index t = ![0, t.val % 11 + 11]
    ∧ win0_7.index t = ![t.val / 11, t.val % 11] :=
  (by decide +kernel : ∀ t : Fin grid0.N, _)

theorem lt176 (t : Fin cfg0.N) : t.val < 176 := lt_of_lt_of_eq t.isLt N_0

/-- The stream, the scale, the projection, the filter and its bias. -/
abbrev mX : FVec Ideal SX .f32 := m (c, Proc.tc.devRef main_arg0)
abbrev mG : FVec Ideal SG .f32 := m (c, Proc.tc.devRef main_arg1)
abbrev mW : FVec Ideal SW .f32 := m (c, Proc.tc.devRef main_arg2)
abbrev mC : FVec Ideal SC .f32 := m (c, Proc.tc.devRef main_arg3)
abbrev mB : FVec Ideal SB .f32 := m (c, Proc.tc.devRef main_arg4)

theorem blk0 (t : Fin cfg0.N) (x : Fin 1024) (y : Fin 2048) :
    (iblk m c 0 t : Vec Ideal S1024x2048 .f32) (ix2 x y)
      = mX m c (ix3 ⟨(1024 * (t.val / 11) + x.val) / 8192, by have := lt176 t; omega⟩ ⟨(1024 * (t.val / 11) + x.val) % 8192, by omega⟩ y) := by
  have := lt176 t
  blk_simp [iblk, idx t]
  entry_read
  pointwise []
  blk_point [idx t]

theorem blk1 (t : Fin cfg0.N) (x : Fin 16) (y : Fin 2048) :
    (iblk m c 1 t : Vec Ideal S16x2048 .f32) (ix2 x y)
      = mX m c (ix3 ⟨(16 * (64 * (t.val / 11) - 1) + x.val) / 8192, by have := lt176 t; omega⟩
          ⟨(16 * (64 * (t.val / 11) - 1) + x.val) % 8192, by omega⟩ y) := by
  have := lt176 t
  blk_simp [iblk, idx t]
  entry_read
  pointwise []
  blk_point [idx t]

theorem blk2 (t : Fin cfg0.N) (y : Fin 2048) :
    (iblk m c 2 t : Vec Ideal S1x2048 .f32) (ix2 0 y) = mG m c (ix1 y) := by
  have := lt176 t
  blk_simp [iblk, idx t]
  entry_read
  pointwise []
  blk_point [idx t]

theorem blk3 (t : Fin cfg0.N) (x : Fin 2048) (y : Fin 512) :
    (iblk m c 3 t : Vec Ideal S2048x512 .bf16) (ix2 x y)
      = mW m c (ix2 x ⟨512 * (t.val % 11) + y.val, by omega⟩) := by
  have := lt176 t
  blk_simp [iblk, idx t]
  entry_read
  pointwise []
  blk_point [idx t]

theorem blk4 (t : Fin cfg0.N) (x : Fin 2048) (y : Fin 512) :
    (iblk m c 4 t : Vec Ideal S2048x512 .bf16) (ix2 x y)
      = mW m c (ix2 x ⟨5632 + (512 * (t.val % 11) + y.val), by omega⟩) := by
  have := lt176 t
  blk_simp [iblk, idx t]
  entry_read
  pointwise []
  blk_point [idx t]

theorem blk5 (t : Fin cfg0.N) (r : Fin 3) (y : Fin 512) :
    (iblk m c 5 t : Vec Ideal S4x512 .f32) (ix2 ⟨r.val, by omega⟩ y)
      = mC m c (ix2 r ⟨512 * (t.val % 11) + y.val, by omega⟩) := by
  have := lt176 t
  blk_simp [iblk, idx t]
  entry_read
  pointwise []
  have e : (((View.whole main_v3).slice (win0_5.rect t)).emb (ix2 ⟨r.val, by omega⟩ y) 0).val = r.val := by blk_point [idx t]
  rw [dif_pos (by omega)]
  blk_point [idx t]

theorem blk5b (t : Fin cfg0.N) (r : Fin 4) (hr : r.val = 3) (y : Fin 512) :
    (iblk m c 5 t : Vec Ideal S4x512 .f32) (ix2 r y) = mB m c (ix1 ⟨512 * (t.val % 11) + y.val, by omega⟩) := by
  have := lt176 t
  blk_simp [iblk, idx t]
  entry_read
  pointwise []
  have e : (((View.whole main_v3).slice (win0_5.rect t)).emb (ix2 r y) 0).val = r.val := by blk_point [idx t]
  rw [dif_neg (by omega)]
  blk_point [idx t]

theorem blk6 (t : Fin cfg0.N) (r : Fin 3) (y : Fin 512) :
    (iblk m c 6 t : Vec Ideal S4x512 .f32) (ix2 ⟨r.val, by omega⟩ y)
      = mC m c (ix2 r ⟨5632 + (512 * (t.val % 11) + y.val), by omega⟩) := by
  have := lt176 t
  blk_simp [iblk, idx t]
  entry_read
  pointwise []
  have e : (((View.whole main_v3).slice (win0_6.rect t)).emb (ix2 ⟨r.val, by omega⟩ y) 0).val = r.val := by blk_point [idx t]
  rw [dif_pos (by omega)]
  blk_point [idx t]

theorem blk6b (t : Fin cfg0.N) (r : Fin 4) (hr : r.val = 3) (y : Fin 512) :
    (iblk m c 6 t : Vec Ideal S4x512 .f32) (ix2 r y) = mB m c (ix1 ⟨5632 + (512 * (t.val % 11) + y.val), by omega⟩) := by
  have := lt176 t
  blk_simp [iblk, idx t]
  entry_read
  pointwise []
  have e : (((View.whole main_v3).slice (win0_6.rect t)).emb (ix2 r y) 0).val = r.val := by blk_point [idx t]
  rw [dif_neg (by omega)]
  blk_point [idx t]

/-- Whether a block of rows starts a sequence, as the kernel computes it. -/
def starts (b : BitVec 32) : BitVec 1 :=
  Scalar.cmpi .eq
        (Scalar.select
          (Scalar.andi
            (Scalar.xori
              (Scalar.cmpi .slt
                (Scalar.remsi (Scalar.muli b 1024#32)
                  (Scalar.select (Scalar.cmpi .eq 8192#32 0#32) 1#32 8192#32))
                0#32)
              (Scalar.cmpi .slt (Scalar.select (Scalar.cmpi .eq 8192#32 0#32) 1#32 8192#32)
                0#32))
            (Scalar.cmpi .ne
              (Scalar.remsi (Scalar.muli b 1024#32)
                (Scalar.select (Scalar.cmpi .eq 8192#32 0#32) 1#32 8192#32))
              0#32))
          (Scalar.addi
            (Scalar.remsi (Scalar.muli b 1024#32)
              (Scalar.select (Scalar.cmpi .eq 8192#32 0#32) 1#32 8192#32))
            (Scalar.select (Scalar.cmpi .eq 8192#32 0#32) 1#32 8192#32))
          (Scalar.remsi (Scalar.muli b 1024#32)
            (Scalar.select (Scalar.cmpi .eq 8192#32 0#32) 1#32 8192#32)))
        0#32

theorem starts_at : ∀ t : Fin cfg0.N, starts (BitVec.ofNat 32 (grid0.coords t 0).val) = if t.val / 11 % 8 = 0 then 1#1 else 0#1 :=
  (by decide +kernel : ∀ t : Fin grid0.N, _)

theorem pay3_at (b : BitVec 32) (g : Vec Ideal S1x2048 .f32) (X : Vec Ideal S16x2048 .f32) (x : Fin 16) (k : Fin 2048) :
    (k0_pay3 (F := Ideal) b g X (ix2 x k) : EReal)
      = Scalar.select (starts b) 0 (scaled (fun q => X (ix2 x q)) (g (ix2 0 k)) k) := by
  pointwise [k0_pay3, k0_pay2]
  rfl

theorem pay6_at (g : Vec Ideal S1x2048 .f32) (X : Vec Ideal S1024x2048 .f32) (x : Fin 1024) (k : Fin 2048) :
    (k0_pay6 (F := Ideal) (k0_pay2 g) (k0_pay4 X) (k0_pay5 X) (ix2 x k) : EReal)
      = scaled (fun q => X (ix2 x q)) (g (ix2 0 k)) k := by
  pointwise [k0_pay6, k0_pay2, k0_pay4, k0_pay5]
  rfl

/-- The rows kept for block `i` of the rows: sixteen before it and its own. -/
def kept (i : ℕ) (hi : i < 16) (r : Fin 1040) (k : Fin 2048) : EReal :=
  if i % 8 = 0 ∧ r.val < 16 then 0
  else scaled (row (mX m c) ⟨(1024 * i + r.val - 16) / 8192, by omega⟩ ⟨(1024 * i + r.val - 16) % 8192, by omega⟩) (mG m c (ix1 k)) k

theorem kept_start (t : Fin cfg0.N) (ht : t.val % 11 = 0) (r : Fin 1040) (k : Fin 2048) :
    ((outsAt0 m c t.val t.isLt).2 (ix2 r k) : EReal) = kept m c (t.val / 11) (by have := lt176 t; omega) r k := by
  have := lt176 t
  rw [rows_start m c t ht]
  by_cases hr : r.val < 16
  · refine (miss _ _ _ _ _ _ 0 (by show r.val < 16; omega)).trans ?_
    refine (hit _ _ _ _ _ _ (ix2 ⟨r.val, hr⟩ k) (by intro a; fin_cases a <;> simp)).trans ?_
    refine (pay3_at _ _ _ ⟨r.val, hr⟩ k).trans ?_
    rw [starts_at t, kept]
    by_cases hs : t.val / 11 % 8 = 0
    · rw [if_pos hs, if_pos ⟨hs, hr⟩]
      rfl
    · rw [if_neg hs, if_neg (fun h => hs h.1)]
      refine (show Scalar.select (0#1) (0 : EReal) _ = _ from rfl).trans ?_
      have ef : (fun q => (iblk m c 1 t : Vec Ideal S16x2048 .f32) (ix2 ⟨r.val, hr⟩ q))
          = row (mX m c) ⟨(1024 * (t.val / 11) + r.val - 16) / 8192, by omega⟩ ⟨(1024 * (t.val / 11) + r.val - 16) % 8192, by omega⟩ := by
        funext q
        refine (blk1 m c t ⟨r.val, hr⟩ q).trans ?_
        have e : 16 * (64 * (t.val / 11) - 1) + r.val = 1024 * (t.val / 11) + r.val - 16 := by omega
        rw [row]
        simp only [e]
      exact congrArg₂ (fun f g => scaled f g k) ef (blk2 m c t k)
  · refine (hit _ _ _ _ _ _ (ix2 ⟨r.val - 16, by omega⟩ k) (by intro a; fin_cases a <;> simp; omega)).trans ?_
    refine (pay6_at _ _ ⟨r.val - 16, by omega⟩ k).trans ?_
    rw [kept, if_neg (fun h => hr h.2)]
    have ef : (fun q => (iblk m c 0 t : Vec Ideal S1024x2048 .f32) (ix2 ⟨r.val - 16, by omega⟩ q))
        = row (mX m c) ⟨(1024 * (t.val / 11) + r.val - 16) / 8192, by omega⟩ ⟨(1024 * (t.val / 11) + r.val - 16) % 8192, by omega⟩ := by
      funext q
      refine (blk0 m c t ⟨r.val - 16, by omega⟩ q).trans ?_
      have e : 1024 * (t.val / 11) + (r.val - 16) = 1024 * (t.val / 11) + r.val - 16 := by omega
      rw [row]
      simp only [e]
    exact congrArg₂ (fun f g => scaled f g k) ef (blk2 m c t k)

theorem kept_at (n : ℕ) : ∀ (hn : n < cfg0.N) (r : Fin 1040) (k : Fin 2048),
    ((outsAt0 m c n hn).2 (ix2 r k) : EReal) = kept m c (n / 11) (by have : n < 176 := lt176 ⟨n, hn⟩; omega) r k := by
  induction n with
  | zero => exact fun hn r k => kept_start m c ⟨0, hn⟩ rfl r k
  | succ n ih =>
    intro hn r k
    by_cases h0 : (n + 1) % 11 = 0
    · exact kept_start m c ⟨n + 1, hn⟩ h0 r k
    · refine (congrFun (rows_next m c ⟨n + 1, hn⟩ h0) _).trans ?_
      refine (ih (by omega) r k).trans ?_
      have e : n / 11 = (n + 1) / 11 := by omega
      simp only [e]

/-- A block's product is the projection of the row it stands for. -/
theorem prod_at (t : Fin cfg0.N) (V : Vec Ideal S2048x512 .bf16) (y : Fin 512) (z : Fin 11264)
    (hV : ∀ k : Fin 2048, (V (ix2 k y) : EReal) = mW m c (ix2 k z)) (x : Fin 1024) (d : ℕ) (hd : d < 3) :
    prod (outsAt0 m c t.val t.isLt).2 V ⟨x.val + (14 + d), by omega⟩ y
      = late (mX m c) (mG m c) (mW m c) ⟨(1024 * (t.val / 11) + x.val) / 8192, by have := lt176 t; omega⟩
          (d + (1024 * (t.val / 11) + x.val) % 8192) z := by
  have := lt176 t
  have e1 : prod (outsAt0 m c t.val t.isLt).2 V ⟨x.val + (14 + d), by omega⟩ y
      = ∑ k : Fin 2048, kept m c (t.val / 11) (by omega) ⟨x.val + (14 + d), by omega⟩ k * mW m c (ix2 k z) :=
    Finset.sum_congr rfl fun k _ => congrArg₂ (fun a b : EReal => a * b) (kept_at m c t.val t.isLt _ k) (hV k)
  rw [e1, late]
  by_cases h : 2 ≤ d + (1024 * (t.val / 11) + x.val) % 8192
  · rw [dif_pos ⟨h, by omega⟩, up]
    refine Finset.sum_congr rfl fun k _ => congrArg (fun a : EReal => a * mW m c (ix2 k z)) ?_
    rw [kept, if_neg (by dsimp only; omega)]
    have e2 : (1024 * (t.val / 11) + (x.val + (14 + d)) - 16) / 8192 = (1024 * (t.val / 11) + x.val) / 8192 := by omega
    have e3 : (1024 * (t.val / 11) + (x.val + (14 + d)) - 16) % 8192 = d + (1024 * (t.val / 11) + x.val) % 8192 - 2 := by omega
    simp only [e2, e3]
  · rw [dif_neg (fun hh => h hh.1)]
    refine Finset.sum_eq_zero fun k _ => ?_
    rw [kept, if_pos (by dsimp only; omega), zero_mul]

theorem filt_at (t : Fin cfg0.N) (V : Vec Ideal S2048x512 .bf16) (K : Vec Ideal S4x512 .f32) (y : Fin 512) (z : Fin 11264)
    (hV : ∀ k : Fin 2048, (V (ix2 k y) : EReal) = mW m c (ix2 k z))
    (hK : ∀ r : Fin 3, (K (ix2 ⟨r.val, by omega⟩ y) : EReal) = mC m c (ix2 r z)) (hB : (K (ix2 3 y) : EReal) = mB m c (ix1 z)) (x : Fin 1024) :
    filtB (outsAt0 m c t.val t.isLt).2 V K x y
      = filt (mX m c) (mG m c) (mW m c) (mC m c) (mB m c) ⟨(1024 * (t.val / 11) + x.val) / 8192, by have := lt176 t; omega⟩
          ((1024 * (t.val / 11) + x.val) % 8192) z := by
  have p0 := prod_at m c t V y z hV x 0 (by norm_num)
  have p1 := prod_at m c t V y z hV x 1 (by norm_num)
  have p2 := prod_at m c t V y z hV x 2 (by norm_num)
  have k0 := hK 0
  have k1 := hK 1
  have k2 := hK 2
  rw [zero_add] at p0
  rw [filt, ← p0, ← p1, ← p2, ← k0, ← k1, ← k2, ← hB, filtB]
  have (b a0 a1 a2 q0 q1 q2 : EReal) : b + a0 * q0 + a1 * q1 + a2 * q2 = q0 * a0 + q1 * a1 + q2 * a2 + b := by
    rw [mul_comm a0, mul_comm a1, mul_comm a2]
    abel
  exact this _ _ _ _ _ _ _

theorem out_at (t : Fin cfg0.N) (x : Fin 1024) (y : Fin 512) :
    ((outsAt0 m c t.val t.isLt).1 (ix2 x y) : EReal)
      = spec (mX m c) (mG m c) (mW m c) (mC m c) (mB m c) ⟨1024 * (t.val / 11) + x.val, by have := lt176 t; omega⟩
        ⟨512 * (t.val % 11) + y.val, by omega⟩ := by
  have := lt176 t
  have h : ((outsAt0 m c t.val t.isLt).1 (ix2 x y) : EReal)
      = gate (filtB (outsAt0 m c t.val t.isLt).2 (iblk m c 3 t) (iblk m c 5 t) x y)
        * filtB (outsAt0 m c t.val t.isLt).2 (iblk m c 4 t) (iblk m c 6 t) x y := by
    by_cases hy : y.val < 256
    · have ey : y = ⟨0 + (⟨y.val, hy⟩ : Fin 256).val, by omega⟩ := Fin.ext (by dsimp only; omega)
      rw [ey]
      by_cases ht : t.val % 11 = 0
      · exact (out_start0 m c t ht x ⟨y.val, hy⟩).trans (half0_at _ _ _ _ _ x ⟨y.val, hy⟩)
      · exact (out_next0 m c t ht x ⟨y.val, hy⟩).trans (half0_at _ _ _ _ _ x ⟨y.val, hy⟩)
    · have ey : y = ⟨256 + (⟨y.val - 256, by omega⟩ : Fin 256).val, by dsimp only; omega⟩ := Fin.ext (by dsimp only; omega)
      rw [ey]
      by_cases ht : t.val % 11 = 0
      · exact (out_start1 m c t ht x ⟨y.val - 256, by omega⟩).trans (half1_at _ _ _ _ _ x ⟨y.val - 256, by omega⟩)
      · exact (out_next1 m c t ht x ⟨y.val - 256, by omega⟩).trans (half1_at _ _ _ _ _ x ⟨y.val - 256, by omega⟩)
  refine h.trans ?_
  rw [spec, filt_at m c t _ _ y ⟨512 * (t.val % 11) + y.val, by omega⟩ (fun k => blk3 m c t k y) (fun r => blk5 m c t r y) (blk5b m c t 3 rfl y) x,
    filt_at m c t _ _ y ⟨5632 + (512 * (t.val % 11) + y.val), by omega⟩ (fun k => blk4 m c t k y) (fun r => blk6 m c t r y) (blk6b m c t 3 rfl y) x]

theorem arr_eq : ((dats m 0 c).arrAt 7 cfg0.N : FVec Ideal SO .bf16) = specV (mX m c) (mG m c) (mW m c) (mC m c) (mB m c) := by
  refine (dats m 0 c).arrAt_eq_of_covers 7 (specV (mX m c) (mG m c) (mW m c) (mC m c) (mB m c)) (by decide +kernel) (fun t hf y => ?_)
  have ht := lt176 t
  have hi := (idx t).2.2.2.2.2.2.2
  have h0 : (((cfg0.win 7).blk t).view.emb y 0).val = 1024 * (t.val / 11) + (y 0).val := by
    have e : (((cfg0.win 7).blk t).view.emb y 0).val = win0_7.index t (0 : Fin 2) * 1024 + 1 * (y 0).val := rfl
    rw [e, hi]
    show t.val / 11 * 1024 + 1 * _ = _
    ring
  have h1 : (((cfg0.win 7).blk t).view.emb y 1).val = 512 * (t.val % 11) + (y 1).val := by
    have e : (((cfg0.win 7).blk t).view.emb y 1).val = win0_7.index t (1 : Fin 2) * 512 + 1 * (y 1).val := rfl
    rw [e, hi]
    show t.val % 11 * 512 + 1 * _ = _
    ring
  have hy0 : (y 0).val < 1024 := (y 0).isLt
  have hy1 : (y 1).val < 512 := (y 1).isLt
  refine (congrFun (Value.flushed7 m c t) y).trans ?_
  have ey : ((cfg0.win 7).xinj (grid0.coords t) y) = (ix2 ⟨(y 0).val, hy0⟩ ⟨(y 1).val, hy1⟩ : S1024x512.Idx) := by
    funext i
    fin_cases i <;> rfl
  show (outsAt0 m c t.val t.isLt).1 ((cfg0.win 7).xinj (grid0.coords t) y) = _
  rw [ey]
  refine (out_at m c t ⟨(y 0).val, hy0⟩ ⟨(y 1).val, hy1⟩).trans ?_
  rw [specV]
  exact congrArg₂ (spec (mX m c) (mG m c) (mW m c) (mC m c) (mB m c)) (Fin.ext h0.symm) (Fin.ext h1.symm)

theorem run_spec (ρ : Dev nD → PrngReg) :
    θ_run defs (onTc (τ := τ) (main (F := Ideal))) ⟨m, fun _ => 0, ρ⟩ fun r => ∀ c : Dev nD,
      (r.2.mem ((c : Thread nD τ).loc main_v5) : FVec Ideal SO .bf16) = specV (mX m c) (mG m c) (mW m c) (mC m c) (mB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arr_eq m c), (h c).2⟩) (Value.run_blocks m ρ)

end Cert.Up
-- ==== Proof.Up.Ref.lean ====
module

public import proofs.«01_k».proof.Proof.Up.Spec
public import proofs.«01_k».proof.Proof.Gen.ReferenceUpIdeal.Run
public import Idealize.ShloMosaic.Lib.IdealHost

/-! The reference's gated rows are the specification. -/

@[expose] public section
set_option maxRecDepth 16384
noncomputable section
namespace Cert.ReferenceUpIdeal.Up
open Idealize.ShloMosaic Idealize.ShloMosaic.TcCoe Idealize.SL.Sem
open Cert.ReferenceUpIdeal Cert.ReferenceUpIdeal.Gen Cert.Up
variable (m : (ℓ : Loc nD τ sig) → Buf (Elt Ideal) ℓ) (c : Dev nD)

abbrev rX : FVec Ideal SX .f32 := m (c, Proc.tc.devRef main_arg0)
abbrev rG : FVec Ideal SG .f32 := m (c, Proc.tc.devRef main_arg1)
abbrev rW : FVec Ideal SW .f32 := m (c, Proc.tc.devRef main_arg2)
abbrev rC : FVec Ideal SC .f32 := m (c, Proc.tc.devRef main_arg3)
abbrev rB : FVec Ideal SB .f32 := m (c, Proc.tc.devRef main_arg4)

theorem late_early (X : FVec Ideal SX .f32) (G : FVec Ideal SG .f32) (W : FVec Ideal SW .f32) (b : Fin 2) (s : Fin 8192) (z : Fin 11264) :
    late X G W b (2 + s.val) z = up X G W b s z := by
  have h : 2 ≤ 2 + s.val ∧ 2 + s.val - 2 < 8192 := by omega
  rw [late, dif_pos h]
  exact congrArg (fun i => up X G W b i z) (Fin.ext (by dsimp only; omega))

theorem result : (Value.res_main_v43 (F := Ideal) m c : FVec Ideal SO .bf16) = specV (rX m c) (rG m c) (rW m c) (rC m c) (rB m c) := by
  funext j
  idx_vars j
  rw [Value.res_main_v43]
  have e (z : Fin 11264) := late_early (rX m c) (rG m c) (rW m c) ⟨j0.val / 8192, by omega⟩ ⟨j0.val % 8192, by omega⟩ z
  show _ = spec (rX m c) (rG m c) (rW m c) (rC m c) (rB m c) j0 j1
  pointwise []
  simp only [spec, filt, gate, e]
  have hb : j0.val / 8192 < 2 := by omega
  have hs : j0.val % 8192 < 8192 := by omega
  have hz : j1.val < 11264 := by omega
  have hz' : 5632 + j1.val < 11264 := by omega
  simp only [hb, hs, hz, hz', true_and, and_true, dite_true]
  simp only [late, up, row, scaled]

theorem run_spec (ρ : Dev nD → PrngReg) :
    θ_run defs (onTc (τ := τ) (main (F := Ideal))) ⟨m, fun _ => 0, ρ⟩ fun r => ∀ c : Dev nD,
      (r.2.mem ((c : Thread nD τ).loc main_v43) : FVec Ideal SO .bf16) = specV (rX m c) (rG m c) (rW m c) (rC m c) (rB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result m c), (h c).2⟩) (Value.run m ρ)

end Cert.ReferenceUpIdeal.Up
-- ==== Proof.Down.Spec.lean ====
module

public import Idealize.ShloMosaic.PureOps
public import Idealize.ShloMosaic.Lib.Pointwise

@[expose] public section

/-! The product with the down projection added to the residual stream, written out. -/

noncomputable section

namespace Cert.Down

open Idealize.ShloMosaic

abbrev SG : Shape := ⟨2, ![16384, 5632]⟩
abbrev SW : Shape := ⟨2, ![5632, 2048]⟩
abbrev SH : Shape := ⟨3, ![2, 8192, 2048]⟩
abbrev SO : Shape := ⟨2, ![16384, 2048]⟩

/-- Row `n`, column `z`: the stream's entry and the sum over the hidden width. -/
def spec (G : FVec Ideal SG .bf16) (W : FVec Ideal SW .f32) (H : FVec Ideal SH .f32) (n : Fin 16384) (z : Fin 2048) : EReal :=
  (H (ix3 ⟨n.val / 8192, by omega⟩ ⟨n.val % 8192, Nat.mod_lt _ (by norm_num)⟩ z) : EReal)
    + ∑ k : Fin 5632, (G (ix2 n k) : EReal) * W (ix2 k z)

def specV (G : FVec Ideal SG .bf16) (W : FVec Ideal SW .f32) (H : FVec Ideal SH .f32) : FVec Ideal SO .f32 :=
  fun j => spec G W H (j 0) (j 1)

end Cert.Down

end
-- ==== Proof.Down.Ker.lean ====
module

public import proofs.«01_k».proof.Proof.Down.Spec
public import proofs.«01_k».proof.Proof.Gen.KernelDownIdeal.Value
public import Idealize.ShloMosaic.Lib.Routing.OpsSet
public import Idealize.ShloMosaic.Lib.Routing.OpsOne
public import Idealize.ShloMosaic.Lib.Pipeline.ValueKit
public import Idealize.ShloMosaic.Lib.Pipeline.ReadBack
public import Idealize.ShloMosaic.Lib.Pointwise

/-! The tiled product of the kernel is the specification. -/

@[expose] public section
set_option maxRecDepth 16384
noncomputable section
namespace Cert.Down
open Idealize.ShloMosaic Idealize.ShloMosaic.TcCoe Idealize.SL.Sem
open Cert.KernelDownIdeal Cert.KernelDownIdeal.Gen
variable (m : (ℓ : Loc nD τ sig) → Buf (Elt Ideal) ℓ) (c : Dev nD)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem lt64 (t : Fin cfg0.N) : t.val < 64 := lt_of_lt_of_eq t.isLt N_0

/-- The gated rows, the weights and the residual stream. -/
abbrev mG : FVec Ideal SG .bf16 := m (c, Proc.tc.devRef main_arg0)
abbrev mW : FVec Ideal SW .f32 := m (c, Proc.tc.devRef main_arg1)
abbrev mH : FVec Ideal SH .f32 := m (c, Proc.tc.devRef main_arg2)

theorem blk0 (t : Fin cfg0.N) (x : Fin 1024) (y : Fin 5632) :
    (iblk m c 0 t : Vec Ideal S1024x5632 .bf16) (ix2 x y)
      = mG m c (ix2 ⟨1024 * (t.val / 4) + x.val, by have := lt64 t; omega⟩ y) := by
  have := lt64 t
  blk_simp [iblk, idx t]
  entry_read
  blk_point [idx t]

theorem blk1 (t : Fin cfg0.N) (x : Fin 5632) (y : Fin 512) :
    (iblk m c 1 t : Vec Ideal S5632x512 .bf16) (ix2 x y)
      = mW m c (ix2 x ⟨512 * (t.val % 4) + y.val, by omega⟩) := by
  have := lt64 t
  blk_simp [iblk, idx t]
  entry_read
  pointwise []
  blk_point [idx t]

theorem blk2 (t : Fin cfg0.N) (x : Fin 1024) (y : Fin 512) :
    (iblk m c 2 t : Vec Ideal S1024x512 .f32) (ix2 x y)
      = mH m c (ix3 ⟨t.val / 32, by have := lt64 t; omega⟩ ⟨1024 * (t.val / 4 % 8) + x.val, by omega⟩
          ⟨512 * (t.val % 4) + y.val, by omega⟩) := by
  have := lt64 t
  blk_simp [iblk, idx t]
  entry_read
  pointwise []
  blk_point [idx t]

theorem body_at (X0 : FVec Ideal S1024x5632 .bf16) (X1 : FVec Ideal S5632x512 .bf16) (X2 : FVec Ideal S1024x512 .f32)
    (x : Fin 1024) (y : Fin 512) :
    (out0_3 (F := Ideal) X0 X1 X2 (ix2 x y) : EReal)
      = (X2 (ix2 x y) : EReal) + ∑ k : Fin 5632, (X0 (ix2 x k) : EReal) * X1 (ix2 k y) := by
  frame_out
  pointwise [k0_pay1]

theorem out_at (t : Fin cfg0.N) (x : Fin 1024) (y : Fin 512) :
    (out0_3 (F := Ideal) (iblk m c 0 t) (iblk m c 1 t) (iblk m c 2 t) (ix2 x y) : EReal)
      = spec (mG m c) (mW m c) (mH m c) ⟨1024 * (t.val / 4) + x.val, by have := lt64 t; omega⟩
        ⟨512 * (t.val % 4) + y.val, by omega⟩ := by
  have := lt64 t
  refine (body_at _ _ _ x y).trans ?_
  rw [spec]
  refine congrArg₂ (· + ·) ((blk2 m c t x y).trans (congrArg (mH m c) ?_)) (Finset.sum_congr rfl fun k _ =>
    congrArg₂ (fun a b : EReal => a * b) (blk0 m c t x k) (blk1 m c t k y))
  have e1 : (⟨t.val / 32, by omega⟩ : Fin 2) = ⟨(1024 * (t.val / 4) + x.val) / 8192, by omega⟩ := Fin.ext (by dsimp only; omega)
  have e2 : (⟨1024 * (t.val / 4 % 8) + x.val, by omega⟩ : Fin 8192) = ⟨(1024 * (t.val / 4) + x.val) % 8192, by omega⟩ :=
    Fin.ext (by dsimp only; omega)
  rw [e1, e2]

theorem arr_eq : ((dats m 0 c).arrAt 3 cfg0.N : FVec Ideal SO .f32) = specV (mG m c) (mW m c) (mH m c) := by
  refine (dats m 0 c).arrAt_eq_of_covers 3 (specV (mG m c) (mW m c) (mH m c)) (by decide +kernel) (fun t hf y => ?_)
  have ht := lt64 t
  have hi := (idx t).2.2.2
  have h0 : (((cfg0.win 3).blk t).view.emb y 0).val = 1024 * (t.val / 4) + (y 0).val := by
    have e : (((cfg0.win 3).blk t).view.emb y 0).val = win0_3.index t (0 : Fin 2) * 1024 + 1 * (y 0).val := rfl
    rw [e, hi]
    show t.val / 4 * 1024 + 1 * _ = _
    ring
  have h1 : (((cfg0.win 3).blk t).view.emb y 1).val = 512 * (t.val % 4) + (y 1).val := by
    have e : (((cfg0.win 3).blk t).view.emb y 1).val = win0_3.index t (1 : Fin 2) * 512 + 1 * (y 1).val := rfl
    rw [e, hi]
    show t.val % 4 * 512 + 1 * _ = _
    ring
  have hy0 : (y 0).val < 1024 := (y 0).isLt
  have hy1 : (y 1).val < 512 := (y 1).isLt
  refine (congrFun (Value.flushed3 m c t) y).trans ?_
  have ey : ((cfg0.win 3).xinj (grid0.coords t) y) = (ix2 ⟨(y 0).val, hy0⟩ ⟨(y 1).val, hy1⟩ : S1024x512.Idx) := by
    funext i
    fin_cases i <;> rfl
  show out0_3 (F := Ideal) (iblk m c 0 t) (iblk m c 1 t) (iblk m c 2 t) ((cfg0.win 3).xinj (grid0.coords t) y) = _
  rw [ey]
  refine (out_at m c t ⟨(y 0).val, hy0⟩ ⟨(y 1).val, hy1⟩).trans ?_
  rw [specV]
  exact congrArg₂ (spec (mG m c) (mW m c) (mH m c)) (Fin.ext h0.symm) (Fin.ext h1.symm)

theorem run_spec (ρ : Dev nD → PrngReg) :
    θ_run defs (onTc (τ := τ) (main (F := Ideal))) ⟨m, fun _ => 0, ρ⟩ fun r => ∀ c : Dev nD,
      (r.2.mem ((c : Thread nD τ).loc main_v2) : FVec Ideal SO .f32) = specV (mG m c) (mW m c) (mH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr_eq m c), (h c).2⟩) (Value.run_blocks m ρ)
end Cert.Down
-- ==== Proof.Down.Ref.lean ====
module

public import proofs.«01_k».proof.Proof.Down.Spec
public import proofs.«01_k».proof.Proof.Gen.ReferenceDownIdeal.Run
public import Idealize.ShloMosaic.Lib.IdealHost

/-! The reference's product is the specification. -/

@[expose] public section
set_option maxRecDepth 16384
noncomputable section
namespace Cert.ReferenceDownIdeal.Down
open Idealize.ShloMosaic Idealize.ShloMosaic.TcCoe Idealize.SL.Sem
open Cert.ReferenceDownIdeal Cert.ReferenceDownIdeal.Gen Cert.Down

theorem result (G : FVec Ideal SG .bf16) (W : FVec Ideal SW .f32) (H : FVec Ideal SH .f32) :
    (shapeCast S16384x2048 (addf H (Host.dotGeneral (F := Ideal) dot_S2x8192x5632_S5632x2048_S2x8192x2048_2_0_01_1_n_n none (shapeCast S2x8192x5632 (extf .f32 G bitsLt_bf16_f32) shapeCasts_S16384x5632_S2x8192x5632) W)) shapeCasts_S2x8192x2048_S16384x2048 : FVec Ideal S16384x2048 .f32)
      = specV G W H := by
  funext j
  idx_vars j
  rw [specV]
  show _ = spec G W H j0 j1
  rw [spec]
  pointwise []

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v4) : FVec Ideal SO .f32)
        = specV (m (c, Proc.tc.devRef main_arg0)) (m (c, Proc.tc.devRef main_arg1)) (m (c, Proc.tc.devRef main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result _ _ _), (h c).2⟩) (Value.run m ρ)

end Cert.ReferenceDownIdeal.Down
-- ==== Proof.EvenIn.Spec.lean ====
module

public import proofs.«01_k».proof.Proof.Up.Spec

@[expose] public section

/-! The even layer's projection of the normalised rows, without the columns of the gates. -/

noncomputable section

namespace Cert.EvenIn

open Idealize.ShloMosaic

abbrev SX : Shape := ⟨3, ![2, 8192, 2048]⟩
abbrev SG : Shape := ⟨1, ![2048]⟩
abbrev SW : Shape := ⟨2, ![2048, 6152]⟩
abbrev SO : Shape := ⟨2, ![16384, 6144]⟩

/-- The projection's column for column `z`: the eight columns of the gates are left out. -/
def col (z : Fin 6144) : Fin 6152 := if h : z.val < 4096 then ⟨z.val, by omega⟩ else ⟨z.val + 8, by omega⟩

/-- Row `n`, column `z` of the whole projection: the normalised row's product with the column. -/
def full (X : FVec Ideal SX .f32) (G : FVec Ideal SG .f32) (W : FVec Ideal SW .f32) (n : Fin 16384) (z : Fin 6152) : EReal :=
  ∑ k : Fin 2048, Cert.Up.scaled (Cert.Up.row X ⟨n.val / 8192, by omega⟩ ⟨n.val % 8192, Nat.mod_lt _ (by norm_num)⟩) (G (ix1 k)) k
    * W (ix2 k z)

def spec (X : FVec Ideal SX .f32) (G : FVec Ideal SG .f32) (W : FVec Ideal SW .f32) (n : Fin 16384) (z : Fin 6144) : EReal :=
  full X G W n (col z)

def specV (X : FVec Ideal SX .f32) (G : FVec Ideal SG .f32) (W : FVec Ideal SW .f32) : FVec Ideal SO .bf16 :=
  fun j => spec X G W (j 0) (j 1)

end Cert.EvenIn

end
-- ==== Proof.EvenIn.Ker.lean ====
module

public import proofs.«01_k».proof.Proof.EvenIn.Spec
public import proofs.«01_k».proof.Proof.Gen.KernelEvenInIdeal.Value
public import Idealize.ShloMosaic.Lib.Routing.OpsSet
public import Idealize.ShloMosaic.Lib.Routing.OpsOne
public import Idealize.ShloMosaic.Lib.Pipeline.ValueKit
public import Idealize.ShloMosaic.Lib.Pipeline.ReadBack
public import Idealize.ShloMosaic.Lib.Pointwise

/-! The rows the kernel keeps are the normalised rows, and each block its product with a block of the projection. -/

@[expose] public section
set_option maxRecDepth 16384
noncomputable section
namespace Cert.EvenIn
open Idealize.ShloMosaic Idealize.ShloMosaic.TcCoe Idealize.SL.Sem
open Cert.KernelEvenInIdeal Cert.KernelEvenInIdeal.Gen
variable (m : (ℓ : Loc nD τ sig) → Buf (Elt Ideal) ℓ) (c : Dev nD)

theorem idx : ∀ t : Fin cfg0.N, win0_0.index t = ![t.val / 6, 0] ∧ win0_1.index t = ![0, 0]
    ∧ win0_2.index t = ![0, t.val % 6] ∧ win0_3.index t = ![t.val / 6, t.val % 6] :=
  (by decide +kernel : ∀ t : Fin grid0.N, _)

theorem points (t : Fin cfg0.N) : t.val < 96 := lt_of_lt_of_eq t.isLt N_0

/-- The stream, the scale and the projection. -/
abbrev mX : FVec Ideal SX .f32 := m (c, Proc.tc.devRef main_arg0)
abbrev mG : FVec Ideal SG .f32 := m (c, Proc.tc.devRef main_arg1)
abbrev mW : FVec Ideal SW .f32 := m (c, Proc.tc.devRef main_arg2)

theorem blk0 (t : Fin cfg0.N) (x : Fin 1024) (y : Fin 2048) :
    (iblk m c 0 t : Vec Ideal S1024x2048 .f32) (ix2 x y)
      = mX m c (ix3 ⟨(1024 * (t.val / 6) + x.val) / 8192, by have := points t; omega⟩
          ⟨(1024 * (t.val / 6) + x.val) % 8192, by omega⟩ y) := by
  have := points t
  blk_simp [iblk, idx t]
  entry_read
  pointwise []
  blk_point [idx t]

theorem blk1 (t : Fin cfg0.N) (y : Fin 2048) :
    (iblk m c 1 t : Vec Ideal S1x2048 .f32) (ix2 0 y) = mG m c (ix1 y) := by
  have := points t
  blk_simp [iblk, idx t]
  entry_read
  pointwise []
  blk_point [idx t]

theorem blk2 (t : Fin cfg0.N) (x : Fin 2048) (y : Fin 1024) :
    (iblk m c 2 t : Vec Ideal S2048x1024 .bf16) (ix2 x y)
      = mW m c (ix2 x (col ⟨1024 * (t.val % 6) + y.val, by omega⟩)) := by
  have := points t
  blk_simp [iblk, idx t]
  entry_read
  pointwise []
  have e : (((View.whole main_v3).slice (win0_2.rect t)).emb (ix2 x y) 1).val = 1024 * (t.val % 6) + y.val := by
    have e : (((View.whole main_v3).slice (win0_2.rect t)).emb (ix2 x y) 1).val = win0_2.index t (1 : Fin 2) * 1024 + 1 * y.val := rfl
    rw [e, (idx t).2.2.1]
    show t.val % 6 * 1024 + 1 * _ = _
    ring
  have e0 : (((View.whole main_v3).slice (win0_2.rect t)).emb (ix2 x y) 0).val = x.val := by
    blk_point [idx t]
  by_cases h : 1024 * (t.val % 6) + y.val < 4096
  · rw [dif_pos (by omega), col, dif_pos h]
    refine congrArg (mW m c) (funext fun a => ?_)
    fin_cases a
    · exact Fin.ext e0
    · exact Fin.ext e
  · rw [dif_neg (by omega), col, dif_neg h]
    refine congrArg (mW m c) (funext fun a => ?_)
    fin_cases a
    · exact Fin.ext e0
    · exact Fin.ext (by simp only [e]; show 4104 + (1024 * (t.val % 6) + y.val - 4096) = 1024 * (t.val % 6) + y.val + 8; omega)

theorem pay1_at (X : Vec Ideal S1024x2048 .f32) (g : Vec Ideal S1x2048 .f32) (x : Fin 1024) (k : Fin 2048) :
    (k0_pay1 (F := Ideal) X g (ix2 x k) : EReal) = Cert.Up.scaled (fun q => X (ix2 x q)) (g (ix2 0 k)) k := by
  pointwise [k0_pay1]
  rfl

theorem pay2_at (S : Vec Ideal S1024x2048 .bf16) (X : Vec Ideal S2048x1024 .bf16) (x : Fin 1024) (y : Fin 1024) :
    (k0_pay2 (F := Ideal) S X (ix2 x y) : EReal) = ∑ k : Fin 2048, (S (ix2 x k) : EReal) * X (ix2 k y) := by
  pointwise [k0_pay2]

theorem rows_start (t : Fin cfg0.N) (ht : t.val % 6 = 0) :
    (outsAt0 m c t.val t.isLt).2 = k0_pay1 (F := Ideal) (iblk m c 0 t) (iblk m c 1 t) := by
  rw [outsAt0_A m c t ht]
  frame_out

theorem rows_next (t : Fin cfg0.N) (ht : ¬ t.val % 6 = 0) :
    (outsAt0 m c t.val t.isLt).2 = (outsAt0 m c (t.val - 1) (Nat.lt_of_le_of_lt (Nat.sub_le _ _) t.isLt)).2 := by
  rw [outsAt0_B m c t ht]
  rfl

theorem block_start (t : Fin cfg0.N) (ht : t.val % 6 = 0) :
    (outsAt0 m c t.val t.isLt).1 = k0_pay2 (F := Ideal) (outsAt0 m c t.val t.isLt).2 (iblk m c 2 t) := by
  rw [rows_start m c t ht, outsAt0_A m c t ht]
  frame_out

theorem block_next (t : Fin cfg0.N) (ht : ¬ t.val % 6 = 0) :
    (outsAt0 m c t.val t.isLt).1 = k0_pay2 (F := Ideal) (outsAt0 m c t.val t.isLt).2 (iblk m c 2 t) := by
  rw [rows_next m c t ht, outsAt0_B m c t ht]
  frame_out
  simp only [read_unread_whole]

/-- The rows kept for block `i` of the rows. -/
def kept (i : ℕ) (hi : i < 16) (x : Fin 1024) (k : Fin 2048) : EReal :=
  Cert.Up.scaled (Cert.Up.row (mX m c) ⟨(1024 * i + x.val) / 8192, by omega⟩ ⟨(1024 * i + x.val) % 8192, by omega⟩) (mG m c (ix1 k)) k

theorem kept_at (n : ℕ) : ∀ (hn : n < cfg0.N) (x : Fin 1024) (k : Fin 2048),
    ((outsAt0 m c n hn).2 (ix2 x k) : EReal) = kept m c (n / 6) (by have : n < 96 := points ⟨n, hn⟩; omega) x k := by
  have start (t : Fin cfg0.N) (ht : t.val % 6 = 0) (x : Fin 1024) (k : Fin 2048) :
      ((outsAt0 m c t.val t.isLt).2 (ix2 x k) : EReal) = kept m c (t.val / 6) (by have := points t; omega) x k := by
    rw [rows_start m c t ht]
    refine (pay1_at _ _ x k).trans ?_
    exact congrArg₂ (fun f g => Cert.Up.scaled f g k) (funext fun q => blk0 m c t x q) (blk1 m c t k)
  induction n with
  | zero => exact fun hn x k => start ⟨0, hn⟩ rfl x k
  | succ n ih =>
    intro hn x k
    by_cases h0 : (n + 1) % 6 = 0
    · exact start ⟨n + 1, hn⟩ h0 x k
    · refine (congrFun (rows_next m c ⟨n + 1, hn⟩ h0) _).trans ?_
      refine (ih (by omega) x k).trans ?_
      have e : n / 6 = (n + 1) / 6 := by omega
      simp only [e]

theorem out_at (t : Fin cfg0.N) (x : Fin 1024) (y : Fin 1024) :
    ((outsAt0 m c t.val t.isLt).1 (ix2 x y) : EReal)
      = spec (mX m c) (mG m c) (mW m c) ⟨1024 * (t.val / 6) + x.val, by have := points t; omega⟩
        ⟨1024 * (t.val % 6) + y.val, by omega⟩ := by
  have h : (outsAt0 m c t.val t.isLt).1 = k0_pay2 (F := Ideal) (outsAt0 m c t.val t.isLt).2 (iblk m c 2 t) := by
    by_cases ht : t.val % 6 = 0
    · exact block_start m c t ht
    · exact block_next m c t ht
  refine (congrFun h _).trans ((pay2_at _ _ x y).trans ?_)
  rw [spec, full]
  exact Finset.sum_congr rfl fun k _ => congrArg₂ (fun a b : EReal => a * b) (kept_at m c t.val t.isLt x k) (blk2 m c t k y)

theorem arr_eq : ((dats m 0 c).arrAt 3 cfg0.N : FVec Ideal SO .bf16) = specV (mX m c) (mG m c) (mW m c) := by
  refine (dats m 0 c).arrAt_eq_of_covers 3 (specV (mX m c) (mG m c) (mW m c)) (by decide +kernel) (fun t hf y => ?_)
  have ht := points t
  have hi := (idx t).2.2.2
  have h0 : (((cfg0.win 3).blk t).view.emb y 0).val = 1024 * (t.val / 6) + (y 0).val := by
    have e : (((cfg0.win 3).blk t).view.emb y 0).val = win0_3.index t (0 : Fin 2) * 1024 + 1 * (y 0).val := rfl
    rw [e, hi]
    show t.val / 6 * 1024 + 1 * _ = _
    ring
  have h1 : (((cfg0.win 3).blk t).view.emb y 1).val = 1024 * (t.val % 6) + (y 1).val := by
    have e : (((cfg0.win 3).blk t).view.emb y 1).val = win0_3.index t (1 : Fin 2) * 1024 + 1 * (y 1).val := rfl
    rw [e, hi]
    show t.val % 6 * 1024 + 1 * _ = _
    ring
  have hy0 : (y 0).val < 1024 := (y 0).isLt
  have hy1 : (y 1).val < 1024 := (y 1).isLt
  refine (congrFun (Value.flushed3 m c t) y).trans ?_
  have ey : ((cfg0.win 3).xinj (grid0.coords t) y) = (ix2 ⟨(y 0).val, hy0⟩ ⟨(y 1).val, hy1⟩ : S1024x1024.Idx) := by
    funext i
    fin_cases i <;> rfl
  show (outsAt0 m c t.val t.isLt).1 ((cfg0.win 3).xinj (grid0.coords t) y) = _
  rw [ey]
  refine (out_at m c t ⟨(y 0).val, hy0⟩ ⟨(y 1).val, hy1⟩).trans ?_
  rw [specV]
  exact congrArg₂ (spec (mX m c) (mG m c) (mW m c)) (Fin.ext h0.symm) (Fin.ext h1.symm)

theorem run_spec (ρ : Dev nD → PrngReg) :
    θ_run defs (onTc (τ := τ) (main (F := Ideal))) ⟨m, fun _ => 0, ρ⟩ fun r => ∀ c : Dev nD,
      (r.2.mem ((c : Thread nD τ).loc main_v6) : FVec Ideal SO .bf16) = specV (mX m c) (mG m c) (mW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr_eq m c), (h c).2⟩) (Value.run_blocks m ρ)

end Cert.EvenIn
-- ==== Proof.EvenIn.Ref.lean ====
module

public import proofs.«01_k».proof.Proof.EvenIn.Spec
public import proofs.«01_k».proof.Proof.Gen.ReferenceEvenInIdeal.Run
public import Idealize.ShloMosaic.Lib.IdealHost

/-! The reference's projection is the specification. -/

@[expose] public section
set_option maxRecDepth 16384
noncomputable section
namespace Cert.ReferenceEvenInIdeal.EvenIn
open Idealize.ShloMosaic Idealize.ShloMosaic.TcCoe Idealize.SL.Sem
open Cert.ReferenceEvenInIdeal Cert.ReferenceEvenInIdeal.Gen Cert.EvenIn
variable (m : (ℓ : Loc nD τ sig) → Buf (Elt Ideal) ℓ) (c : Dev nD)

abbrev rX : FVec Ideal SX .f32 := m (c, Proc.tc.devRef main_arg0)
abbrev rG : FVec Ideal SG .f32 := m (c, Proc.tc.devRef main_arg1)
abbrev rW : FVec Ideal SW .f32 := m (c, Proc.tc.devRef main_arg2)

theorem result : (Value.res_main_v24 (F := Ideal) m c : FVec Ideal SO .bf16) = specV (rX m c) (rG m c) (rW m c) := by
  funext j
  idx_vars j
  rw [Value.res_main_v24]
  show _ = spec (rX m c) (rG m c) (rW m c) j0 j1
  pointwise []
  split_ifs
  all_goals exact congrArg (full (rX m c) (rG m c) (rW m c) j0) (Fin.ext (by
    by_cases h : j1.val < 4096 <;> simp only [col, h, dite_true, dite_false] <;> omega))

theorem run_spec (ρ : Dev nD → PrngReg) :
    θ_run defs (onTc (τ := τ) (main (F := Ideal))) ⟨m, fun _ => 0, ρ⟩ fun r => ∀ c : Dev nD,
      (r.2.mem ((c : Thread nD τ).loc main_v24) : FVec Ideal SO .bf16) = specV (rX m c) (rG m c) (rW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (Value.run m ρ)

end Cert.ReferenceEvenInIdeal.EvenIn
-- ==== Proof.OddIn.Spec.lean ====
module

public import proofs.«01_k».proof.Proof.Up.Spec

@[expose] public section

/-! The odd layer's projection of the normalised rows: the queries, keys and values and the indexer's queries. -/

noncomputable section

namespace Cert.OddIn

open Idealize.ShloMosaic

abbrev SX : Shape := ⟨3, ![2, 8192, 2048]⟩
abbrev SG : Shape := ⟨1, ![2048]⟩
abbrev SW : Shape := ⟨2, ![2048, 4176]⟩
abbrev SO : Shape := ⟨2, ![16384, 4096]⟩

/-- The projection's column for column `z`. -/
def col (z : Fin 4096) : Fin 4176 := ⟨z.val, by omega⟩

/-- Row `n`, column `z` of the whole projection: the normalised row's product with the column. -/
def full (X : FVec Ideal SX .f32) (G : FVec Ideal SG .f32) (W : FVec Ideal SW .f32) (n : Fin 16384) (z : Fin 4176) : EReal :=
  ∑ k : Fin 2048, Cert.Up.scaled (Cert.Up.row X ⟨n.val / 8192, by omega⟩ ⟨n.val % 8192, Nat.mod_lt _ (by norm_num)⟩) (G (ix1 k)) k
    * W (ix2 k z)

def spec (X : FVec Ideal SX .f32) (G : FVec Ideal SG .f32) (W : FVec Ideal SW .f32) (n : Fin 16384) (z : Fin 4096) : EReal :=
  full X G W n (col z)

def specV (X : FVec Ideal SX .f32) (G : FVec Ideal SG .f32) (W : FVec Ideal SW .f32) : FVec Ideal SO .f32 :=
  fun j => spec X G W (j 0) (j 1)

end Cert.OddIn

end
-- ==== Proof.OddIn.Ker.lean ====
module

public import proofs.«01_k».proof.Proof.OddIn.Spec
public import proofs.«01_k».proof.Proof.Gen.KernelOddInIdeal.Value
public import Idealize.ShloMosaic.Lib.Routing.OpsSet
public import Idealize.ShloMosaic.Lib.Routing.OpsOne
public import Idealize.ShloMosaic.Lib.Pipeline.ValueKit
public import Idealize.ShloMosaic.Lib.Pipeline.ReadBack
public import Idealize.ShloMosaic.Lib.Pointwise

/-! The rows the kernel keeps are the normalised rows, and each block its product with a block of the projection. -/

@[expose] public section
set_option maxRecDepth 16384
noncomputable section
namespace Cert.OddIn
open Idealize.ShloMosaic Idealize.ShloMosaic.TcCoe Idealize.SL.Sem
open Cert.KernelOddInIdeal Cert.KernelOddInIdeal.Gen
variable (m : (ℓ : Loc nD τ sig) → Buf (Elt Ideal) ℓ) (c : Dev nD)

theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

theorem points (t : Fin cfg0.N) : t.val < 64 := lt_of_lt_of_eq t.isLt N_0

/-- The stream, the scale and the projection. -/
abbrev mX : FVec Ideal SX .f32 := m (c, Proc.tc.devRef main_arg0)
abbrev mG : FVec Ideal SG .f32 := m (c, Proc.tc.devRef main_arg1)
abbrev mW : FVec Ideal SW .f32 := m (c, Proc.tc.devRef main_arg2)

theorem blk0 (t : Fin cfg0.N) (x : Fin 1024) (y : Fin 2048) :
    (iblk m c 0 t : Vec Ideal S1024x2048 .f32) (ix2 x y)
      = mX m c (ix3 ⟨(1024 * (t.val / 4) + x.val) / 8192, by have := points t; omega⟩
          ⟨(1024 * (t.val / 4) + x.val) % 8192, by omega⟩ y) := by
  have := points t
  blk_simp [iblk, idx t]
  entry_read
  pointwise []
  blk_point [idx t]

theorem blk1 (t : Fin cfg0.N) (y : Fin 2048) :
    (iblk m c 1 t : Vec Ideal S1x2048 .f32) (ix2 0 y) = mG m c (ix1 y) := by
  have := points t
  blk_simp [iblk, idx t]
  entry_read
  pointwise []
  blk_point [idx t]

theorem blk2 (t : Fin cfg0.N) (x : Fin 2048) (y : Fin 1024) :
    (iblk m c 2 t : Vec Ideal S2048x1024 .bf16) (ix2 x y)
      = mW m c (ix2 x (col ⟨1024 * (t.val % 4) + y.val, by omega⟩)) := by
  have := points t
  rw [col]
  blk_simp [iblk, idx t]
  entry_read
  pointwise []
  blk_point [idx t]

theorem pay1_at (X : Vec Ideal S1024x2048 .f32) (g : Vec Ideal S1x2048 .f32) (x : Fin 1024) (k : Fin 2048) :
    (k0_pay1 (F := Ideal) X g (ix2 x k) : EReal) = Cert.Up.scaled (fun q => X (ix2 x q)) (g (ix2 0 k)) k := by
  pointwise [k0_pay1]
  rfl

theorem pay2_at (S : Vec Ideal S1024x2048 .bf16) (X : Vec Ideal S2048x1024 .bf16) (x : Fin 1024) (y : Fin 1024) :
    (k0_pay2 (F := Ideal) S X (ix2 x y) : EReal) = ∑ k : Fin 2048, (S (ix2 x k) : EReal) * X (ix2 k y) := by
  pointwise [k0_pay2]

theorem rows_start (t : Fin cfg0.N) (ht : t.val % 4 = 0) :
    (outsAt0 m c t.val t.isLt).2 = k0_pay1 (F := Ideal) (iblk m c 0 t) (iblk m c 1 t) := by
  rw [outsAt0_A m c t ht]
  frame_out

theorem rows_next (t : Fin cfg0.N) (ht : ¬ t.val % 4 = 0) :
    (outsAt0 m c t.val t.isLt).2 = (outsAt0 m c (t.val - 1) (Nat.lt_of_le_of_lt (Nat.sub_le _ _) t.isLt)).2 := by
  rw [outsAt0_B m c t ht]
  rfl

theorem block_start (t : Fin cfg0.N) (ht : t.val % 4 = 0) :
    (outsAt0 m c t.val t.isLt).1 = k0_pay2 (F := Ideal) (outsAt0 m c t.val t.isLt).2 (iblk m c 2 t) := by
  rw [rows_start m c t ht, outsAt0_A m c t ht]
  frame_out

theorem block_next (t : Fin cfg0.N) (ht : ¬ t.val % 4 = 0) :
    (outsAt0 m c t.val t.isLt).1 = k0_pay2 (F := Ideal) (outsAt0 m c t.val t.isLt).2 (iblk m c 2 t) := by
  rw [rows_next m c t ht, outsAt0_B m c t ht]
  frame_out
  simp only [read_unread_whole]

/-- The rows kept for block `i` of the rows. -/
def kept (i : ℕ) (hi : i < 16) (x : Fin 1024) (k : Fin 2048) : EReal :=
  Cert.Up.scaled (Cert.Up.row (mX m c) ⟨(1024 * i + x.val) / 8192, by omega⟩ ⟨(1024 * i + x.val) % 8192, by omega⟩) (mG m c (ix1 k)) k

theorem kept_at (n : ℕ) : ∀ (hn : n < cfg0.N) (x : Fin 1024) (k : Fin 2048),
    ((outsAt0 m c n hn).2 (ix2 x k) : EReal) = kept m c (n / 4) (by have : n < 64 := points ⟨n, hn⟩; omega) x k := by
  have start (t : Fin cfg0.N) (ht : t.val % 4 = 0) (x : Fin 1024) (k : Fin 2048) :
      ((outsAt0 m c t.val t.isLt).2 (ix2 x k) : EReal) = kept m c (t.val / 4) (by have := points t; omega) x k := by
    rw [rows_start m c t ht]
    refine (pay1_at _ _ x k).trans ?_
    exact congrArg₂ (fun f g => Cert.Up.scaled f g k) (funext fun q => blk0 m c t x q) (blk1 m c t k)
  induction n with
  | zero => exact fun hn x k => start ⟨0, hn⟩ rfl x k
  | succ n ih =>
    intro hn x k
    by_cases h0 : (n + 1) % 4 = 0
    · exact start ⟨n + 1, hn⟩ h0 x k
    · refine (congrFun (rows_next m c ⟨n + 1, hn⟩ h0) _).trans ?_
      refine (ih (by omega) x k).trans ?_
      have e : n / 4 = (n + 1) / 4 := by omega
      simp only [e]

theorem out_at (t : Fin cfg0.N) (x : Fin 1024) (y : Fin 1024) :
    ((outsAt0 m c t.val t.isLt).1 (ix2 x y) : EReal)
      = spec (mX m c) (mG m c) (mW m c) ⟨1024 * (t.val / 4) + x.val, by have := points t; omega⟩
        ⟨1024 * (t.val % 4) + y.val, by omega⟩ := by
  have h : (outsAt0 m c t.val t.isLt).1 = k0_pay2 (F := Ideal) (outsAt0 m c t.val t.isLt).2 (iblk m c 2 t) := by
    by_cases ht : t.val % 4 = 0
    · exact block_start m c t ht
    · exact block_next m c t ht
  refine (congrFun h _).trans ((pay2_at _ _ x y).trans ?_)
  rw [spec, full]
  exact Finset.sum_congr rfl fun k _ => congrArg₂ (fun a b : EReal => a * b) (kept_at m c t.val t.isLt x k) (blk2 m c t k y)

theorem arr_eq : ((dats m 0 c).arrAt 3 cfg0.N : FVec Ideal SO .f32) = specV (mX m c) (mG m c) (mW m c) := by
  refine (dats m 0 c).arrAt_eq_of_covers 3 (specV (mX m c) (mG m c) (mW m c)) (by decide +kernel) (fun t hf y => ?_)
  have ht := points t
  have hi := (idx t).2.2.2
  have h0 : (((cfg0.win 3).blk t).view.emb y 0).val = 1024 * (t.val / 4) + (y 0).val := by
    have e : (((cfg0.win 3).blk t).view.emb y 0).val = win0_3.index t (0 : Fin 2) * 1024 + 1 * (y 0).val := rfl
    rw [e, hi]
    show t.val / 4 * 1024 + 1 * _ = _
    ring
  have h1 : (((cfg0.win 3).blk t).view.emb y 1).val = 1024 * (t.val % 4) + (y 1).val := by
    have e : (((cfg0.win 3).blk t).view.emb y 1).val = win0_3.index t (1 : Fin 2) * 1024 + 1 * (y 1).val := rfl
    rw [e, hi]
    show t.val % 4 * 1024 + 1 * _ = _
    ring
  have hy0 : (y 0).val < 1024 := (y 0).isLt
  have hy1 : (y 1).val < 1024 := (y 1).isLt
  refine (congrFun (Value.flushed3 m c t) y).trans ?_
  have ey : ((cfg0.win 3).xinj (grid0.coords t) y) = (ix2 ⟨(y 0).val, hy0⟩ ⟨(y 1).val, hy1⟩ : S1024x1024.Idx) := by
    funext i
    fin_cases i <;> rfl
  show (outsAt0 m c t.val t.isLt).1 ((cfg0.win 3).xinj (grid0.coords t) y) = _
  rw [ey]
  refine (out_at m c t ⟨(y 0).val, hy0⟩ ⟨(y 1).val, hy1⟩).trans ?_
  rw [specV]
  exact congrArg₂ (spec (mX m c) (mG m c) (mW m c)) (Fin.ext h0.symm) (Fin.ext h1.symm)

theorem run_spec (ρ : Dev nD → PrngReg) :
    θ_run defs (onTc (τ := τ) (main (F := Ideal))) ⟨m, fun _ => 0, ρ⟩ fun r => ∀ c : Dev nD,
      (r.2.mem ((c : Thread nD τ).loc main_v4) : FVec Ideal SO .f32) = specV (mX m c) (mG m c) (mW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr_eq m c), (h c).2⟩) (Value.run_blocks m ρ)

end Cert.OddIn
-- ==== Proof.OddIn.Ref.lean ====
module

public import proofs.«01_k».proof.Proof.OddIn.Spec
public import proofs.«01_k».proof.Proof.Gen.ReferenceOddInIdeal.Run
public import Idealize.ShloMosaic.Lib.IdealHost

/-! The reference's projection is the specification. -/

@[expose] public section
set_option maxRecDepth 16384
noncomputable section
namespace Cert.ReferenceOddInIdeal.OddIn
open Idealize.ShloMosaic Idealize.ShloMosaic.TcCoe Idealize.SL.Sem
open Cert.ReferenceOddInIdeal Cert.ReferenceOddInIdeal.Gen Cert.OddIn
variable (m : (ℓ : Loc nD τ sig) → Buf (Elt Ideal) ℓ) (c : Dev nD)

abbrev rX : FVec Ideal SX .f32 := m (c, Proc.tc.devRef main_arg0)
abbrev rG : FVec Ideal SG .f32 := m (c, Proc.tc.devRef main_arg1)
abbrev rW : FVec Ideal SW .f32 := m (c, Proc.tc.devRef main_arg2)

theorem result : (Value.res_main_v21 (F := Ideal) m c : FVec Ideal SO .f32) = specV (rX m c) (rG m c) (rW m c) := by
  funext j
  idx_vars j
  rw [Value.res_main_v21]
  show _ = spec (rX m c) (rG m c) (rW m c) j0 j1
  pointwise []
  split_ifs
  all_goals exact congrArg (full (rX m c) (rG m c) (rW m c) j0) (Fin.ext (by
    first | rfl | (dsimp only [col]; omega)))

theorem run_spec (ρ : Dev nD → PrngReg) :
    θ_run defs (onTc (τ := τ) (main (F := Ideal))) ⟨m, fun _ => 0, ρ⟩ fun r => ∀ c : Dev nD,
      (r.2.mem ((c : Thread nD τ).loc main_v21) : FVec Ideal SO .f32) = specV (rX m c) (rG m c) (rW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (Value.run m ρ)

end Cert.ReferenceOddInIdeal.OddIn
-- ==== Proof.EvenOut.Spec.lean ====
module

public import Idealize.ShloMosaic.PureOps
public import Idealize.ShloMosaic.Lib.Pointwise

@[expose] public section

/-! The products of both mixers' rows with their halves of the output projection, added to the residual stream. -/

noncomputable section

namespace Cert.EvenOut

open Idealize.ShloMosaic

abbrev SA : Shape := ⟨2, ![16384, 1024]⟩
abbrev SW : Shape := ⟨2, ![2048, 2048]⟩
abbrev SH : Shape := ⟨3, ![2, 8192, 2048]⟩
abbrev SO : Shape := ⟨2, ![16384, 2048]⟩

/-- Row `n`, column `z`: the stream's entry, the first mixer's sum and the second's. -/
def spec (A B : FVec Ideal SA .bf16) (W : FVec Ideal SW .f32) (H : FVec Ideal SH .f32) (n : Fin 16384) (z : Fin 2048) : EReal :=
  (H (ix3 ⟨n.val / 8192, by omega⟩ ⟨n.val % 8192, Nat.mod_lt _ (by norm_num)⟩ z) : EReal)
    + ∑ k : Fin 1024, (A (ix2 n k) : EReal) * W (ix2 ⟨k.val, by omega⟩ z)
    + ∑ k : Fin 1024, (B (ix2 n k) : EReal) * W (ix2 ⟨1024 + k.val, by omega⟩ z)

def specV (A B : FVec Ideal SA .bf16) (W : FVec Ideal SW .f32) (H : FVec Ideal SH .f32) : FVec Ideal SO .f32 :=
  fun j => spec A B W H (j 0) (j 1)

end Cert.EvenOut

end
-- ==== Proof.EvenOut.Ker.lean ====
module

public import proofs.«01_k».proof.Proof.EvenOut.Spec
public import proofs.«01_k».proof.Proof.Gen.KernelEvenOutIdeal.Value
public import Idealize.ShloMosaic.Lib.Routing.OpsSet
public import Idealize.ShloMosaic.Lib.Routing.OpsOne
public import Idealize.ShloMosaic.Lib.Pipeline.ValueKit
public import Idealize.ShloMosaic.Lib.Pipeline.ReadBack
public import Idealize.ShloMosaic.Lib.Pointwise

/-! The tiled products of the kernel is the specification. -/

@[expose] public section
set_option maxRecDepth 16384
noncomputable section
namespace Cert.EvenOut
open Idealize.ShloMosaic Idealize.ShloMosaic.TcCoe Idealize.SL.Sem
open Cert.KernelEvenOutIdeal Cert.KernelEvenOutIdeal.Gen
variable (m : (ℓ : Loc nD τ sig) → Buf (Elt Ideal) ℓ) (c : Dev nD)

theorem idx : ∀ t : Fin cfg0.N, win0_0.index t = ![t.val / 2, 0] ∧ win0_1.index t = ![t.val / 2, 0]
    ∧ win0_2.index t = ![0, t.val % 2] ∧ win0_3.index t = ![0, t.val % 2]
    ∧ win0_4.index t = ![t.val / 2, t.val % 2] ∧ win0_5.index t = ![t.val / 2, t.val % 2] :=
  (by decide +kernel : ∀ t : Fin grid0.N, _)

theorem lt32 (t : Fin cfg0.N) : t.val < 32 := lt_of_lt_of_eq t.isLt N_0

/-- The two mixers' rows, the weights and the residual stream. -/
abbrev mA : FVec Ideal SA .bf16 := m (c, Proc.tc.devRef main_arg0)
abbrev mB : FVec Ideal SA .bf16 := m (c, Proc.tc.devRef main_arg1)
abbrev mW : FVec Ideal SW .f32 := m (c, Proc.tc.devRef main_arg2)
abbrev mH : FVec Ideal SH .f32 := m (c, Proc.tc.devRef main_arg3)

theorem blk0 (t : Fin cfg0.N) (x : Fin 1024) (y : Fin 1024) :
    (iblk m c 0 t : Vec Ideal S1024x1024 .bf16) (ix2 x y)
      = mA m c (ix2 ⟨1024 * (t.val / 2) + x.val, by have := lt32 t; omega⟩ y) := by
  have := lt32 t
  blk_simp [iblk, idx t]
  entry_read
  blk_point [idx t]

theorem blk1 (t : Fin cfg0.N) (x : Fin 1024) (y : Fin 1024) :
    (iblk m c 1 t : Vec Ideal S1024x1024 .bf16) (ix2 x y)
      = mB m c (ix2 ⟨1024 * (t.val / 2) + x.val, by have := lt32 t; omega⟩ y) := by
  have := lt32 t
  blk_simp [iblk, idx t]
  entry_read
  blk_point [idx t]

theorem blk2 (t : Fin cfg0.N) (x : Fin 1024) (y : Fin 1024) :
    (iblk m c 2 t : Vec Ideal S1024x1024 .bf16) (ix2 x y)
      = mW m c (ix2 ⟨x.val, by omega⟩ ⟨1024 * (t.val % 2) + y.val, by omega⟩) := by
  have := lt32 t
  blk_simp [iblk, idx t]
  entry_read
  pointwise []
  blk_point [idx t]

theorem blk3 (t : Fin cfg0.N) (x : Fin 1024) (y : Fin 1024) :
    (iblk m c 3 t : Vec Ideal S1024x1024 .bf16) (ix2 x y)
      = mW m c (ix2 ⟨1024 + x.val, by omega⟩ ⟨1024 * (t.val % 2) + y.val, by omega⟩) := by
  have := lt32 t
  blk_simp [iblk, idx t]
  entry_read
  pointwise []
  blk_point [idx t]

theorem blk4 (t : Fin cfg0.N) (x : Fin 1024) (y : Fin 1024) :
    (iblk m c 4 t : Vec Ideal S1024x1024 .f32) (ix2 x y)
      = mH m c (ix3 ⟨(1024 * (t.val / 2) + x.val) / 8192, by have := lt32 t; omega⟩
          ⟨(1024 * (t.val / 2) + x.val) % 8192, by omega⟩ ⟨1024 * (t.val % 2) + y.val, by omega⟩) := by
  have := lt32 t
  blk_simp [iblk, idx t]
  entry_read
  pointwise []
  blk_point [idx t]

theorem body_at (X0 X1 X2 X3 : FVec Ideal S1024x1024 .bf16) (X4 : FVec Ideal S1024x1024 .f32) (x : Fin 1024) (y : Fin 1024) :
    (out0_5 (F := Ideal) X0 X1 X2 X3 X4 (ix2 x y) : EReal)
      = (X4 (ix2 x y) : EReal) + ∑ k : Fin 1024, (X0 (ix2 x k) : EReal) * X2 (ix2 k y)
        + ∑ k : Fin 1024, (X1 (ix2 x k) : EReal) * X3 (ix2 k y) := by
  frame_out
  pointwise [k0_pay1]

theorem out_at (t : Fin cfg0.N) (x : Fin 1024) (y : Fin 1024) :
    (out0_5 (F := Ideal) (iblk m c 0 t) (iblk m c 1 t) (iblk m c 2 t) (iblk m c 3 t) (iblk m c 4 t) (ix2 x y) : EReal)
      = spec (mA m c) (mB m c) (mW m c) (mH m c) ⟨1024 * (t.val / 2) + x.val, by have := lt32 t; omega⟩
        ⟨1024 * (t.val % 2) + y.val, by omega⟩ := by
  have := lt32 t
  refine (body_at _ _ _ _ _ x y).trans ?_
  rw [spec]
  exact congrArg₂ (· + ·) (congrArg₂ (· + ·) (blk4 m c t x y) (Finset.sum_congr rfl fun k _ =>
      congrArg₂ (fun a b : EReal => a * b) (blk0 m c t x k) (blk2 m c t k y)))
    (Finset.sum_congr rfl fun k _ => congrArg₂ (fun a b : EReal => a * b) (blk1 m c t x k) (blk3 m c t k y))

theorem arr_eq : ((dats m 0 c).arrAt 5 cfg0.N : FVec Ideal SO .f32) = specV (mA m c) (mB m c) (mW m c) (mH m c) := by
  refine (dats m 0 c).arrAt_eq_of_covers 5 (specV (mA m c) (mB m c) (mW m c) (mH m c)) (by decide +kernel) (fun t hf y => ?_)
  have ht := lt32 t
  have hi := (idx t).2.2.2.2.2
  have h0 : (((cfg0.win 5).blk t).view.emb y 0).val = 1024 * (t.val / 2) + (y 0).val := by
    have e : (((cfg0.win 5).blk t).view.emb y 0).val = win0_5.index t (0 : Fin 2) * 1024 + 1 * (y 0).val := rfl
    rw [e, hi]
    show t.val / 2 * 1024 + 1 * _ = _
    ring
  have h1 : (((cfg0.win 5).blk t).view.emb y 1).val = 1024 * (t.val % 2) + (y 1).val := by
    have e : (((cfg0.win 5).blk t).view.emb y 1).val = win0_5.index t (1 : Fin 2) * 1024 + 1 * (y 1).val := rfl
    rw [e, hi]
    show t.val % 2 * 1024 + 1 * _ = _
    ring
  have hy0 : (y 0).val < 1024 := (y 0).isLt
  have hy1 : (y 1).val < 1024 := (y 1).isLt
  refine (congrFun (Value.flushed5 m c t) y).trans ?_
  have ey : ((cfg0.win 5).xinj (grid0.coords t) y) = (ix2 ⟨(y 0).val, hy0⟩ ⟨(y 1).val, hy1⟩ : S1024x1024.Idx) := by
    funext i
    fin_cases i <;> rfl
  show out0_5 (F := Ideal) (iblk m c 0 t) (iblk m c 1 t) (iblk m c 2 t) (iblk m c 3 t) (iblk m c 4 t) ((cfg0.win 5).xinj (grid0.coords t) y) = _
  rw [ey]
  refine (out_at m c t ⟨(y 0).val, hy0⟩ ⟨(y 1).val, hy1⟩).trans ?_
  rw [specV]
  exact congrArg₂ (spec (mA m c) (mB m c) (mW m c) (mH m c)) (Fin.ext h0.symm) (Fin.ext h1.symm)

theorem run_spec (ρ : Dev nD → PrngReg) :
    θ_run defs (onTc (τ := τ) (main (F := Ideal))) ⟨m, fun _ => 0, ρ⟩ fun r => ∀ c : Dev nD,
      (r.2.mem ((c : Thread nD τ).loc main_v4) : FVec Ideal SO .f32) = specV (mA m c) (mB m c) (mW m c) (mH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr_eq m c), (h c).2⟩) (Value.run_blocks m ρ)
end Cert.EvenOut
-- ==== Proof.EvenOut.Ref.lean ====
module

public import proofs.«01_k».proof.Proof.EvenOut.Spec
public import proofs.«01_k».proof.Proof.Gen.ReferenceEvenOutIdeal.Run
public import Idealize.ShloMosaic.Lib.IdealHost

/-! The reference's product over the joined rows is the two mixers' sums. -/

@[expose] public section
set_option maxRecDepth 16384
noncomputable section
namespace Cert.ReferenceEvenOutIdeal.EvenOut
open Idealize.ShloMosaic Idealize.ShloMosaic.TcCoe Idealize.SL.Sem
open Cert.ReferenceEvenOutIdeal Cert.ReferenceEvenOutIdeal.Gen Cert.EvenOut

theorem result (A B : FVec Ideal SA .bf16) (W : FVec Ideal SW .f32) (H : FVec Ideal SH .f32) :
    (shapeCast S16384x2048 (addf H (Host.dotGeneral (F := Ideal) dot_S2x8192x2048_S2048x2048_S2x8192x2048_2_0_01_1_n_n none (concatenate S2x8192x2048 2 [⟨S2x8192x1024, (shapeCast S2x8192x1024 (extf .f32 A bitsLt_bf16_f32) shapeCasts_S16384x1024_S2x8192x1024)⟩, ⟨S2x8192x1024, (shapeCast S2x8192x1024 (extf .f32 B bitsLt_bf16_f32) shapeCasts_S16384x1024_S2x8192x1024)⟩] concatenates_S2x8192x1024_S2x8192x1024_S2x8192x2048_d2) W)) shapeCasts_S2x8192x2048_S16384x2048 : FVec Ideal S16384x2048 .f32)
      = specV A B W H := by
  funext j
  idx_vars j
  rw [specV]
  show _ = spec A B W H j0 j1
  rw [spec, add_assoc]
  pointwise []

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v7) : FVec Ideal SO .f32)
        = specV (m (c, Proc.tc.devRef main_arg0)) (m (c, Proc.tc.devRef main_arg1)) (m (c, Proc.tc.devRef main_arg2)) (m (c, Proc.tc.devRef main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result _ _ _ _), (h c).2⟩) (Value.run m ρ)

end Cert.ReferenceEvenOutIdeal.EvenOut
-- ==== Proof.Sgu.Spec.lean ====
module

public import Idealize.ShloMosaic.PureOps
public import Idealize.ShloMosaic.Lib.Pointwise

@[expose] public section

/-! The chunked spatial gating mixer, written out: the gate half and the mixed half pass the smooth rectifier; each group
of the mixed half is normalised row by row and then mixed along its chunk of 128 rows, a row over itself and the rows before it. -/

noncomputable section

namespace Cert.Sgu

open Idealize.ShloMosaic

abbrev SX : Shape := ⟨3, ![2, 8192, 6152]⟩
abbrev SP : Shape := ⟨3, ![4, 128, 128]⟩
abbrev SB : Shape := ⟨2, ![4, 128]⟩
abbrev SN : Shape := ⟨2, ![4, 256]⟩
abbrev SO : Shape := ⟨2, ![16384, 1024]⟩

variable (X : FVec Ideal SX .f32) (P : FVec Ideal SP .f32) (B : FVec Ideal SB .f32) (N : FVec Ideal SN .f32)

/-- The smooth rectifier, by its hyperbolic tangent form. -/
def soft (a : EReal) : EReal :=
  a * (Ideal.ofBits FTy.f32 0x3F000000#32 * (1
    + Ideal.tanh (Ideal.ofBits FTy.f32 0x3F4C422A#32 * (a + Ideal.ofBits FTy.f32 0x3D372713#32 * (a * a * a)))))

/-- A row's entry over the root of the row's mean square, scaled. -/
def scaled (f : Fin 256 → EReal) (g : EReal) (d : Fin 256) : EReal :=
  f d * Ideal.rsqrt (Ideal.div (∑ q, f q * f q) (Ideal.ofBits FTy.f32 0x43800000#32) + Ideal.ofBits FTy.f32 0x358637BD#32) * g

/-- A row of weights over the rows up to it. -/
def lower (w : Fin 128 → EReal) (x s : Fin 128) : EReal := if s.val ≤ x.val then w s else 0

/-- Row `s` of the projection of sequence `b`. -/
def row (b : Fin 2) (s : Fin 8192) (y : Fin 6152) : EReal := X (ix3 b s y)

/-- The mixed half of a row, in group `g`. -/
def half (b : Fin 2) (s : Fin 8192) (g : Fin 4) (d : Fin 256) : EReal := soft (row X b s ⟨5128 + (g.val * 256 + d.val), by omega⟩)

/-- The mix of a chunk's rows, at row `s`. -/
def mix (b : Fin 2) (s : Fin 8192) (g : Fin 4) (d : Fin 256) : EReal :=
  ∑ x : Fin 128, lower (fun x => P (ix3 g ⟨s.val % 128, by omega⟩ x)) ⟨s.val % 128, by omega⟩ x
    * scaled (half X b ⟨s.val / 128 * 128 + x.val, by omega⟩ g) (N (ix2 g d)) d

def gated (b : Fin 2) (s : Fin 8192) (z : Fin 1024) : EReal :=
  soft (row X b s ⟨4104 + z.val, by omega⟩)
    * (mix X P N b s ⟨z.val / 256, by omega⟩ ⟨z.val % 256, by omega⟩ + B (ix2 ⟨z.val / 256, by omega⟩ ⟨s.val % 128, by omega⟩))

def spec (n : Fin 16384) (z : Fin 1024) : EReal := gated X P B N ⟨n.val / 8192, by omega⟩ ⟨n.val % 8192, by omega⟩ z

def specV : FVec Ideal SO .bf16 := fun j => spec X P B N (j 0) (j 1)

end Cert.Sgu

end
-- ==== Proof.Sgu.Unit.lean ====
module

public import proofs.«01_k».proof.Proof.Sgu.Spec
public import proofs.«01_k».proof.Proof.Gen.KernelSguIdeal.Value
public import Idealize.ShloMosaic.Lib.Pipeline.ValueKit
public import Idealize.ShloMosaic.Lib.Pointwise

/-! One chunk and group of the kernel's block. -/

@[expose] public section
set_option maxRecDepth 16384
noncomputable section
namespace Cert.Sgu
open Idealize.ShloMosaic Idealize.ShloMosaic.TcCoe Idealize.SL.Sem
open Cert.KernelSguIdeal Cert.KernelSguIdeal.Gen

/-- The value every store writes, over what it loads. -/
def tile (W : Vec Ideal S1x128x128 .f32) (B : Vec Ideal S128x1 .f32) (N : Vec Ideal S1x256 .f32) (Z U : Vec Ideal S128x256 .bf16) :
    Vec Ideal S128x256 .bf16 :=
  k0_pay6 (F := Ideal) (k0_pay4 B) (k0_pay5 W N Z) U

theorem keep_at : ∀ x s : Fin 128, (IntOp.cmpi .sle (BitVec.ofNat 32 s.val) (BitVec.ofNat 32 x.val) : BitVec 1)
    = if s.val ≤ x.val then 1#1 else 0#1 := by
  decide +kernel

theorem soft_eq (a : EReal) : a * (Ideal.ofBits FTy.f32 0x3F000000#32 * (1
    + Ideal.tanh (Ideal.ofBits FTy.f32 0x3F4C422A#32 * (a + Ideal.ofBits FTy.f32 0x3D372713#32 * (a * (a * a)))))) = soft a := by
  rw [soft, mul_assoc a a a]

theorem tile_at (W : Vec Ideal S1x128x128 .f32) (B : Vec Ideal S128x1 .f32) (N : Vec Ideal S1x256 .f32) (Z U : Vec Ideal S128x256 .bf16)
    (x : Fin 128) (y : Fin 256) :
    (tile W B N Z U (ix2 x y) : EReal)
      = soft (U (ix2 x y)) * ((∑ s : Fin 128, lower (fun s => W (ix3 0 x s)) x s
          * scaled (fun q => soft (Z (ix2 s q))) (N (ix2 0 y)) y) + B (ix2 x 0)) := by
  pointwise [tile, k0_pay6, k0_pay4, k0_pay5, k0_pay3, k0_pay2]
  simp only [soft_eq]
  refine congrArg₂ (fun a b : EReal => a * b) rfl (congrArg₂ (fun a b : EReal => a + b) (Finset.sum_congr rfl fun s _ => ?_) rfl)
  rw [keep_at, lower]
  split_ifs
  · rfl
  · exact (zero_mul _).symm

end Cert.Sgu
-- ==== Proof.Sgu.Body.lean ====
module

public import proofs.«01_k».proof.Proof.Sgu.Unit
public import proofs.«01_k».proof.Proof.Up.Body

/-! The kernel's block, tile by tile. -/

@[expose] public section
set_option maxRecDepth 16384
noncomputable section
namespace Cert.Sgu
open Idealize.ShloMosaic Idealize.ShloMosaic.TcCoe Idealize.SL.Sem
open Cert.KernelSguIdeal Cert.KernelSguIdeal.Gen
open Cert.Up (hit miss)

variable (U Z : Vec Ideal S512x1024 .bf16) (W : Vec Ideal S4x128x128 .f32) (B : Vec Ideal S128x4 .f32) (N : Vec Ideal S4x256 .f32)

/-- The stores, each of the same value over its own loads. -/
def tiles : List (View.Piece (Elt Ideal) S512x1024 .bf16) :=
  [⟨r0_27, tile (View.ld W r0_21) (View.ld B r0_22) (View.ld N r0_23) (View.ld Z r0_27) (View.ld U r0_27)⟩,
    ⟨r0_26, tile (View.ld W r0_21) (View.ld B r0_22) (View.ld N r0_23) (View.ld Z r0_26) (View.ld U r0_26)⟩,
    ⟨r0_25, tile (View.ld W r0_21) (View.ld B r0_22) (View.ld N r0_23) (View.ld Z r0_25) (View.ld U r0_25)⟩,
    ⟨r0_24, tile (View.ld W r0_21) (View.ld B r0_22) (View.ld N r0_23) (View.ld Z r0_24) (View.ld U r0_24)⟩,
    ⟨r0_20, tile (View.ld W r0_14) (View.ld B r0_15) (View.ld N r0_16) (View.ld Z r0_20) (View.ld U r0_20)⟩,
    ⟨r0_19, tile (View.ld W r0_14) (View.ld B r0_15) (View.ld N r0_16) (View.ld Z r0_19) (View.ld U r0_19)⟩,
    ⟨r0_18, tile (View.ld W r0_14) (View.ld B r0_15) (View.ld N r0_16) (View.ld Z r0_18) (View.ld U r0_18)⟩,
    ⟨r0_17, tile (View.ld W r0_14) (View.ld B r0_15) (View.ld N r0_16) (View.ld Z r0_17) (View.ld U r0_17)⟩,
    ⟨r0_13, tile (View.ld W r0_7) (View.ld B r0_8) (View.ld N r0_9) (View.ld Z r0_13) (View.ld U r0_13)⟩,
    ⟨r0_12, tile (View.ld W r0_7) (View.ld B r0_8) (View.ld N r0_9) (View.ld Z r0_12) (View.ld U r0_12)⟩,
    ⟨r0_11, tile (View.ld W r0_7) (View.ld B r0_8) (View.ld N r0_9) (View.ld Z r0_11) (View.ld U r0_11)⟩,
    ⟨r0_10, tile (View.ld W r0_7) (View.ld B r0_8) (View.ld N r0_9) (View.ld Z r0_10) (View.ld U r0_10)⟩,
    ⟨r0_6, tile (View.ld W r0_0) (View.ld B r0_1) (View.ld N r0_2) (View.ld Z r0_6) (View.ld U r0_6)⟩,
    ⟨r0_5, tile (View.ld W r0_0) (View.ld B r0_1) (View.ld N r0_2) (View.ld Z r0_5) (View.ld U r0_5)⟩,
    ⟨r0_4, tile (View.ld W r0_0) (View.ld B r0_1) (View.ld N r0_2) (View.ld Z r0_4) (View.ld U r0_4)⟩,
    ⟨r0_3, tile (View.ld W r0_0) (View.ld B r0_1) (View.ld N r0_2) (View.ld Z r0_3) (View.ld U r0_3)⟩]

theorem out_tiles : out0_5 (F := Ideal) U Z W B N = View.canon (tiles U Z W B N) := by
  unfold_out out0_5
  rfl

/-- A tile's value, by the group `g` and the chunk `c` of its place. -/
def val (g c : ℕ) (hg : g < 4) (hc : c < 4) (x : Fin 128) (y : Fin 256) : EReal :=
  soft (U (ix2 ⟨128 * c + x.val, by omega⟩ ⟨256 * g + y.val, by omega⟩))
    * ((∑ s : Fin 128, lower (fun s => W (ix3 ⟨g, hg⟩ x s)) x s
        * scaled (fun q => soft (Z (ix2 ⟨128 * c + s.val, by omega⟩ ⟨256 * g + q.val, by omega⟩))) (N (ix2 ⟨g, hg⟩ y)) y) + B (ix2 x ⟨g, hg⟩))

theorem tile00 (x : Fin 128) (y : Fin 256) :
    (View.canon (tiles U Z W B N) (ix2 ⟨0 + x.val, by omega⟩ ⟨0 + y.val, by omega⟩) : EReal)
      = val U Z W B N 0 0 (by norm_num) (by norm_num) x y := by
  unfold tiles
  refine (miss _ _ _ _ _ _ 1 (by show 0 + y.val < 768; omega)).trans ?_
  refine (miss _ _ _ _ _ _ 1 (by show 0 + y.val < 768; omega)).trans ?_
  refine (miss _ _ _ _ _ _ 1 (by show 0 + y.val < 768; omega)).trans ?_
  refine (miss _ _ _ _ _ _ 1 (by show 0 + y.val < 768; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 256; omega)).trans ?_
  refine (miss _ _ _ _ _ _ 1 (by show 0 + y.val < 256; omega)).trans ?_
  refine (miss _ _ _ _ _ _ 1 (by show 0 + y.val < 256; omega)).trans ?_
  refine (miss _ _ _ _ _ _ 1 (by show 0 + y.val < 256; omega)).trans ?_
  refine (miss _ _ _ _ _ _ 0 (by show 0 + x.val < 384; omega)).trans ?_
  refine (miss _ _ _ _ _ _ 0 (by show 0 + x.val < 256; omega)).trans ?_
  refine (miss _ _ _ _ _ _ 0 (by show 0 + x.val < 128; omega)).trans ?_
  refine (hit _ _ _ _ _ _ (ix2 x y) (by intro a; fin_cases a <;> simp)).trans ?_
  refine (tile_at _ _ _ _ _ x y).trans ?_
  rw [val]
  pointwise []

theorem tile01 (x : Fin 128) (y : Fin 256) :
    (View.canon (tiles U Z W B N) (ix2 ⟨128 + x.val, by omega⟩ ⟨0 + y.val, by omega⟩) : EReal)
      = val U Z W B N 0 1 (by norm_num) (by norm_num) x y := by
  unfold tiles
  refine (miss _ _ _ _ _ _ 1 (by show 0 + y.val < 768; omega)).trans ?_
  refine (miss _ _ _ _ _ _ 1 (by show 0 + y.val < 768; omega)).trans ?_
  refine (miss _ _ _ _ _ _ 1 (by show 0 + y.val < 768; omega)).trans ?_
  refine (miss _ _ _ _ _ _ 1 (by show 0 + y.val < 768; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 256; omega)).trans ?_
  refine (miss _ _ _ _ _ _ 1 (by show 0 + y.val < 256; omega)).trans ?_
  refine (miss _ _ _ _ _ _ 1 (by show 0 + y.val < 256; omega)).trans ?_
  refine (miss _ _ _ _ _ _ 1 (by show 0 + y.val < 256; omega)).trans ?_
  refine (miss _ _ _ _ _ _ 0 (by show 128 + x.val < 384; omega)).trans ?_
  refine (miss _ _ _ _ _ _ 0 (by show 128 + x.val < 256; omega)).trans ?_
  refine (hit _ _ _ _ _ _ (ix2 x y) (by intro a; fin_cases a <;> simp)).trans ?_
  refine (tile_at _ _ _ _ _ x y).trans ?_
  rw [val]
  pointwise []

theorem tile02 (x : Fin 128) (y : Fin 256) :
    (View.canon (tiles U Z W B N) (ix2 ⟨256 + x.val, by omega⟩ ⟨0 + y.val, by omega⟩) : EReal)
      = val U Z W B N 0 2 (by norm_num) (by norm_num) x y := by
  unfold tiles
  refine (miss _ _ _ _ _ _ 1 (by show 0 + y.val < 768; omega)).trans ?_
  refine (miss _ _ _ _ _ _ 1 (by show 0 + y.val < 768; omega)).trans ?_
  refine (miss _ _ _ _ _ _ 1 (by show 0 + y.val < 768; omega)).trans ?_
  refine (miss _ _ _ _ _ _ 1 (by show 0 + y.val < 768; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 256; omega)).trans ?_
  refine (miss _ _ _ _ _ _ 1 (by show 0 + y.val < 256; omega)).trans ?_
  refine (miss _ _ _ _ _ _ 1 (by show 0 + y.val < 256; omega)).trans ?_
  refine (miss _ _ _ _ _ _ 1 (by show 0 + y.val < 256; omega)).trans ?_
  refine (miss _ _ _ _ _ _ 0 (by show 256 + x.val < 384; omega)).trans ?_
  refine (hit _ _ _ _ _ _ (ix2 x y) (by intro a; fin_cases a <;> simp)).trans ?_
  refine (tile_at _ _ _ _ _ x y).trans ?_
  rw [val]
  pointwise []

theorem tile03 (x : Fin 128) (y : Fin 256) :
    (View.canon (tiles U Z W B N) (ix2 ⟨384 + x.val, by omega⟩ ⟨0 + y.val, by omega⟩) : EReal)
      = val U Z W B N 0 3 (by norm_num) (by norm_num) x y := by
  unfold tiles
  refine (miss _ _ _ _ _ _ 1 (by show 0 + y.val < 768; omega)).trans ?_
  refine (miss _ _ _ _ _ _ 1 (by show 0 + y.val < 768; omega)).trans ?_
  refine (miss _ _ _ _ _ _ 1 (by show 0 + y.val < 768; omega)).trans ?_
  refine (miss _ _ _ _ _ _ 1 (by show 0 + y.val < 768; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 512; omega)).trans ?_
  refine (miss _ _ _ _ _ _ 1 (by show 0 + y.val < 256; omega)).trans ?_
  refine (miss _ _ _ _ _ _ 1 (by show 0 + y.val < 256; omega)).trans ?_
  refine (miss _ _ _ _ _ _ 1 (by show 0 + y.val < 256; omega)).trans ?_
  refine (miss _ _ _ _ _ _ 1 (by show 0 + y.val < 256; omega)).trans ?_
  refine (hit _ _ _ _ _ _ (ix2 x y) (by intro a; fin_cases a <;> simp)).trans ?_
  refine (tile_at _ _ _ _ _ x y).trans ?_
  rw [val]
  pointwise []

theorem tile10 (x : Fin 128) (y : Fin 256) :
    (View.canon (tiles U Z W B N) (ix2 ⟨0 + x.val, by omega⟩ ⟨256 + y.val, by omega⟩) : EReal)
      = val U Z W B N 1 0 (by norm_num) (by norm_num) x y := by
  unfold tiles
  refine (miss _ _ _ _ _ _ 1 (by show 256 + y.val < 768; omega)).trans ?_
  refine (miss _ _ _ _ _ _ 1 (by show 256 + y.val < 768; omega)).trans ?_
  refine (miss _ _ _ _ _ _ 1 (by show 256 + y.val < 768; omega)).trans ?_
  refine (miss _ _ _ _ _ _ 1 (by show 256 + y.val < 768; omega)).trans ?_
  refine (miss _ _ _ _ _ _ 1 (by show 256 + y.val < 512; omega)).trans ?_
  refine (miss _ _ _ _ _ _ 1 (by show 256 + y.val < 512; omega)).trans ?_
  refine (miss _ _ _ _ _ _ 1 (by show 256 + y.val < 512; omega)).trans ?_
  refine (miss _ _ _ _ _ _ 1 (by show 256 + y.val < 512; omega)).trans ?_
  refine (miss _ _ _ _ _ _ 0 (by show 0 + x.val < 384; omega)).trans ?_
  refine (miss _ _ _ _ _ _ 0 (by show 0 + x.val < 256; omega)).trans ?_
  refine (miss _ _ _ _ _ _ 0 (by show 0 + x.val < 128; omega)).trans ?_
  refine (hit _ _ _ _ _ _ (ix2 x y) (by intro a; fin_cases a <;> simp)).trans ?_
  refine (tile_at _ _ _ _ _ x y).trans ?_
  rw [val]
  pointwise []

theorem tile11 (x : Fin 128) (y : Fin 256) :
    (View.canon (tiles U Z W B N) (ix2 ⟨128 + x.val, by omega⟩ ⟨256 + y.val, by omega⟩) : EReal)
      = val U Z W B N 1 1 (by norm_num) (by norm_num) x y := by
  unfold tiles
  refine (miss _ _ _ _ _ _ 1 (by show 256 + y.val < 768; omega)).trans ?_
  refine (miss _ _ _ _ _ _ 1 (by show 256 + y.val < 768; omega)).trans ?_
  refine (miss _ _ _ _ _ _ 1 (by show 256 + y.val < 768; omega)).trans ?_
  refine (miss _ _ _ _ _ _ 1 (by show 256 + y.val < 768; omega)).trans ?_
  refine (miss _ _ _ _ _ _ 1 (by show 256 + y.val < 512; omega)).trans ?_
  refine (miss _ _ _ _ _ _ 1 (by show 256 + y.val < 512; omega)).trans ?_
  refine (miss _ _ _ _ _ _ 1 (by show 256 + y.val < 512; omega)).trans ?_
  refine (miss _ _ _ _ _ _ 1 (by show 256 + y.val < 512; omega)).trans ?_
  refine (miss _ _ _ _ _ _ 0 (by show 128 + x.val < 384; omega)).trans ?_
  refine (miss _ _ _ _ _ _ 0 (by show 128 + x.val < 256; omega)).trans ?_
  refine (hit _ _ _ _ _ _ (ix2 x y) (by intro a; fin_cases a <;> simp)).trans ?_
  refine (tile_at _ _ _ _ _ x y).trans ?_
  rw [val]
  pointwise []

theorem tile12 (x : Fin 128) (y : Fin 256) :
    (View.canon (tiles U Z W B N) (ix2 ⟨256 + x.val, by omega⟩ ⟨256 + y.val, by omega⟩) : EReal)
      = val U Z W B N 1 2 (by norm_num) (by norm_num) x y := by
  unfold tiles
  refine (miss _ _ _ _ _ _ 1 (by show 256 + y.val < 768; omega)).trans ?_
  refine (miss _ _ _ _ _ _ 1 (by show 256 + y.val < 768; omega)).trans ?_
  refine (miss _ _ _ _ _ _ 1 (by show 256 + y.val < 768; omega)).trans ?_
  refine (miss _ _ _ _ _ _ 1 (by show 256 + y.val < 768; omega)).trans ?_
  refine (miss _ _ _ _ _ _ 1 (by show 256 + y.val < 512; omega)).trans ?_
  refine (miss _ _ _ _ _ _ 1 (by show 256 + y.val < 512; omega)).trans ?_
  refine (miss _ _ _ _ _ _ 1 (by show 256 + y.val < 512; omega)).trans ?_
  refine (miss _ _ _ _ _ _ 1 (by show 256 + y.val < 512; omega)).trans ?_
  refine (miss _ _ _ _ _ _ 0 (by show 256 + x.val < 384; omega)).trans ?_
  refine (hit _ _ _ _ _ _ (ix2 x y) (by intro a; fin_cases a <;> simp)).trans ?_
  refine (tile_at _ _ _ _ _ x y).trans ?_
  rw [val]
  pointwise []

theorem tile13 (x : Fin 128) (y : Fin 256) :
    (View.canon (tiles U Z W B N) (ix2 ⟨384 + x.val, by omega⟩ ⟨256 + y.val, by omega⟩) : EReal)
      = val U Z W B N 1 3 (by norm_num) (by norm_num) x y := by
  unfold tiles
  refine (miss _ _ _ _ _ _ 1 (by show 256 + y.val < 768; omega)).trans ?_
  refine (miss _ _ _ _ _ _ 1 (by show 256 + y.val < 768; omega)).trans ?_
  refine (miss _ _ _ _ _ _ 1 (by show 256 + y.val < 768; omega)).trans ?_
  refine (miss _ _ _ _ _ _ 1 (by show 256 + y.val < 768; omega)).trans ?_
  refine (miss _ _ _ _ _ _ 1 (by show 256 + y.val < 512; omega)).trans ?_
  refine (miss _ _ _ _ _ _ 1 (by show 256 + y.val < 512; omega)).trans ?_
  refine (miss _ _ _ _ _ _ 1 (by show 256 + y.val < 512; omega)).trans ?_
  refine (miss _ _ _ _ _ _ 1 (by show 256 + y.val < 512; omega)).trans ?_
  refine (hit _ _ _ _ _ _ (ix2 x y) (by intro a; fin_cases a <;> simp)).trans ?_
  refine (tile_at _ _ _ _ _ x y).trans ?_
  rw [val]
  pointwise []

theorem tile20 (x : Fin 128) (y : Fin 256) :
    (View.canon (tiles U Z W B N) (ix2 ⟨0 + x.val, by omega⟩ ⟨512 + y.val, by omega⟩) : EReal)
      = val U Z W B N 2 0 (by norm_num) (by norm_num) x y := by
  unfold tiles
  refine (miss _ _ _ _ _ _ 1 (by show 512 + y.val < 768; omega)).trans ?_
  refine (miss _ _ _ _ _ _ 1 (by show 512 + y.val < 768; omega)).trans ?_
  refine (miss _ _ _ _ _ _ 1 (by show 512 + y.val < 768; omega)).trans ?_
  refine (miss _ _ _ _ _ _ 1 (by show 512 + y.val < 768; omega)).trans ?_
  refine (miss _ _ _ _ _ _ 0 (by show 0 + x.val < 384; omega)).trans ?_
  refine (miss _ _ _ _ _ _ 0 (by show 0 + x.val < 256; omega)).trans ?_
  refine (miss _ _ _ _ _ _ 0 (by show 0 + x.val < 128; omega)).trans ?_
  refine (hit _ _ _ _ _ _ (ix2 x y) (by intro a; fin_cases a <;> simp)).trans ?_
  refine (tile_at _ _ _ _ _ x y).trans ?_
  rw [val]
  pointwise []

theorem tile21 (x : Fin 128) (y : Fin 256) :
    (View.canon (tiles U Z W B N) (ix2 ⟨128 + x.val, by omega⟩ ⟨512 + y.val, by omega⟩) : EReal)
      = val U Z W B N 2 1 (by norm_num) (by norm_num) x y := by
  unfold tiles
  refine (miss _ _ _ _ _ _ 1 (by show 512 + y.val < 768; omega)).trans ?_
  refine (miss _ _ _ _ _ _ 1 (by show 512 + y.val < 768; omega)).trans ?_
  refine (miss _ _ _ _ _ _ 1 (by show 512 + y.val < 768; omega)).trans ?_
  refine (miss _ _ _ _ _ _ 1 (by show 512 + y.val < 768; omega)).trans ?_
  refine (miss _ _ _ _ _ _ 0 (by show 128 + x.val < 384; omega)).trans ?_
  refine (miss _ _ _ _ _ _ 0 (by show 128 + x.val < 256; omega)).trans ?_
  refine (hit _ _ _ _ _ _ (ix2 x y) (by intro a; fin_cases a <;> simp)).trans ?_
  refine (tile_at _ _ _ _ _ x y).trans ?_
  rw [val]
  pointwise []

theorem tile22 (x : Fin 128) (y : Fin 256) :
    (View.canon (tiles U Z W B N) (ix2 ⟨256 + x.val, by omega⟩ ⟨512 + y.val, by omega⟩) : EReal)
      = val U Z W B N 2 2 (by norm_num) (by norm_num) x y := by
  unfold tiles
  refine (miss _ _ _ _ _ _ 1 (by show 512 + y.val < 768; omega)).trans ?_
  refine (miss _ _ _ _ _ _ 1 (by show 512 + y.val < 768; omega)).trans ?_
  refine (miss _ _ _ _ _ _ 1 (by show 512 + y.val < 768; omega)).trans ?_
  refine (miss _ _ _ _ _ _ 1 (by show 512 + y.val < 768; omega)).trans ?_
  refine (miss _ _ _ _ _ _ 0 (by show 256 + x.val < 384; omega)).trans ?_
  refine (hit _ _ _ _ _ _ (ix2 x y) (by intro a; fin_cases a <;> simp)).trans ?_
  refine (tile_at _ _ _ _ _ x y).trans ?_
  rw [val]
  pointwise []

theorem tile23 (x : Fin 128) (y : Fin 256) :
    (View.canon (tiles U Z W B N) (ix2 ⟨384 + x.val, by omega⟩ ⟨512 + y.val, by omega⟩) : EReal)
      = val U Z W B N 2 3 (by norm_num) (by norm_num) x y := by
  unfold tiles
  refine (miss _ _ _ _ _ _ 1 (by show 512 + y.val < 768; omega)).trans ?_
  refine (miss _ _ _ _ _ _ 1 (by show 512 + y.val < 768; omega)).trans ?_
  refine (miss _ _ _ _ _ _ 1 (by show 512 + y.val < 768; omega)).trans ?_
  refine (miss _ _ _ _ _ _ 1 (by show 512 + y.val < 768; omega)).trans ?_
  refine (hit _ _ _ _ _ _ (ix2 x y) (by intro a; fin_cases a <;> simp)).trans ?_
  refine (tile_at _ _ _ _ _ x y).trans ?_
  rw [val]
  pointwise []

theorem tile30 (x : Fin 128) (y : Fin 256) :
    (View.canon (tiles U Z W B N) (ix2 ⟨0 + x.val, by omega⟩ ⟨768 + y.val, by omega⟩) : EReal)
      = val U Z W B N 3 0 (by norm_num) (by norm_num) x y := by
  unfold tiles
  refine (miss _ _ _ _ _ _ 0 (by show 0 + x.val < 384; omega)).trans ?_
  refine (miss _ _ _ _ _ _ 0 (by show 0 + x.val < 256; omega)).trans ?_
  refine (miss _ _ _ _ _ _ 0 (by show 0 + x.val < 128; omega)).trans ?_
  refine (hit _ _ _ _ _ _ (ix2 x y) (by intro a; fin_cases a <;> simp)).trans ?_
  refine (tile_at _ _ _ _ _ x y).trans ?_
  rw [val]
  pointwise []

theorem tile31 (x : Fin 128) (y : Fin 256) :
    (View.canon (tiles U Z W B N) (ix2 ⟨128 + x.val, by omega⟩ ⟨768 + y.val, by omega⟩) : EReal)
      = val U Z W B N 3 1 (by norm_num) (by norm_num) x y := by
  unfold tiles
  refine (miss _ _ _ _ _ _ 0 (by show 128 + x.val < 384; omega)).trans ?_
  refine (miss _ _ _ _ _ _ 0 (by show 128 + x.val < 256; omega)).trans ?_
  refine (hit _ _ _ _ _ _ (ix2 x y) (by intro a; fin_cases a <;> simp)).trans ?_
  refine (tile_at _ _ _ _ _ x y).trans ?_
  rw [val]
  pointwise []

theorem tile32 (x : Fin 128) (y : Fin 256) :
    (View.canon (tiles U Z W B N) (ix2 ⟨256 + x.val, by omega⟩ ⟨768 + y.val, by omega⟩) : EReal)
      = val U Z W B N 3 2 (by norm_num) (by norm_num) x y := by
  unfold tiles
  refine (miss _ _ _ _ _ _ 0 (by show 256 + x.val < 384; omega)).trans ?_
  refine (hit _ _ _ _ _ _ (ix2 x y) (by intro a; fin_cases a <;> simp)).trans ?_
  refine (tile_at _ _ _ _ _ x y).trans ?_
  rw [val]
  pointwise []

theorem tile33 (x : Fin 128) (y : Fin 256) :
    (View.canon (tiles U Z W B N) (ix2 ⟨384 + x.val, by omega⟩ ⟨768 + y.val, by omega⟩) : EReal)
      = val U Z W B N 3 3 (by norm_num) (by norm_num) x y := by
  unfold tiles
  refine (hit _ _ _ _ _ _ (ix2 x y) (by intro a; fin_cases a <;> simp)).trans ?_
  refine (tile_at _ _ _ _ _ x y).trans ?_
  rw [val]
  pointwise []

theorem cell_split (g k : ℕ) (hg : g < 4) (hk : k < 4) (x : Fin 128) (y : Fin 256) :
    (View.canon (tiles U Z W B N) (ix2 ⟨128 * k + x.val, by omega⟩ ⟨256 * g + y.val, by omega⟩) : EReal)
      = val U Z W B N g k hg hk x y := by
  match g, k, hg, hk with
  | 0, 0, _, _ => exact tile00 U Z W B N x y
  | 0, 1, _, _ => exact tile01 U Z W B N x y
  | 0, 2, _, _ => exact tile02 U Z W B N x y
  | 0, 3, _, _ => exact tile03 U Z W B N x y
  | 1, 0, _, _ => exact tile10 U Z W B N x y
  | 1, 1, _, _ => exact tile11 U Z W B N x y
  | 1, 2, _, _ => exact tile12 U Z W B N x y
  | 1, 3, _, _ => exact tile13 U Z W B N x y
  | 2, 0, _, _ => exact tile20 U Z W B N x y
  | 2, 1, _, _ => exact tile21 U Z W B N x y
  | 2, 2, _, _ => exact tile22 U Z W B N x y
  | 2, 3, _, _ => exact tile23 U Z W B N x y
  | 3, 0, _, _ => exact tile30 U Z W B N x y
  | 3, 1, _, _ => exact tile31 U Z W B N x y
  | 3, 2, _, _ => exact tile32 U Z W B N x y
  | 3, 3, _, _ => exact tile33 U Z W B N x y

theorem cell_at (x : Fin 512) (y : Fin 1024) :
    (View.canon (tiles U Z W B N) (ix2 x y) : EReal)
      = val U Z W B N (y.val / 256) (x.val / 128) (by omega) (by omega) ⟨x.val % 128, by omega⟩ ⟨y.val % 256, by omega⟩ := by
  refine Eq.trans ?_ (cell_split U Z W B N (y.val / 256) (x.val / 128) (by omega) (by omega) ⟨x.val % 128, by omega⟩ ⟨y.val % 256, by omega⟩)
  refine congrArg (View.canon (tiles U Z W B N)) (congrArg₂ ix2 (Fin.ext ?_) (Fin.ext ?_))
  · show x.val = 128 * (x.val / 128) + x.val % 128
    omega
  · show y.val = 256 * (y.val / 256) + y.val % 256
    omega

end Cert.Sgu
-- ==== Proof.Sgu.Ker.lean ====
module

public import proofs.«01_k».proof.Proof.Sgu.Body
public import Idealize.ShloMosaic.Lib.Routing.OpsSet
public import Idealize.ShloMosaic.Lib.Routing.OpsOne
public import Idealize.ShloMosaic.Lib.Pipeline.ReadBack

/-! The blocks the kernel reads, and its result. -/

@[expose] public section
set_option maxRecDepth 16384
noncomputable section
namespace Cert.Sgu
open Idealize.ShloMosaic Idealize.ShloMosaic.TcCoe Idealize.SL.Sem
open Cert.KernelSguIdeal Cert.KernelSguIdeal.Gen
variable (m : (ℓ : Loc nD τ sig) → Buf (Elt Ideal) ℓ) (c : Dev nD)

theorem idx : ∀ t : Fin cfg0.N, win0_0.index t = ![t.val, 4] ∧ win0_1.index t = ![t.val, 5]
    ∧ win0_2.index t = ![0, 0, 0] ∧ win0_3.index t = ![0, 0] ∧ win0_4.index t = ![0, 0] ∧ win0_5.index t = ![t.val, 0] :=
  (by decide +kernel : ∀ t : Fin grid0.N, _)

theorem lt32 (t : Fin cfg0.N) : t.val < 32 := lt_of_lt_of_eq t.isLt N_0

/-- The projection's rows, the mixing weights, their bias and the scale. -/
abbrev mX : FVec Ideal SX .f32 := m (c, Proc.tc.devRef main_arg0)
abbrev mP : FVec Ideal SP .f32 := m (c, Proc.tc.devRef main_arg1)
abbrev mB : FVec Ideal SB .f32 := m (c, Proc.tc.devRef main_arg2)
abbrev mN : FVec Ideal SN .f32 := m (c, Proc.tc.devRef main_arg3)

theorem mul_eq {a b c d : EReal} (h : a = c) (k : b = d) : a * b = c * d := h ▸ k ▸ rfl
theorem add_eq {a b c d : EReal} (h : a = c) (k : b = d) : a + b = c + d := h ▸ k ▸ rfl

theorem blk0 (t : Fin cfg0.N) (x : Fin 512) (y : Fin 1024) :
    (iblk m c 0 t : Vec Ideal S512x1024 .bf16) (ix2 x y)
      = mX m c (ix3 ⟨(512 * t.val + x.val) / 8192, by have := lt32 t; omega⟩
          ⟨(512 * t.val + x.val) % 8192, by omega⟩ ⟨4104 + y.val, by omega⟩) := by
  have := lt32 t
  blk_simp [iblk, idx t]
  entry_read
  pointwise []
  have e : (((View.whole main_v4).slice (win0_0.rect t)).emb (ix2 x y) 1).val = 4096 + y.val := by
    have e : (((View.whole main_v4).slice (win0_0.rect t)).emb (ix2 x y) 1).val = win0_0.index t (1 : Fin 2) * 1024 + 1 * y.val := rfl
    rw [e, (idx t).1]
    show 4 * 1024 + 1 * y.val = _
    ring
  have e0 : (((View.whole main_v4).slice (win0_0.rect t)).emb (ix2 x y) 0).val = 512 * t.val + x.val := by
    have e : (((View.whole main_v4).slice (win0_0.rect t)).emb (ix2 x y) 0).val = win0_0.index t (0 : Fin 2) * 512 + 1 * x.val := rfl
    rw [e, (idx t).1]
    show t.val * 512 + 1 * x.val = _
    ring
  rw [dif_neg (by omega)]
  refine congrArg (mX m c) (funext fun a => ?_)
  fin_cases a
  · exact Fin.ext (congrArg (· / 8192) e0)
  · exact Fin.ext (congrArg (· % 8192) e0)
  · exact Fin.ext (by simp only [e]; show 4104 + (4096 + y.val - 4096) = 4104 + y.val; omega)

theorem blk1 (t : Fin cfg0.N) (x : Fin 512) (y : Fin 1024) :
    (iblk m c 1 t : Vec Ideal S512x1024 .bf16) (ix2 x y)
      = mX m c (ix3 ⟨(512 * t.val + x.val) / 8192, by have := lt32 t; omega⟩
          ⟨(512 * t.val + x.val) % 8192, by omega⟩ ⟨5128 + y.val, by omega⟩) := by
  have := lt32 t
  blk_simp [iblk, idx t]
  entry_read
  pointwise []
  have e : (((View.whole main_v4).slice (win0_1.rect t)).emb (ix2 x y) 1).val = 5120 + y.val := by
    have e : (((View.whole main_v4).slice (win0_1.rect t)).emb (ix2 x y) 1).val = win0_1.index t (1 : Fin 2) * 1024 + 1 * y.val := rfl
    rw [e, (idx t).2.1]
    show 5 * 1024 + 1 * y.val = _
    ring
  have e0 : (((View.whole main_v4).slice (win0_1.rect t)).emb (ix2 x y) 0).val = 512 * t.val + x.val := by
    have e : (((View.whole main_v4).slice (win0_1.rect t)).emb (ix2 x y) 0).val = win0_1.index t (0 : Fin 2) * 512 + 1 * x.val := rfl
    rw [e, (idx t).2.1]
    show t.val * 512 + 1 * x.val = _
    ring
  rw [dif_neg (by omega)]
  refine congrArg (mX m c) (funext fun a => ?_)
  fin_cases a
  · exact Fin.ext (congrArg (· / 8192) e0)
  · exact Fin.ext (congrArg (· % 8192) e0)
  · exact Fin.ext (by simp only [e]; show 4104 + (5120 + y.val - 4096) = 5128 + y.val; omega)

theorem blk2 (t : Fin cfg0.N) (g : Fin 4) (x s : Fin 128) :
    (iblk m c 2 t : Vec Ideal S4x128x128 .f32) (ix3 g x s) = mP m c (ix3 g x s) := by
  have := lt32 t
  blk_simp [iblk, idx t]
  entry_read
  blk_point [idx t]

theorem blk3 (t : Fin cfg0.N) (x : Fin 128) (g : Fin 4) :
    (iblk m c 3 t : Vec Ideal S128x4 .f32) (ix2 x g) = mB m c (ix2 g x) := by
  have := lt32 t
  blk_simp [iblk, idx t]
  entry_read
  pointwise []
  blk_point [idx t]

theorem blk4 (t : Fin cfg0.N) (g : Fin 4) (y : Fin 256) :
    (iblk m c 4 t : Vec Ideal S4x256 .f32) (ix2 g y) = mN m c (ix2 g y) := by
  have := lt32 t
  blk_simp [iblk, idx t]
  entry_read
  blk_point [idx t]

theorem val_at (t : Fin cfg0.N) (g k : ℕ) (hg : g < 4) (hk : k < 4) (x : Fin 128) (y : Fin 256) :
    val (iblk m c 0 t) (iblk m c 1 t) (iblk m c 2 t) (iblk m c 3 t) (iblk m c 4 t) g k hg hk x y
      = spec (mX m c) (mP m c) (mB m c) (mN m c) ⟨512 * t.val + (128 * k + x.val), by have := lt32 t; omega⟩
        ⟨256 * g + y.val, by omega⟩ := by
  have := lt32 t
  have e1 : (512 * t.val + (128 * k + x.val)) % 8192 % 128 = x.val := by omega
  have e2 : (256 * g + y.val) / 256 = g := by omega
  have e3 : (256 * g + y.val) % 256 = y.val := by omega
  rw [val, spec, gated, mix]
  refine mul_eq (congrArg soft (blk0 m c t _ _)) (add_eq (Finset.sum_congr rfl fun s _ => mul_eq ?_ ?_) ?_)
  · simp only [e1, e2]
    exact congrArg (fun w => lower w x s) (funext fun s => blk2 m c t ⟨g, hg⟩ x s)
  · simp only [e2, e3]
    refine congrArg₂ (fun f n => scaled f n y) (funext fun q => ?_) (blk4 m c t ⟨g, hg⟩ y)
    rw [half]
    refine congrArg soft ((blk1 m c t _ _).trans ?_)
    rw [row]
    refine congrArg (mX m c) (funext fun a => ?_)
    fin_cases a
    · exact Fin.ext (by show (512 * t.val + (128 * k + s.val)) / 8192 = (512 * t.val + (128 * k + x.val)) / 8192; omega)
    · exact Fin.ext (by show (512 * t.val + (128 * k + s.val)) % 8192 = (512 * t.val + (128 * k + x.val)) % 8192 / 128 * 128 + s.val; omega)
    · exact Fin.ext (by show 5128 + (256 * g + q.val) = 5128 + (g * 256 + q.val); omega)
  · simp only [e1, e2]
    exact blk3 m c t x ⟨g, hg⟩

theorem out_at (t : Fin cfg0.N) (x : Fin 512) (y : Fin 1024) :
    (out0_5 (F := Ideal) (iblk m c 0 t) (iblk m c 1 t) (iblk m c 2 t) (iblk m c 3 t) (iblk m c 4 t) (ix2 x y) : EReal)
      = spec (mX m c) (mP m c) (mB m c) (mN m c) ⟨512 * t.val + x.val, by have := lt32 t; omega⟩ y := by
  have := lt32 t
  rw [out_tiles]
  refine (cell_at _ _ _ _ _ x y).trans ((val_at m c t _ _ _ _ _ _).trans ?_)
  refine congrArg₂ (spec (mX m c) (mP m c) (mB m c) (mN m c)) (Fin.ext ?_) (Fin.ext ?_)
  · show 512 * t.val + (128 * (x.val / 128) + x.val % 128) = 512 * t.val + x.val
    omega
  · show 256 * (y.val / 256) + y.val % 256 = y.val
    omega

theorem arr_eq : ((dats m 0 c).arrAt 5 cfg0.N : FVec Ideal SO .bf16) = specV (mX m c) (mP m c) (mB m c) (mN m c) := by
  refine (dats m 0 c).arrAt_eq_of_covers 5 (specV (mX m c) (mP m c) (mB m c) (mN m c)) (by decide +kernel) (fun t hf y => ?_)
  have ht := lt32 t
  have hi := (idx t).2.2.2.2.2
  have h0 : (((cfg0.win 5).blk t).view.emb y 0).val = 512 * t.val + (y 0).val := by
    have e : (((cfg0.win 5).blk t).view.emb y 0).val = win0_5.index t (0 : Fin 2) * 512 + 1 * (y 0).val := rfl
    rw [e, hi]
    show t.val * 512 + 1 * _ = _
    ring
  have h1 : (((cfg0.win 5).blk t).view.emb y 1).val = (y 1).val := by
    have e : (((cfg0.win 5).blk t).view.emb y 1).val = win0_5.index t (1 : Fin 2) * 1024 + 1 * (y 1).val := rfl
    rw [e, hi]
    show 0 * 1024 + 1 * _ = _
    ring
  have hy0 : (y 0).val < 512 := (y 0).isLt
  have hy1 : (y 1).val < 1024 := (y 1).isLt
  refine (congrFun (Value.flushed5 m c t) y).trans ?_
  have ey : ((cfg0.win 5).xinj (grid0.coords t) y) = (ix2 ⟨(y 0).val, hy0⟩ ⟨(y 1).val, hy1⟩ : S512x1024.Idx) := by
    funext i
    fin_cases i <;> rfl
  show out0_5 (F := Ideal) (iblk m c 0 t) (iblk m c 1 t) (iblk m c 2 t) (iblk m c 3 t) (iblk m c 4 t) ((cfg0.win 5).xinj (grid0.coords t) y) = _
  rw [ey]
  refine (out_at m c t ⟨(y 0).val, hy0⟩ ⟨(y 1).val, hy1⟩).trans ?_
  rw [specV]
  exact congrArg₂ (spec (mX m c) (mP m c) (mB m c) (mN m c)) (Fin.ext h0.symm) (Fin.ext h1.symm)

theorem run_spec (ρ : Dev nD → PrngReg) :
    θ_run defs (onTc (τ := τ) (main (F := Ideal))) ⟨m, fun _ => 0, ρ⟩ fun r => ∀ c : Dev nD,
      (r.2.mem ((c : Thread nD τ).loc main_v6) : FVec Ideal SO .bf16) = specV (mX m c) (mP m c) (mB m c) (mN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr_eq m c), (h c).2⟩) (Value.run_blocks m ρ)

end Cert.Sgu
-- ==== Proof.Sgu.Ref.lean ====
module

public import proofs.«01_k».proof.Proof.Sgu.Spec
public import proofs.«01_k».proof.Proof.Gen.ReferenceSguIdeal.Run
public import Idealize.ShloMosaic.Lib.IdealHost

/-! The reference's mixed rows are the specification. -/

@[expose] public section
set_option maxRecDepth 16384
noncomputable section
namespace Cert.ReferenceSguIdeal.Sgu
open Idealize.ShloMosaic Idealize.ShloMosaic.TcCoe Idealize.SL.Sem
open Cert.ReferenceSguIdeal Cert.ReferenceSguIdeal.Gen Cert.Sgu
variable (m : (ℓ : Loc nD τ sig) → Buf (Elt Ideal) ℓ) (c : Dev nD)

abbrev rX : FVec Ideal SX .f32 := m (c, Proc.tc.devRef main_arg0)
abbrev rP : FVec Ideal SP .f32 := m (c, Proc.tc.devRef main_arg1)
abbrev rB : FVec Ideal SB .f32 := m (c, Proc.tc.devRef main_arg2)
abbrev rN : FVec Ideal SN .f32 := m (c, Proc.tc.devRef main_arg3)

theorem keep_at : ∀ x s : Fin 128, (Scalar.select (IntOp.cmpi .sge (IntOp.addi (BitVec.ofNat 32 x.val) 0#32) (BitVec.ofNat 32 s.val)) 1#1 0#1 : BitVec 1)
    = if s.val ≤ x.val then 1#1 else 0#1 := by
  decide +kernel

theorem pick_at (w : Fin 128 → EReal) (x s : Fin 128) :
    (Scalar.select (Scalar.select (IntOp.cmpi .sge (IntOp.addi (BitVec.ofNat 32 x.val) 0#32) (BitVec.ofNat 32 s.val)) 1#1 0#1 : BitVec 1)
      (w s) (id (constant (F := Ideal) S_ FTy.f32 0#32) ix0 : EReal) : EReal) = lower w x s := by
  rw [keep_at x s, lower]
  split_ifs
  · rfl
  · exact Ideal.ofBits_zero_f32

theorem scaled_soft (f : Fin 256 → EReal) (g : EReal) (d : Fin 256) :
    f d * (Ideal.ofBits FTy.f32 0x3F000000#32 * (1 + Ideal.tanh (Ideal.ofBits FTy.f32 0x3F4C422A#32 * (f d + Ideal.ofBits FTy.f32 0x3D372713#32 * (f d * f d * f d)))))
      * Ideal.rsqrt (Ideal.div (∑ q, f q * (Ideal.ofBits FTy.f32 0x3F000000#32 * (1 + Ideal.tanh (Ideal.ofBits FTy.f32 0x3F4C422A#32 * (f q + Ideal.ofBits FTy.f32 0x3D372713#32 * (f q * f q * f q)))))
          * (f q * (Ideal.ofBits FTy.f32 0x3F000000#32 * (1 + Ideal.tanh (Ideal.ofBits FTy.f32 0x3F4C422A#32 * (f q + Ideal.ofBits FTy.f32 0x3D372713#32 * (f q * f q * f q)))))))
          (Ideal.ofBits FTy.f32 0x43800000#32) + Ideal.ofBits FTy.f32 0x358637BD#32) * g
      = scaled (fun q => soft (f q)) g d := by
  simp only [scaled, soft]

theorem mul_eq {a b c d : EReal} (h : a = c) (k : b = d) : a * b = c * d := h ▸ k ▸ rfl
theorem add_eq {a b c d : EReal} (h : a = c) (k : b = d) : a + b = c + d := h ▸ k ▸ rfl

theorem spec_eq (X : FVec Ideal SX .f32) (P : FVec Ideal SP .f32) (B : FVec Ideal SB .f32) (N : FVec Ideal SN .f32) (n : Fin 16384) (z : Fin 1024) :
    spec X P B N n z = soft (X (ix3 ⟨n.val / 8192, by omega⟩ ⟨n.val % 8192, by omega⟩ ⟨4104 + z.val, by omega⟩))
      * ((∑ x : Fin 128, lower (fun x => P (ix3 ⟨z.val / 256, by omega⟩ ⟨n.val % 8192 % 128, by omega⟩ x)) ⟨n.val % 8192 % 128, by omega⟩ x
        * scaled (half X ⟨n.val / 8192, by omega⟩ ⟨n.val % 8192 / 128 * 128 + x.val, by omega⟩ ⟨z.val / 256, by omega⟩)
            (N (ix2 ⟨z.val / 256, by omega⟩ ⟨z.val % 256, by omega⟩)) ⟨z.val % 256, by omega⟩)
        + B (ix2 ⟨z.val / 256, by omega⟩ ⟨n.val % 8192 % 128, by omega⟩)) := rfl

theorem result : (Value.res_main_v61 (F := Ideal) m c : FVec Ideal SO .bf16) = specV (rX m c) (rP m c) (rB m c) (rN m c) := by
  funext j
  idx_vars j
  rw [Value.res_main_v61]
  show _ = spec (rX m c) (rP m c) (rB m c) (rN m c) j0 j1
  generalize hR : spec (rX m c) (rP m c) (rB m c) (rN m c) j0 j1 = R
  pointwise []
  refine Eq.trans ?_ ((spec_eq _ _ _ _ _ _).symm.trans hR)
  clear hR
  refine mul_eq ?_ (add_eq (Finset.sum_congr rfl fun x _ => ?_) ?_)
  · rfl
  · refine (mul_comm _ _).trans (mul_eq ?_ ?_)
    · exact pick_at (fun s => rP m c (ix3 ⟨j1.val / 256, by omega⟩ ⟨j0.val % 8192 % 128, by omega⟩ s)) ⟨j0.val % 8192 % 128, by omega⟩ x
    · have e : 5128 + j1.val = 5128 + (j1.val / 256 * 256 + j1.val % 256) := by omega
      simp only [e]
      exact scaled_soft (fun q => rX m c (ix3 ⟨j0.val / 8192, by omega⟩ ⟨j0.val % 8192 / 128 * 128 + x.val, by omega⟩ ⟨5128 + (j1.val / 256 * 256 + q.val), by omega⟩))
        (rN m c (ix2 ⟨j1.val / 256, by omega⟩ ⟨j1.val % 256, by omega⟩)) ⟨j1.val % 256, by omega⟩
  · rfl

theorem run_spec (ρ : Dev nD → PrngReg) :
    θ_run defs (onTc (τ := τ) (main (F := Ideal))) ⟨m, fun _ => 0, ρ⟩ fun r => ∀ c : Dev nD,
      (r.2.mem ((c : Thread nD τ).loc main_v61) : FVec Ideal SO .bf16) = specV (rX m c) (rP m c) (rB m c) (rN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result m c), (h c).2⟩) (Value.run m ρ)

end Cert.ReferenceSguIdeal.Sgu
-- ==== Proof.OddOut.Spec.lean ====
module

public import Idealize.ShloMosaic.PureOps
public import Idealize.ShloMosaic.Lib.Pointwise

@[expose] public section

/-! The product of the attention rows with the output projection, added to the residual stream, written out. -/

noncomputable section

namespace Cert.OddOut

open Idealize.ShloMosaic

abbrev SG : Shape := ⟨2, ![16384, 2048]⟩
abbrev SW : Shape := ⟨2, ![2048, 2048]⟩
abbrev SH : Shape := ⟨3, ![2, 8192, 2048]⟩
abbrev SO : Shape := ⟨2, ![16384, 2048]⟩

/-- Row `n`, column `z`: the stream's entry and the sum over the heads. -/
def spec (G : FVec Ideal SG .bf16) (W : FVec Ideal SW .f32) (H : FVec Ideal SH .f32) (n : Fin 16384) (z : Fin 2048) : EReal :=
  (H (ix3 ⟨n.val / 8192, by omega⟩ ⟨n.val % 8192, Nat.mod_lt _ (by norm_num)⟩ z) : EReal)
    + ∑ k : Fin 2048, (G (ix2 n k) : EReal) * W (ix2 k z)

def specV (G : FVec Ideal SG .bf16) (W : FVec Ideal SW .f32) (H : FVec Ideal SH .f32) : FVec Ideal SO .f32 :=
  fun j => spec G W H (j 0) (j 1)

end Cert.OddOut

end
-- ==== Proof.OddOut.Ker.lean ====
module

public import proofs.«01_k».proof.Proof.OddOut.Spec
public import proofs.«01_k».proof.Proof.Gen.KernelOddOutIdeal.Value
public import Idealize.ShloMosaic.Lib.Routing.OpsSet
public import Idealize.ShloMosaic.Lib.Routing.OpsOne
public import Idealize.ShloMosaic.Lib.Pipeline.ValueKit
public import Idealize.ShloMosaic.Lib.Pipeline.ReadBack
public import Idealize.ShloMosaic.Lib.Pointwise

/-! The tiled product of the kernel is the specification. -/

@[expose] public section
set_option maxRecDepth 16384
noncomputable section
namespace Cert.OddOut
open Idealize.ShloMosaic Idealize.ShloMosaic.TcCoe Idealize.SL.Sem
open Cert.KernelOddOutIdeal Cert.KernelOddOutIdeal.Gen
variable (m : (ℓ : Loc nD τ sig) → Buf (Elt Ideal) ℓ) (c : Dev nD)

theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem lt32 (t : Fin cfg0.N) : t.val < 32 := lt_of_lt_of_eq t.isLt N_0

/-- The attention rows, the weights and the residual stream. -/
abbrev mG : FVec Ideal SG .bf16 := m (c, Proc.tc.devRef main_arg0)
abbrev mW : FVec Ideal SW .f32 := m (c, Proc.tc.devRef main_arg1)
abbrev mH : FVec Ideal SH .f32 := m (c, Proc.tc.devRef main_arg2)

theorem blk0 (t : Fin cfg0.N) (x : Fin 1024) (y : Fin 2048) :
    (iblk m c 0 t : Vec Ideal S1024x2048 .bf16) (ix2 x y)
      = mG m c (ix2 ⟨1024 * (t.val / 2) + x.val, by have := lt32 t; omega⟩ y) := by
  have := lt32 t
  blk_simp [iblk, idx t]
  entry_read
  blk_point [idx t]

theorem blk1 (t : Fin cfg0.N) (x : Fin 2048) (y : Fin 1024) :
    (iblk m c 1 t : Vec Ideal S2048x1024 .bf16) (ix2 x y)
      = mW m c (ix2 x ⟨1024 * (t.val % 2) + y.val, by omega⟩) := by
  have := lt32 t
  blk_simp [iblk, idx t]
  entry_read
  pointwise []
  blk_point [idx t]

theorem blk2 (t : Fin cfg0.N) (x : Fin 1024) (y : Fin 1024) :
    (iblk m c 2 t : Vec Ideal S1024x1024 .f32) (ix2 x y)
      = mH m c (ix3 ⟨t.val / 16, by have := lt32 t; omega⟩ ⟨1024 * (t.val / 2 % 8) + x.val, by omega⟩
          ⟨1024 * (t.val % 2) + y.val, by omega⟩) := by
  have := lt32 t
  blk_simp [iblk, idx t]
  entry_read
  pointwise []
  blk_point [idx t]

theorem body_at (X0 : FVec Ideal S1024x2048 .bf16) (X1 : FVec Ideal S2048x1024 .bf16) (X2 : FVec Ideal S1024x1024 .f32)
    (x : Fin 1024) (y : Fin 1024) :
    (out0_3 (F := Ideal) X0 X1 X2 (ix2 x y) : EReal)
      = (X2 (ix2 x y) : EReal) + ∑ k : Fin 2048, (X0 (ix2 x k) : EReal) * X1 (ix2 k y) := by
  frame_out
  pointwise [k0_pay1]

theorem out_at (t : Fin cfg0.N) (x : Fin 1024) (y : Fin 1024) :
    (out0_3 (F := Ideal) (iblk m c 0 t) (iblk m c 1 t) (iblk m c 2 t) (ix2 x y) : EReal)
      = spec (mG m c) (mW m c) (mH m c) ⟨1024 * (t.val / 2) + x.val, by have := lt32 t; omega⟩
        ⟨1024 * (t.val % 2) + y.val, by omega⟩ := by
  have := lt32 t
  refine (body_at _ _ _ x y).trans ?_
  rw [spec]
  refine congrArg₂ (· + ·) ((blk2 m c t x y).trans (congrArg (mH m c) ?_)) (Finset.sum_congr rfl fun k _ =>
    congrArg₂ (fun a b : EReal => a * b) (blk0 m c t x k) (blk1 m c t k y))
  have e1 : (⟨t.val / 16, by omega⟩ : Fin 2) = ⟨(1024 * (t.val / 2) + x.val) / 8192, by omega⟩ := Fin.ext (by dsimp only; omega)
  have e2 : (⟨1024 * (t.val / 2 % 8) + x.val, by omega⟩ : Fin 8192) = ⟨(1024 * (t.val / 2) + x.val) % 8192, by omega⟩ :=
    Fin.ext (by dsimp only; omega)
  rw [e1, e2]

theorem arr_eq : ((dats m 0 c).arrAt 3 cfg0.N : FVec Ideal SO .f32) = specV (mG m c) (mW m c) (mH m c) := by
  refine (dats m 0 c).arrAt_eq_of_covers 3 (specV (mG m c) (mW m c) (mH m c)) (by decide +kernel) (fun t hf y => ?_)
  have ht := lt32 t
  have hi := (idx t).2.2.2
  have h0 : (((cfg0.win 3).blk t).view.emb y 0).val = 1024 * (t.val / 2) + (y 0).val := by
    have e : (((cfg0.win 3).blk t).view.emb y 0).val = win0_3.index t (0 : Fin 2) * 1024 + 1 * (y 0).val := rfl
    rw [e, hi]
    show t.val / 2 * 1024 + 1 * _ = _
    ring
  have h1 : (((cfg0.win 3).blk t).view.emb y 1).val = 1024 * (t.val % 2) + (y 1).val := by
    have e : (((cfg0.win 3).blk t).view.emb y 1).val = win0_3.index t (1 : Fin 2) * 1024 + 1 * (y 1).val := rfl
    rw [e, hi]
    show t.val % 2 * 1024 + 1 * _ = _
    ring
  have hy0 : (y 0).val < 1024 := (y 0).isLt
  have hy1 : (y 1).val < 1024 := (y 1).isLt
  refine (congrFun (Value.flushed3 m c t) y).trans ?_
  have ey : ((cfg0.win 3).xinj (grid0.coords t) y) = (ix2 ⟨(y 0).val, hy0⟩ ⟨(y 1).val, hy1⟩ : S1024x1024.Idx) := by
    funext i
    fin_cases i <;> rfl
  show out0_3 (F := Ideal) (iblk m c 0 t) (iblk m c 1 t) (iblk m c 2 t) ((cfg0.win 3).xinj (grid0.coords t) y) = _
  rw [ey]
  refine (out_at m c t ⟨(y 0).val, hy0⟩ ⟨(y 1).val, hy1⟩).trans ?_
  rw [specV]
  exact congrArg₂ (spec (mG m c) (mW m c) (mH m c)) (Fin.ext h0.symm) (Fin.ext h1.symm)

theorem run_spec (ρ : Dev nD → PrngReg) :
    θ_run defs (onTc (τ := τ) (main (F := Ideal))) ⟨m, fun _ => 0, ρ⟩ fun r => ∀ c : Dev nD,
      (r.2.mem ((c : Thread nD τ).loc main_v2) : FVec Ideal SO .f32) = specV (mG m c) (mW m c) (mH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr_eq m c), (h c).2⟩) (Value.run_blocks m ρ)
end Cert.OddOut
-- ==== Proof.OddOut.Ref.lean ====
module

public import proofs.«01_k».proof.Proof.OddOut.Spec
public import proofs.«01_k».proof.Proof.Gen.ReferenceOddOutIdeal.Run
public import Idealize.ShloMosaic.Lib.IdealHost

/-! The reference's product is the specification. -/

@[expose] public section
set_option maxRecDepth 16384
noncomputable section
namespace Cert.ReferenceOddOutIdeal.OddOut
open Idealize.ShloMosaic Idealize.ShloMosaic.TcCoe Idealize.SL.Sem
open Cert.ReferenceOddOutIdeal Cert.ReferenceOddOutIdeal.Gen Cert.OddOut

theorem result (G : FVec Ideal SG .bf16) (W : FVec Ideal SW .f32) (H : FVec Ideal SH .f32) :
    (shapeCast S16384x2048 (addf H (Host.dotGeneral (F := Ideal) dot_S2x8192x2048_S2048x2048_S2x8192x2048_2_0_01_1_n_n none (shapeCast S2x8192x2048 (extf .f32 G bitsLt_bf16_f32) shapeCasts_S16384x2048_S2x8192x2048) W)) shapeCasts_S2x8192x2048_S16384x2048 : FVec Ideal S16384x2048 .f32)
      = specV G W H := by
  funext j
  idx_vars j
  rw [specV]
  show _ = spec G W H j0 j1
  rw [spec]
  pointwise []

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v4) : FVec Ideal SO .f32)
        = specV (m (c, Proc.tc.devRef main_arg0)) (m (c, Proc.tc.devRef main_arg1)) (m (c, Proc.tc.devRef main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result _ _ _), (h c).2⟩) (Value.run m ρ)

end Cert.ReferenceOddOutIdeal.OddOut
-- ==== Proof.OddPrep.Spec.lean ====
module

public import Idealize.ShloMosaic.PureOps
public import Idealize.ShloMosaic.Lib.Pointwise

@[expose] public section

/-! The preparation of the sparse attention, written out: queries and keys over their root mean square and rotated by their
positions, the values, and the indexer's queries (rotated), key (normalised to mean zero, rotated) and head weights. -/

noncomputable section

namespace Cert.OddPrep

open Idealize.ShloMosaic

abbrev SX : Shape := ⟨3, ![2, 8192, 4176]⟩
abbrev SH : Shape := ⟨1, ![128]⟩
abbrev SL : Shape := ⟨1, ![64]⟩
abbrev SQ : Shape := ⟨3, ![16, 16384, 128]⟩
abbrev SK : Shape := ⟨2, ![16384, 512]⟩
abbrev SI : Shape := ⟨3, ![16, 64, 16384]⟩
abbrev SJ : Shape := ⟨2, ![16384, 64]⟩
abbrev SW : Shape := ⟨2, ![16, 16384]⟩

variable (X : FVec Ideal SX .f32) (Q K : FVec Ideal SH .f32) (G B : FVec Ideal SL .f32)

/-- The angle of position `s` at frequency `i`, of `w` (a float pattern) frequencies counted twice. -/
def angle (w : BitVec 32) (s i : ℕ) : EReal :=
  FloatOps.sitofp (F := Ideal) .f32 (BitVec.ofNat 32 s)
    * Ideal.pow (Ideal.ofBits FTy.f32 0x461C4000#32)
        (Ideal.div (-(Ideal.ofBits FTy.f32 0x40000000#32 * FloatOps.sitofp (F := Ideal) .f32 (BitVec.ofNat 32 i))) (Ideal.ofBits FTy.f32 w))

/-- A head's entry over the root of the head's mean square, scaled. -/
def scaled (f : Fin 128 → EReal) (g : EReal) (d : Fin 128) : EReal :=
  f d * Ideal.rsqrt (Ideal.div (∑ q, f q * f q) (Ideal.ofBits FTy.f32 0x43000000#32) + Ideal.ofBits FTy.f32 0x358637BD#32) * g

/-- A head's entry less the mean, over the root of the variance, scaled and shifted. -/
def centred (f : Fin 64 → EReal) (g b : EReal) (d : Fin 64) : EReal :=
  (f d - Ideal.div (∑ q, f q) (Ideal.ofBits FTy.f32 0x42800000#32))
    * Ideal.rsqrt (Ideal.div (∑ p, (f p - Ideal.div (∑ q, f q) (Ideal.ofBits FTy.f32 0x42800000#32))
        * (f p - Ideal.div (∑ q, f q) (Ideal.ofBits FTy.f32 0x42800000#32))) (Ideal.ofBits FTy.f32 0x42800000#32)
      + Ideal.ofBits FTy.f32 0x358637BD#32) * g + b

/-- The halves of a head, turned. -/
def turned (f : Fin 128 → EReal) (s : ℕ) (d : Fin 128) : EReal :=
  if h : d.val < 64 then
    f d * Ideal.cos (angle 0x43000000#32 s d.val) - f ⟨d.val + 64, by omega⟩ * Ideal.sin (angle 0x43000000#32 s d.val)
  else
    f d * Ideal.cos (angle 0x43000000#32 s (d.val - 64)) + f ⟨d.val - 64, by omega⟩ * Ideal.sin (angle 0x43000000#32 s (d.val - 64))

/-- The first half of a head, its halves turned; the rest stays. -/
def partTurned (f : Fin 64 → EReal) (s : ℕ) (d : Fin 64) : EReal :=
  if h : d.val < 16 then
    f d * Ideal.cos (angle 0x42000000#32 s d.val) - f ⟨d.val + 16, by omega⟩ * Ideal.sin (angle 0x42000000#32 s d.val)
  else if d.val < 32 then
    f d * Ideal.cos (angle 0x42000000#32 s (d.val - 16)) + f ⟨d.val - 16, by omega⟩ * Ideal.sin (angle 0x42000000#32 s (d.val - 16))
  else f d

def row (n : Fin 16384) (y : Fin 4176) : EReal := X (ix3 ⟨n.val / 8192, by omega⟩ ⟨n.val % 8192, by omega⟩ y)

def qAt (h : Fin 16) (n : Fin 16384) (d : Fin 128) : EReal :=
  turned (fun d => scaled (fun q => row X n ⟨h.val * 128 + q.val, by omega⟩) (Q (ix1 d)) d) (n.val % 8192) d
    * Ideal.ofBits FTy.f32 0x3E0293EE#32

def kAt (n : Fin 16384) (h : Fin 4) (d : Fin 128) : EReal :=
  turned (fun d => scaled (fun q => row X n ⟨2048 + (h.val * 128 + q.val), by omega⟩) (K (ix1 d)) d) (n.val % 8192) d

def iqAt (h : Fin 16) (d : Fin 64) (n : Fin 16384) : EReal :=
  partTurned (fun d => row X n ⟨3072 + (h.val * 64 + d.val), by omega⟩) (n.val % 8192) d

def ikAt (n : Fin 16384) (d : Fin 64) : EReal :=
  partTurned (fun d => centred (fun q => row X n ⟨4096 + q.val, by omega⟩) (G (ix1 d)) (B (ix1 d)) d) (n.val % 8192) d

def qV : FVec Ideal SQ .bf16 := fun j => qAt X Q (j 0) (j 1) (j 2)
def kV : FVec Ideal SK .bf16 := fun j => kAt X K (j 0) ⟨(j 1).val / 128, by have : (j 1).val < 512 := (j 1).isLt; omega⟩ ⟨(j 1).val % 128, by omega⟩
def vV : FVec Ideal SK .bf16 := fun j => row X (j 0) ⟨2560 + (j 1).val, by have : (j 1).val < 512 := (j 1).isLt; omega⟩
def iqV : FVec Ideal SI .bf16 := fun j => iqAt X (j 0) (j 1) (j 2)
def ikV : FVec Ideal SJ .bf16 := fun j => ikAt X G B (j 0) (j 1)
def iwV : FVec Ideal SW .f32 := fun j => row X (j 1) ⟨4160 + (j 0).val, by have : (j 0).val < 16 := (j 0).isLt; omega⟩ * Ideal.ofBits FTy.f32 0x3D000000#32

end Cert.OddPrep

end
-- ==== Proof.OddPrep.Tile.lean ====
module

public import proofs.«01_k».proof.Proof.OddPrep.Spec
public import proofs.«01_k».proof.Proof.Gen.KernelOddPrepIdeal.Value
public import Idealize.ShloMosaic.Lib.IdealHost

/-! One head's tile of each kind, written out. -/

@[expose] public section
set_option maxRecDepth 16384
noncomputable section
namespace Cert.OddPrep
open Idealize.ShloMosaic Idealize.ShloMosaic.TcCoe Idealize.SL.Sem
open Cert.KernelOddPrepIdeal Cert.KernelOddPrepIdeal.Gen

variable (C S X : Vec Ideal S256x128 .f32) (T : Vec Ideal S256x128 .f32) (G : Vec Ideal S1x128 .f32) (B : Vec Ideal S1x128 .f32)

/-- A row's entry times its cosine and the entry across the half times its signed sine. -/
def across (f : Fin 128 → EReal) (c s : EReal) (y : Fin 128) : EReal := f y * c + f ⟨(y.val + 128 - 64) % 128, by omega⟩ * s

/-- A row's entry and its neighbours sixteen lanes before and after, each times its table's entry. -/
def beside (f : Fin 128 → EReal) (c l r : EReal) (y : Fin 128) : EReal :=
  f y * c + f ⟨(y.val + 128 - 16) % 128, by omega⟩ * l + f ⟨(y.val + 128 - 112) % 128, by omega⟩ * r

theorem q_tile (u : Fin 1) (x : Fin 256) (y : Fin 128) :
    (k0_pay7 C S G X (ix3 u x y) : EReal)
      = across (fun y => scaled (fun q => X (ix2 x q)) (G (ix2 0 y) * Ideal.ofBits FTy.f32 0x3E0293EE#32) y) (C (ix2 x y)) (S (ix2 x y)) y := by
  generalize hR : across (fun y => scaled (fun q => X (ix2 x q)) (G (ix2 0 y) * Ideal.ofBits FTy.f32 0x3E0293EE#32) y) (C (ix2 x y)) (S (ix2 x y)) y = R
  unfold k0_pay7 k0_pay6 k0_pay1 k0_pay2
  pointwise []
  exact hR

theorem k_tile (x : Fin 256) (y : Fin 128) :
    (k0_pay34 (k0_pay1 C) (k0_pay2 S) X G (ix2 x y) : EReal)
      = across (fun y => scaled (fun q => X (ix2 x q)) (G (ix2 0 y)) y) (C (ix2 x y)) (S (ix2 x y)) y := by
  generalize hR : across (fun y => scaled (fun q => X (ix2 x q)) (G (ix2 0 y)) y) (C (ix2 x y)) (S (ix2 x y)) y = R
  unfold k0_pay34 k0_pay1 k0_pay2
  pointwise []
  exact hR

theorem lo_tile (u : Fin 1) (d : Fin 64) (x : Fin 256) :
    (k0_pay45 (k0_pay3 C) (k0_pay4 S) (k0_pay5 T) X (ix3 u d x) : EReal)
      = beside (fun q => X (ix2 x q)) (C (ix2 x ⟨d.val, by omega⟩)) (S (ix2 x ⟨d.val, by omega⟩)) (T (ix2 x ⟨d.val, by omega⟩)) ⟨d.val, by omega⟩ := by
  unfold k0_pay45 k0_pay44 k0_pay3 k0_pay4 k0_pay5
  pointwise []
  rfl

theorem hi_tile (u : Fin 1) (d : Fin 64) (x : Fin 256) :
    (k0_pay46 (k0_pay3 C) (k0_pay4 S) (k0_pay5 T) X (ix3 u d x) : EReal)
      = beside (fun q => X (ix2 x q)) (C (ix2 x ⟨64 + d.val, by omega⟩)) (S (ix2 x ⟨64 + d.val, by omega⟩)) (T (ix2 x ⟨64 + d.val, by omega⟩)) ⟨64 + d.val, by omega⟩ := by
  unfold k0_pay46 k0_pay44 k0_pay3 k0_pay4 k0_pay5
  pointwise []
  rfl

/-- The lane counts among the first 64. -/
abbrev kept (n : ℕ) : BitVec 1 := IntOp.cmpi CmpIPredicate.slt (BitVec.ofNat 32 n) 64#32

theorem kept_lt : ∀ x : Fin 64, kept x.val = 1#1 := by decide +kernel
theorem kept_ge : ∀ x : Fin 64, kept (64 + x.val) = 0#1 := by decide +kernel

theorem pick_lt (n : ℕ) (h : n < 64) (a b : EReal) : (Scalar.select (kept n) a b : EReal) = a := by
  rw [show kept n = 1#1 from kept_lt ⟨n, h⟩]
  rfl

theorem masked (F : Fin 128 → EReal) :
    (∑ x : Fin 128, (Scalar.select (kept x.val) (F x) (0 : EReal) : EReal)) = ∑ q : Fin 64, F ⟨q.val, by omega⟩ := by
  refine (Fin.sum_univ_add (a := 64) (b := 64) (fun x : Fin (64 + 64) => (Scalar.select (kept x.val) (F x) (0 : EReal) : EReal))).trans ?_
  have e : (∑ x : Fin 64, (Scalar.select (kept (Fin.natAdd 64 x).val) (F (Fin.natAdd 64 x)) (0 : EReal) : EReal)) = 0 :=
    Finset.sum_eq_zero fun x _ => by
      rw [show kept (Fin.natAdd 64 x).val = 0#1 from kept_ge x]
      rfl
  rw [e, add_zero]
  exact Finset.sum_congr rfl fun x _ => pick_lt x.val x.isLt _ _

/-- A lane of the centred row, the lanes past 64 masked. -/
def lane (f g b : Fin 128 → EReal) (y : Fin 128) : EReal :=
  (Scalar.select (kept y.val)
    ((f y - Ideal.div (∑ q : Fin 128, (Scalar.select (kept q.val) (f q) (0 : EReal) : EReal)) (Ideal.ofBits FTy.f32 0x42800000#32))
      * Ideal.rsqrt (Ideal.div (∑ p : Fin 128, (Scalar.select (kept p.val) (Scalar.select (kept p.val)
          ((f p - Ideal.div (∑ q : Fin 128, (Scalar.select (kept q.val) (f q) (0 : EReal) : EReal)) (Ideal.ofBits FTy.f32 0x42800000#32))
            * (f p - Ideal.div (∑ q : Fin 128, (Scalar.select (kept q.val) (f q) (0 : EReal) : EReal)) (Ideal.ofBits FTy.f32 0x42800000#32)))
          (0 : EReal)) (0 : EReal) : EReal)) (Ideal.ofBits FTy.f32 0x42800000#32) + Ideal.ofBits FTy.f32 0x358637BD#32) * g y)
    (0 : EReal) : EReal) + b y

theorem lane_eq (f g b : Fin 128 → EReal) (y : Fin 128) (h : y.val < 64) :
    lane f g b y = centred (fun q => f ⟨q.val, by omega⟩) (g y) (b y) ⟨y.val, h⟩ := by
  rw [lane, pick_lt y.val h, centred, masked, masked]
  congr 6

theorem ik_tile (x : Fin 256) (d : Fin 64) :
    (k0_pay75 (k0_pay3 C) (k0_pay4 S) (k0_pay5 T) (k0_pay73 X) (k0_pay74 X) G B (ix2 x d) : EReal)
      = beside (lane (fun q => X (ix2 x q)) (fun q => G (ix2 0 q)) (fun q => B (ix2 0 q)))
          (C (ix2 x ⟨d.val, by omega⟩)) (S (ix2 x ⟨d.val, by omega⟩)) (T (ix2 x ⟨d.val, by omega⟩)) ⟨d.val, by omega⟩ := by
  generalize hR : beside (lane (fun q => X (ix2 x q)) (fun q => G (ix2 0 q)) (fun q => B (ix2 0 q)))
          (C (ix2 x ⟨d.val, by omega⟩)) (S (ix2 x ⟨d.val, by omega⟩)) (T (ix2 x ⟨d.val, by omega⟩)) ⟨d.val, by omega⟩ = R
  unfold k0_pay75 k0_pay74 k0_pay73 k0_pay72 k0_pay3 k0_pay4 k0_pay5
  pointwise []
  exact hR

end Cert.OddPrep
end
-- ==== Proof.OddPrep.Body.lean ====
module

public import proofs.«01_k».proof.Proof.OddPrep.Tile

/-! The kernel's blocks, head by head. -/

@[expose] public section
set_option maxRecDepth 16384
noncomputable section
namespace Cert.OddPrep
open Idealize.ShloMosaic Idealize.ShloMosaic.TcCoe Idealize.SL.Sem
open Cert.KernelOddPrepIdeal Cert.KernelOddPrepIdeal.Gen

variable (M : Vec Ideal S256x4096 .f32) (W C S D L R : Vec Ideal S256x128 .f32) (Q K G B : Vec Ideal S1x128 .f32)

def qHeads : List (View.Piece (Elt Ideal) S16x256x128 .bf16) :=
  [⟨r0_33, k0_pay7 (View.ld C r0_0) (View.ld S r0_0) (View.ld Q r0_1) (View.ld M r0_32)⟩,
    ⟨r0_31, k0_pay7 (View.ld C r0_0) (View.ld S r0_0) (View.ld Q r0_1) (View.ld M r0_30)⟩,
    ⟨r0_29, k0_pay7 (View.ld C r0_0) (View.ld S r0_0) (View.ld Q r0_1) (View.ld M r0_28)⟩,
    ⟨r0_27, k0_pay7 (View.ld C r0_0) (View.ld S r0_0) (View.ld Q r0_1) (View.ld M r0_26)⟩,
    ⟨r0_25, k0_pay7 (View.ld C r0_0) (View.ld S r0_0) (View.ld Q r0_1) (View.ld M r0_24)⟩,
    ⟨r0_23, k0_pay7 (View.ld C r0_0) (View.ld S r0_0) (View.ld Q r0_1) (View.ld M r0_22)⟩,
    ⟨r0_21, k0_pay7 (View.ld C r0_0) (View.ld S r0_0) (View.ld Q r0_1) (View.ld M r0_20)⟩,
    ⟨r0_19, k0_pay7 (View.ld C r0_0) (View.ld S r0_0) (View.ld Q r0_1) (View.ld M r0_18)⟩,
    ⟨r0_17, k0_pay7 (View.ld C r0_0) (View.ld S r0_0) (View.ld Q r0_1) (View.ld M r0_16)⟩,
    ⟨r0_15, k0_pay7 (View.ld C r0_0) (View.ld S r0_0) (View.ld Q r0_1) (View.ld M r0_14)⟩,
    ⟨r0_13, k0_pay7 (View.ld C r0_0) (View.ld S r0_0) (View.ld Q r0_1) (View.ld M r0_12)⟩,
    ⟨r0_11, k0_pay7 (View.ld C r0_0) (View.ld S r0_0) (View.ld Q r0_1) (View.ld M r0_10)⟩,
    ⟨r0_9, k0_pay7 (View.ld C r0_0) (View.ld S r0_0) (View.ld Q r0_1) (View.ld M r0_8)⟩,
    ⟨r0_7, k0_pay7 (View.ld C r0_0) (View.ld S r0_0) (View.ld Q r0_1) (View.ld M r0_6)⟩,
    ⟨r0_5, k0_pay7 (View.ld C r0_0) (View.ld S r0_0) (View.ld Q r0_1) (View.ld M r0_4)⟩,
    ⟨r0_3, k0_pay7 (View.ld C r0_0) (View.ld S r0_0) (View.ld Q r0_1) (View.ld M r0_2)⟩]

theorem q_heads : out0_11 (F := Ideal) M W C S D L R Q K G B = View.canon (qHeads M C S Q) := by
  unfold_out out0_11
  rfl

def kHeads : List (View.Piece (Elt Ideal) S256x512 .bf16) :=
  [⟨r0_41, k0_pay34 (k0_pay1 (View.ld C r0_0)) (k0_pay2 (View.ld S r0_0)) (View.ld M r0_40) (View.ld K r0_1)⟩,
    ⟨r0_39, k0_pay34 (k0_pay1 (View.ld C r0_0)) (k0_pay2 (View.ld S r0_0)) (View.ld M r0_38) (View.ld K r0_1)⟩,
    ⟨r0_37, k0_pay34 (k0_pay1 (View.ld C r0_0)) (k0_pay2 (View.ld S r0_0)) (View.ld M r0_36) (View.ld K r0_1)⟩,
    ⟨r0_35, k0_pay34 (k0_pay1 (View.ld C r0_0)) (k0_pay2 (View.ld S r0_0)) (View.ld M r0_34) (View.ld K r0_1)⟩]

theorem k_heads : out0_12 (F := Ideal) M W C S D L R Q K G B = View.canon (kHeads M C S K) := by
  unfold_out out0_12
  rfl

def iqHeads : List (View.Piece (Elt Ideal) S16x64x256 .bf16) :=
  [⟨r0_67, k0_pay46 (k0_pay3 (View.ld D r0_0)) (k0_pay4 (View.ld L r0_0)) (k0_pay5 (View.ld R r0_0)) (View.ld M r0_65)⟩,
    ⟨r0_66, k0_pay45 (k0_pay3 (View.ld D r0_0)) (k0_pay4 (View.ld L r0_0)) (k0_pay5 (View.ld R r0_0)) (View.ld M r0_65)⟩,
    ⟨r0_64, k0_pay46 (k0_pay3 (View.ld D r0_0)) (k0_pay4 (View.ld L r0_0)) (k0_pay5 (View.ld R r0_0)) (View.ld M r0_62)⟩,
    ⟨r0_63, k0_pay45 (k0_pay3 (View.ld D r0_0)) (k0_pay4 (View.ld L r0_0)) (k0_pay5 (View.ld R r0_0)) (View.ld M r0_62)⟩,
    ⟨r0_61, k0_pay46 (k0_pay3 (View.ld D r0_0)) (k0_pay4 (View.ld L r0_0)) (k0_pay5 (View.ld R r0_0)) (View.ld M r0_59)⟩,
    ⟨r0_60, k0_pay45 (k0_pay3 (View.ld D r0_0)) (k0_pay4 (View.ld L r0_0)) (k0_pay5 (View.ld R r0_0)) (View.ld M r0_59)⟩,
    ⟨r0_58, k0_pay46 (k0_pay3 (View.ld D r0_0)) (k0_pay4 (View.ld L r0_0)) (k0_pay5 (View.ld R r0_0)) (View.ld M r0_56)⟩,
    ⟨r0_57, k0_pay45 (k0_pay3 (View.ld D r0_0)) (k0_pay4 (View.ld L r0_0)) (k0_pay5 (View.ld R r0_0)) (View.ld M r0_56)⟩,
    ⟨r0_55, k0_pay46 (k0_pay3 (View.ld D r0_0)) (k0_pay4 (View.ld L r0_0)) (k0_pay5 (View.ld R r0_0)) (View.ld M r0_53)⟩,
    ⟨r0_54, k0_pay45 (k0_pay3 (View.ld D r0_0)) (k0_pay4 (View.ld L r0_0)) (k0_pay5 (View.ld R r0_0)) (View.ld M r0_53)⟩,
    ⟨r0_52, k0_pay46 (k0_pay3 (View.ld D r0_0)) (k0_pay4 (View.ld L r0_0)) (k0_pay5 (View.ld R r0_0)) (View.ld M r0_50)⟩,
    ⟨r0_51, k0_pay45 (k0_pay3 (View.ld D r0_0)) (k0_pay4 (View.ld L r0_0)) (k0_pay5 (View.ld R r0_0)) (View.ld M r0_50)⟩,
    ⟨r0_49, k0_pay46 (k0_pay3 (View.ld D r0_0)) (k0_pay4 (View.ld L r0_0)) (k0_pay5 (View.ld R r0_0)) (View.ld M r0_47)⟩,
    ⟨r0_48, k0_pay45 (k0_pay3 (View.ld D r0_0)) (k0_pay4 (View.ld L r0_0)) (k0_pay5 (View.ld R r0_0)) (View.ld M r0_47)⟩,
    ⟨r0_46, k0_pay46 (k0_pay3 (View.ld D r0_0)) (k0_pay4 (View.ld L r0_0)) (k0_pay5 (View.ld R r0_0)) (View.ld M r0_44)⟩,
    ⟨r0_45, k0_pay45 (k0_pay3 (View.ld D r0_0)) (k0_pay4 (View.ld L r0_0)) (k0_pay5 (View.ld R r0_0)) (View.ld M r0_44)⟩]

theorem iq_heads : out0_14 (F := Ideal) M W C S D L R Q K G B = View.canon (iqHeads M D L R) := by
  unfold_out out0_14
  rfl

def qv (h : Fin 16) (x : Fin 256) (y : Fin 128) : EReal :=
  across (fun y => scaled (fun q => M (ix2 x ⟨h.val * 128 + q.val, by omega⟩)) (Q (ix2 0 y) * Ideal.ofBits FTy.f32 0x3E0293EE#32) y)
    (C (ix2 x y)) (S (ix2 x y)) y

def kv (x : Fin 256) (h : Fin 4) (y : Fin 128) : EReal :=
  across (fun y => scaled (fun q => M (ix2 x ⟨2048 + (h.val * 128 + q.val), by omega⟩)) (K (ix2 0 y)) y) (C (ix2 x y)) (S (ix2 x y)) y

def iqv (h : Fin 16) (d : Fin 64) (x : Fin 256) : EReal :=
  beside (fun q => M (ix2 x ⟨3072 + (h.val / 2 * 128 + q.val), by omega⟩))
    (D (ix2 x ⟨h.val % 2 * 64 + d.val, by omega⟩)) (L (ix2 x ⟨h.val % 2 * 64 + d.val, by omega⟩)) (R (ix2 x ⟨h.val % 2 * 64 + d.val, by omega⟩))
    ⟨h.val % 2 * 64 + d.val, by omega⟩

theorem ld_tab (T : Vec Ideal S256x128 .f32) (i : S256x128.Idx) : View.ld T r0_0 i = T i := by
  refine congrArg T (funext fun a => Fin.ext ?_)
  fin_cases a <;> exact (Nat.zero_add _).trans (Nat.one_mul _)

theorem ld_vec (T : Vec Ideal S1x128 .f32) (i : S1x128.Idx) : View.ld T r0_1 i = T i := by
  refine congrArg T (funext fun a => Fin.ext ?_)
  fin_cases a <;> exact (Nat.zero_add _).trans (Nat.one_mul _)

theorem tab_eq (T : Vec Ideal S256x128 .f32) : View.ld T r0_0 = T := funext (ld_tab T)
theorem vec_eq (T : Vec Ideal S1x128 .f32) : View.ld T r0_1 = T := funext (ld_vec T)

theorem q_piece15 (i : S1x256x128.Idx) :
    (k0_pay7 C S Q (View.ld M r0_32) i : EReal) = qv M C S Q ((r0_33.idx i) 0) ((r0_33.idx i) 1) ((r0_33.idx i) 2) := by
  idx_vars i
  refine (q_tile C S (View.ld M r0_32) Q i0 i1 i2).trans ?_
  have e0 : (r0_33.idx (ix3 i0 i1 i2)) 0 = (⟨15, by decide⟩ : Fin 16) := Fin.ext (by show 15 + 1 * i0.val = 15; omega)
  have e1 : (r0_33.idx (ix3 i0 i1 i2)) 1 = i1 := Fin.ext (by show 0 + 1 * i1.val = i1.val; omega)
  have e2 : (r0_33.idx (ix3 i0 i1 i2)) 2 = i2 := Fin.ext (by show 0 + 1 * i2.val = i2.val; omega)
  rw [e0, e1, e2, qv]
  have e (q : Fin 128) : View.ld M r0_32 (ix2 i1 q) = M (ix2 i1 ⟨15 * 128 + q.val, by omega⟩) := by
    refine congrArg M (funext fun a => Fin.ext ?_)
    fin_cases a
    · show 0 + 1 * i1.val = i1.val; omega
    · show 1920 + 1 * q.val = 15 * 128 + q.val; omega
  simp only [e]

theorem q_piece14 (i : S1x256x128.Idx) :
    (k0_pay7 C S Q (View.ld M r0_30) i : EReal) = qv M C S Q ((r0_31.idx i) 0) ((r0_31.idx i) 1) ((r0_31.idx i) 2) := by
  idx_vars i
  refine (q_tile C S (View.ld M r0_30) Q i0 i1 i2).trans ?_
  have e0 : (r0_31.idx (ix3 i0 i1 i2)) 0 = (⟨14, by decide⟩ : Fin 16) := Fin.ext (by show 14 + 1 * i0.val = 14; omega)
  have e1 : (r0_31.idx (ix3 i0 i1 i2)) 1 = i1 := Fin.ext (by show 0 + 1 * i1.val = i1.val; omega)
  have e2 : (r0_31.idx (ix3 i0 i1 i2)) 2 = i2 := Fin.ext (by show 0 + 1 * i2.val = i2.val; omega)
  rw [e0, e1, e2, qv]
  have e (q : Fin 128) : View.ld M r0_30 (ix2 i1 q) = M (ix2 i1 ⟨14 * 128 + q.val, by omega⟩) := by
    refine congrArg M (funext fun a => Fin.ext ?_)
    fin_cases a
    · show 0 + 1 * i1.val = i1.val; omega
    · show 1792 + 1 * q.val = 14 * 128 + q.val; omega
  simp only [e]

theorem q_piece13 (i : S1x256x128.Idx) :
    (k0_pay7 C S Q (View.ld M r0_28) i : EReal) = qv M C S Q ((r0_29.idx i) 0) ((r0_29.idx i) 1) ((r0_29.idx i) 2) := by
  idx_vars i
  refine (q_tile C S (View.ld M r0_28) Q i0 i1 i2).trans ?_
  have e0 : (r0_29.idx (ix3 i0 i1 i2)) 0 = (⟨13, by decide⟩ : Fin 16) := Fin.ext (by show 13 + 1 * i0.val = 13; omega)
  have e1 : (r0_29.idx (ix3 i0 i1 i2)) 1 = i1 := Fin.ext (by show 0 + 1 * i1.val = i1.val; omega)
  have e2 : (r0_29.idx (ix3 i0 i1 i2)) 2 = i2 := Fin.ext (by show 0 + 1 * i2.val = i2.val; omega)
  rw [e0, e1, e2, qv]
  have e (q : Fin 128) : View.ld M r0_28 (ix2 i1 q) = M (ix2 i1 ⟨13 * 128 + q.val, by omega⟩) := by
    refine congrArg M (funext fun a => Fin.ext ?_)
    fin_cases a
    · show 0 + 1 * i1.val = i1.val; omega
    · show 1664 + 1 * q.val = 13 * 128 + q.val; omega
  simp only [e]

theorem q_piece12 (i : S1x256x128.Idx) :
    (k0_pay7 C S Q (View.ld M r0_26) i : EReal) = qv M C S Q ((r0_27.idx i) 0) ((r0_27.idx i) 1) ((r0_27.idx i) 2) := by
  idx_vars i
  refine (q_tile C S (View.ld M r0_26) Q i0 i1 i2).trans ?_
  have e0 : (r0_27.idx (ix3 i0 i1 i2)) 0 = (⟨12, by decide⟩ : Fin 16) := Fin.ext (by show 12 + 1 * i0.val = 12; omega)
  have e1 : (r0_27.idx (ix3 i0 i1 i2)) 1 = i1 := Fin.ext (by show 0 + 1 * i1.val = i1.val; omega)
  have e2 : (r0_27.idx (ix3 i0 i1 i2)) 2 = i2 := Fin.ext (by show 0 + 1 * i2.val = i2.val; omega)
  rw [e0, e1, e2, qv]
  have e (q : Fin 128) : View.ld M r0_26 (ix2 i1 q) = M (ix2 i1 ⟨12 * 128 + q.val, by omega⟩) := by
    refine congrArg M (funext fun a => Fin.ext ?_)
    fin_cases a
    · show 0 + 1 * i1.val = i1.val; omega
    · show 1536 + 1 * q.val = 12 * 128 + q.val; omega
  simp only [e]

theorem q_piece11 (i : S1x256x128.Idx) :
    (k0_pay7 C S Q (View.ld M r0_24) i : EReal) = qv M C S Q ((r0_25.idx i) 0) ((r0_25.idx i) 1) ((r0_25.idx i) 2) := by
  idx_vars i
  refine (q_tile C S (View.ld M r0_24) Q i0 i1 i2).trans ?_
  have e0 : (r0_25.idx (ix3 i0 i1 i2)) 0 = (⟨11, by decide⟩ : Fin 16) := Fin.ext (by show 11 + 1 * i0.val = 11; omega)
  have e1 : (r0_25.idx (ix3 i0 i1 i2)) 1 = i1 := Fin.ext (by show 0 + 1 * i1.val = i1.val; omega)
  have e2 : (r0_25.idx (ix3 i0 i1 i2)) 2 = i2 := Fin.ext (by show 0 + 1 * i2.val = i2.val; omega)
  rw [e0, e1, e2, qv]
  have e (q : Fin 128) : View.ld M r0_24 (ix2 i1 q) = M (ix2 i1 ⟨11 * 128 + q.val, by omega⟩) := by
    refine congrArg M (funext fun a => Fin.ext ?_)
    fin_cases a
    · show 0 + 1 * i1.val = i1.val; omega
    · show 1408 + 1 * q.val = 11 * 128 + q.val; omega
  simp only [e]

theorem q_piece10 (i : S1x256x128.Idx) :
    (k0_pay7 C S Q (View.ld M r0_22) i : EReal) = qv M C S Q ((r0_23.idx i) 0) ((r0_23.idx i) 1) ((r0_23.idx i) 2) := by
  idx_vars i
  refine (q_tile C S (View.ld M r0_22) Q i0 i1 i2).trans ?_
  have e0 : (r0_23.idx (ix3 i0 i1 i2)) 0 = (⟨10, by decide⟩ : Fin 16) := Fin.ext (by show 10 + 1 * i0.val = 10; omega)
  have e1 : (r0_23.idx (ix3 i0 i1 i2)) 1 = i1 := Fin.ext (by show 0 + 1 * i1.val = i1.val; omega)
  have e2 : (r0_23.idx (ix3 i0 i1 i2)) 2 = i2 := Fin.ext (by show 0 + 1 * i2.val = i2.val; omega)
  rw [e0, e1, e2, qv]
  have e (q : Fin 128) : View.ld M r0_22 (ix2 i1 q) = M (ix2 i1 ⟨10 * 128 + q.val, by omega⟩) := by
    refine congrArg M (funext fun a => Fin.ext ?_)
    fin_cases a
    · show 0 + 1 * i1.val = i1.val; omega
    · show 1280 + 1 * q.val = 10 * 128 + q.val; omega
  simp only [e]

theorem q_piece9 (i : S1x256x128.Idx) :
    (k0_pay7 C S Q (View.ld M r0_20) i : EReal) = qv M C S Q ((r0_21.idx i) 0) ((r0_21.idx i) 1) ((r0_21.idx i) 2) := by
  idx_vars i
  refine (q_tile C S (View.ld M r0_20) Q i0 i1 i2).trans ?_
  have e0 : (r0_21.idx (ix3 i0 i1 i2)) 0 = (⟨9, by decide⟩ : Fin 16) := Fin.ext (by show 9 + 1 * i0.val = 9; omega)
  have e1 : (r0_21.idx (ix3 i0 i1 i2)) 1 = i1 := Fin.ext (by show 0 + 1 * i1.val = i1.val; omega)
  have e2 : (r0_21.idx (ix3 i0 i1 i2)) 2 = i2 := Fin.ext (by show 0 + 1 * i2.val = i2.val; omega)
  rw [e0, e1, e2, qv]
  have e (q : Fin 128) : View.ld M r0_20 (ix2 i1 q) = M (ix2 i1 ⟨9 * 128 + q.val, by omega⟩) := by
    refine congrArg M (funext fun a => Fin.ext ?_)
    fin_cases a
    · show 0 + 1 * i1.val = i1.val; omega
    · show 1152 + 1 * q.val = 9 * 128 + q.val; omega
  simp only [e]

theorem q_piece8 (i : S1x256x128.Idx) :
    (k0_pay7 C S Q (View.ld M r0_18) i : EReal) = qv M C S Q ((r0_19.idx i) 0) ((r0_19.idx i) 1) ((r0_19.idx i) 2) := by
  idx_vars i
  refine (q_tile C S (View.ld M r0_18) Q i0 i1 i2).trans ?_
  have e0 : (r0_19.idx (ix3 i0 i1 i2)) 0 = (⟨8, by decide⟩ : Fin 16) := Fin.ext (by show 8 + 1 * i0.val = 8; omega)
  have e1 : (r0_19.idx (ix3 i0 i1 i2)) 1 = i1 := Fin.ext (by show 0 + 1 * i1.val = i1.val; omega)
  have e2 : (r0_19.idx (ix3 i0 i1 i2)) 2 = i2 := Fin.ext (by show 0 + 1 * i2.val = i2.val; omega)
  rw [e0, e1, e2, qv]
  have e (q : Fin 128) : View.ld M r0_18 (ix2 i1 q) = M (ix2 i1 ⟨8 * 128 + q.val, by omega⟩) := by
    refine congrArg M (funext fun a => Fin.ext ?_)
    fin_cases a
    · show 0 + 1 * i1.val = i1.val; omega
    · show 1024 + 1 * q.val = 8 * 128 + q.val; omega
  simp only [e]

theorem q_piece7 (i : S1x256x128.Idx) :
    (k0_pay7 C S Q (View.ld M r0_16) i : EReal) = qv M C S Q ((r0_17.idx i) 0) ((r0_17.idx i) 1) ((r0_17.idx i) 2) := by
  idx_vars i
  refine (q_tile C S (View.ld M r0_16) Q i0 i1 i2).trans ?_
  have e0 : (r0_17.idx (ix3 i0 i1 i2)) 0 = (⟨7, by decide⟩ : Fin 16) := Fin.ext (by show 7 + 1 * i0.val = 7; omega)
  have e1 : (r0_17.idx (ix3 i0 i1 i2)) 1 = i1 := Fin.ext (by show 0 + 1 * i1.val = i1.val; omega)
  have e2 : (r0_17.idx (ix3 i0 i1 i2)) 2 = i2 := Fin.ext (by show 0 + 1 * i2.val = i2.val; omega)
  rw [e0, e1, e2, qv]
  have e (q : Fin 128) : View.ld M r0_16 (ix2 i1 q) = M (ix2 i1 ⟨7 * 128 + q.val, by omega⟩) := by
    refine congrArg M (funext fun a => Fin.ext ?_)
    fin_cases a
    · show 0 + 1 * i1.val = i1.val; omega
    · show 896 + 1 * q.val = 7 * 128 + q.val; omega
  simp only [e]

theorem q_piece6 (i : S1x256x128.Idx) :
    (k0_pay7 C S Q (View.ld M r0_14) i : EReal) = qv M C S Q ((r0_15.idx i) 0) ((r0_15.idx i) 1) ((r0_15.idx i) 2) := by
  idx_vars i
  refine (q_tile C S (View.ld M r0_14) Q i0 i1 i2).trans ?_
  have e0 : (r0_15.idx (ix3 i0 i1 i2)) 0 = (⟨6, by decide⟩ : Fin 16) := Fin.ext (by show 6 + 1 * i0.val = 6; omega)
  have e1 : (r0_15.idx (ix3 i0 i1 i2)) 1 = i1 := Fin.ext (by show 0 + 1 * i1.val = i1.val; omega)
  have e2 : (r0_15.idx (ix3 i0 i1 i2)) 2 = i2 := Fin.ext (by show 0 + 1 * i2.val = i2.val; omega)
  rw [e0, e1, e2, qv]
  have e (q : Fin 128) : View.ld M r0_14 (ix2 i1 q) = M (ix2 i1 ⟨6 * 128 + q.val, by omega⟩) := by
    refine congrArg M (funext fun a => Fin.ext ?_)
    fin_cases a
    · show 0 + 1 * i1.val = i1.val; omega
    · show 768 + 1 * q.val = 6 * 128 + q.val; omega
  simp only [e]

theorem q_piece5 (i : S1x256x128.Idx) :
    (k0_pay7 C S Q (View.ld M r0_12) i : EReal) = qv M C S Q ((r0_13.idx i) 0) ((r0_13.idx i) 1) ((r0_13.idx i) 2) := by
  idx_vars i
  refine (q_tile C S (View.ld M r0_12) Q i0 i1 i2).trans ?_
  have e0 : (r0_13.idx (ix3 i0 i1 i2)) 0 = (⟨5, by decide⟩ : Fin 16) := Fin.ext (by show 5 + 1 * i0.val = 5; omega)
  have e1 : (r0_13.idx (ix3 i0 i1 i2)) 1 = i1 := Fin.ext (by show 0 + 1 * i1.val = i1.val; omega)
  have e2 : (r0_13.idx (ix3 i0 i1 i2)) 2 = i2 := Fin.ext (by show 0 + 1 * i2.val = i2.val; omega)
  rw [e0, e1, e2, qv]
  have e (q : Fin 128) : View.ld M r0_12 (ix2 i1 q) = M (ix2 i1 ⟨5 * 128 + q.val, by omega⟩) := by
    refine congrArg M (funext fun a => Fin.ext ?_)
    fin_cases a
    · show 0 + 1 * i1.val = i1.val; omega
    · show 640 + 1 * q.val = 5 * 128 + q.val; omega
  simp only [e]

theorem q_piece4 (i : S1x256x128.Idx) :
    (k0_pay7 C S Q (View.ld M r0_10) i : EReal) = qv M C S Q ((r0_11.idx i) 0) ((r0_11.idx i) 1) ((r0_11.idx i) 2) := by
  idx_vars i
  refine (q_tile C S (View.ld M r0_10) Q i0 i1 i2).trans ?_
  have e0 : (r0_11.idx (ix3 i0 i1 i2)) 0 = (⟨4, by decide⟩ : Fin 16) := Fin.ext (by show 4 + 1 * i0.val = 4; omega)
  have e1 : (r0_11.idx (ix3 i0 i1 i2)) 1 = i1 := Fin.ext (by show 0 + 1 * i1.val = i1.val; omega)
  have e2 : (r0_11.idx (ix3 i0 i1 i2)) 2 = i2 := Fin.ext (by show 0 + 1 * i2.val = i2.val; omega)
  rw [e0, e1, e2, qv]
  have e (q : Fin 128) : View.ld M r0_10 (ix2 i1 q) = M (ix2 i1 ⟨4 * 128 + q.val, by omega⟩) := by
    refine congrArg M (funext fun a => Fin.ext ?_)
    fin_cases a
    · show 0 + 1 * i1.val = i1.val; omega
    · show 512 + 1 * q.val = 4 * 128 + q.val; omega
  simp only [e]

theorem q_piece3 (i : S1x256x128.Idx) :
    (k0_pay7 C S Q (View.ld M r0_8) i : EReal) = qv M C S Q ((r0_9.idx i) 0) ((r0_9.idx i) 1) ((r0_9.idx i) 2) := by
  idx_vars i
  refine (q_tile C S (View.ld M r0_8) Q i0 i1 i2).trans ?_
  have e0 : (r0_9.idx (ix3 i0 i1 i2)) 0 = (⟨3, by decide⟩ : Fin 16) := Fin.ext (by show 3 + 1 * i0.val = 3; omega)
  have e1 : (r0_9.idx (ix3 i0 i1 i2)) 1 = i1 := Fin.ext (by show 0 + 1 * i1.val = i1.val; omega)
  have e2 : (r0_9.idx (ix3 i0 i1 i2)) 2 = i2 := Fin.ext (by show 0 + 1 * i2.val = i2.val; omega)
  rw [e0, e1, e2, qv]
  have e (q : Fin 128) : View.ld M r0_8 (ix2 i1 q) = M (ix2 i1 ⟨3 * 128 + q.val, by omega⟩) := by
    refine congrArg M (funext fun a => Fin.ext ?_)
    fin_cases a
    · show 0 + 1 * i1.val = i1.val; omega
    · show 384 + 1 * q.val = 3 * 128 + q.val; omega
  simp only [e]

theorem q_piece2 (i : S1x256x128.Idx) :
    (k0_pay7 C S Q (View.ld M r0_6) i : EReal) = qv M C S Q ((r0_7.idx i) 0) ((r0_7.idx i) 1) ((r0_7.idx i) 2) := by
  idx_vars i
  refine (q_tile C S (View.ld M r0_6) Q i0 i1 i2).trans ?_
  have e0 : (r0_7.idx (ix3 i0 i1 i2)) 0 = (⟨2, by decide⟩ : Fin 16) := Fin.ext (by show 2 + 1 * i0.val = 2; omega)
  have e1 : (r0_7.idx (ix3 i0 i1 i2)) 1 = i1 := Fin.ext (by show 0 + 1 * i1.val = i1.val; omega)
  have e2 : (r0_7.idx (ix3 i0 i1 i2)) 2 = i2 := Fin.ext (by show 0 + 1 * i2.val = i2.val; omega)
  rw [e0, e1, e2, qv]
  have e (q : Fin 128) : View.ld M r0_6 (ix2 i1 q) = M (ix2 i1 ⟨2 * 128 + q.val, by omega⟩) := by
    refine congrArg M (funext fun a => Fin.ext ?_)
    fin_cases a
    · show 0 + 1 * i1.val = i1.val; omega
    · show 256 + 1 * q.val = 2 * 128 + q.val; omega
  simp only [e]

theorem q_piece1 (i : S1x256x128.Idx) :
    (k0_pay7 C S Q (View.ld M r0_4) i : EReal) = qv M C S Q ((r0_5.idx i) 0) ((r0_5.idx i) 1) ((r0_5.idx i) 2) := by
  idx_vars i
  refine (q_tile C S (View.ld M r0_4) Q i0 i1 i2).trans ?_
  have e0 : (r0_5.idx (ix3 i0 i1 i2)) 0 = (⟨1, by decide⟩ : Fin 16) := Fin.ext (by show 1 + 1 * i0.val = 1; omega)
  have e1 : (r0_5.idx (ix3 i0 i1 i2)) 1 = i1 := Fin.ext (by show 0 + 1 * i1.val = i1.val; omega)
  have e2 : (r0_5.idx (ix3 i0 i1 i2)) 2 = i2 := Fin.ext (by show 0 + 1 * i2.val = i2.val; omega)
  rw [e0, e1, e2, qv]
  have e (q : Fin 128) : View.ld M r0_4 (ix2 i1 q) = M (ix2 i1 ⟨1 * 128 + q.val, by omega⟩) := by
    refine congrArg M (funext fun a => Fin.ext ?_)
    fin_cases a
    · show 0 + 1 * i1.val = i1.val; omega
    · show 128 + 1 * q.val = 1 * 128 + q.val; omega
  simp only [e]

theorem q_piece0 (i : S1x256x128.Idx) :
    (k0_pay7 C S Q (View.ld M r0_2) i : EReal) = qv M C S Q ((r0_3.idx i) 0) ((r0_3.idx i) 1) ((r0_3.idx i) 2) := by
  idx_vars i
  refine (q_tile C S (View.ld M r0_2) Q i0 i1 i2).trans ?_
  have e0 : (r0_3.idx (ix3 i0 i1 i2)) 0 = (⟨0, by decide⟩ : Fin 16) := Fin.ext (by show 0 + 1 * i0.val = 0; omega)
  have e1 : (r0_3.idx (ix3 i0 i1 i2)) 1 = i1 := Fin.ext (by show 0 + 1 * i1.val = i1.val; omega)
  have e2 : (r0_3.idx (ix3 i0 i1 i2)) 2 = i2 := Fin.ext (by show 0 + 1 * i2.val = i2.val; omega)
  rw [e0, e1, e2, qv]
  have e (q : Fin 128) : View.ld M r0_2 (ix2 i1 q) = M (ix2 i1 ⟨0 * 128 + q.val, by omega⟩) := by
    refine congrArg M (funext fun a => Fin.ext ?_)
    fin_cases a
    · show 0 + 1 * i1.val = i1.val; omega
    · show 0 + 1 * q.val = 0 * 128 + q.val; omega
  simp only [e]

theorem k_piece3 (i : S256x128.Idx) :
    (k0_pay34 (k0_pay1 C) (k0_pay2 S) (View.ld M r0_40) K i : EReal)
      = kv M C S K ((r0_41.idx i) 0) ⟨((r0_41.idx i) 1).val / 128, by have : ((r0_41.idx i) 1).val < 512 := ((r0_41.idx i) 1).isLt; omega⟩
        ⟨((r0_41.idx i) 1).val % 128, by omega⟩ := by
  idx_vars i
  refine (k_tile C S (View.ld M r0_40) K i0 i1).trans ?_
  have e0 : (r0_41.idx (ix2 i0 i1)) 0 = i0 := Fin.ext (by show 0 + 1 * i0.val = i0.val; omega)
  have e1 : ((r0_41.idx (ix2 i0 i1)) 1).val = 384 + i1.val := by show 384 + 1 * i1.val = _; omega
  have e2 : (384 + i1.val) / 128 = 3 := by omega
  have e3 : (384 + i1.val) % 128 = i1.val := by omega
  simp only [e0, e1, e2, e3, kv]
  have e (q : Fin 128) : View.ld M r0_40 (ix2 i0 q) = M (ix2 i0 ⟨2048 + (3 * 128 + q.val), by omega⟩) := by
    refine congrArg M (funext fun a => Fin.ext ?_)
    fin_cases a
    · show 0 + 1 * i0.val = i0.val; omega
    · show 2432 + 1 * q.val = 2048 + (3 * 128 + q.val); omega
  simp only [e]

theorem k_piece2 (i : S256x128.Idx) :
    (k0_pay34 (k0_pay1 C) (k0_pay2 S) (View.ld M r0_38) K i : EReal)
      = kv M C S K ((r0_39.idx i) 0) ⟨((r0_39.idx i) 1).val / 128, by have : ((r0_39.idx i) 1).val < 512 := ((r0_39.idx i) 1).isLt; omega⟩
        ⟨((r0_39.idx i) 1).val % 128, by omega⟩ := by
  idx_vars i
  refine (k_tile C S (View.ld M r0_38) K i0 i1).trans ?_
  have e0 : (r0_39.idx (ix2 i0 i1)) 0 = i0 := Fin.ext (by show 0 + 1 * i0.val = i0.val; omega)
  have e1 : ((r0_39.idx (ix2 i0 i1)) 1).val = 256 + i1.val := by show 256 + 1 * i1.val = _; omega
  have e2 : (256 + i1.val) / 128 = 2 := by omega
  have e3 : (256 + i1.val) % 128 = i1.val := by omega
  simp only [e0, e1, e2, e3, kv]
  have e (q : Fin 128) : View.ld M r0_38 (ix2 i0 q) = M (ix2 i0 ⟨2048 + (2 * 128 + q.val), by omega⟩) := by
    refine congrArg M (funext fun a => Fin.ext ?_)
    fin_cases a
    · show 0 + 1 * i0.val = i0.val; omega
    · show 2304 + 1 * q.val = 2048 + (2 * 128 + q.val); omega
  simp only [e]

theorem k_piece1 (i : S256x128.Idx) :
    (k0_pay34 (k0_pay1 C) (k0_pay2 S) (View.ld M r0_36) K i : EReal)
      = kv M C S K ((r0_37.idx i) 0) ⟨((r0_37.idx i) 1).val / 128, by have : ((r0_37.idx i) 1).val < 512 := ((r0_37.idx i) 1).isLt; omega⟩
        ⟨((r0_37.idx i) 1).val % 128, by omega⟩ := by
  idx_vars i
  refine (k_tile C S (View.ld M r0_36) K i0 i1).trans ?_
  have e0 : (r0_37.idx (ix2 i0 i1)) 0 = i0 := Fin.ext (by show 0 + 1 * i0.val = i0.val; omega)
  have e1 : ((r0_37.idx (ix2 i0 i1)) 1).val = 128 + i1.val := by show 128 + 1 * i1.val = _; omega
  have e2 : (128 + i1.val) / 128 = 1 := by omega
  have e3 : (128 + i1.val) % 128 = i1.val := by omega
  simp only [e0, e1, e2, e3, kv]
  have e (q : Fin 128) : View.ld M r0_36 (ix2 i0 q) = M (ix2 i0 ⟨2048 + (1 * 128 + q.val), by omega⟩) := by
    refine congrArg M (funext fun a => Fin.ext ?_)
    fin_cases a
    · show 0 + 1 * i0.val = i0.val; omega
    · show 2176 + 1 * q.val = 2048 + (1 * 128 + q.val); omega
  simp only [e]

theorem k_piece0 (i : S256x128.Idx) :
    (k0_pay34 (k0_pay1 C) (k0_pay2 S) (View.ld M r0_34) K i : EReal)
      = kv M C S K ((r0_35.idx i) 0) ⟨((r0_35.idx i) 1).val / 128, by have : ((r0_35.idx i) 1).val < 512 := ((r0_35.idx i) 1).isLt; omega⟩
        ⟨((r0_35.idx i) 1).val % 128, by omega⟩ := by
  idx_vars i
  refine (k_tile C S (View.ld M r0_34) K i0 i1).trans ?_
  have e0 : (r0_35.idx (ix2 i0 i1)) 0 = i0 := Fin.ext (by show 0 + 1 * i0.val = i0.val; omega)
  have e1 : ((r0_35.idx (ix2 i0 i1)) 1).val = 0 + i1.val := by show 0 + 1 * i1.val = _; omega
  have e2 : (0 + i1.val) / 128 = 0 := by omega
  have e3 : (0 + i1.val) % 128 = i1.val := by omega
  simp only [e0, e1, e2, e3, kv]
  have e (q : Fin 128) : View.ld M r0_34 (ix2 i0 q) = M (ix2 i0 ⟨2048 + (0 * 128 + q.val), by omega⟩) := by
    refine congrArg M (funext fun a => Fin.ext ?_)
    fin_cases a
    · show 0 + 1 * i0.val = i0.val; omega
    · show 2048 + 1 * q.val = 2048 + (0 * 128 + q.val); omega
  simp only [e]

theorem iq_piece15 (i : S1x64x256.Idx) :
    (k0_pay46 (k0_pay3 D) (k0_pay4 L) (k0_pay5 R) (View.ld M r0_65) i : EReal)
      = iqv M D L R ((r0_67.idx i) 0) ((r0_67.idx i) 1) ((r0_67.idx i) 2) := by
  idx_vars i
  refine (hi_tile D L (View.ld M r0_65) R i0 i1 i2).trans ?_
  have e0 : (r0_67.idx (ix3 i0 i1 i2)) 0 = (⟨15, by decide⟩ : Fin 16) := Fin.ext (by show 15 + 1 * i0.val = 15; omega)
  have e1 : (r0_67.idx (ix3 i0 i1 i2)) 1 = i1 := Fin.ext (by show 0 + 1 * i1.val = i1.val; omega)
  have e2 : (r0_67.idx (ix3 i0 i1 i2)) 2 = i2 := Fin.ext (by show 0 + 1 * i2.val = i2.val; omega)
  rw [e0, e1, e2, iqv]
  have e (q : Fin 128) : View.ld M r0_65 (ix2 i2 q) = M (ix2 i2 ⟨3072 + (15 / 2 * 128 + q.val), by omega⟩) := by
    refine congrArg M (funext fun a => Fin.ext ?_)
    fin_cases a
    · show 0 + 1 * i2.val = i2.val; omega
    · show 3968 + 1 * q.val = 3072 + (15 / 2 * 128 + q.val); omega
  have f : 15 % 2 * 64 + i1.val = 64 + i1.val := by omega
  simp only [e, f]

theorem iq_piece14 (i : S1x64x256.Idx) :
    (k0_pay45 (k0_pay3 D) (k0_pay4 L) (k0_pay5 R) (View.ld M r0_65) i : EReal)
      = iqv M D L R ((r0_66.idx i) 0) ((r0_66.idx i) 1) ((r0_66.idx i) 2) := by
  idx_vars i
  refine (lo_tile D L (View.ld M r0_65) R i0 i1 i2).trans ?_
  have e0 : (r0_66.idx (ix3 i0 i1 i2)) 0 = (⟨14, by decide⟩ : Fin 16) := Fin.ext (by show 14 + 1 * i0.val = 14; omega)
  have e1 : (r0_66.idx (ix3 i0 i1 i2)) 1 = i1 := Fin.ext (by show 0 + 1 * i1.val = i1.val; omega)
  have e2 : (r0_66.idx (ix3 i0 i1 i2)) 2 = i2 := Fin.ext (by show 0 + 1 * i2.val = i2.val; omega)
  rw [e0, e1, e2, iqv]
  have e (q : Fin 128) : View.ld M r0_65 (ix2 i2 q) = M (ix2 i2 ⟨3072 + (14 / 2 * 128 + q.val), by omega⟩) := by
    refine congrArg M (funext fun a => Fin.ext ?_)
    fin_cases a
    · show 0 + 1 * i2.val = i2.val; omega
    · show 3968 + 1 * q.val = 3072 + (14 / 2 * 128 + q.val); omega
  have f : 14 % 2 * 64 + i1.val = i1.val := by omega
  simp only [e, f]

theorem iq_piece13 (i : S1x64x256.Idx) :
    (k0_pay46 (k0_pay3 D) (k0_pay4 L) (k0_pay5 R) (View.ld M r0_62) i : EReal)
      = iqv M D L R ((r0_64.idx i) 0) ((r0_64.idx i) 1) ((r0_64.idx i) 2) := by
  idx_vars i
  refine (hi_tile D L (View.ld M r0_62) R i0 i1 i2).trans ?_
  have e0 : (r0_64.idx (ix3 i0 i1 i2)) 0 = (⟨13, by decide⟩ : Fin 16) := Fin.ext (by show 13 + 1 * i0.val = 13; omega)
  have e1 : (r0_64.idx (ix3 i0 i1 i2)) 1 = i1 := Fin.ext (by show 0 + 1 * i1.val = i1.val; omega)
  have e2 : (r0_64.idx (ix3 i0 i1 i2)) 2 = i2 := Fin.ext (by show 0 + 1 * i2.val = i2.val; omega)
  rw [e0, e1, e2, iqv]
  have e (q : Fin 128) : View.ld M r0_62 (ix2 i2 q) = M (ix2 i2 ⟨3072 + (13 / 2 * 128 + q.val), by omega⟩) := by
    refine congrArg M (funext fun a => Fin.ext ?_)
    fin_cases a
    · show 0 + 1 * i2.val = i2.val; omega
    · show 3840 + 1 * q.val = 3072 + (13 / 2 * 128 + q.val); omega
  have f : 13 % 2 * 64 + i1.val = 64 + i1.val := by omega
  simp only [e, f]

theorem iq_piece12 (i : S1x64x256.Idx) :
    (k0_pay45 (k0_pay3 D) (k0_pay4 L) (k0_pay5 R) (View.ld M r0_62) i : EReal)
      = iqv M D L R ((r0_63.idx i) 0) ((r0_63.idx i) 1) ((r0_63.idx i) 2) := by
  idx_vars i
  refine (lo_tile D L (View.ld M r0_62) R i0 i1 i2).trans ?_
  have e0 : (r0_63.idx (ix3 i0 i1 i2)) 0 = (⟨12, by decide⟩ : Fin 16) := Fin.ext (by show 12 + 1 * i0.val = 12; omega)
  have e1 : (r0_63.idx (ix3 i0 i1 i2)) 1 = i1 := Fin.ext (by show 0 + 1 * i1.val = i1.val; omega)
  have e2 : (r0_63.idx (ix3 i0 i1 i2)) 2 = i2 := Fin.ext (by show 0 + 1 * i2.val = i2.val; omega)
  rw [e0, e1, e2, iqv]
  have e (q : Fin 128) : View.ld M r0_62 (ix2 i2 q) = M (ix2 i2 ⟨3072 + (12 / 2 * 128 + q.val), by omega⟩) := by
    refine congrArg M (funext fun a => Fin.ext ?_)
    fin_cases a
    · show 0 + 1 * i2.val = i2.val; omega
    · show 3840 + 1 * q.val = 3072 + (12 / 2 * 128 + q.val); omega
  have f : 12 % 2 * 64 + i1.val = i1.val := by omega
  simp only [e, f]

theorem iq_piece11 (i : S1x64x256.Idx) :
    (k0_pay46 (k0_pay3 D) (k0_pay4 L) (k0_pay5 R) (View.ld M r0_59) i : EReal)
      = iqv M D L R ((r0_61.idx i) 0) ((r0_61.idx i) 1) ((r0_61.idx i) 2) := by
  idx_vars i
  refine (hi_tile D L (View.ld M r0_59) R i0 i1 i2).trans ?_
  have e0 : (r0_61.idx (ix3 i0 i1 i2)) 0 = (⟨11, by decide⟩ : Fin 16) := Fin.ext (by show 11 + 1 * i0.val = 11; omega)
  have e1 : (r0_61.idx (ix3 i0 i1 i2)) 1 = i1 := Fin.ext (by show 0 + 1 * i1.val = i1.val; omega)
  have e2 : (r0_61.idx (ix3 i0 i1 i2)) 2 = i2 := Fin.ext (by show 0 + 1 * i2.val = i2.val; omega)
  rw [e0, e1, e2, iqv]
  have e (q : Fin 128) : View.ld M r0_59 (ix2 i2 q) = M (ix2 i2 ⟨3072 + (11 / 2 * 128 + q.val), by omega⟩) := by
    refine congrArg M (funext fun a => Fin.ext ?_)
    fin_cases a
    · show 0 + 1 * i2.val = i2.val; omega
    · show 3712 + 1 * q.val = 3072 + (11 / 2 * 128 + q.val); omega
  have f : 11 % 2 * 64 + i1.val = 64 + i1.val := by omega
  simp only [e, f]

theorem iq_piece10 (i : S1x64x256.Idx) :
    (k0_pay45 (k0_pay3 D) (k0_pay4 L) (k0_pay5 R) (View.ld M r0_59) i : EReal)
      = iqv M D L R ((r0_60.idx i) 0) ((r0_60.idx i) 1) ((r0_60.idx i) 2) := by
  idx_vars i
  refine (lo_tile D L (View.ld M r0_59) R i0 i1 i2).trans ?_
  have e0 : (r0_60.idx (ix3 i0 i1 i2)) 0 = (⟨10, by decide⟩ : Fin 16) := Fin.ext (by show 10 + 1 * i0.val = 10; omega)
  have e1 : (r0_60.idx (ix3 i0 i1 i2)) 1 = i1 := Fin.ext (by show 0 + 1 * i1.val = i1.val; omega)
  have e2 : (r0_60.idx (ix3 i0 i1 i2)) 2 = i2 := Fin.ext (by show 0 + 1 * i2.val = i2.val; omega)
  rw [e0, e1, e2, iqv]
  have e (q : Fin 128) : View.ld M r0_59 (ix2 i2 q) = M (ix2 i2 ⟨3072 + (10 / 2 * 128 + q.val), by omega⟩) := by
    refine congrArg M (funext fun a => Fin.ext ?_)
    fin_cases a
    · show 0 + 1 * i2.val = i2.val; omega
    · show 3712 + 1 * q.val = 3072 + (10 / 2 * 128 + q.val); omega
  have f : 10 % 2 * 64 + i1.val = i1.val := by omega
  simp only [e, f]

theorem iq_piece9 (i : S1x64x256.Idx) :
    (k0_pay46 (k0_pay3 D) (k0_pay4 L) (k0_pay5 R) (View.ld M r0_56) i : EReal)
      = iqv M D L R ((r0_58.idx i) 0) ((r0_58.idx i) 1) ((r0_58.idx i) 2) := by
  idx_vars i
  refine (hi_tile D L (View.ld M r0_56) R i0 i1 i2).trans ?_
  have e0 : (r0_58.idx (ix3 i0 i1 i2)) 0 = (⟨9, by decide⟩ : Fin 16) := Fin.ext (by show 9 + 1 * i0.val = 9; omega)
  have e1 : (r0_58.idx (ix3 i0 i1 i2)) 1 = i1 := Fin.ext (by show 0 + 1 * i1.val = i1.val; omega)
  have e2 : (r0_58.idx (ix3 i0 i1 i2)) 2 = i2 := Fin.ext (by show 0 + 1 * i2.val = i2.val; omega)
  rw [e0, e1, e2, iqv]
  have e (q : Fin 128) : View.ld M r0_56 (ix2 i2 q) = M (ix2 i2 ⟨3072 + (9 / 2 * 128 + q.val), by omega⟩) := by
    refine congrArg M (funext fun a => Fin.ext ?_)
    fin_cases a
    · show 0 + 1 * i2.val = i2.val; omega
    · show 3584 + 1 * q.val = 3072 + (9 / 2 * 128 + q.val); omega
  have f : 9 % 2 * 64 + i1.val = 64 + i1.val := by omega
  simp only [e, f]

theorem iq_piece8 (i : S1x64x256.Idx) :
    (k0_pay45 (k0_pay3 D) (k0_pay4 L) (k0_pay5 R) (View.ld M r0_56) i : EReal)
      = iqv M D L R ((r0_57.idx i) 0) ((r0_57.idx i) 1) ((r0_57.idx i) 2) := by
  idx_vars i
  refine (lo_tile D L (View.ld M r0_56) R i0 i1 i2).trans ?_
  have e0 : (r0_57.idx (ix3 i0 i1 i2)) 0 = (⟨8, by decide⟩ : Fin 16) := Fin.ext (by show 8 + 1 * i0.val = 8; omega)
  have e1 : (r0_57.idx (ix3 i0 i1 i2)) 1 = i1 := Fin.ext (by show 0 + 1 * i1.val = i1.val; omega)
  have e2 : (r0_57.idx (ix3 i0 i1 i2)) 2 = i2 := Fin.ext (by show 0 + 1 * i2.val = i2.val; omega)
  rw [e0, e1, e2, iqv]
  have e (q : Fin 128) : View.ld M r0_56 (ix2 i2 q) = M (ix2 i2 ⟨3072 + (8 / 2 * 128 + q.val), by omega⟩) := by
    refine congrArg M (funext fun a => Fin.ext ?_)
    fin_cases a
    · show 0 + 1 * i2.val = i2.val; omega
    · show 3584 + 1 * q.val = 3072 + (8 / 2 * 128 + q.val); omega
  have f : 8 % 2 * 64 + i1.val = i1.val := by omega
  simp only [e, f]

theorem iq_piece7 (i : S1x64x256.Idx) :
    (k0_pay46 (k0_pay3 D) (k0_pay4 L) (k0_pay5 R) (View.ld M r0_53) i : EReal)
      = iqv M D L R ((r0_55.idx i) 0) ((r0_55.idx i) 1) ((r0_55.idx i) 2) := by
  idx_vars i
  refine (hi_tile D L (View.ld M r0_53) R i0 i1 i2).trans ?_
  have e0 : (r0_55.idx (ix3 i0 i1 i2)) 0 = (⟨7, by decide⟩ : Fin 16) := Fin.ext (by show 7 + 1 * i0.val = 7; omega)
  have e1 : (r0_55.idx (ix3 i0 i1 i2)) 1 = i1 := Fin.ext (by show 0 + 1 * i1.val = i1.val; omega)
  have e2 : (r0_55.idx (ix3 i0 i1 i2)) 2 = i2 := Fin.ext (by show 0 + 1 * i2.val = i2.val; omega)
  rw [e0, e1, e2, iqv]
  have e (q : Fin 128) : View.ld M r0_53 (ix2 i2 q) = M (ix2 i2 ⟨3072 + (7 / 2 * 128 + q.val), by omega⟩) := by
    refine congrArg M (funext fun a => Fin.ext ?_)
    fin_cases a
    · show 0 + 1 * i2.val = i2.val; omega
    · show 3456 + 1 * q.val = 3072 + (7 / 2 * 128 + q.val); omega
  have f : 7 % 2 * 64 + i1.val = 64 + i1.val := by omega
  simp only [e, f]

theorem iq_piece6 (i : S1x64x256.Idx) :
    (k0_pay45 (k0_pay3 D) (k0_pay4 L) (k0_pay5 R) (View.ld M r0_53) i : EReal)
      = iqv M D L R ((r0_54.idx i) 0) ((r0_54.idx i) 1) ((r0_54.idx i) 2) := by
  idx_vars i
  refine (lo_tile D L (View.ld M r0_53) R i0 i1 i2).trans ?_
  have e0 : (r0_54.idx (ix3 i0 i1 i2)) 0 = (⟨6, by decide⟩ : Fin 16) := Fin.ext (by show 6 + 1 * i0.val = 6; omega)
  have e1 : (r0_54.idx (ix3 i0 i1 i2)) 1 = i1 := Fin.ext (by show 0 + 1 * i1.val = i1.val; omega)
  have e2 : (r0_54.idx (ix3 i0 i1 i2)) 2 = i2 := Fin.ext (by show 0 + 1 * i2.val = i2.val; omega)
  rw [e0, e1, e2, iqv]
  have e (q : Fin 128) : View.ld M r0_53 (ix2 i2 q) = M (ix2 i2 ⟨3072 + (6 / 2 * 128 + q.val), by omega⟩) := by
    refine congrArg M (funext fun a => Fin.ext ?_)
    fin_cases a
    · show 0 + 1 * i2.val = i2.val; omega
    · show 3456 + 1 * q.val = 3072 + (6 / 2 * 128 + q.val); omega
  have f : 6 % 2 * 64 + i1.val = i1.val := by omega
  simp only [e, f]

theorem iq_piece5 (i : S1x64x256.Idx) :
    (k0_pay46 (k0_pay3 D) (k0_pay4 L) (k0_pay5 R) (View.ld M r0_50) i : EReal)
      = iqv M D L R ((r0_52.idx i) 0) ((r0_52.idx i) 1) ((r0_52.idx i) 2) := by
  idx_vars i
  refine (hi_tile D L (View.ld M r0_50) R i0 i1 i2).trans ?_
  have e0 : (r0_52.idx (ix3 i0 i1 i2)) 0 = (⟨5, by decide⟩ : Fin 16) := Fin.ext (by show 5 + 1 * i0.val = 5; omega)
  have e1 : (r0_52.idx (ix3 i0 i1 i2)) 1 = i1 := Fin.ext (by show 0 + 1 * i1.val = i1.val; omega)
  have e2 : (r0_52.idx (ix3 i0 i1 i2)) 2 = i2 := Fin.ext (by show 0 + 1 * i2.val = i2.val; omega)
  rw [e0, e1, e2, iqv]
  have e (q : Fin 128) : View.ld M r0_50 (ix2 i2 q) = M (ix2 i2 ⟨3072 + (5 / 2 * 128 + q.val), by omega⟩) := by
    refine congrArg M (funext fun a => Fin.ext ?_)
    fin_cases a
    · show 0 + 1 * i2.val = i2.val; omega
    · show 3328 + 1 * q.val = 3072 + (5 / 2 * 128 + q.val); omega
  have f : 5 % 2 * 64 + i1.val = 64 + i1.val := by omega
  simp only [e, f]

theorem iq_piece4 (i : S1x64x256.Idx) :
    (k0_pay45 (k0_pay3 D) (k0_pay4 L) (k0_pay5 R) (View.ld M r0_50) i : EReal)
      = iqv M D L R ((r0_51.idx i) 0) ((r0_51.idx i) 1) ((r0_51.idx i) 2) := by
  idx_vars i
  refine (lo_tile D L (View.ld M r0_50) R i0 i1 i2).trans ?_
  have e0 : (r0_51.idx (ix3 i0 i1 i2)) 0 = (⟨4, by decide⟩ : Fin 16) := Fin.ext (by show 4 + 1 * i0.val = 4; omega)
  have e1 : (r0_51.idx (ix3 i0 i1 i2)) 1 = i1 := Fin.ext (by show 0 + 1 * i1.val = i1.val; omega)
  have e2 : (r0_51.idx (ix3 i0 i1 i2)) 2 = i2 := Fin.ext (by show 0 + 1 * i2.val = i2.val; omega)
  rw [e0, e1, e2, iqv]
  have e (q : Fin 128) : View.ld M r0_50 (ix2 i2 q) = M (ix2 i2 ⟨3072 + (4 / 2 * 128 + q.val), by omega⟩) := by
    refine congrArg M (funext fun a => Fin.ext ?_)
    fin_cases a
    · show 0 + 1 * i2.val = i2.val; omega
    · show 3328 + 1 * q.val = 3072 + (4 / 2 * 128 + q.val); omega
  have f : 4 % 2 * 64 + i1.val = i1.val := by omega
  simp only [e, f]

theorem iq_piece3 (i : S1x64x256.Idx) :
    (k0_pay46 (k0_pay3 D) (k0_pay4 L) (k0_pay5 R) (View.ld M r0_47) i : EReal)
      = iqv M D L R ((r0_49.idx i) 0) ((r0_49.idx i) 1) ((r0_49.idx i) 2) := by
  idx_vars i
  refine (hi_tile D L (View.ld M r0_47) R i0 i1 i2).trans ?_
  have e0 : (r0_49.idx (ix3 i0 i1 i2)) 0 = (⟨3, by decide⟩ : Fin 16) := Fin.ext (by show 3 + 1 * i0.val = 3; omega)
  have e1 : (r0_49.idx (ix3 i0 i1 i2)) 1 = i1 := Fin.ext (by show 0 + 1 * i1.val = i1.val; omega)
  have e2 : (r0_49.idx (ix3 i0 i1 i2)) 2 = i2 := Fin.ext (by show 0 + 1 * i2.val = i2.val; omega)
  rw [e0, e1, e2, iqv]
  have e (q : Fin 128) : View.ld M r0_47 (ix2 i2 q) = M (ix2 i2 ⟨3072 + (3 / 2 * 128 + q.val), by omega⟩) := by
    refine congrArg M (funext fun a => Fin.ext ?_)
    fin_cases a
    · show 0 + 1 * i2.val = i2.val; omega
    · show 3200 + 1 * q.val = 3072 + (3 / 2 * 128 + q.val); omega
  have f : 3 % 2 * 64 + i1.val = 64 + i1.val := by omega
  simp only [e, f]

theorem iq_piece2 (i : S1x64x256.Idx) :
    (k0_pay45 (k0_pay3 D) (k0_pay4 L) (k0_pay5 R) (View.ld M r0_47) i : EReal)
      = iqv M D L R ((r0_48.idx i) 0) ((r0_48.idx i) 1) ((r0_48.idx i) 2) := by
  idx_vars i
  refine (lo_tile D L (View.ld M r0_47) R i0 i1 i2).trans ?_
  have e0 : (r0_48.idx (ix3 i0 i1 i2)) 0 = (⟨2, by decide⟩ : Fin 16) := Fin.ext (by show 2 + 1 * i0.val = 2; omega)
  have e1 : (r0_48.idx (ix3 i0 i1 i2)) 1 = i1 := Fin.ext (by show 0 + 1 * i1.val = i1.val; omega)
  have e2 : (r0_48.idx (ix3 i0 i1 i2)) 2 = i2 := Fin.ext (by show 0 + 1 * i2.val = i2.val; omega)
  rw [e0, e1, e2, iqv]
  have e (q : Fin 128) : View.ld M r0_47 (ix2 i2 q) = M (ix2 i2 ⟨3072 + (2 / 2 * 128 + q.val), by omega⟩) := by
    refine congrArg M (funext fun a => Fin.ext ?_)
    fin_cases a
    · show 0 + 1 * i2.val = i2.val; omega
    · show 3200 + 1 * q.val = 3072 + (2 / 2 * 128 + q.val); omega
  have f : 2 % 2 * 64 + i1.val = i1.val := by omega
  simp only [e, f]

theorem iq_piece1 (i : S1x64x256.Idx) :
    (k0_pay46 (k0_pay3 D) (k0_pay4 L) (k0_pay5 R) (View.ld M r0_44) i : EReal)
      = iqv M D L R ((r0_46.idx i) 0) ((r0_46.idx i) 1) ((r0_46.idx i) 2) := by
  idx_vars i
  refine (hi_tile D L (View.ld M r0_44) R i0 i1 i2).trans ?_
  have e0 : (r0_46.idx (ix3 i0 i1 i2)) 0 = (⟨1, by decide⟩ : Fin 16) := Fin.ext (by show 1 + 1 * i0.val = 1; omega)
  have e1 : (r0_46.idx (ix3 i0 i1 i2)) 1 = i1 := Fin.ext (by show 0 + 1 * i1.val = i1.val; omega)
  have e2 : (r0_46.idx (ix3 i0 i1 i2)) 2 = i2 := Fin.ext (by show 0 + 1 * i2.val = i2.val; omega)
  rw [e0, e1, e2, iqv]
  have e (q : Fin 128) : View.ld M r0_44 (ix2 i2 q) = M (ix2 i2 ⟨3072 + (1 / 2 * 128 + q.val), by omega⟩) := by
    refine congrArg M (funext fun a => Fin.ext ?_)
    fin_cases a
    · show 0 + 1 * i2.val = i2.val; omega
    · show 3072 + 1 * q.val = 3072 + (1 / 2 * 128 + q.val); omega
  have f : 1 % 2 * 64 + i1.val = 64 + i1.val := by omega
  simp only [e, f]

theorem iq_piece0 (i : S1x64x256.Idx) :
    (k0_pay45 (k0_pay3 D) (k0_pay4 L) (k0_pay5 R) (View.ld M r0_44) i : EReal)
      = iqv M D L R ((r0_45.idx i) 0) ((r0_45.idx i) 1) ((r0_45.idx i) 2) := by
  idx_vars i
  refine (lo_tile D L (View.ld M r0_44) R i0 i1 i2).trans ?_
  have e0 : (r0_45.idx (ix3 i0 i1 i2)) 0 = (⟨0, by decide⟩ : Fin 16) := Fin.ext (by show 0 + 1 * i0.val = 0; omega)
  have e1 : (r0_45.idx (ix3 i0 i1 i2)) 1 = i1 := Fin.ext (by show 0 + 1 * i1.val = i1.val; omega)
  have e2 : (r0_45.idx (ix3 i0 i1 i2)) 2 = i2 := Fin.ext (by show 0 + 1 * i2.val = i2.val; omega)
  rw [e0, e1, e2, iqv]
  have e (q : Fin 128) : View.ld M r0_44 (ix2 i2 q) = M (ix2 i2 ⟨3072 + (0 / 2 * 128 + q.val), by omega⟩) := by
    refine congrArg M (funext fun a => Fin.ext ?_)
    fin_cases a
    · show 0 + 1 * i2.val = i2.val; omega
    · show 3072 + 1 * q.val = 3072 + (0 / 2 * 128 + q.val); omega
  have f : 0 % 2 * 64 + i1.val = i1.val := by omega
  simp only [e, f]

/-- The heads' block whole. -/
def qE : Vec Ideal S16x256x128 .bf16 := fun i => (qv M C S Q (i 0) (i 1) (i 2) : EReal)

theorem q_at (i : S16x256x128.Idx) : (View.canon (qHeads M C S Q) i : EReal) = qv M C S Q (i 0) (i 1) (i 2) := by
  rw [qHeads]
  simp only [tab_eq, vec_eq]
  refine View.canon_apply_of_pieces (qE M C S Q) _ ?_ i (cover0_11 _ _ _ _ _ _ _ _ _ _ _ _ _ _ _ _ i)
  intro pc hpc
  rcases List.mem_cons.mp hpc with rfl | hpc
  · exact fun x => q_piece15 M C S Q x
  rcases List.mem_cons.mp hpc with rfl | hpc
  · exact fun x => q_piece14 M C S Q x
  rcases List.mem_cons.mp hpc with rfl | hpc
  · exact fun x => q_piece13 M C S Q x
  rcases List.mem_cons.mp hpc with rfl | hpc
  · exact fun x => q_piece12 M C S Q x
  rcases List.mem_cons.mp hpc with rfl | hpc
  · exact fun x => q_piece11 M C S Q x
  rcases List.mem_cons.mp hpc with rfl | hpc
  · exact fun x => q_piece10 M C S Q x
  rcases List.mem_cons.mp hpc with rfl | hpc
  · exact fun x => q_piece9 M C S Q x
  rcases List.mem_cons.mp hpc with rfl | hpc
  · exact fun x => q_piece8 M C S Q x
  rcases List.mem_cons.mp hpc with rfl | hpc
  · exact fun x => q_piece7 M C S Q x
  rcases List.mem_cons.mp hpc with rfl | hpc
  · exact fun x => q_piece6 M C S Q x
  rcases List.mem_cons.mp hpc with rfl | hpc
  · exact fun x => q_piece5 M C S Q x
  rcases List.mem_cons.mp hpc with rfl | hpc
  · exact fun x => q_piece4 M C S Q x
  rcases List.mem_cons.mp hpc with rfl | hpc
  · exact fun x => q_piece3 M C S Q x
  rcases List.mem_cons.mp hpc with rfl | hpc
  · exact fun x => q_piece2 M C S Q x
  rcases List.mem_cons.mp hpc with rfl | hpc
  · exact fun x => q_piece1 M C S Q x
  rcases List.mem_cons.mp hpc with rfl | hpc
  · exact fun x => q_piece0 M C S Q x
  nomatch hpc

/-- The heads' block whole. -/
def kE : Vec Ideal S256x512 .bf16 := fun i => (kv M C S K (i 0) ⟨(i 1).val / 128, by have : (i 1).val < 512 := (i 1).isLt; omega⟩ ⟨(i 1).val % 128, by omega⟩ : EReal)

theorem k_at (i : S256x512.Idx) : (View.canon (kHeads M C S K) i : EReal) = kv M C S K (i 0) ⟨(i 1).val / 128, by have : (i 1).val < 512 := (i 1).isLt; omega⟩ ⟨(i 1).val % 128, by omega⟩ := by
  rw [kHeads]
  simp only [tab_eq, vec_eq]
  refine View.canon_apply_of_pieces (kE M C S K) _ ?_ i (cover0_12 _ _ _ _ i)
  intro pc hpc
  rcases List.mem_cons.mp hpc with rfl | hpc
  · exact fun x => k_piece3 M C S K x
  rcases List.mem_cons.mp hpc with rfl | hpc
  · exact fun x => k_piece2 M C S K x
  rcases List.mem_cons.mp hpc with rfl | hpc
  · exact fun x => k_piece1 M C S K x
  rcases List.mem_cons.mp hpc with rfl | hpc
  · exact fun x => k_piece0 M C S K x
  nomatch hpc

/-- The heads' block whole. -/
def iqE : Vec Ideal S16x64x256 .bf16 := fun i => (iqv M D L R (i 0) (i 1) (i 2) : EReal)

theorem iq_at (i : S16x64x256.Idx) : (View.canon (iqHeads M D L R) i : EReal) = iqv M D L R (i 0) (i 1) (i 2) := by
  rw [iqHeads]
  simp only [tab_eq, vec_eq]
  refine View.canon_apply_of_pieces (iqE M D L R) _ ?_ i (cover0_14 _ _ _ _ _ _ _ _ _ _ _ _ _ _ _ _ i)
  intro pc hpc
  rcases List.mem_cons.mp hpc with rfl | hpc
  · exact fun x => iq_piece15 M D L R x
  rcases List.mem_cons.mp hpc with rfl | hpc
  · exact fun x => iq_piece14 M D L R x
  rcases List.mem_cons.mp hpc with rfl | hpc
  · exact fun x => iq_piece13 M D L R x
  rcases List.mem_cons.mp hpc with rfl | hpc
  · exact fun x => iq_piece12 M D L R x
  rcases List.mem_cons.mp hpc with rfl | hpc
  · exact fun x => iq_piece11 M D L R x
  rcases List.mem_cons.mp hpc with rfl | hpc
  · exact fun x => iq_piece10 M D L R x
  rcases List.mem_cons.mp hpc with rfl | hpc
  · exact fun x => iq_piece9 M D L R x
  rcases List.mem_cons.mp hpc with rfl | hpc
  · exact fun x => iq_piece8 M D L R x
  rcases List.mem_cons.mp hpc with rfl | hpc
  · exact fun x => iq_piece7 M D L R x
  rcases List.mem_cons.mp hpc with rfl | hpc
  · exact fun x => iq_piece6 M D L R x
  rcases List.mem_cons.mp hpc with rfl | hpc
  · exact fun x => iq_piece5 M D L R x
  rcases List.mem_cons.mp hpc with rfl | hpc
  · exact fun x => iq_piece4 M D L R x
  rcases List.mem_cons.mp hpc with rfl | hpc
  · exact fun x => iq_piece3 M D L R x
  rcases List.mem_cons.mp hpc with rfl | hpc
  · exact fun x => iq_piece2 M D L R x
  rcases List.mem_cons.mp hpc with rfl | hpc
  · exact fun x => iq_piece1 M D L R x
  rcases List.mem_cons.mp hpc with rfl | hpc
  · exact fun x => iq_piece0 M D L R x
  nomatch hpc

end Cert.OddPrep
end
-- ==== Proof.OddPrep.Tables.lean ====
module

public import proofs.«01_k».proof.Proof.OddPrep.Body
public import Idealize.ShloMosaic.Lib.Routing.OpsSet
public import Idealize.ShloMosaic.Lib.Routing.OpsOne
public import Idealize.ShloMosaic.Lib.Pipeline.ValueKit
public import Idealize.ShloMosaic.Lib.Pipeline.ReadBack
public import Idealize.ShloMosaic.Lib.Pointwise

/-! The tables of angles the host prepares. -/

@[expose] public section
set_option maxRecDepth 16384
noncomputable section
namespace Cert.OddPrep
open Idealize.ShloMosaic Idealize.ShloMosaic.TcCoe Idealize.SL.Sem
open Cert.KernelOddPrepIdeal Cert.KernelOddPrepIdeal.Gen
variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![t.val % 32, 0] ∧ win0_3.index t = ![t.val % 32, 0] ∧ win0_4.index t = ![t.val % 32, 0]
    ∧ win0_5.index t = ![t.val % 32, 0] ∧ win0_6.index t = ![t.val % 32, 0]
    ∧ win0_7.index t = ![0, 0] ∧ win0_8.index t = ![0, 0] ∧ win0_9.index t = ![0, 0] ∧ win0_10.index t = ![0, 0]
    ∧ win0_11.index t = ![0, t.val, 0] ∧ win0_12.index t = ![t.val, 0] ∧ win0_13.index t = ![t.val, 0]
    ∧ win0_14.index t = ![0, 0, t.val] ∧ win0_15.index t = ![t.val, 0] ∧ win0_16.index t = ![0, t.val] :=
  (by decide +kernel : ∀ t : Fin grid0.N, _)

theorem lt64 (t : Fin cfg0.N) : t.val < 64 := lt_of_lt_of_eq t.isLt N_0

/-- The projection's rows and the scales. -/
abbrev mX : FVec Ideal SX .f32 := m (c, Proc.tc.devRef main_arg0)
abbrev mQ : FVec Ideal SH .f32 := m (c, Proc.tc.devRef main_arg1)
abbrev mK : FVec Ideal SH .f32 := m (c, Proc.tc.devRef main_arg2)
abbrev mG : FVec Ideal SL .f32 := m (c, Proc.tc.devRef main_arg3)
abbrev mB : FVec Ideal SL .f32 := m (c, Proc.tc.devRef main_arg4)

theorem rows_hit : ∀ k : Fin 64, scatter_S1x128_S2_S64_0_0_01_0.resultIdx? (ix1 k) (fun _ => 0#32)
    = some (ix2 0 ⟨k.val, by omega⟩) := by
  decide +kernel

/-- Running two lists of operations one after the other. -/
theorem after_two {τ' : Topo} {sig' : RefSig} {Val : EltTy → Type} (l k : List (HloOp τ' sig' Val)) (σ : Valuation τ' sig' Val) :
    StableHlo.after (l ++ k) σ = StableHlo.after k (StableHlo.after l σ) := by
  induction l generalizing σ with
  | nil => rfl
  | cons o l ih => exact ih _

/-- The buffers after the angles' cosines and sines. -/
def early (c : Dev nD) : Valuation τ sig (Elt Ideal) :=
  StableHlo.after (hostOps0.take 59) (fun b => m (c, b))

theorem late (b : DevRef τ sig) : StableHlo.after hostOps0 (fun b => m (c, b)) b
    = StableHlo.after (hostOps0.drop 59) (early m c) b := by
  unfold early
  rw [← after_two, List.take_append_drop]

theorem cosE (s : Fin 8192) (i : Fin 16) : ((early m c main_v42 : FVec Ideal S8192x16 .f32) (ix2 s i) : EReal) = Ideal.cos (angle 0x42000000#32 s.val i.val) := by
  have e : (early m c main_v42 : FVec Ideal S8192x16 .f32) = V m c main_v42 := by
    unfold V
    rw [late]
    generalize early m c = s
    simp only [hostOps0, List.drop_succ_cons, List.drop_zero]
    after_results_simp
  rw [e]
  clear e
  entry_read
  pointwise []
  rfl

theorem sinE (s : Fin 8192) (i : Fin 16) : ((early m c main_v43 : FVec Ideal S8192x16 .f32) (ix2 s i) : EReal) = Ideal.sin (angle 0x42000000#32 s.val i.val) := by
  have e : (early m c main_v43 : FVec Ideal S8192x16 .f32) = V m c main_v43 := by
    unfold V
    rw [late]
    generalize early m c = s
    simp only [hostOps0, List.drop_succ_cons, List.drop_zero]
    after_results_simp
  rw [e]
  clear e
  entry_read
  pointwise []
  rfl

theorem zeroE (s : Fin 8192) (i : Fin 16) : ((early m c main_v44 : FVec Ideal S8192x16 .f32) (ix2 s i) : EReal) = (0 : EReal) := by
  have e : (early m c main_v44 : FVec Ideal S8192x16 .f32) = V m c main_v44 := by
    unfold V
    rw [late]
    generalize early m c = s
    simp only [hostOps0, List.drop_succ_cons, List.drop_zero]
    after_results_simp
  rw [e]
  clear e
  entry_read
  pointwise []

theorem zeroE' (s : Fin 8192) (i : Fin 32) : ((early m c main_v45 : FVec Ideal S8192x32 .f32) (ix2 s i) : EReal) = (0 : EReal) := by
  have e : (early m c main_v45 : FVec Ideal S8192x32 .f32) = V m c main_v45 := by
    unfold V
    rw [late]
    generalize early m c = s
    simp only [hostOps0, List.drop_succ_cons, List.drop_zero]
    after_results_simp
  rw [e]
  clear e
  entry_read
  pointwise []

theorem oneE (s : Fin 8192) (i : Fin 32) : ((early m c main_v46 : FVec Ideal S8192x32 .f32) (ix2 s i) : EReal) = (1 : EReal) := by
  have e : (early m c main_v46 : FVec Ideal S8192x32 .f32) = V m c main_v46 := by
    unfold V
    rw [late]
    generalize early m c = s
    simp only [hostOps0, List.drop_succ_cons, List.drop_zero]
    after_results_simp
  rw [e]
  clear e
  entry_read
  pointwise []

/-- A table of sixty-four lanes laid out twice. -/
theorem twice (X : FVec Ideal S8192x64 .f32) (s : Fin 8192) (y : Fin 128) :
    (shapeCast S8192x128 (broadcastInDim S1x8192x2x64 ![0, 1, 2, 3] bcast_S1x8192x1x64_S1x8192x2x64_0_1_2_3
      (shapeCast S1x8192x1x64 X shapeCasts_S8192x64_S1x8192x1x64)) shapeCasts_S1x8192x2x64_S8192x128 (ix2 s y) : EReal)
      = X (ix2 s ⟨y.val % 64, Nat.mod_lt _ (by norm_num)⟩) := by
  pointwise []

/-- Three pieces side by side. -/
theorem three (A B : FVec Ideal S8192x16 .f32) (C : FVec Ideal S8192x32 .f32) (s : Fin 8192) (d : Fin 64) :
    (concatenate S8192x64 1 [⟨S8192x16, A⟩, ⟨S8192x16, B⟩, ⟨S8192x32, C⟩] concatenates_S8192x16_S8192x16_S8192x32_S8192x64_d1
      (ix2 s d) : EReal) = if h : d.val < 16 then A (ix2 s ⟨d.val, h⟩)
        else if h' : d.val < 32 then B (ix2 s ⟨d.val - 16, by omega⟩) else C (ix2 s ⟨d.val - 32, by omega⟩) := by
  pointwise []
  by_cases a : d.val < 16
  · rw [dif_pos a, dif_pos a]
  · rw [dif_neg a, dif_neg a]
    by_cases b : d.val < 32
    · rw [dif_pos (show d.val - 16 < 16 by omega), dif_pos b]
    · rw [dif_neg (show ¬ d.val - 16 < 16 by omega), dif_neg b]
      exact congrArg C (congrArg (ix2 s) (Fin.ext (Nat.sub_sub d.val 16 16)))

theorem tab4 (s : Fin 8192) (y : Fin 128) : ((V m c main_v53 : FVec Ideal S8192x128 .f32) (ix2 s y) : EReal) = (if y.val % 64 < 32 then Ideal.cos (angle 0x42000000#32 s.val (y.val % 64 % 16)) else 1) := by
  have h0 := cosE m c s
  have h1 := sinE m c s
  have h2 := zeroE m c s
  have h3 := zeroE' m c s
  have h4 := oneE m c s
  unfold V
  rw [late]
  generalize early m c = e at *
  simp only [hostOps0, List.drop_succ_cons, List.drop_zero]
  after_results_simp
  refine (twice _ s y).trans ((three _ _ _ s _).trans ?_)
  dsimp only [Matrix.cons_val]
  try after_results_simp
  have hy : y.val % 64 < 64 := Nat.mod_lt _ (by norm_num)
  by_cases a : (y.val % 64) < 16
  · rw [dif_pos a]
    rw [if_pos (show (y.val % 64) < 32 by omega), Nat.mod_eq_of_lt a]
    exact h0 _
  · rw [dif_neg a]
    by_cases b : (y.val % 64) < 32
    · rw [dif_pos b]
      rw [if_pos b, show (y.val % 64) % 16 = (y.val % 64) - 16 by omega]
      exact h0 _
    · rw [dif_neg b]
      rw [if_neg b]
      exact h4 _

theorem tab5 (s : Fin 8192) (y : Fin 128) : ((V m c main_v56 : FVec Ideal S8192x128 .f32) (ix2 s y) : EReal) = (if 16 ≤ y.val % 64 ∧ y.val % 64 < 32 then Ideal.sin (angle 0x42000000#32 s.val (y.val % 64 - 16)) else 0) := by
  have h0 := cosE m c s
  have h1 := sinE m c s
  have h2 := zeroE m c s
  have h3 := zeroE' m c s
  have h4 := oneE m c s
  unfold V
  rw [late]
  generalize early m c = e at *
  simp only [hostOps0, List.drop_succ_cons, List.drop_zero]
  after_results_simp
  refine (twice _ s y).trans ((three _ _ _ s _).trans ?_)
  dsimp only [Matrix.cons_val]
  try after_results_simp
  have hy : y.val % 64 < 64 := Nat.mod_lt _ (by norm_num)
  by_cases a : (y.val % 64) < 16
  · rw [dif_pos a]
    rw [if_neg (show ¬(16 ≤ y.val % 64 ∧ (y.val % 64) < 32) by omega)]
    exact h2 _
  · rw [dif_neg a]
    by_cases b : (y.val % 64) < 32
    · rw [dif_pos b]
      rw [if_pos (show 16 ≤ y.val % 64 ∧ (y.val % 64) < 32 by omega)]
      exact h1 _
    · rw [dif_neg b]
      rw [if_neg (show ¬(16 ≤ y.val % 64 ∧ (y.val % 64) < 32) by omega)]
      exact h3 _

theorem tab6 (s : Fin 8192) (y : Fin 128) : ((V m c main_v59 : FVec Ideal S8192x128 .f32) (ix2 s y) : EReal) = (if y.val % 64 < 16 then -(Ideal.sin (angle 0x42000000#32 s.val (y.val % 64))) else 0) := by
  have h0 := cosE m c s
  have h1 := sinE m c s
  have h2 := zeroE m c s
  have h3 := zeroE' m c s
  have h4 := oneE m c s
  unfold V
  rw [late]
  generalize early m c = e at *
  simp only [hostOps0, List.drop_succ_cons, List.drop_zero]
  after_results_simp
  refine (twice _ s y).trans ((three _ _ _ s _).trans ?_)
  dsimp only [Matrix.cons_val]
  try after_results_simp
  have hy : y.val % 64 < 64 := Nat.mod_lt _ (by norm_num)
  by_cases a : (y.val % 64) < 16
  · rw [dif_pos a]
    rw [if_pos a]
    exact congrArg (fun v : EReal => -v) (h1 _)
  · rw [dif_neg a]
    by_cases b : (y.val % 64) < 32
    · rw [dif_pos b]
      rw [if_neg a]
      exact h2 _
    · rw [dif_neg b]
      rw [if_neg a]
      exact h3 _

end Cert.OddPrep
end
-- ==== Proof.OddPrep.Blocks.lean ====
module

public import proofs.«01_k».proof.Proof.OddPrep.Tables

/-! The blocks the kernel reads. -/

@[expose] public section
set_option maxRecDepth 16384
noncomputable section
namespace Cert.OddPrep
open Idealize.ShloMosaic Idealize.ShloMosaic.TcCoe Idealize.SL.Sem
open Cert.KernelOddPrepIdeal Cert.KernelOddPrepIdeal.Gen
variable (m : (ℓ : Loc nD τ sig) → Buf (Elt Ideal) ℓ) (c : Dev nD)

theorem blk0 (t : Fin cfg0.N) (x : Fin 256) (y : Fin 4096) :
    ((iblk m c 0 t : Vec Ideal S256x4096 .f32) (ix2 x y) : EReal) = row (mX m c) ⟨256 * t.val + x.val, by have := lt64 t; omega⟩ ⟨y.val, by omega⟩ := by
  have := lt64 t
  blk_simp [iblk, idx t]
  entry_read
  have e : ((View.whole main_v4).slice (win0_0.rect t)).emb (ix2 x y) = (ix2 ⟨256 * t.val + x.val, by omega⟩ y : S16384x4096.Idx) := by
    blk_ext
    all_goals blk_point [idx t]
    all_goals omega
  rw [e]
  pointwise []
  rfl

/-- The first eighty lanes of two pieces side by side. -/
theorem first (A : FVec Ideal S16384x80 .f32) (B : FVec Ideal S16384x48 .f32) (n : Fin 16384) (y : Fin 80) :
    (concatenate S16384x128 1 [⟨S16384x80, A⟩, ⟨S16384x48, B⟩] concatenates_S16384x80_S16384x48_S16384x128_d1
      (ix2 n ⟨y.val, by omega⟩) : EReal) = A (ix2 n y) := by
  pointwise []

theorem beyond (X : FVec Ideal S16384x4176 .f32) (n : Fin 16384) (y : Fin 80) :
    (extractStridedSlice S16384x80 ![0, 4096] X slices_S16384x4176_S16384x80_0_4096 (ix2 n y) : EReal)
      = X (ix2 n ⟨4096 + y.val, by omega⟩) := by
  pointwise []

theorem rows (X : FVec Ideal SX .f32) (n : Fin 16384) (y : Fin 4176) :
    (shapeCast S16384x4176 X shapeCasts_S2x8192x4176_S16384x4176 (ix2 n y) : EReal) = row X n y := by
  pointwise []
  rfl

set_option maxHeartbeats 1000000 in
theorem blk1 (t : Fin cfg0.N) (x : Fin 256) (y : Fin 80) :
    ((iblk m c 1 t : Vec Ideal S256x128 .f32) (ix2 x ⟨y.val, by omega⟩) : EReal) = row (mX m c) ⟨256 * t.val + x.val, by have := lt64 t; omega⟩ ⟨4096 + y.val, by omega⟩ := by
  have := lt64 t
  blk_simp [iblk, idx t]
  have e : ((win0_1.blk t).view.emb (ix2 x ⟨y.val, by omega⟩)) = (ix2 ⟨256 * t.val + x.val, by omega⟩ ⟨y.val, by omega⟩ : S16384x128.Idx) := by
    blk_ext
    all_goals blk_point [idx t]
    all_goals omega
  rw [e]
  entry_read
  exact (first _ _ _ y).trans ((beyond _ _ y).trans (rows _ _ _))

theorem blk2 (t : Fin cfg0.N) (x : Fin 256) (y : Fin 128) :
    ((iblk m c 2 t : Vec Ideal S256x128 .f32) (ix2 x y) : EReal) = Ideal.cos (angle 0x43000000#32 (256 * (t.val % 32) + x.val) (y.val % 64)) := by
  have := lt64 t
  blk_simp [iblk, idx t]
  have e : ((win0_2.blk t).view.emb (ix2 x y)) = (ix2 ⟨256 * (t.val % 32) + x.val, by omega⟩ y : S8192x128.Idx) := by
    blk_ext
    all_goals blk_point [idx t]
    all_goals omega
  rw [e]
  entry_read
  pointwise []
  split_ifs with h
  · rw [Nat.mod_eq_of_lt h]
    rfl
  · rw [show y.val % 64 = y.val - 64 by omega]
    rfl

theorem blk3 (t : Fin cfg0.N) (x : Fin 256) (y : Fin 128) :
    ((iblk m c 3 t : Vec Ideal S256x128 .f32) (ix2 x y) : EReal) = (if y.val < 64 then -(Ideal.sin (angle 0x43000000#32 (256 * (t.val % 32) + x.val) y.val)) else Ideal.sin (angle 0x43000000#32 (256 * (t.val % 32) + x.val) (y.val - 64))) := by
  have := lt64 t
  blk_simp [iblk, idx t]
  have e : ((win0_3.blk t).view.emb (ix2 x y)) = (ix2 ⟨256 * (t.val % 32) + x.val, by omega⟩ y : S8192x128.Idx) := by
    blk_ext
    all_goals blk_point [idx t]
    all_goals omega
  rw [e]
  entry_read
  pointwise []
  rfl

theorem blk4 (t : Fin cfg0.N) (x : Fin 256) (y : Fin 128) :
    ((iblk m c 4 t : Vec Ideal S256x128 .f32) (ix2 x y) : EReal) = (if y.val % 64 < 32 then Ideal.cos (angle 0x42000000#32 (256 * (t.val % 32) + x.val) (y.val % 64 % 16)) else 1) := by
  have := lt64 t
  blk_simp [iblk, idx t]
  have e : ((win0_4.blk t).view.emb (ix2 x y)) = (ix2 ⟨256 * (t.val % 32) + x.val, by omega⟩ y : S8192x128.Idx) := by
    blk_ext
    all_goals blk_point [idx t]
    all_goals omega
  rw [e]
  exact tab4 m c _ y

theorem blk5 (t : Fin cfg0.N) (x : Fin 256) (y : Fin 128) :
    ((iblk m c 5 t : Vec Ideal S256x128 .f32) (ix2 x y) : EReal) = (if 16 ≤ y.val % 64 ∧ y.val % 64 < 32 then Ideal.sin (angle 0x42000000#32 (256 * (t.val % 32) + x.val) (y.val % 64 - 16)) else 0) := by
  have := lt64 t
  blk_simp [iblk, idx t]
  have e : ((win0_5.blk t).view.emb (ix2 x y)) = (ix2 ⟨256 * (t.val % 32) + x.val, by omega⟩ y : S8192x128.Idx) := by
    blk_ext
    all_goals blk_point [idx t]
    all_goals omega
  rw [e]
  exact tab5 m c _ y

theorem blk6 (t : Fin cfg0.N) (x : Fin 256) (y : Fin 128) :
    ((iblk m c 6 t : Vec Ideal S256x128 .f32) (ix2 x y) : EReal) = (if y.val % 64 < 16 then -(Ideal.sin (angle 0x42000000#32 (256 * (t.val % 32) + x.val) (y.val % 64))) else 0) := by
  have := lt64 t
  blk_simp [iblk, idx t]
  have e : ((win0_6.blk t).view.emb (ix2 x y)) = (ix2 ⟨256 * (t.val % 32) + x.val, by omega⟩ y : S8192x128.Idx) := by
    blk_ext
    all_goals blk_point [idx t]
    all_goals omega
  rw [e]
  exact tab6 m c _ y

theorem blk7 (t : Fin cfg0.N) (y : Fin 128) :
    ((iblk m c 7 t : Vec Ideal S1x128 .f32) (ix2 0 y) : EReal) = mQ m c (ix1 y) := by
  blk_simp [iblk, idx t]
  entry_read
  have e : ((View.whole main_v60).slice (win0_7.rect t)).emb (ix2 0 y) = (ix2 0 y : S1x128.Idx) := by
    blk_ext
    all_goals blk_point [idx t]
    all_goals omega
  rw [e]
  pointwise []

theorem blk8 (t : Fin cfg0.N) (y : Fin 128) :
    ((iblk m c 8 t : Vec Ideal S1x128 .f32) (ix2 0 y) : EReal) = mK m c (ix1 y) := by
  blk_simp [iblk, idx t]
  entry_read
  have e : ((View.whole main_v61).slice (win0_8.rect t)).emb (ix2 0 y) = (ix2 0 y : S1x128.Idx) := by
    blk_ext
    all_goals blk_point [idx t]
    all_goals omega
  rw [e]
  pointwise []

set_option maxHeartbeats 2000000 in
theorem blk9 (t : Fin cfg0.N) (x : Fin 64) :
    ((iblk m c 9 t : Vec Ideal S1x128 .f32) (ix2 0 ⟨x.val, by omega⟩) : EReal) = mG m c (ix1 x) := by
  have ez : (concatenate S2 0 [⟨S1, broadcastInDim S1 ![] bcast_S_S1 (constantI S_ 32 0#32)⟩,
      ⟨S1, broadcastInDim S1 ![] bcast_S_S1 (constantI S_ 32 0#32)⟩] concatenates_S1_S1_S2_d0) = fun _ => 0#32 := by
    funext j
    idx_vars j
    pointwise []
    split <;> rfl
  have e : ((View.whole main_v66).slice (win0_9.rect t)).emb (ix2 0 ⟨x.val, by omega⟩) = (ix2 0 ⟨x.val, by omega⟩ : S1x128.Idx) := by
    blk_ext
    all_goals blk_point [idx t]
    all_goals omega
  blk_simp [iblk, idx t]
  entry_read
  pointwise []
  rw [e, ez]
  refine Routing.scatter_set_hit _ _ _ _ _ _ (fun k hk => ?_) (ix1 x) (rows_hit x)
  idx_vars k
  rw [rows_hit] at hk
  have hk' := congrArg (fun j : S1x128.Idx => (j 1).val) (Option.some.inj hk)
  have hx : k0 = x := Fin.ext hk'
  subst hx
  pointwise []

set_option maxHeartbeats 2000000 in
theorem blk10 (t : Fin cfg0.N) (x : Fin 64) :
    ((iblk m c 10 t : Vec Ideal S1x128 .f32) (ix2 0 ⟨x.val, by omega⟩) : EReal) = mB m c (ix1 x) := by
  have ez : (concatenate S2 0 [⟨S1, broadcastInDim S1 ![] bcast_S_S1 (constantI S_ 32 0#32)⟩,
      ⟨S1, broadcastInDim S1 ![] bcast_S_S1 (constantI S_ 32 0#32)⟩] concatenates_S1_S1_S2_d0) = fun _ => 0#32 := by
    funext j
    idx_vars j
    pointwise []
    split <;> rfl
  have e : ((View.whole main_v71).slice (win0_10.rect t)).emb (ix2 0 ⟨x.val, by omega⟩) = (ix2 0 ⟨x.val, by omega⟩ : S1x128.Idx) := by
    blk_ext
    all_goals blk_point [idx t]
    all_goals omega
  blk_simp [iblk, idx t]
  entry_read
  pointwise []
  rw [e, ez]
  refine Routing.scatter_set_hit _ _ _ _ _ _ (fun k hk => ?_) (ix1 x) (rows_hit x)
  idx_vars k
  rw [rows_hit] at hk
  have hk' := congrArg (fun j : S1x128.Idx => (j 1).val) (Option.some.inj hk)
  have hx : k0 = x := Fin.ext hk'
  subst hx
  pointwise []

end Cert.OddPrep
end
-- ==== Proof.OddPrep.Turn.lean ====
module

public import proofs.«01_k».proof.Proof.OddPrep.Body

/-! The kernel's way of turning a head is the reference's. -/

@[expose] public section
noncomputable section
namespace Cert.OddPrep
open Idealize.ShloMosaic Idealize.ShloMosaic.TcCoe Idealize.SL.Sem
open Cert.KernelOddPrepIdeal Cert.KernelOddPrepIdeal.Gen

theorem kappa : ∃ r : ℝ, 0 ≤ r ∧ Ideal.ofBits FTy.f32 0x3E0293EE#32 = (r : EReal) := by
  refine ⟨_, ?_, by simp [Ideal.ofBits, Ideal.ieee, -EReal.coe_mul]; rfl⟩
  norm_num

theorem add_mul_kappa (a b : EReal) :
    (a + b) * Ideal.ofBits FTy.f32 0x3E0293EE#32 = a * Ideal.ofBits FTy.f32 0x3E0293EE#32 + b * Ideal.ofBits FTy.f32 0x3E0293EE#32 := by
  obtain ⟨r, h, e⟩ := kappa
  rw [e]
  exact EReal.right_distrib_of_nonneg_of_ne_top (EReal.coe_nonneg.mpr h) (EReal.coe_ne_top r) a b

theorem across_turned (f : Fin 128 → EReal) (s : ℕ) (y : Fin 128) :
    across f (Ideal.cos (angle 0x43000000#32 s (y.val % 64)))
      (if y.val < 64 then -(Ideal.sin (angle 0x43000000#32 s y.val)) else Ideal.sin (angle 0x43000000#32 s (y.val - 64))) y = turned f s y := by
  rw [across, turned]
  by_cases h : y.val < 64
  · rw [if_pos h, dif_pos h, Nat.mod_eq_of_lt h, mul_neg, ← sub_eq_add_neg]
    have e : (⟨(y.val + 128 - 64) % 128, by omega⟩ : Fin 128) = ⟨y.val + 64, by omega⟩ := Fin.ext (by show (y.val + 128 - 64) % 128 = y.val + 64; omega)
    rw [e]
  · rw [if_neg h, dif_neg h, show y.val % 64 = y.val - 64 by omega]
    have e : (⟨(y.val + 128 - 64) % 128, by omega⟩ : Fin 128) = ⟨y.val - 64, by omega⟩ := Fin.ext (by show (y.val + 128 - 64) % 128 = y.val - 64; omega)
    rw [e]

theorem across_kappa (f : Fin 128 → EReal) (c s : EReal) (y : Fin 128) :
    across (fun y => f y * Ideal.ofBits FTy.f32 0x3E0293EE#32) c s y = across f c s y * Ideal.ofBits FTy.f32 0x3E0293EE#32 := by
  rw [across, across, add_mul_kappa]
  generalize Ideal.ofBits FTy.f32 0x3E0293EE#32 = k
  rw [mul_assoc, mul_assoc, mul_comm k c, mul_comm k s, ← mul_assoc, ← mul_assoc]

theorem beside_turned (F : Fin 128 → EReal) (f : Fin 64 → EReal) (c l r : EReal) (s b : ℕ) (d : Fin 64) (y : Fin 128) (hb : b ≤ 64)
    (hy : y.val = b + d.val) (hf : ∀ d : Fin 64, F ⟨b + d.val, by omega⟩ = f d)
    (hc : c = if d.val < 32 then Ideal.cos (angle 0x42000000#32 s (d.val % 16)) else 1)
    (hl : l = if 16 ≤ d.val ∧ d.val < 32 then Ideal.sin (angle 0x42000000#32 s (d.val - 16)) else 0)
    (hr : r = if d.val < 16 then -(Ideal.sin (angle 0x42000000#32 s d.val)) else 0) :
    beside F c l r y = partTurned f s d := by
  have e0 : F y = f d := (congrArg F (Fin.ext hy)).trans (hf d)
  rw [beside, partTurned, e0, hc, hl, hr]
  by_cases h : d.val < 16
  · have e : F ⟨(y.val + 128 - 112) % 128, by omega⟩ = f ⟨d.val + 16, by omega⟩ :=
      (congrArg F (Fin.ext (by show (y.val + 128 - 112) % 128 = b + (d.val + 16); omega))).trans (hf ⟨d.val + 16, by omega⟩)
    rw [dif_pos h, if_pos (show d.val < 32 by omega), if_neg (show ¬(16 ≤ d.val ∧ d.val < 32) by omega), if_pos h, e,
      mul_zero, add_zero, mul_neg, ← sub_eq_add_neg, Nat.mod_eq_of_lt h]
  · rw [dif_neg h]
    by_cases h' : d.val < 32
    · have e : F ⟨(y.val + 128 - 16) % 128, by omega⟩ = f ⟨d.val - 16, by omega⟩ :=
        (congrArg F (Fin.ext (by show (y.val + 128 - 16) % 128 = b + (d.val - 16); omega))).trans (hf ⟨d.val - 16, by omega⟩)
      rw [if_pos h', if_pos (show 16 ≤ d.val ∧ d.val < 32 by omega), if_neg h, if_pos h', e, mul_zero, add_zero,
        show d.val % 16 = d.val - 16 by omega]
    · rw [if_neg h', if_neg (show ¬(16 ≤ d.val ∧ d.val < 32) by omega), if_neg h, if_neg h', mul_zero, mul_zero, add_zero, add_zero, mul_one]

variable (M : Vec Ideal S256x4096 .f32) (W C S D L R : Vec Ideal S256x128 .f32) (Q K G B : Vec Ideal S1x128 .f32)

theorem qv_eq (h : Fin 16) (x : Fin 256) (y : Fin 128) (f g : Fin 128 → EReal) (s s' : ℕ) (hs : s = s')
    (hM : ∀ q : Fin 128, M (ix2 x ⟨h.val * 128 + q.val, by omega⟩) = f q) (hQ : ∀ y : Fin 128, Q (ix2 0 y) = g y)
    (hC : C (ix2 x y) = Ideal.cos (angle 0x43000000#32 s (y.val % 64)))
    (hS : S (ix2 x y) = if y.val < 64 then -(Ideal.sin (angle 0x43000000#32 s y.val)) else Ideal.sin (angle 0x43000000#32 s (y.val - 64))) :
    qv M C S Q h x y = turned (fun d => scaled f (g d) d) s' y * Ideal.ofBits FTy.f32 0x3E0293EE#32 := by
  subst hs
  rw [← across_turned, ← across_kappa]
  have e : (fun y : Fin 128 => scaled (fun q => M (ix2 x ⟨h.val * 128 + q.val, by omega⟩)) (Q (ix2 0 y) * Ideal.ofBits FTy.f32 0x3E0293EE#32) y)
      = fun y => scaled f (g y) y * Ideal.ofBits FTy.f32 0x3E0293EE#32 := by
    funext y
    rw [show (fun q : Fin 128 => (M (ix2 x ⟨h.val * 128 + q.val, by omega⟩) : EReal)) = f from funext hM, hQ y, scaled, scaled]
    exact (mul_assoc _ _ _).symm
  rw [qv, e, hC, hS]

theorem kv_eq (h : Fin 4) (x : Fin 256) (y : Fin 128) (f g : Fin 128 → EReal) (s s' : ℕ) (hs : s = s')
    (hM : ∀ q : Fin 128, M (ix2 x ⟨2048 + (h.val * 128 + q.val), by omega⟩) = f q) (hK : ∀ y : Fin 128, K (ix2 0 y) = g y)
    (hC : C (ix2 x y) = Ideal.cos (angle 0x43000000#32 s (y.val % 64)))
    (hS : S (ix2 x y) = if y.val < 64 then -(Ideal.sin (angle 0x43000000#32 s y.val)) else Ideal.sin (angle 0x43000000#32 s (y.val - 64))) :
    kv M C S K x h y = turned (fun d => scaled f (g d) d) s' y := by
  subst hs
  rw [← across_turned]
  have e : (fun y : Fin 128 => scaled (fun q => M (ix2 x ⟨2048 + (h.val * 128 + q.val), by omega⟩)) (K (ix2 0 y)) y)
      = fun y => scaled f (g y) y := by
    funext y
    rw [show (fun q : Fin 128 => (M (ix2 x ⟨2048 + (h.val * 128 + q.val), by omega⟩) : EReal)) = f from funext hM, hK y]
  rw [kv, e, hC, hS]

/-- The key's block. -/
def ikv (x : Fin 256) (d : Fin 64) : EReal :=
  beside (lane (fun q => W (ix2 x q)) (fun q => G (ix2 0 q)) (fun q => B (ix2 0 q)))
    (D (ix2 x ⟨d.val, by omega⟩)) (L (ix2 x ⟨d.val, by omega⟩)) (R (ix2 x ⟨d.val, by omega⟩)) ⟨d.val, by omega⟩

theorem ikv_eq (x : Fin 256) (d : Fin 64) (f g b : Fin 64 → EReal) (s s' : ℕ) (hs : s = s')
    (hW : ∀ q : Fin 64, W (ix2 x ⟨q.val, by omega⟩) = f q) (hG : ∀ q : Fin 64, G (ix2 0 ⟨q.val, by omega⟩) = g q)
    (hB : ∀ q : Fin 64, B (ix2 0 ⟨q.val, by omega⟩) = b q)
    (hc : D (ix2 x ⟨d.val, by omega⟩) = if d.val < 32 then Ideal.cos (angle 0x42000000#32 s (d.val % 16)) else 1)
    (hl : L (ix2 x ⟨d.val, by omega⟩) = if 16 ≤ d.val ∧ d.val < 32 then Ideal.sin (angle 0x42000000#32 s (d.val - 16)) else 0)
    (hr : R (ix2 x ⟨d.val, by omega⟩) = if d.val < 16 then -(Ideal.sin (angle 0x42000000#32 s d.val)) else 0) :
    ikv W D L R G B x d = partTurned (fun d => centred f (g d) (b d) d) s' d := by
  subst hs
  rw [ikv]
  refine beside_turned _ _ _ _ _ s 0 d _ (by norm_num) (Nat.zero_add _).symm (fun d => ?_) hc hl hr
  have e : (⟨0 + d.val, by omega⟩ : Fin 128) = ⟨d.val, by omega⟩ := Fin.ext (Nat.zero_add _)
  rw [e]
  refine (lane_eq _ _ _ ⟨d.val, by omega⟩ d.isLt).trans ?_
  show centred (fun q : Fin 64 => (W (ix2 x ⟨q.val, by omega⟩) : EReal)) (G (ix2 0 ⟨d.val, by omega⟩)) (B (ix2 0 ⟨d.val, by omega⟩)) d = _
  rw [hG d, hB d, show (fun q : Fin 64 => (W (ix2 x ⟨q.val, by omega⟩) : EReal)) = f from funext hW]

theorem iqv_eq (h : Fin 16) (d : Fin 64) (x : Fin 256) (f : Fin 64 → EReal) (s s' : ℕ) (hs : s = s')
    (hM : ∀ q : Fin 64, M (ix2 x ⟨3072 + (h.val / 2 * 128 + (h.val % 2 * 64 + q.val)), by omega⟩) = f q)
    (hc : D (ix2 x ⟨h.val % 2 * 64 + d.val, by omega⟩) = if d.val < 32 then Ideal.cos (angle 0x42000000#32 s (d.val % 16)) else 1)
    (hl : L (ix2 x ⟨h.val % 2 * 64 + d.val, by omega⟩) = if 16 ≤ d.val ∧ d.val < 32 then Ideal.sin (angle 0x42000000#32 s (d.val - 16)) else 0)
    (hr : R (ix2 x ⟨h.val % 2 * 64 + d.val, by omega⟩) = if d.val < 16 then -(Ideal.sin (angle 0x42000000#32 s d.val)) else 0) :
    iqv M D L R h d x = partTurned f s' d := by
  subst hs
  rw [iqv]
  exact beside_turned _ _ _ _ _ s (h.val % 2 * 64) d _ (by omega) rfl (fun d => hM d) hc hl hr

theorem out13_at (i : S256x512.Idx) : (out0_13 (F := Ideal) M W C S D L R Q K G B i : EReal)
    = M (ix2 (i 0) ⟨2560 + (i 1).val, by have : (i 1).val < 512 := (i 1).isLt; omega⟩) := by
  have e : out0_13 (F := Ideal) M W C S D L R Q K G B = View.canon [⟨r0_43, k0_pay43 (View.ld M r0_42)⟩] := by
    unfold_out out0_13
    rfl
  rw [e]
  refine (Value.canon13_eq _ i).trans ?_
  refine congrArg M (funext fun a => Fin.ext ?_)
  fin_cases a
  · show 0 + 1 * (i 0).val = (i 0).val
    omega
  · show 2560 + 1 * (i 1).val = 2560 + (i 1).val
    omega

theorem out16_at (i : S16x256.Idx) : (out0_16 (F := Ideal) M W C S D L R Q K G B i : EReal)
    = W (ix2 (i 1) ⟨64 + (i 0).val, by have : (i 0).val < 16 := (i 0).isLt; omega⟩) * Ideal.ofBits FTy.f32 0x3D000000#32 := by
  have e : out0_16 (F := Ideal) M W C S D L R Q K G B = View.canon [⟨r0_69, k0_pay76 (k0_pay72 (View.ld W r0_0))⟩] := by
    unfold_out out0_16
    rfl
  rw [e]
  refine (Value.canon16_eq _ i).trans ?_
  refine congrArg (fun v : EReal => v * Ideal.ofBits FTy.f32 0x3D000000#32) ?_
  rw [tab_eq]
  refine congrArg W (funext fun a => Fin.ext ?_)
  fin_cases a
  · rfl
  · exact Nat.add_comm _ _

def ikE : Vec Ideal S256x64 .bf16 := fun i => (ikv W D L R G B (i 0) (i 1) : EReal)

theorem ik_piece (j : S256x64.Idx) :
    (k0_pay75 (k0_pay3 D) (k0_pay4 L) (k0_pay5 R) (k0_pay73 W) (k0_pay74 W) G B j : EReal)
      = ikv W D L R G B ((r0_68.idx j) 0) ((r0_68.idx j) 1) := by
  idx_vars j
  refine (ik_tile (C := D) (S := L) (T := R) (X := W) (G := G) (B := B) j0 j1).trans ?_
  have e0 : (r0_68.idx (ix2 j0 j1)) 0 = j0 := Fin.ext (by show 0 + 1 * j0.val = j0.val; omega)
  have e1 : (r0_68.idx (ix2 j0 j1)) 1 = j1 := Fin.ext (by show 0 + 1 * j1.val = j1.val; omega)
  rw [e0, e1]
  rfl

theorem out15_at (i : S256x64.Idx) : (out0_15 (F := Ideal) M W C S D L R Q K G B i : EReal) = ikv W D L R G B (i 0) (i 1) := by
  have e : out0_15 (F := Ideal) M W C S D L R Q K G B = View.canon [⟨r0_68, k0_pay75 (k0_pay3 (View.ld D r0_0)) (k0_pay4 (View.ld L r0_0))
      (k0_pay5 (View.ld R r0_0)) (k0_pay73 (View.ld W r0_0)) (k0_pay74 (View.ld W r0_0)) (View.ld G r0_1) (View.ld B r0_1)⟩] := by
    unfold_out out0_15
    rfl
  rw [e]
  simp only [tab_eq, vec_eq]
  refine View.canon_apply_of_pieces (ikE W D L R G B) _ ?_ i (cover0_15 _ i)
  intro pc hpc
  rcases List.mem_cons.mp hpc with rfl | hpc
  · exact fun x => ik_piece W D L R G B x
  nomatch hpc

end Cert.OddPrep
end
-- ==== Proof.OddPrep.Ker.lean ====
module

public import proofs.«01_k».proof.Proof.OddPrep.Blocks
public import proofs.«01_k».proof.Proof.OddPrep.Turn

/-! The kernel's run. -/

@[expose] public section
set_option maxRecDepth 16384
noncomputable section
namespace Cert.OddPrep
open Idealize.ShloMosaic Idealize.ShloMosaic.TcCoe Idealize.SL.Sem
open Cert.KernelOddPrepIdeal Cert.KernelOddPrepIdeal.Gen
variable (m : (ℓ : Loc nD τ sig) → Buf (Elt Ideal) ℓ) (c : Dev nD)

theorem same3 {α β γ δ : Type} (f : α → β → γ → δ) {a a' : α} {b b' : β} {d d' : γ} (ha : a = a') (hb : b = b') (hd : d = d') :
    f a b d = f a' b' d' := by
  rw [ha, hb, hd]

theorem pos_eq (t : Fin cfg0.N) (x : Fin 256) : 256 * (t.val % 32) + x.val = (256 * t.val + x.val) % 8192 := by omega

/-- The row a block's row is. -/
abbrev rowOf (t : Fin cfg0.N) (x : Fin 256) : Fin 16384 := ⟨256 * t.val + x.val, by have := lt64 t; omega⟩

theorem q_val (t : Fin cfg0.N) (h : Fin 16) (x : Fin 256) (y : Fin 128) :
    qv (iblk m c 0 t) (iblk m c 2 t) (iblk m c 3 t) (iblk m c 7 t) h x y = qAt (mX m c) (mQ m c) h (rowOf t x) y :=
  qv_eq _ _ _ _ h x y (fun q => row (mX m c) (rowOf t x) ⟨h.val * 128 + q.val, by omega⟩) (fun d => mQ m c (ix1 d)) _ _ (pos_eq t x)
    (fun _ => blk0 m c t x _) (fun y => blk7 m c t y) (blk2 m c t x y) (blk3 m c t x y)

theorem k_val (t : Fin cfg0.N) (h : Fin 4) (x : Fin 256) (y : Fin 128) :
    kv (iblk m c 0 t) (iblk m c 2 t) (iblk m c 3 t) (iblk m c 8 t) x h y = kAt (mX m c) (mK m c) (rowOf t x) h y :=
  kv_eq _ _ _ _ h x y (fun q => row (mX m c) (rowOf t x) ⟨2048 + (h.val * 128 + q.val), by omega⟩) (fun d => mK m c (ix1 d)) _ _ (pos_eq t x)
    (fun _ => blk0 m c t x _) (fun y => blk8 m c t y) (blk2 m c t x y) (blk3 m c t x y)

theorem lane_mod (b : ℕ) (d : Fin 64) : (b % 2 * 64 + d.val) % 64 = d.val := by omega

theorem iq_val (t : Fin cfg0.N) (h : Fin 16) (d : Fin 64) (x : Fin 256) :
    iqv (iblk m c 0 t) (iblk m c 4 t) (iblk m c 5 t) (iblk m c 6 t) h d x = iqAt (mX m c) h d (rowOf t x) := by
  have h4 := blk4 m c t x ⟨h.val % 2 * 64 + d.val, by omega⟩
  have h5 := blk5 m c t x ⟨h.val % 2 * 64 + d.val, by omega⟩
  have h6 := blk6 m c t x ⟨h.val % 2 * 64 + d.val, by omega⟩
  simp only [lane_mod] at h4 h5 h6
  refine iqv_eq _ _ _ _ h d x (fun d => row (mX m c) (rowOf t x) ⟨3072 + (h.val * 64 + d.val), by omega⟩) _ _ (pos_eq t x)
    (fun q => (blk0 m c t x _).trans ?_) h4 h5 h6
  exact congrArg (row (mX m c) (rowOf t x)) (Fin.ext (by
    show 3072 + (h.val / 2 * 128 + (h.val % 2 * 64 + q.val)) = 3072 + (h.val * 64 + q.val)
    omega))

theorem ik_val (t : Fin cfg0.N) (x : Fin 256) (d : Fin 64) :
    ikv (iblk m c 1 t) (iblk m c 4 t) (iblk m c 5 t) (iblk m c 6 t) (iblk m c 9 t) (iblk m c 10 t) x d
      = ikAt (mX m c) (mG m c) (mB m c) (rowOf t x) d := by
  have h4 := blk4 m c t x ⟨d.val, by omega⟩
  have h5 := blk5 m c t x ⟨d.val, by omega⟩
  have h6 := blk6 m c t x ⟨d.val, by omega⟩
  simp only [Nat.mod_eq_of_lt d.isLt] at h4 h5 h6
  exact ikv_eq _ _ _ _ _ _ x d (fun q => row (mX m c) (rowOf t x) ⟨4096 + q.val, by omega⟩) (fun d => mG m c (ix1 d)) (fun d => mB m c (ix1 d)) _ _
    (pos_eq t x) (fun q => blk1 m c t x ⟨q.val, by omega⟩) (fun q => blk9 m c t q) (fun q => blk10 m c t q) h4 h5 h6

theorem arr11 : ((dats m 0 c).arrAt 11 cfg0.N : FVec Ideal SQ .bf16) = qV (mX m c) (mQ m c) := by
  refine (dats m 0 c).arrAt_eq_of_covers 11 (qV (mX m c) (mQ m c)) (by decide +kernel) (fun t hf y => ?_)
  have ht := lt64 t
  have hi := (idx t).2.2.2.2.2.2.2.2.2.2.2.1
  have h0 : (((cfg0.win 11).blk t).view.emb y 0).val = (y 0).val := by
    have e : (((cfg0.win 11).blk t).view.emb y 0).val = win0_11.index t (0 : Fin 3) * 16 + 1 * (y 0).val := rfl
    rw [e, hi]
    show 0 * 16 + 1 * _ = _
    omega
  have h1 : (((cfg0.win 11).blk t).view.emb y 1).val = 256 * t.val + (y 1).val := by
    have e : (((cfg0.win 11).blk t).view.emb y 1).val = win0_11.index t (1 : Fin 3) * 256 + 1 * (y 1).val := rfl
    rw [e, hi]
    show t.val * 256 + 1 * _ = _
    ring
  have h2 : (((cfg0.win 11).blk t).view.emb y 2).val = (y 2).val := by
    have e : (((cfg0.win 11).blk t).view.emb y 2).val = win0_11.index t (2 : Fin 3) * 128 + 1 * (y 2).val := rfl
    rw [e, hi]
    show 0 * 128 + 1 * _ = _
    omega
  have hy0 : (y 0).val < 16 := (y 0).isLt
  have hy1 : (y 1).val < 256 := (y 1).isLt
  have hy2 : (y 2).val < 128 := (y 2).isLt
  refine (congrFun (Value.flushed11 m c t) y).trans ?_
  have ey : ((cfg0.win 11).xinj (grid0.coords t) y) = (ix3 ⟨(y 0).val, hy0⟩ ⟨(y 1).val, hy1⟩ ⟨(y 2).val, hy2⟩ : S16x256x128.Idx) := by
    funext i
    fin_cases i <;> rfl
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 11).xinj (grid0.coords t) y) = _
  rw [ey]
  rw [q_heads]
  refine (q_at _ _ _ _ _).trans ((q_val m c t _ _ _).trans ?_)
  exact same3 (qAt (mX m c) (mQ m c)) (Fin.ext h0.symm) (Fin.ext h1.symm) (Fin.ext h2.symm)

theorem arr12 : ((dats m 0 c).arrAt 12 cfg0.N : FVec Ideal SK .bf16) = kV (mX m c) (mK m c) := by
  refine (dats m 0 c).arrAt_eq_of_covers 12 (kV (mX m c) (mK m c)) (by decide +kernel) (fun t hf y => ?_)
  have ht := lt64 t
  have hi := (idx t).2.2.2.2.2.2.2.2.2.2.2.2.1
  have h0 : (((cfg0.win 12).blk t).view.emb y 0).val = 256 * t.val + (y 0).val := by
    have e : (((cfg0.win 12).blk t).view.emb y 0).val = win0_12.index t (0 : Fin 2) * 256 + 1 * (y 0).val := rfl
    rw [e, hi]
    show t.val * 256 + 1 * _ = _
    ring
  have h1 : (((cfg0.win 12).blk t).view.emb y 1).val = (y 1).val := by
    have e : (((cfg0.win 12).blk t).view.emb y 1).val = win0_12.index t (1 : Fin 2) * 512 + 1 * (y 1).val := rfl
    rw [e, hi]
    show 0 * 512 + 1 * _ = _
    omega
  have hy0 : (y 0).val < 256 := (y 0).isLt
  have hy1 : (y 1).val < 512 := (y 1).isLt
  refine (congrFun (Value.flushed12 m c t) y).trans ?_
  have ey : ((cfg0.win 12).xinj (grid0.coords t) y) = (ix2 ⟨(y 0).val, hy0⟩ ⟨(y 1).val, hy1⟩ : S256x512.Idx) := by
    funext i
    fin_cases i <;> rfl
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 12).xinj (grid0.coords t) y) = _
  rw [ey]
  rw [k_heads]
  refine (k_at _ _ _ _ _).trans ((k_val m c t _ _ _).trans ?_)
  refine same3 (kAt (mX m c) (mK m c)) (Fin.ext h0.symm) (Fin.ext ?_) (Fin.ext ?_)
  · exact congrArg (fun v => v / 128) h1.symm
  · exact congrArg (fun v => v % 128) h1.symm

theorem arr13 : ((dats m 0 c).arrAt 13 cfg0.N : FVec Ideal SK .bf16) = vV (mX m c) := by
  refine (dats m 0 c).arrAt_eq_of_covers 13 (vV (mX m c)) (by decide +kernel) (fun t hf y => ?_)
  have ht := lt64 t
  have hi := (idx t).2.2.2.2.2.2.2.2.2.2.2.2.2.1
  have h0 : (((cfg0.win 13).blk t).view.emb y 0).val = 256 * t.val + (y 0).val := by
    have e : (((cfg0.win 13).blk t).view.emb y 0).val = win0_13.index t (0 : Fin 2) * 256 + 1 * (y 0).val := rfl
    rw [e, hi]
    show t.val * 256 + 1 * _ = _
    ring
  have h1 : (((cfg0.win 13).blk t).view.emb y 1).val = (y 1).val := by
    have e : (((cfg0.win 13).blk t).view.emb y 1).val = win0_13.index t (1 : Fin 2) * 512 + 1 * (y 1).val := rfl
    rw [e, hi]
    show 0 * 512 + 1 * _ = _
    omega
  have hy0 : (y 0).val < 256 := (y 0).isLt
  have hy1 : (y 1).val < 512 := (y 1).isLt
  refine (congrFun (Value.flushed13 m c t) y).trans ?_
  have ey : ((cfg0.win 13).xinj (grid0.coords t) y) = (ix2 ⟨(y 0).val, hy0⟩ ⟨(y 1).val, hy1⟩ : S256x512.Idx) := by
    funext i
    fin_cases i <;> rfl
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 13).xinj (grid0.coords t) y) = _
  rw [ey]
  refine (out13_at _ _ _ _ _ _ _ _ _ _ _ _).trans ((blk0 m c t _ _).trans ?_)
  exact congrArg₂ (row (mX m c)) (Fin.ext h0.symm) (Fin.ext (congrArg (fun v => 2560 + v) h1.symm))

theorem arr14 : ((dats m 0 c).arrAt 14 cfg0.N : FVec Ideal SI .bf16) = iqV (mX m c) := by
  refine (dats m 0 c).arrAt_eq_of_covers 14 (iqV (mX m c)) (by decide +kernel) (fun t hf y => ?_)
  have ht := lt64 t
  have hi := (idx t).2.2.2.2.2.2.2.2.2.2.2.2.2.2.1
  have h0 : (((cfg0.win 14).blk t).view.emb y 0).val = (y 0).val := by
    have e : (((cfg0.win 14).blk t).view.emb y 0).val = win0_14.index t (0 : Fin 3) * 16 + 1 * (y 0).val := rfl
    rw [e, hi]
    show 0 * 16 + 1 * _ = _
    omega
  have h1 : (((cfg0.win 14).blk t).view.emb y 1).val = (y 1).val := by
    have e : (((cfg0.win 14).blk t).view.emb y 1).val = win0_14.index t (1 : Fin 3) * 64 + 1 * (y 1).val := rfl
    rw [e, hi]
    show 0 * 64 + 1 * _ = _
    omega
  have h2 : (((cfg0.win 14).blk t).view.emb y 2).val = 256 * t.val + (y 2).val := by
    have e : (((cfg0.win 14).blk t).view.emb y 2).val = win0_14.index t (2 : Fin 3) * 256 + 1 * (y 2).val := rfl
    rw [e, hi]
    show t.val * 256 + 1 * _ = _
    ring
  have hy0 : (y 0).val < 16 := (y 0).isLt
  have hy1 : (y 1).val < 64 := (y 1).isLt
  have hy2 : (y 2).val < 256 := (y 2).isLt
  refine (congrFun (Value.flushed14 m c t) y).trans ?_
  have ey : ((cfg0.win 14).xinj (grid0.coords t) y) = (ix3 ⟨(y 0).val, hy0⟩ ⟨(y 1).val, hy1⟩ ⟨(y 2).val, hy2⟩ : S16x64x256.Idx) := by
    funext i
    fin_cases i <;> rfl
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 14).xinj (grid0.coords t) y) = _
  rw [ey]
  rw [iq_heads]
  refine (iq_at _ _ _ _ _).trans ((iq_val m c t _ _ _).trans ?_)
  exact same3 (iqAt (mX m c)) (Fin.ext h0.symm) (Fin.ext h1.symm) (Fin.ext h2.symm)

theorem arr15 : ((dats m 0 c).arrAt 15 cfg0.N : FVec Ideal SJ .bf16) = ikV (mX m c) (mG m c) (mB m c) := by
  refine (dats m 0 c).arrAt_eq_of_covers 15 (ikV (mX m c) (mG m c) (mB m c)) (by decide +kernel) (fun t hf y => ?_)
  have ht := lt64 t
  have hi := (idx t).2.2.2.2.2.2.2.2.2.2.2.2.2.2.2.1
  have h0 : (((cfg0.win 15).blk t).view.emb y 0).val = 256 * t.val + (y 0).val := by
    have e : (((cfg0.win 15).blk t).view.emb y 0).val = win0_15.index t (0 : Fin 2) * 256 + 1 * (y 0).val := rfl
    rw [e, hi]
    show t.val * 256 + 1 * _ = _
    ring
  have h1 : (((cfg0.win 15).blk t).view.emb y 1).val = (y 1).val := by
    have e : (((cfg0.win 15).blk t).view.emb y 1).val = win0_15.index t (1 : Fin 2) * 64 + 1 * (y 1).val := rfl
    rw [e, hi]
    show 0 * 64 + 1 * _ = _
    omega
  have hy0 : (y 0).val < 256 := (y 0).isLt
  have hy1 : (y 1).val < 64 := (y 1).isLt
  refine (congrFun (Value.flushed15 m c t) y).trans ?_
  have ey : ((cfg0.win 15).xinj (grid0.coords t) y) = (ix2 ⟨(y 0).val, hy0⟩ ⟨(y 1).val, hy1⟩ : S256x64.Idx) := by
    funext i
    fin_cases i <;> rfl
  show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 15).xinj (grid0.coords t) y) = _
  rw [ey]
  refine (out15_at _ _ _ _ _ _ _ _ _ _ _ _).trans ((ik_val m c t _ _).trans ?_)
  exact congrArg₂ (ikAt (mX m c) (mG m c) (mB m c)) (Fin.ext h0.symm) (Fin.ext h1.symm)

theorem arr16 : ((dats m 0 c).arrAt 16 cfg0.N : FVec Ideal SW .f32) = iwV (mX m c) := by
  refine (dats m 0 c).arrAt_eq_of_covers 16 (iwV (mX m c)) (by decide +kernel) (fun t hf y => ?_)
  have ht := lt64 t
  have hi := (idx t).2.2.2.2.2.2.2.2.2.2.2.2.2.2.2.2
  have h0 : (((cfg0.win 16).blk t).view.emb y 0).val = (y 0).val := by
    have e : (((cfg0.win 16).blk t).view.emb y 0).val = win0_16.index t (0 : Fin 2) * 16 + 1 * (y 0).val := rfl
    rw [e, hi]
    show 0 * 16 + 1 * _ = _
    omega
  have h1 : (((cfg0.win 16).blk t).view.emb y 1).val = 256 * t.val + (y 1).val := by
    have e : (((cfg0.win 16).blk t).view.emb y 1).val = win0_16.index t (1 : Fin 2) * 256 + 1 * (y 1).val := rfl
    rw [e, hi]
    show t.val * 256 + 1 * _ = _
    ring
  have hy0 : (y 0).val < 16 := (y 0).isLt
  have hy1 : (y 1).val < 256 := (y 1).isLt
  refine (congrFun (Value.flushed16 m c t) y).trans ?_
  have ey : ((cfg0.win 16).xinj (grid0.coords t) y) = (ix2 ⟨(y 0).val, hy0⟩ ⟨(y 1).val, hy1⟩ : S16x256.Idx) := by
    funext i
    fin_cases i <;> rfl
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 16).xinj (grid0.coords t) y) = _
  rw [ey]
  refine (out16_at _ _ _ _ _ _ _ _ _ _ _ _).trans (congrArg (fun v : EReal => v * Ideal.ofBits FTy.f32 0x3D000000#32) ?_)
  refine (blk1 m c t _ ⟨64 + (y 0).val, by omega⟩).trans ?_
  exact congrArg₂ (row (mX m c)) (Fin.ext h1.symm) (Fin.ext (by
    show 4096 + (64 + (y 0).val) = 4160 + (((cfg0.win 16).blk t).view.emb y 0).val
    omega))

theorem run_spec (ρ : Dev nD → PrngReg) :
    θ_run defs (onTc (τ := τ) (main (F := Ideal))) ⟨m, fun _ => 0, ρ⟩ fun r => ∀ c : Dev nD,
      (r.2.mem ((c : Thread nD τ).loc main_v72_0) : FVec Ideal SQ .bf16) = qV (mX m c) (mQ m c)
      ∧ (r.2.mem ((c : Thread nD τ).loc main_v72_1) : FVec Ideal SK .bf16) = kV (mX m c) (mK m c)
      ∧ (r.2.mem ((c : Thread nD τ).loc main_v72_2) : FVec Ideal SK .bf16) = vV (mX m c)
      ∧ (r.2.mem ((c : Thread nD τ).loc main_v72_3) : FVec Ideal SI .bf16) = iqV (mX m c)
      ∧ (r.2.mem ((c : Thread nD τ).loc main_v72_4) : FVec Ideal SJ .bf16) = ikV (mX m c) (mG m c) (mB m c)
      ∧ (r.2.mem ((c : Thread nD τ).loc main_v72_5) : FVec Ideal SW .f32) = iwV (mX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arr11 m c), (h c).2.1.trans (arr12 m c), (h c).2.2.1.trans (arr13 m c),
    (h c).2.2.2.1.trans (arr14 m c), (h c).2.2.2.2.1.trans (arr15 m c), (h c).2.2.2.2.2.1.trans (arr16 m c), (h c).2.2.2.2.2.2⟩)
    (Value.run_blocks m ρ)
end Cert.OddPrep
end
-- ==== Proof.OddPrep.Ref.lean ====
module

public import proofs.«01_k».proof.Proof.OddPrep.Spec
public import proofs.«01_k».proof.Proof.Gen.ReferenceOddPrepIdeal.Run
public import Idealize.ShloMosaic.Lib.IdealHost

/-! The reference's prepared heads are the specification. -/

@[expose] public section
set_option maxRecDepth 16384
noncomputable section
namespace Cert.ReferenceOddPrepIdeal.OddPrep
open Idealize.ShloMosaic Idealize.ShloMosaic.TcCoe Idealize.SL.Sem Idealize.ShloMosaic.StableHlo
open Cert.ReferenceOddPrepIdeal Cert.ReferenceOddPrepIdeal.Gen Cert.OddPrep Cert.ReferenceOddPrepIdeal.Value
variable (m : (ℓ : Loc nD τ sig) → Buf (Elt Ideal) ℓ) (c : Dev nD)

abbrev rX : FVec Ideal SX .f32 := m (c, Proc.tc.devRef main_arg0)
abbrev rQ : FVec Ideal SH .f32 := m (c, Proc.tc.devRef main_arg1)
abbrev rK : FVec Ideal SH .f32 := m (c, Proc.tc.devRef main_arg2)
abbrev rG : FVec Ideal SL .f32 := m (c, Proc.tc.devRef main_arg3)
abbrev rB : FVec Ideal SL .f32 := m (c, Proc.tc.devRef main_arg4)

theorem v36_at (s : Fin 8192) (i : Fin 64) : (res_main_v36 (F := Ideal) (launchContents m c) (ix2 s i) : EReal) = angle 0x43000000#32 s.val i.val := by
  rw [res_main_v36, res_main_v0]
  pointwise []
  rfl

theorem v87_at (s : Fin 8192) (i : Fin 64) : (res_main_v87 (F := Ideal) (launchContents m c) (ix2 s i) : EReal) = angle 0x43000000#32 s.val i.val := by
  rw [res_main_v87, res_main_v0]
  pointwise []
  rfl

theorem v127_at (s : Fin 8192) (i : Fin 16) : (res_main_v127 (F := Ideal) (launchContents m c) (ix2 s i) : EReal) = angle 0x42000000#32 s.val i.val := by
  rw [res_main_v127, res_main_v0]
  pointwise []
  rfl

theorem v192_at (s : Fin 8192) (i : Fin 16) : (res_main_v192 (F := Ideal) (launchContents m c) (ix2 s i) : EReal) = angle 0x42000000#32 s.val i.val := by
  rw [res_main_v192, res_main_v0]
  pointwise []
  rfl

theorem v20_at (b : Fin 2) (s : Fin 8192) (h : Fin 16) (d : Fin 128) :
    (res_main_v20 (F := Ideal) (launchContents m c) (ix4 b s h d) : EReal)
      = scaled (fun q => rX m c (ix3 b s ⟨h.val * 128 + q.val, by omega⟩)) (rQ m c (ix1 d)) d := by
  rw [res_main_v20, res_main_v7]
  pointwise []
  rfl

theorem v71_at (b : Fin 2) (s : Fin 8192) (h : Fin 4) (d : Fin 128) :
    (res_main_v71 (F := Ideal) (launchContents m c) (ix4 b s h d) : EReal)
      = scaled (fun q => rX m c (ix3 b s ⟨2048 + (h.val * 128 + q.val), by omega⟩)) (rK m c (ix1 d)) d := by
  rw [res_main_v71, res_main_v58]
  pointwise []
  rfl

theorem v175_at (b : Fin 2) (s : Fin 8192) (d : Fin 64) :
    (res_main_v175 (F := Ideal) (launchContents m c) (ix4 b s 0 d) : EReal)
      = centred (fun q => rX m c (ix3 b s ⟨4096 + q.val, by omega⟩)) (rG m c (ix1 d)) (rB m c (ix1 d)) d := by
  rw [res_main_v175, res_main_v156, res_main_v154, res_main_v5]
  pointwise []
  rfl

/-- A head whose halves are turned, as two pieces joined. -/
theorem turned_of (f : Fin 128 → EReal) (s : ℕ) (d : Fin 128) :
    (if h : d.val < 64 then f ⟨d.val, d.isLt⟩ * Ideal.cos (angle 0x43000000#32 s d.val) - f ⟨64 + d.val, by omega⟩ * Ideal.sin (angle 0x43000000#32 s d.val)
      else f ⟨64 + (d.val - 64), by omega⟩ * Ideal.cos (angle 0x43000000#32 s (d.val - 64)) + f ⟨d.val - 64, by omega⟩ * Ideal.sin (angle 0x43000000#32 s (d.val - 64)))
      = turned f s d := by
  rw [turned]
  by_cases h : d.val < 64
  · rw [dif_pos h, dif_pos h]
    simp only [Nat.add_comm 64]
  · rw [dif_neg h, dif_neg h]
    have e : 64 + (d.val - 64) = d.val := by omega
    simp only [e]

/-- A head whose first half is turned, as three pieces joined. -/
theorem partTurned_of (f : Fin 64 → EReal) (s : ℕ) (d : Fin 64) :
    (if h : d.val < 32 then
      if h1 : d.val < 16 then f ⟨d.val, d.isLt⟩ * Ideal.cos (angle 0x42000000#32 s d.val) - f ⟨16 + d.val, by omega⟩ * Ideal.sin (angle 0x42000000#32 s d.val)
      else f ⟨16 + (d.val - 16), by omega⟩ * Ideal.cos (angle 0x42000000#32 s (d.val - 16)) + f ⟨d.val - 16, by omega⟩ * Ideal.sin (angle 0x42000000#32 s (d.val - 16))
      else f ⟨32 + (d.val - 32), by omega⟩)
      = partTurned f s d := by
  rw [partTurned]
  by_cases h : d.val < 16
  · rw [dif_pos (by omega), dif_pos h, dif_pos h]
    simp only [Nat.add_comm 16]
  · rw [dif_neg h]
    by_cases h2 : d.val < 32
    · rw [dif_pos h2, dif_neg h, if_pos h2]
      have e : 16 + (d.val - 16) = d.val := by omega
      simp only [e]
    · rw [dif_neg h2, if_neg h2]
      have e : 32 + (d.val - 32) = d.val := by omega
      simp only [e]

theorem result_q : ((truncf .bf16 (transpose S16x16384x128 [1, 0, 2] (shapeCast _ (mulf (concatenate S2x8192x16x128 3 [⟨S2x8192x16x64, (subf (mulf (res_main_v41 (launchContents m c)) (broadcastInDim S2x8192x16x64 ![0, 1, 2, 3] bcast_S1x8192x1x64_S2x8192x16x64_0_1_2_3 (broadcastInDim S1x8192x1x64 ![1, 2, 3] bcast_S8192x1x64_S1x8192x1x64_1_2_3 (res_main_v38 (launchContents m c))))) (mulf (res_main_v42 (launchContents m c)) (broadcastInDim S2x8192x16x64 ![0, 1, 2, 3] bcast_S1x8192x1x64_S2x8192x16x64_0_1_2_3 (broadcastInDim S1x8192x1x64 ![1, 2, 3] bcast_S8192x1x64_S1x8192x1x64_1_2_3 (res_main_v40 (launchContents m c))))))⟩, ⟨S2x8192x16x64, (addf (mulf (res_main_v42 (launchContents m c)) (broadcastInDim S2x8192x16x64 ![0, 1, 2, 3] bcast_S1x8192x1x64_S2x8192x16x64_0_1_2_3 (broadcastInDim S1x8192x1x64 ![1, 2, 3] bcast_S8192x1x64_S1x8192x1x64_1_2_3 (res_main_v38 (launchContents m c))))) (mulf (res_main_v41 (launchContents m c)) (broadcastInDim S2x8192x16x64 ![0, 1, 2, 3] bcast_S1x8192x1x64_S2x8192x16x64_0_1_2_3 (broadcastInDim S1x8192x1x64 ![1, 2, 3] bcast_S8192x1x64_S1x8192x1x64_1_2_3 (res_main_v40 (launchContents m c))))))⟩] concatenates_S2x8192x16x64_S2x8192x16x64_S2x8192x16x128_d3) (broadcastInDim S2x8192x16x128 ![] bcast_S_S2x8192x16x128 (constant S_ .f32 0x3E0293EE#32))) shapeCasts_S2x8192x16x128_S16384x16x128) transposes_S16384x16x128_S16x16384x128_1_0_2) bitsLt_bf16_f32) : FVec Ideal SQ .bf16) = qV (rX m c) (rQ m c) := by
  funext j
  idx_vars j
  show _ = qAt (rX m c) (rQ m c) j0 j1 j2
  generalize hR : qAt (rX m c) (rQ m c) j0 j1 j2 = R
  simp only [res_main_v41, res_main_v42, res_main_v38, res_main_v40]
  pointwise []
  simp only [v20_at, v36_at]
  refine Eq.trans ?_ hR
  clear hR
  exact congrArg (fun x => x * Ideal.ofBits FTy.f32 0x3E0293EE#32) (turned_of (fun d => scaled (fun q => rX m c (ix3 ⟨j1.val / 8192, by omega⟩ ⟨j1.val % 8192, by omega⟩ ⟨j0.val * 128 + q.val, by omega⟩)) (rQ m c (ix1 d)) d) (j1.val % 8192) j2)

theorem result_k : ((truncf .bf16 (shapeCast _ (concatenate S2x8192x4x128 3 [⟨S2x8192x4x64, (subf (mulf (res_main_v92 (launchContents m c)) (broadcastInDim S2x8192x4x64 ![0, 1, 2, 3] bcast_S1x8192x1x64_S2x8192x4x64_0_1_2_3 (broadcastInDim S1x8192x1x64 ![1, 2, 3] bcast_S8192x1x64_S1x8192x1x64_1_2_3 (res_main_v89 (launchContents m c))))) (mulf (res_main_v93 (launchContents m c)) (broadcastInDim S2x8192x4x64 ![0, 1, 2, 3] bcast_S1x8192x1x64_S2x8192x4x64_0_1_2_3 (broadcastInDim S1x8192x1x64 ![1, 2, 3] bcast_S8192x1x64_S1x8192x1x64_1_2_3 (res_main_v91 (launchContents m c))))))⟩, ⟨S2x8192x4x64, (addf (mulf (res_main_v93 (launchContents m c)) (broadcastInDim S2x8192x4x64 ![0, 1, 2, 3] bcast_S1x8192x1x64_S2x8192x4x64_0_1_2_3 (broadcastInDim S1x8192x1x64 ![1, 2, 3] bcast_S8192x1x64_S1x8192x1x64_1_2_3 (res_main_v89 (launchContents m c))))) (mulf (res_main_v92 (launchContents m c)) (broadcastInDim S2x8192x4x64 ![0, 1, 2, 3] bcast_S1x8192x1x64_S2x8192x4x64_0_1_2_3 (broadcastInDim S1x8192x1x64 ![1, 2, 3] bcast_S8192x1x64_S1x8192x1x64_1_2_3 (res_main_v91 (launchContents m c))))))⟩] concatenates_S2x8192x4x64_S2x8192x4x64_S2x8192x4x128_d3) shapeCasts_S2x8192x4x128_S16384x512) bitsLt_bf16_f32) : FVec Ideal SK .bf16) = kV (rX m c) (rK m c) := by
  funext j
  idx_vars j
  show _ = kAt (rX m c) (rK m c) j0 ⟨j1.val / 128, by omega⟩ ⟨j1.val % 128, by omega⟩
  generalize hR : kAt (rX m c) (rK m c) j0 ⟨j1.val / 128, by omega⟩ ⟨j1.val % 128, by omega⟩ = R
  simp only [res_main_v92, res_main_v93, res_main_v89, res_main_v91]
  pointwise []
  simp only [v71_at, v87_at]
  refine Eq.trans ?_ hR
  clear hR
  exact turned_of (fun d => scaled (fun q => rX m c (ix3 ⟨j0.val / 8192, by omega⟩ ⟨j0.val % 8192, by omega⟩ ⟨2048 + (j1.val / 128 * 128 + q.val), by omega⟩)) (rK m c (ix1 d)) d) (j0.val % 8192) ⟨j1.val % 128, by omega⟩

theorem result_v : ((truncf .bf16 (shapeCast _ (shapeCast _ (extractStridedSlice S2x8192x512 ![0, 0, 2560] ((launchContents m c) (Proc.devRef .tc main_arg0)) slices_S2x8192x4176_S2x8192x512_0_0_2560) shapeCasts_S2x8192x512_S2x8192x4x128) shapeCasts_S2x8192x4x128_S16384x512) bitsLt_bf16_f32) : FVec Ideal SK .bf16) = vV (rX m c) := by
  funext j
  idx_vars j
  pointwise []
  rfl

theorem result_iq : ((truncf .bf16 (transpose S16x64x16384 [1, 2, 0] (shapeCast _ (concatenate S2x8192x16x64 3 [⟨S2x8192x16x32, (concatenate S2x8192x16x32 3 [⟨S2x8192x16x16, (subf (mulf (res_main_v132 (launchContents m c)) (broadcastInDim S2x8192x16x16 ![0, 1, 2, 3] bcast_S1x8192x1x16_S2x8192x16x16_0_1_2_3 (broadcastInDim S1x8192x1x16 ![1, 2, 3] bcast_S8192x1x16_S1x8192x1x16_1_2_3 (res_main_v129 (launchContents m c))))) (mulf (res_main_v133 (launchContents m c)) (broadcastInDim S2x8192x16x16 ![0, 1, 2, 3] bcast_S1x8192x1x16_S2x8192x16x16_0_1_2_3 (broadcastInDim S1x8192x1x16 ![1, 2, 3] bcast_S8192x1x16_S1x8192x1x16_1_2_3 (res_main_v131 (launchContents m c))))))⟩, ⟨S2x8192x16x16, (addf (mulf (res_main_v133 (launchContents m c)) (broadcastInDim S2x8192x16x16 ![0, 1, 2, 3] bcast_S1x8192x1x16_S2x8192x16x16_0_1_2_3 (broadcastInDim S1x8192x1x16 ![1, 2, 3] bcast_S8192x1x16_S1x8192x1x16_1_2_3 (res_main_v129 (launchContents m c))))) (mulf (res_main_v132 (launchContents m c)) (broadcastInDim S2x8192x16x16 ![0, 1, 2, 3] bcast_S1x8192x1x16_S2x8192x16x16_0_1_2_3 (broadcastInDim S1x8192x1x16 ![1, 2, 3] bcast_S8192x1x16_S1x8192x1x16_1_2_3 (res_main_v131 (launchContents m c))))))⟩] concatenates_S2x8192x16x16_S2x8192x16x16_S2x8192x16x32_d3)⟩, ⟨S2x8192x16x32, (extractStridedSlice S2x8192x16x32 ![0, 0, 0, 32] (res_main_v110 (launchContents m c)) slices_S2x8192x16x64_S2x8192x16x32_0_0_0_32)⟩] concatenates_S2x8192x16x32_S2x8192x16x32_S2x8192x16x64_d3) shapeCasts_S2x8192x16x64_S16384x16x64) transposes_S16384x16x64_S16x64x16384_1_2_0) bitsLt_bf16_f32) : FVec Ideal SI .bf16) = iqV (rX m c) := by
  funext j
  idx_vars j
  show _ = iqAt (rX m c) j0 j1 j2
  generalize hR : iqAt (rX m c) j0 j1 j2 = R
  simp only [res_main_v132, res_main_v133, res_main_v129, res_main_v131, res_main_v111, res_main_v110]
  pointwise []
  simp only [v127_at]
  refine Eq.trans ?_ hR
  clear hR
  exact partTurned_of (fun d => rX m c (ix3 ⟨j2.val / 8192, by omega⟩ ⟨j2.val % 8192, by omega⟩ ⟨3072 + (j0.val * 64 + d.val), by omega⟩)) (j2.val % 8192) j1

theorem result_ik : ((truncf .bf16 (shapeCast _ (shapeCast _ (concatenate S2x8192x1x64 3 [⟨S2x8192x1x32, (concatenate S2x8192x1x32 3 [⟨S2x8192x1x16, (subf (mulf (res_main_v197 (launchContents m c)) (broadcastInDim S2x8192x1x16 ![0, 1, 2, 3] bcast_S1x8192x1x16_S2x8192x1x16_0_1_2_3 (broadcastInDim S1x8192x1x16 ![1, 2, 3] bcast_S8192x1x16_S1x8192x1x16_1_2_3 (res_main_v194 (launchContents m c))))) (mulf (res_main_v198 (launchContents m c)) (broadcastInDim S2x8192x1x16 ![0, 1, 2, 3] bcast_S1x8192x1x16_S2x8192x1x16_0_1_2_3 (broadcastInDim S1x8192x1x16 ![1, 2, 3] bcast_S8192x1x16_S1x8192x1x16_1_2_3 (res_main_v196 (launchContents m c))))))⟩, ⟨S2x8192x1x16, (addf (mulf (res_main_v198 (launchContents m c)) (broadcastInDim S2x8192x1x16 ![0, 1, 2, 3] bcast_S1x8192x1x16_S2x8192x1x16_0_1_2_3 (broadcastInDim S1x8192x1x16 ![1, 2, 3] bcast_S8192x1x16_S1x8192x1x16_1_2_3 (res_main_v194 (launchContents m c))))) (mulf (res_main_v197 (launchContents m c)) (broadcastInDim S2x8192x1x16 ![0, 1, 2, 3] bcast_S1x8192x1x16_S2x8192x1x16_0_1_2_3 (broadcastInDim S1x8192x1x16 ![1, 2, 3] bcast_S8192x1x16_S1x8192x1x16_1_2_3 (res_main_v196 (launchContents m c))))))⟩] concatenates_S2x8192x1x16_S2x8192x1x16_S2x8192x1x32_d3)⟩, ⟨S2x8192x1x32, (extractStridedSlice S2x8192x1x32 ![0, 0, 0, 32] (res_main_v175 (launchContents m c)) slices_S2x8192x1x64_S2x8192x1x32_0_0_0_32)⟩] concatenates_S2x8192x1x32_S2x8192x1x32_S2x8192x1x64_d3) shapeCasts_S2x8192x1x64_S2x8192x64) shapeCasts_S2x8192x64_S16384x64) bitsLt_bf16_f32) : FVec Ideal SJ .bf16) = ikV (rX m c) (rG m c) (rB m c) := by
  funext j
  idx_vars j
  show _ = ikAt (rX m c) (rG m c) (rB m c) j0 j1
  generalize hR : ikAt (rX m c) (rG m c) (rB m c) j0 j1 = R
  simp only [res_main_v197, res_main_v198, res_main_v194, res_main_v196, res_main_v176]
  pointwise []
  simp only [v175_at, v192_at]
  refine Eq.trans ?_ hR
  clear hR
  exact partTurned_of (fun d => centred (fun q => rX m c (ix3 ⟨j0.val / 8192, by omega⟩ ⟨j0.val % 8192, by omega⟩ ⟨4096 + q.val, by omega⟩)) (rG m c (ix1 d)) (rB m c (ix1 d)) d) (j0.val % 8192) j1

theorem result_iw : ((transpose S16x16384 [1, 0] (shapeCast _ (mulf (extractStridedSlice S2x8192x16 ![0, 0, 4160] ((launchContents m c) (Proc.devRef .tc main_arg0)) slices_S2x8192x4176_S2x8192x16_0_0_4160) (broadcastInDim S2x8192x16 ![] bcast_S_S2x8192x16 (constant S_ .f32 0x3D000000#32))) shapeCasts_S2x8192x16_S16384x16) transposes_S16384x16_S16x16384_1_0) : FVec Ideal SW .f32) = iwV (rX m c) := by
  funext j
  idx_vars j
  pointwise []
  rfl

theorem run_spec (ρ : Dev nD → PrngReg) :
    θ_run defs (onTc (τ := τ) (main (F := Ideal))) ⟨m, fun _ => 0, ρ⟩ fun r => ∀ c : Dev nD,
      (r.2.mem ((c : Thread nD τ).loc main_v223) : FVec Ideal SQ .bf16) = qV (rX m c) (rQ m c)
      ∧ (r.2.mem ((c : Thread nD τ).loc main_v225) : FVec Ideal SK .bf16) = kV (rX m c) (rK m c)
      ∧ (r.2.mem ((c : Thread nD τ).loc main_v227) : FVec Ideal SK .bf16) = vV (rX m c)
      ∧ (r.2.mem ((c : Thread nD τ).loc main_v230) : FVec Ideal SI .bf16) = iqV (rX m c)
      ∧ (r.2.mem ((c : Thread nD τ).loc main_v232) : FVec Ideal SJ .bf16) = ikV (rX m c) (rG m c) (rB m c)
      ∧ (r.2.mem ((c : Thread nD τ).loc main_v234) : FVec Ideal SW .f32) = iwV (rX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h1, h2, h3, h4, h5, h6, hs⟩ := h c
    exact ⟨h1.trans (result_q m c), h2.trans (result_k m c), h3.trans (result_v m c), h4.trans (result_iq m c),
      h5.trans (result_ik m c), h6.trans (result_iw m c), hs⟩) (Value.run m ρ)

end Cert.ReferenceOddPrepIdeal.OddPrep

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelEvenIn
public import proofs.«01_k».proof.Proof.Gen.KernelEvenIn.Frame
public import proofs.«01_k».proof.Proof.Gen.KernelEvenInIdeal
public import proofs.«01_k».proof.Proof.Gen.KernelEvenInIdeal.Frame
public import proofs.«01_k».proof.Proof.Gen.KernelEvenInIdeal.Value
public import proofs.«01_k».proof.Proof.Gen.ReferenceEvenInIdeal
public import proofs.«01_k».proof.Proof.Gen.ReferenceEvenInIdeal.Run
public import proofs.«01_k».proof.Proof.Gen.KernelOddIn
public import proofs.«01_k».proof.Proof.Gen.KernelOddIn.Frame
public import proofs.«01_k».proof.Proof.Gen.KernelOddInIdeal
public import proofs.«01_k».proof.Proof.Gen.KernelOddInIdeal.Frame
public import proofs.«01_k».proof.Proof.Gen.KernelOddInIdeal.Value
public import proofs.«01_k».proof.Proof.Gen.ReferenceOddInIdeal
public import proofs.«01_k».proof.Proof.Gen.ReferenceOddInIdeal.Run
public import proofs.«01_k».proof.Proof.Gen.KernelEvenOut
public import proofs.«01_k».proof.Proof.Gen.KernelEvenOut.Frame
public import proofs.«01_k».proof.Proof.Gen.KernelEvenOutIdeal
public import proofs.«01_k».proof.Proof.Gen.KernelEvenOutIdeal.Frame
public import proofs.«01_k».proof.Proof.Gen.KernelEvenOutIdeal.Value
public import proofs.«01_k».proof.Proof.Gen.ReferenceEvenOutIdeal
public import proofs.«01_k».proof.Proof.Gen.ReferenceEvenOutIdeal.Run
public import proofs.«01_k».proof.Proof.Gen.KernelOddOut
public import proofs.«01_k».proof.Proof.Gen.KernelOddOut.Frame
public import proofs.«01_k».proof.Proof.Gen.KernelOddOutIdeal
public import proofs.«01_k».proof.Proof.Gen.KernelOddOutIdeal.Frame
public import proofs.«01_k».proof.Proof.Gen.KernelOddOutIdeal.Value
public import proofs.«01_k».proof.Proof.Gen.ReferenceOddOutIdeal
public import proofs.«01_k».proof.Proof.Gen.ReferenceOddOutIdeal.Run
public import proofs.«01_k».proof.Proof.Gen.KernelSgu
public import proofs.«01_k».proof.Proof.Gen.KernelSgu.Frame
public import proofs.«01_k».proof.Proof.Gen.KernelSguIdeal
public import proofs.«01_k».proof.Proof.Gen.KernelSguIdeal.Frame
public import proofs.«01_k».proof.Proof.Gen.KernelSguIdeal.Value
public import proofs.«01_k».proof.Proof.Gen.ReferenceSguIdeal
public import proofs.«01_k».proof.Proof.Gen.ReferenceSguIdeal.Run
public import proofs.«01_k».proof.Proof.Gen.KernelOddPrep
public import proofs.«01_k».proof.Proof.Gen.KernelOddPrep.Frame
public import proofs.«01_k».proof.Proof.Gen.KernelOddPrepIdeal
public import proofs.«01_k».proof.Proof.Gen.KernelOddPrepIdeal.Frame
public import proofs.«01_k».proof.Proof.Gen.KernelOddPrepIdeal.Value
public import proofs.«01_k».proof.Proof.Gen.ReferenceOddPrepIdeal
public import proofs.«01_k».proof.Proof.Gen.ReferenceOddPrepIdeal.Run
public import proofs.«01_k».proof.Proof.Pre
public import proofs.«01_k».proof.Proof.Ker.Result
public import proofs.«01_k».proof.Proof.Ref.Result
public import proofs.«01_k».proof.Proof.Up.Ker
public import proofs.«01_k».proof.Proof.Up.Ref
public import proofs.«01_k».proof.Proof.Down.Ker
public import proofs.«01_k».proof.Proof.Down.Ref
public import proofs.«01_k».proof.Proof.EvenIn.Ker
public import proofs.«01_k».proof.Proof.EvenIn.Ref
public import proofs.«01_k».proof.Proof.OddIn.Ker
public import proofs.«01_k».proof.Proof.OddIn.Ref
public import proofs.«01_k».proof.Proof.EvenOut.Ker
public import proofs.«01_k».proof.Proof.EvenOut.Ref
public import proofs.«01_k».proof.Proof.Sgu.Ker
public import proofs.«01_k».proof.Proof.Sgu.Ref
public import proofs.«01_k».proof.Proof.OddOut.Ker
public import proofs.«01_k».proof.Proof.OddOut.Ref
public import proofs.«01_k».proof.Proof.OddPrep.Ker
public import proofs.«01_k».proof.Proof.OddPrep.Ref
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were and has no counter. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run (Cert.ReferenceIdeal.defs (F := Ideal)) _ _).mono
    (fun r h => And.intro (fun c => (h c).2) (sem_eq_zero_of_no_sems (by decide) r.2))
    (Cert.ReferenceIdeal.Trip.run (F := Ideal) m g)

theorem frame_ReferenceUpIdeal (m : (ℓ : Loc Cert.ReferenceUpIdeal.nD Cert.ReferenceUpIdeal.τ Cert.ReferenceUpIdeal.sig) → Buf (Elt Ideal) ℓ)
    (g : Dev Cert.ReferenceUpIdeal.nD → PrngReg) :
    θ_run (Cert.ReferenceUpIdeal.defs (F := Ideal)) (onTc (τ := Cert.ReferenceUpIdeal.τ) (Cert.ReferenceUpIdeal.main (F := Ideal)))
      ⟨m, fun _ => 0, g⟩ (fun r => (∀ c : Dev Cert.ReferenceUpIdeal.nD,
        r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
        ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
        ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
        ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
        ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
        ∧ r.2.sem = fun _ => 0) :=
  (θ_run (Cert.ReferenceUpIdeal.defs (F := Ideal)) _ _).mono
    (fun r h => And.intro (fun c => (h c).2) (sem_eq_zero_of_no_sems (by decide) r.2))
    (Cert.ReferenceUpIdeal.Up.run_spec m g)

theorem frame_ReferenceDownIdeal (m : (ℓ : Loc Cert.ReferenceDownIdeal.nD Cert.ReferenceDownIdeal.τ Cert.ReferenceDownIdeal.sig) → Buf (Elt Ideal) ℓ)
    (g : Dev Cert.ReferenceDownIdeal.nD → PrngReg) :
    θ_run (Cert.ReferenceDownIdeal.defs (F := Ideal)) (onTc (τ := Cert.ReferenceDownIdeal.τ) (Cert.ReferenceDownIdeal.main (F := Ideal)))
      ⟨m, fun _ => 0, g⟩ (fun r => (∀ c : Dev Cert.ReferenceDownIdeal.nD,
        r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
        ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
        ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
        ∧ r.2.sem = fun _ => 0) :=
  (θ_run (Cert.ReferenceDownIdeal.defs (F := Ideal)) _ _).mono
    (fun r h => And.intro (fun c => (h c).2) (sem_eq_zero_of_no_sems (by decide) r.2))
    (Cert.ReferenceDownIdeal.Down.run_spec m g)

theorem frame_ReferenceEvenInIdeal (m : (ℓ : Loc Cert.ReferenceEvenInIdeal.nD Cert.ReferenceEvenInIdeal.τ Cert.ReferenceEvenInIdeal.sig) → Buf (Elt Ideal) ℓ)
    (g : Dev Cert.ReferenceEvenInIdeal.nD → PrngReg) :
    θ_run (Cert.ReferenceEvenInIdeal.defs (F := Ideal)) (onTc (τ := Cert.ReferenceEvenInIdeal.τ) (Cert.ReferenceEvenInIdeal.main (F := Ideal)))
      ⟨m, fun _ => 0, g⟩ (fun r => (∀ c : Dev Cert.ReferenceEvenInIdeal.nD,
        r.2.mem ((c.tc : Thread Cert.ReferenceEvenInIdeal.nD Cert.ReferenceEvenInIdeal.τ).loc Cert.ReferenceEvenInIdeal.main_arg0) = m ((c.tc : Thread Cert.ReferenceEvenInIdeal.nD Cert.ReferenceEvenInIdeal.τ).loc Cert.ReferenceEvenInIdeal.main_arg0)
        ∧ r.2.mem ((c.tc : Thread Cert.ReferenceEvenInIdeal.nD Cert.ReferenceEvenInIdeal.τ).loc Cert.ReferenceEvenInIdeal.main_arg1) = m ((c.tc : Thread Cert.ReferenceEvenInIdeal.nD Cert.ReferenceEvenInIdeal.τ).loc Cert.ReferenceEvenInIdeal.main_arg1)
        ∧ r.2.mem ((c.tc : Thread Cert.ReferenceEvenInIdeal.nD Cert.ReferenceEvenInIdeal.τ).loc Cert.ReferenceEvenInIdeal.main_arg2) = m ((c.tc : Thread Cert.ReferenceEvenInIdeal.nD Cert.ReferenceEvenInIdeal.τ).loc Cert.ReferenceEvenInIdeal.main_arg2))
        ∧ r.2.sem = fun _ => 0) :=
  (θ_run (Cert.ReferenceEvenInIdeal.defs (F := Ideal)) _ _).mono
    (fun r h => And.intro (fun c => (h c).2) (sem_eq_zero_of_no_sems (by decide) r.2))
    (Cert.ReferenceEvenInIdeal.EvenIn.run_spec m g)

theorem frame_ReferenceOddInIdeal (m : (ℓ : Loc Cert.ReferenceOddInIdeal.nD Cert.ReferenceOddInIdeal.τ Cert.ReferenceOddInIdeal.sig) → Buf (Elt Ideal) ℓ)
    (g : Dev Cert.ReferenceOddInIdeal.nD → PrngReg) :
    θ_run (Cert.ReferenceOddInIdeal.defs (F := Ideal)) (onTc (τ := Cert.ReferenceOddInIdeal.τ) (Cert.ReferenceOddInIdeal.main (F := Ideal)))
      ⟨m, fun _ => 0, g⟩ (fun r => (∀ c : Dev Cert.ReferenceOddInIdeal.nD,
        r.2.mem ((c.tc : Thread Cert.ReferenceOddInIdeal.nD Cert.ReferenceOddInIdeal.τ).loc Cert.ReferenceOddInIdeal.main_arg0) = m ((c.tc : Thread Cert.ReferenceOddInIdeal.nD Cert.ReferenceOddInIdeal.τ).loc Cert.ReferenceOddInIdeal.main_arg0)
        ∧ r.2.mem ((c.tc : Thread Cert.ReferenceOddInIdeal.nD Cert.ReferenceOddInIdeal.τ).loc Cert.ReferenceOddInIdeal.main_arg1) = m ((c.tc : Thread Cert.ReferenceOddInIdeal.nD Cert.ReferenceOddInIdeal.τ).loc Cert.ReferenceOddInIdeal.main_arg1)
        ∧ r.2.mem ((c.tc : Thread Cert.ReferenceOddInIdeal.nD Cert.ReferenceOddInIdeal.τ).loc Cert.ReferenceOddInIdeal.main_arg2) = m ((c.tc : Thread Cert.ReferenceOddInIdeal.nD Cert.ReferenceOddInIdeal.τ).loc Cert.ReferenceOddInIdeal.main_arg2))
        ∧ r.2.sem = fun _ => 0) :=
  (θ_run (Cert.ReferenceOddInIdeal.defs (F := Ideal)) _ _).mono
    (fun r h => And.intro (fun c => (h c).2) (sem_eq_zero_of_no_sems (by decide) r.2))
    (Cert.ReferenceOddInIdeal.OddIn.run_spec m g)

theorem frame_ReferenceEvenOutIdeal (m : (ℓ : Loc Cert.ReferenceEvenOutIdeal.nD Cert.ReferenceEvenOutIdeal.τ Cert.ReferenceEvenOutIdeal.sig) → Buf (Elt Ideal) ℓ)
    (g : Dev Cert.ReferenceEvenOutIdeal.nD → PrngReg) :
    θ_run (Cert.ReferenceEvenOutIdeal.defs (F := Ideal)) (onTc (τ := Cert.ReferenceEvenOutIdeal.τ) (Cert.ReferenceEvenOutIdeal.main (F := Ideal)))
      ⟨m, fun _ => 0, g⟩ (fun r => (∀ c : Dev Cert.ReferenceEvenOutIdeal.nD,
        r.2.mem ((c.tc : Thread Cert.ReferenceEvenOutIdeal.nD Cert.ReferenceEvenOutIdeal.τ).loc Cert.ReferenceEvenOutIdeal.main_arg0) = m ((c.tc : Thread Cert.ReferenceEvenOutIdeal.nD Cert.ReferenceEvenOutIdeal.τ).loc Cert.ReferenceEvenOutIdeal.main_arg0)
        ∧ r.2.mem ((c.tc : Thread Cert.ReferenceEvenOutIdeal.nD Cert.ReferenceEvenOutIdeal.τ).loc Cert.ReferenceEvenOutIdeal.main_arg1) = m ((c.tc : Thread Cert.ReferenceEvenOutIdeal.nD Cert.ReferenceEvenOutIdeal.τ).loc Cert.ReferenceEvenOutIdeal.main_arg1)
        ∧ r.2.mem ((c.tc : Thread Cert.ReferenceEvenOutIdeal.nD Cert.ReferenceEvenOutIdeal.τ).loc Cert.ReferenceEvenOutIdeal.main_arg2) = m ((c.tc : Thread Cert.ReferenceEvenOutIdeal.nD Cert.ReferenceEvenOutIdeal.τ).loc Cert.ReferenceEvenOutIdeal.main_arg2)
        ∧ r.2.mem ((c.tc : Thread Cert.ReferenceEvenOutIdeal.nD Cert.ReferenceEvenOutIdeal.τ).loc Cert.ReferenceEvenOutIdeal.main_arg3) = m ((c.tc : Thread Cert.ReferenceEvenOutIdeal.nD Cert.ReferenceEvenOutIdeal.τ).loc Cert.ReferenceEvenOutIdeal.main_arg3))
        ∧ r.2.sem = fun _ => 0) :=
  (θ_run (Cert.ReferenceEvenOutIdeal.defs (F := Ideal)) _ _).mono
    (fun r h => And.intro (fun c => (h c).2) (sem_eq_zero_of_no_sems (by decide) r.2))
    (Cert.ReferenceEvenOutIdeal.EvenOut.run_spec m g)

theorem frame_ReferenceOddOutIdeal (m : (ℓ : Loc Cert.ReferenceOddOutIdeal.nD Cert.ReferenceOddOutIdeal.τ Cert.ReferenceOddOutIdeal.sig) → Buf (Elt Ideal) ℓ)
    (g : Dev Cert.ReferenceOddOutIdeal.nD → PrngReg) :
    θ_run (Cert.ReferenceOddOutIdeal.defs (F := Ideal)) (onTc (τ := Cert.ReferenceOddOutIdeal.τ) (Cert.ReferenceOddOutIdeal.main (F := Ideal)))
      ⟨m, fun _ => 0, g⟩ (fun r => (∀ c : Dev Cert.ReferenceOddOutIdeal.nD,
        r.2.mem ((c.tc : Thread Cert.ReferenceOddOutIdeal.nD Cert.ReferenceOddOutIdeal.τ).loc Cert.ReferenceOddOutIdeal.main_arg0) = m ((c.tc : Thread Cert.ReferenceOddOutIdeal.nD Cert.ReferenceOddOutIdeal.τ).loc Cert.ReferenceOddOutIdeal.main_arg0)
        ∧ r.2.mem ((c.tc : Thread Cert.ReferenceOddOutIdeal.nD Cert.ReferenceOddOutIdeal.τ).loc Cert.ReferenceOddOutIdeal.main_arg1) = m ((c.tc : Thread Cert.ReferenceOddOutIdeal.nD Cert.ReferenceOddOutIdeal.τ).loc Cert.ReferenceOddOutIdeal.main_arg1)
        ∧ r.2.mem ((c.tc : Thread Cert.ReferenceOddOutIdeal.nD Cert.ReferenceOddOutIdeal.τ).loc Cert.ReferenceOddOutIdeal.main_arg2) = m ((c.tc : Thread Cert.ReferenceOddOutIdeal.nD Cert.ReferenceOddOutIdeal.τ).loc Cert.ReferenceOddOutIdeal.main_arg2))
        ∧ r.2.sem = fun _ => 0) :=
  (θ_run (Cert.ReferenceOddOutIdeal.defs (F := Ideal)) _ _).mono
    (fun r h => And.intro (fun c => (h c).2) (sem_eq_zero_of_no_sems (by decide) r.2))
    (Cert.ReferenceOddOutIdeal.OddOut.run_spec m g)

theorem frame_ReferenceSguIdeal (m : (ℓ : Loc Cert.ReferenceSguIdeal.nD Cert.ReferenceSguIdeal.τ Cert.ReferenceSguIdeal.sig) → Buf (Elt Ideal) ℓ)
    (g : Dev Cert.ReferenceSguIdeal.nD → PrngReg) :
    θ_run (Cert.ReferenceSguIdeal.defs (F := Ideal)) (onTc (τ := Cert.ReferenceSguIdeal.τ) (Cert.ReferenceSguIdeal.main (F := Ideal)))
      ⟨m, fun _ => 0, g⟩ (fun r => (∀ c : Dev Cert.ReferenceSguIdeal.nD,
        r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
        ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
        ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
        ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3))
        ∧ r.2.sem = fun _ => 0) :=
  (θ_run (Cert.ReferenceSguIdeal.defs (F := Ideal)) _ _).mono
    (fun r h => And.intro (fun c => (h c).2) (sem_eq_zero_of_no_sems (by decide) r.2))
    (Cert.ReferenceSguIdeal.Sgu.run_spec m g)

theorem frame_ReferenceOddPrepIdeal (m : (ℓ : Loc Cert.ReferenceOddPrepIdeal.nD Cert.ReferenceOddPrepIdeal.τ Cert.ReferenceOddPrepIdeal.sig) → Buf (Elt Ideal) ℓ)
    (g : Dev Cert.ReferenceOddPrepIdeal.nD → PrngReg) :
    θ_run (Cert.ReferenceOddPrepIdeal.defs (F := Ideal)) (onTc (τ := Cert.ReferenceOddPrepIdeal.τ) (Cert.ReferenceOddPrepIdeal.main (F := Ideal)))
      ⟨m, fun _ => 0, g⟩ (fun r => (∀ c : Dev Cert.ReferenceOddPrepIdeal.nD,
        r.2.mem ((c.tc : Thread Cert.ReferenceOddPrepIdeal.nD Cert.ReferenceOddPrepIdeal.τ).loc Cert.ReferenceOddPrepIdeal.main_arg0) = m ((c.tc : Thread Cert.ReferenceOddPrepIdeal.nD Cert.ReferenceOddPrepIdeal.τ).loc Cert.ReferenceOddPrepIdeal.main_arg0)
        ∧ r.2.mem ((c.tc : Thread Cert.ReferenceOddPrepIdeal.nD Cert.ReferenceOddPrepIdeal.τ).loc Cert.ReferenceOddPrepIdeal.main_arg1) = m ((c.tc : Thread Cert.ReferenceOddPrepIdeal.nD Cert.ReferenceOddPrepIdeal.τ).loc Cert.ReferenceOddPrepIdeal.main_arg1)
        ∧ r.2.mem ((c.tc : Thread Cert.ReferenceOddPrepIdeal.nD Cert.ReferenceOddPrepIdeal.τ).loc Cert.ReferenceOddPrepIdeal.main_arg2) = m ((c.tc : Thread Cert.ReferenceOddPrepIdeal.nD Cert.ReferenceOddPrepIdeal.τ).loc Cert.ReferenceOddPrepIdeal.main_arg2)
        ∧ r.2.mem ((c.tc : Thread Cert.ReferenceOddPrepIdeal.nD Cert.ReferenceOddPrepIdeal.τ).loc Cert.ReferenceOddPrepIdeal.main_arg3) = m ((c.tc : Thread Cert.ReferenceOddPrepIdeal.nD Cert.ReferenceOddPrepIdeal.τ).loc Cert.ReferenceOddPrepIdeal.main_arg3)
        ∧ r.2.mem ((c.tc : Thread Cert.ReferenceOddPrepIdeal.nD Cert.ReferenceOddPrepIdeal.τ).loc Cert.ReferenceOddPrepIdeal.main_arg4) = m ((c.tc : Thread Cert.ReferenceOddPrepIdeal.nD Cert.ReferenceOddPrepIdeal.τ).loc Cert.ReferenceOddPrepIdeal.main_arg4))
        ∧ r.2.sem = fun _ => 0) :=
  (θ_run (Cert.ReferenceOddPrepIdeal.defs (F := Ideal)) _ _).mono
    (fun r h => And.intro (fun c => (h c).2.2.2.2.2.2) (sem_eq_zero_of_no_sems (by decide) r.2))
    (Cert.ReferenceOddPrepIdeal.OddPrep.run_spec m g)

theorem congr_args3 {α β γ δ : Type} (f : α → β → γ → δ) {a a' : α} {b b' : β} {c c' : γ}
    (h0 : a = a') (h1 : b = b') (h2 : c = c') : f a b c = f a' b' c' := by
  subst h0 h1 h2
  rfl

theorem congr_args4 {α β γ δ ε : Type} (f : α → β → γ → δ → ε) {a a' : α} {b b' : β} {c c' : γ} {d d' : δ}
    (h0 : a = a') (h1 : b = b') (h2 : c = c') (h3 : d = d') : f a b c d = f a' b' c' d' := by
  subst h0 h1 h2 h3
  rfl

theorem congr_args5 {α β γ δ ε ζ : Type} (f : α → β → γ → δ → ε → ζ) {a a' : α} {b b' : β} {c c' : γ} {d d' : δ} {e e' : ε}
    (h0 : a = a') (h1 : b = b') (h2 : c = c') (h3 : d = d') (h4 : e = e') : f a b c d e = f a' b' c' d' e' := by
  subst h0 h1 h2 h3 h4
  rfl

theorem claim : Cert.Claim := by
  refine ⟨Cert.Kernel.Gen.facts, Cert.KernelIdeal.Gen.facts, Cert.ReferenceIdeal.Gen.facts, Cert.KernelUp.Gen.facts,
    Cert.KernelUpIdeal.Gen.facts, Cert.ReferenceUpIdeal.Gen.facts, Cert.KernelDown.Gen.facts, Cert.KernelDownIdeal.Gen.facts,
    Cert.ReferenceDownIdeal.Gen.facts,
    Cert.KernelEvenIn.Gen.facts, Cert.KernelEvenInIdeal.Gen.facts, Cert.ReferenceEvenInIdeal.Gen.facts,
    Cert.KernelOddIn.Gen.facts, Cert.KernelOddInIdeal.Gen.facts, Cert.ReferenceOddInIdeal.Gen.facts,
    Cert.KernelEvenOut.Gen.facts, Cert.KernelEvenOutIdeal.Gen.facts, Cert.ReferenceEvenOutIdeal.Gen.facts,
    Cert.KernelOddOut.Gen.facts, Cert.KernelOddOutIdeal.Gen.facts, Cert.ReferenceOddOutIdeal.Gen.facts,
    Cert.KernelSgu.Gen.facts, Cert.KernelSguIdeal.Gen.facts, Cert.ReferenceSguIdeal.Gen.facts,
    Cert.KernelOddPrep.Gen.facts, Cert.KernelOddPrepIdeal.Gen.facts, Cert.ReferenceOddPrepIdeal.Gen.facts,
    Cert.Head.preFacts,
    fun m g _ => Cert.Kernel.Gen.frame m g, fun m g _ => Cert.KernelIdeal.Gen.frame m g,
    fun m g _ => Cert.KernelIdeal.Gen.frame m g, fun m g _ => refFrame m g, fun m g _ => refFrame m g,
    fun m g _ => Cert.KernelUp.Gen.frame m g, fun m g _ => Cert.KernelUpIdeal.Gen.frame m g, fun m g _ => frame_ReferenceUpIdeal m g,
    fun m g _ => Cert.KernelDown.Gen.frame m g, fun m g _ => Cert.KernelDownIdeal.Gen.frame m g, fun m g _ => frame_ReferenceDownIdeal m g,
    fun m g _ => Cert.KernelEvenIn.Gen.frame m g, fun m g _ => Cert.KernelEvenInIdeal.Gen.frame m g, fun m g _ => frame_ReferenceEvenInIdeal m g,
    fun m g _ => Cert.KernelOddIn.Gen.frame m g, fun m g _ => Cert.KernelOddInIdeal.Gen.frame m g, fun m g _ => frame_ReferenceOddInIdeal m g,
    fun m g _ => Cert.KernelEvenOut.Gen.frame m g, fun m g _ => Cert.KernelEvenOutIdeal.Gen.frame m g, fun m g _ => frame_ReferenceEvenOutIdeal m g,
    fun m g _ => Cert.KernelOddOut.Gen.frame m g, fun m g _ => Cert.KernelOddOutIdeal.Gen.frame m g, fun m g _ => frame_ReferenceOddOutIdeal m g,
    fun m g _ => Cert.KernelSgu.Gen.frame m g, fun m g _ => Cert.KernelSguIdeal.Gen.frame m g, fun m g _ => frame_ReferenceSguIdeal m g,
    fun m g _ => Cert.KernelOddPrep.Gen.frame m g, fun m g _ => Cert.KernelOddPrepIdeal.Gen.frame m g, fun m g _ => frame_ReferenceOddPrepIdeal m g,
    trivial, ?_, trivial, ?_, trivial, ?_, trivial, ?_, trivial, ?_, trivial, ?_, trivial, ?_, trivial, ?_, trivial, ?_⟩
  · intro m g m' g' hpre hargs
    haveI := Cert.Head.preFacts
    have hfine := fun c => Cert.Head.fine_of_pre _ _ _ _ (hpre c)
    refine ⟨fun c => Cert.Head.specV (Cert.Head.mA m c) (Cert.Head.mI m c) (Cert.Head.mF m c) (Cert.Head.mN m c),
      Cert.Head.run_spec m g hfine, ?_⟩
    refine (θ_run (Cert.ReferenceIdeal.defs (F := Ideal)) _ _).mono (fun r h c => ?_)
      (Cert.ReferenceIdeal.Trip.run (F := Ideal) m' g')
    obtain ⟨h1, h2⟩ := h c
    refine ⟨h1.trans ?_, h2⟩
    obtain ⟨e0, e1, e2, e3⟩ := hargs c
    rw [e0, e1, e2, e3]
    exact Cert.ReferenceIdeal.Chunk.result _ _ _ _ (hfine c).1 (hfine c).2.1 (hfine c).2.2
  · intro m g m' g' _ hargs
    refine ⟨fun c => Cert.Up.specV (Cert.Up.mX m c) (Cert.Up.mG m c) (Cert.Up.mW m c) (Cert.Up.mC m c) (Cert.Up.mB m c), Cert.Up.run_spec m g, ?_⟩
    refine (θ_run (Cert.ReferenceUpIdeal.defs (F := Ideal)) _ _).mono (fun r h c => ?_) (Cert.ReferenceUpIdeal.Up.run_spec m' g')
    obtain ⟨h1, h2⟩ := h c
    refine ⟨h1.trans ?_, h2⟩
    obtain ⟨e0, e1, e2, e3, e4⟩ := hargs c
    exact congr_args5 Cert.Up.specV e0 e1 e2 e3 e4
  · intro m g m' g' _ hargs
    refine ⟨fun c => Cert.Down.specV (Cert.Down.mG m c) (Cert.Down.mW m c) (Cert.Down.mH m c), Cert.Down.run_spec m g, ?_⟩
    refine (θ_run (Cert.ReferenceDownIdeal.defs (F := Ideal)) _ _).mono (fun r h c => ?_) (Cert.ReferenceDownIdeal.Down.run_spec m' g')
    obtain ⟨h1, h2⟩ := h c
    refine ⟨h1.trans ?_, h2⟩
    obtain ⟨e0, e1, e2⟩ := hargs c
    exact congr_args3 Cert.Down.specV e0 e1 e2
  · intro m g m' g' _ hargs
    refine ⟨fun c => Cert.EvenIn.specV (Cert.EvenIn.mX m c) (Cert.EvenIn.mG m c) (Cert.EvenIn.mW m c), Cert.EvenIn.run_spec m g, ?_⟩
    refine (θ_run (Cert.ReferenceEvenInIdeal.defs (F := Ideal)) _ _).mono (fun r h c => ?_) (Cert.ReferenceEvenInIdeal.EvenIn.run_spec m' g')
    obtain ⟨h1, h2⟩ := h c
    refine ⟨h1.trans ?_, h2⟩
    obtain ⟨e0, e1, e2⟩ := hargs c
    exact congr_args3 Cert.EvenIn.specV e0 e1 e2
  · intro m g m' g' _ hargs
    refine ⟨fun c => Cert.OddIn.specV (Cert.OddIn.mX m c) (Cert.OddIn.mG m c) (Cert.OddIn.mW m c), Cert.OddIn.run_spec m g, ?_⟩
    refine (θ_run (Cert.ReferenceOddInIdeal.defs (F := Ideal)) _ _).mono (fun r h c => ?_) (Cert.ReferenceOddInIdeal.OddIn.run_spec m' g')
    obtain ⟨h1, h2⟩ := h c
    refine ⟨h1.trans ?_, h2⟩
    obtain ⟨e0, e1, e2⟩ := hargs c
    exact congr_args3 Cert.OddIn.specV e0 e1 e2
  · intro m g m' g' _ hargs
    refine ⟨fun c => Cert.EvenOut.specV (Cert.EvenOut.mA m c) (Cert.EvenOut.mB m c) (Cert.EvenOut.mW m c) (Cert.EvenOut.mH m c), Cert.EvenOut.run_spec m g, ?_⟩
    refine (θ_run (Cert.ReferenceEvenOutIdeal.defs (F := Ideal)) _ _).mono (fun r h c => ?_) (Cert.ReferenceEvenOutIdeal.EvenOut.run_spec m' g')
    obtain ⟨h1, h2⟩ := h c
    refine ⟨h1.trans ?_, h2⟩
    obtain ⟨e0, e1, e2, e3⟩ := hargs c
    exact congr_args4 Cert.EvenOut.specV e0 e1 e2 e3
  · intro m g m' g' _ hargs
    refine ⟨fun c => Cert.OddOut.specV (Cert.OddOut.mG m c) (Cert.OddOut.mW m c) (Cert.OddOut.mH m c), Cert.OddOut.run_spec m g, ?_⟩
    refine (θ_run (Cert.ReferenceOddOutIdeal.defs (F := Ideal)) _ _).mono (fun r h c => ?_) (Cert.ReferenceOddOutIdeal.OddOut.run_spec m' g')
    obtain ⟨h1, h2⟩ := h c
    refine ⟨h1.trans ?_, h2⟩
    obtain ⟨e0, e1, e2⟩ := hargs c
    exact congr_args3 Cert.OddOut.specV e0 e1 e2
  · intro m g m' g' _ hargs
    refine ⟨fun c => Cert.Sgu.specV (Cert.Sgu.mX m c) (Cert.Sgu.mP m c) (Cert.Sgu.mB m c) (Cert.Sgu.mN m c), Cert.Sgu.run_spec m g, ?_⟩
    refine (θ_run (Cert.ReferenceSguIdeal.defs (F := Ideal)) _ _).mono (fun r h c => ?_) (Cert.ReferenceSguIdeal.Sgu.run_spec m' g')
    obtain ⟨h1, h2⟩ := h c
    refine ⟨h1.trans ?_, h2⟩
    obtain ⟨e0, e1, e2, e3⟩ := hargs c
    exact congr_args4 Cert.Sgu.specV e0 e1 e2 e3
  · intro m g m' g' _ hargs
    refine ⟨fun c => Cert.OddPrep.qV (Cert.OddPrep.mX m c) (Cert.OddPrep.mQ m c), fun c => Cert.OddPrep.kV (Cert.OddPrep.mX m c) (Cert.OddPrep.mK m c),
      fun c => Cert.OddPrep.vV (Cert.OddPrep.mX m c), fun c => Cert.OddPrep.iqV (Cert.OddPrep.mX m c),
      fun c => Cert.OddPrep.ikV (Cert.OddPrep.mX m c) (Cert.OddPrep.mG m c) (Cert.OddPrep.mB m c), fun c => Cert.OddPrep.iwV (Cert.OddPrep.mX m c),
      Cert.OddPrep.run_spec m g, ?_⟩
    refine (θ_run (Cert.ReferenceOddPrepIdeal.defs (F := Ideal)) _ _).mono (fun r h c => ?_) (Cert.ReferenceOddPrepIdeal.OddPrep.run_spec m' g')
    obtain ⟨h1, h2, h3, h4, h5, h6, hs⟩ := h c
    obtain ⟨e0, e1, e2, e3, e4⟩ := hargs c
    exact ⟨h1.trans (congrArg₂ Cert.OddPrep.qV e0 e1), h2.trans (congrArg₂ Cert.OddPrep.kV e0 e2), h3.trans (congrArg Cert.OddPrep.vV e0),
      h4.trans (congrArg Cert.OddPrep.iqV e0), h5.trans (congr_args3 Cert.OddPrep.ikV e0 e3 e4), h6.trans (congrArg Cert.OddPrep.iwV e0), hs⟩

end Cert.Proof

end
